-- ==== Defs.lean ====
def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))) = (fun _ => 1#1)

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3)
      ∧ r.2.mem ((c.tc : Thread Cert.Glu.nD Cert.Glu.τ).loc Cert.Glu.main_arg4) = m ((c.tc : Thread Cert.Glu.nD Cert.Glu.τ).loc Cert.Glu.main_arg4))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
      ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3)
      ∧ r.2.mem ((c.tc : Thread Cert.GluRefIdeal.nD Cert.GluRefIdeal.τ).loc Cert.GluRefIdeal.main_arg4) = m ((c.tc : Thread Cert.GluRefIdeal.nD Cert.GluRefIdeal.τ).loc Cert.GluRefIdeal.main_arg4))
      ∧ r.2.sem = fun _ => 0)

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)) →
    ∃ (v0 : (c : Dev Cert.InProjIdeal.nD) → Buf (Elt Ideal) ((c.tc : Thread Cert.InProjIdeal.nD Cert.InProjIdeal.τ).loc Cert.InProjIdeal.main_v4_0)) (v1 : (c : Dev Cert.InProjIdeal.nD) → Buf (Elt Ideal) ((c.tc : Thread Cert.InProjIdeal.nD Cert.InProjIdeal.τ).loc Cert.InProjIdeal.main_v4_1)) (v2 : (c : Dev Cert.InProjIdeal.nD) → Buf (Elt Ideal) ((c.tc : Thread Cert.InProjIdeal.nD Cert.InProjIdeal.τ).loc Cert.InProjIdeal.main_v4_2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v4_0) = v0 c
          ∧ r.2.mem ((c.tc : Thread Cert.InProjIdeal.nD Cert.InProjIdeal.τ).loc Cert.InProjIdeal.main_v4_1) = v1 c
          ∧ r.2.mem ((c.tc : Thread Cert.InProjIdeal.nD Cert.InProjIdeal.τ).loc Cert.InProjIdeal.main_v4_2) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v48) = v0 c
          ∧ r.2.mem ((c.tc : Thread Cert.InProjRefIdeal.nD Cert.InProjRefIdeal.τ).loc Cert.InProjRefIdeal.main_v51) = v1 c
          ∧ r.2.mem ((c.tc : Thread Cert.InProjRefIdeal.nD Cert.InProjRefIdeal.τ).loc Cert.InProjRefIdeal.main_v47) = v2 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)) →
    ∃ (v0 : (c : Dev Cert.TailIdeal.nD) → Buf (Elt Ideal) ((c.tc : Thread Cert.TailIdeal.nD Cert.TailIdeal.τ).loc Cert.TailIdeal.main_v17_0)) (v1 : (c : Dev Cert.TailIdeal.nD) → Buf (Elt Ideal) ((c.tc : Thread Cert.TailIdeal.nD Cert.TailIdeal.τ).loc Cert.TailIdeal.main_v17_1)) (v2 : (c : Dev Cert.TailIdeal.nD) → Buf (Elt Ideal) ((c.tc : Thread Cert.TailIdeal.nD Cert.TailIdeal.τ).loc Cert.TailIdeal.main_v17_2)) (v3 : (c : Dev Cert.TailIdeal.nD) → Buf (Elt Ideal) ((c.tc : Thread Cert.TailIdeal.nD Cert.TailIdeal.τ).loc Cert.TailIdeal.main_v17_3)) (v4 : (c : Dev Cert.TailIdeal.nD) → Buf (Elt Ideal) ((c.tc : Thread Cert.TailIdeal.nD Cert.TailIdeal.τ).loc Cert.TailIdeal.main_v17_4)) (v5 : (c : Dev Cert.TailIdeal.nD) → Buf (Elt Ideal) ((c.tc : Thread Cert.TailIdeal.nD Cert.TailIdeal.τ).loc Cert.TailIdeal.main_v17_5)) (v6 : (c : Dev Cert.TailIdeal.nD) → Buf (Elt Ideal) ((c.tc : Thread Cert.TailIdeal.nD Cert.TailIdeal.τ).loc Cert.TailIdeal.main_v17_6)) (v7 : (c : Dev Cert.TailIdeal.nD) → Buf (Elt Ideal) ((c.tc : Thread Cert.TailIdeal.nD Cert.TailIdeal.τ).loc Cert.TailIdeal.main_v17_7)) (v8 : (c : Dev Cert.TailIdeal.nD) → Buf (Elt Ideal) ((c.tc : Thread Cert.TailIdeal.nD Cert.TailIdeal.τ).loc Cert.TailIdeal.main_v17_8)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v17_0) = v0 c
          ∧ r.2.mem ((c.tc : Thread Cert.TailIdeal.nD Cert.TailIdeal.τ).loc Cert.TailIdeal.main_v17_1) = v1 c
          ∧ r.2.mem ((c.tc : Thread Cert.TailIdeal.nD Cert.TailIdeal.τ).loc Cert.TailIdeal.main_v17_2) = v2 c
          ∧ r.2.mem ((c.tc : Thread Cert.TailIdeal.nD Cert.TailIdeal.τ).loc Cert.TailIdeal.main_v17_3) = v3 c
          ∧ r.2.mem ((c.tc : Thread Cert.TailIdeal.nD Cert.TailIdeal.τ).loc Cert.TailIdeal.main_v17_4) = v4 c
          ∧ r.2.mem ((c.tc : Thread Cert.TailIdeal.nD Cert.TailIdeal.τ).loc Cert.TailIdeal.main_v17_5) = v5 c
          ∧ r.2.mem ((c.tc : Thread Cert.TailIdeal.nD Cert.TailIdeal.τ).loc Cert.TailIdeal.main_v17_6) = v6 c
          ∧ r.2.mem ((c.tc : Thread Cert.TailIdeal.nD Cert.TailIdeal.τ).loc Cert.TailIdeal.main_v17_7) = v7 c
          ∧ r.2.mem ((c.tc : Thread Cert.TailIdeal.nD Cert.TailIdeal.τ).loc Cert.TailIdeal.main_v17_8) = v8 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v102) = v0 c
          ∧ r.2.mem ((c.tc : Thread Cert.TailRefIdeal.nD Cert.TailRefIdeal.τ).loc Cert.TailRefIdeal.main_v103) = v1 c
          ∧ r.2.mem ((c.tc : Thread Cert.TailRefIdeal.nD Cert.TailRefIdeal.τ).loc Cert.TailRefIdeal.main_v104) = v2 c
          ∧ r.2.mem ((c.tc : Thread Cert.TailRefIdeal.nD Cert.TailRefIdeal.τ).loc Cert.TailRefIdeal.main_v105) = v3 c
          ∧ r.2.mem ((c.tc : Thread Cert.TailRefIdeal.nD Cert.TailRefIdeal.τ).loc Cert.TailRefIdeal.main_v106) = v4 c
          ∧ r.2.mem ((c.tc : Thread Cert.TailRefIdeal.nD Cert.TailRefIdeal.τ).loc Cert.TailRefIdeal.main_v101) = v5 c
          ∧ r.2.mem ((c.tc : Thread Cert.TailRefIdeal.nD Cert.TailRefIdeal.τ).loc Cert.TailRefIdeal.main_v65) = v6 c
          ∧ r.2.mem ((c.tc : Thread Cert.TailRefIdeal.nD Cert.TailRefIdeal.τ).loc Cert.TailRefIdeal.main_v91) = v7 c
          ∧ r.2.mem ((c.tc : Thread Cert.TailRefIdeal.nD Cert.TailRefIdeal.τ).loc Cert.TailRefIdeal.main_v107) = v8 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9))

def preserves_Attn_AttnIdeal : Prop :=
  True

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)) →
    ∃ (v0 : (c : Dev Cert.AttnIdeal.nD) → Buf (Elt Ideal) ((c.tc : Thread Cert.AttnIdeal.nD Cert.AttnIdeal.τ).loc Cert.AttnIdeal.main_v104_0)) (v1 : (c : Dev Cert.AttnIdeal.nD) → Buf (Elt Ideal) ((c.tc : Thread Cert.AttnIdeal.nD Cert.AttnIdeal.τ).loc Cert.AttnIdeal.main_v104_1)) (v2 : (c : Dev Cert.AttnIdeal.nD) → Buf (Elt Ideal) ((c.tc : Thread Cert.AttnIdeal.nD Cert.AttnIdeal.τ).loc Cert.AttnIdeal.main_v104_2)) (v3 : (c : Dev Cert.AttnIdeal.nD) → Buf (Elt Ideal) ((c.tc : Thread Cert.AttnIdeal.nD Cert.AttnIdeal.τ).loc Cert.AttnIdeal.main_v104_3)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v104_0) = v0 c
          ∧ r.2.mem ((c.tc : Thread Cert.AttnIdeal.nD Cert.AttnIdeal.τ).loc Cert.AttnIdeal.main_v104_1) = v1 c
          ∧ r.2.mem ((c.tc : Thread Cert.AttnIdeal.nD Cert.AttnIdeal.τ).loc Cert.AttnIdeal.main_v104_2) = v2 c
          ∧ r.2.mem ((c.tc : Thread Cert.AttnIdeal.nD Cert.AttnIdeal.τ).loc Cert.AttnIdeal.main_v104_3) = v3 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v184) = v0 c
          ∧ r.2.mem ((c.tc : Thread Cert.AttnRefIdeal.nD Cert.AttnRefIdeal.τ).loc Cert.AttnRefIdeal.main_v182) = v1 c
          ∧ r.2.mem ((c.tc : Thread Cert.AttnRefIdeal.nD Cert.AttnRefIdeal.τ).loc Cert.AttnRefIdeal.main_v185) = v2 c
          ∧ r.2.mem ((c.tc : Thread Cert.AttnRefIdeal.nD Cert.AttnRefIdeal.τ).loc Cert.AttnRefIdeal.main_v172) = v3 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)
      ∧ m' ((c.tc : Thread Cert.GluRefIdeal.nD Cert.GluRefIdeal.τ).loc Cert.GluRefIdeal.main_arg3) = m ((c.tc : Thread Cert.GluIdeal.nD Cert.GluIdeal.τ).loc Cert.GluIdeal.main_arg3)
      ∧ m' ((c.tc : Thread Cert.GluRefIdeal.nD Cert.GluRefIdeal.τ).loc Cert.GluRefIdeal.main_arg4) = m ((c.tc : Thread Cert.GluIdeal.nD Cert.GluIdeal.τ).loc Cert.GluIdeal.main_arg4)) →
    ∃ (v0 : (c : Dev Cert.GluIdeal.nD) → Buf (Elt Ideal) ((c.tc : Thread Cert.GluIdeal.nD Cert.GluIdeal.τ).loc Cert.GluIdeal.main_v15_0)) (v1 : (c : Dev Cert.GluIdeal.nD) → Buf (Elt Ideal) ((c.tc : Thread Cert.GluIdeal.nD Cert.GluIdeal.τ).loc Cert.GluIdeal.main_v15_1)) (v2 : (c : Dev Cert.GluIdeal.nD) → Buf (Elt Ideal) ((c.tc : Thread Cert.GluIdeal.nD Cert.GluIdeal.τ).loc Cert.GluIdeal.main_v15_2)) (v3 : (c : Dev Cert.GluIdeal.nD) → Buf (Elt Ideal) ((c.tc : Thread Cert.GluIdeal.nD Cert.GluIdeal.τ).loc Cert.GluIdeal.main_v15_3)) (v4 : (c : Dev Cert.GluIdeal.nD) → Buf (Elt Ideal) ((c.tc : Thread Cert.GluIdeal.nD Cert.GluIdeal.τ).loc Cert.GluIdeal.main_v15_4)) (v5 : (c : Dev Cert.GluIdeal.nD) → Buf (Elt Ideal) ((c.tc : Thread Cert.GluIdeal.nD Cert.GluIdeal.τ).loc Cert.GluIdeal.main_v15_5)) (v6 : (c : Dev Cert.GluIdeal.nD) → Buf (Elt Ideal) ((c.tc : Thread Cert.GluIdeal.nD Cert.GluIdeal.τ).loc Cert.GluIdeal.main_v15_6)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v15_0) = v0 c
          ∧ r.2.mem ((c.tc : Thread Cert.GluIdeal.nD Cert.GluIdeal.τ).loc Cert.GluIdeal.main_v15_1) = v1 c
          ∧ r.2.mem ((c.tc : Thread Cert.GluIdeal.nD Cert.GluIdeal.τ).loc Cert.GluIdeal.main_v15_2) = v2 c
          ∧ r.2.mem ((c.tc : Thread Cert.GluIdeal.nD Cert.GluIdeal.τ).loc Cert.GluIdeal.main_v15_3) = v3 c
          ∧ r.2.mem ((c.tc : Thread Cert.GluIdeal.nD Cert.GluIdeal.τ).loc Cert.GluIdeal.main_v15_4) = v4 c
          ∧ r.2.mem ((c.tc : Thread Cert.GluIdeal.nD Cert.GluIdeal.τ).loc Cert.GluIdeal.main_v15_5) = v5 c
          ∧ r.2.mem ((c.tc : Thread Cert.GluIdeal.nD Cert.GluIdeal.τ).loc Cert.GluIdeal.main_v15_6) = v6 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
          ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v70) = v0 c
          ∧ r.2.mem ((c.tc : Thread Cert.GluRefIdeal.nD Cert.GluRefIdeal.τ).loc Cert.GluRefIdeal.main_v72) = v1 c
          ∧ r.2.mem ((c.tc : Thread Cert.GluRefIdeal.nD Cert.GluRefIdeal.τ).loc Cert.GluRefIdeal.main_v74) = v2 c
          ∧ r.2.mem ((c.tc : Thread Cert.GluRefIdeal.nD Cert.GluRefIdeal.τ).loc Cert.GluRefIdeal.main_v76) = v3 c
          ∧ r.2.mem ((c.tc : Thread Cert.GluRefIdeal.nD Cert.GluRefIdeal.τ).loc Cert.GluRefIdeal.main_v78) = v4 c
          ∧ r.2.mem ((c.tc : Thread Cert.GluRefIdeal.nD Cert.GluRefIdeal.τ).loc Cert.GluRefIdeal.main_v79) = v5 c
          ∧ r.2.mem ((c.tc : Thread Cert.GluRefIdeal.nD Cert.GluRefIdeal.τ).loc Cert.GluRefIdeal.main_v48) = v6 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2)
          ∧ r.2.mem ((c.tc : Thread Cert.GluRefIdeal.nD Cert.GluRefIdeal.τ).loc Cert.GluRefIdeal.main_arg3) = m' ((c.tc : Thread Cert.GluRefIdeal.nD Cert.GluRefIdeal.τ).loc Cert.GluRefIdeal.main_arg3)
          ∧ r.2.mem ((c.tc : Thread Cert.GluRefIdeal.nD Cert.GluRefIdeal.τ).loc Cert.GluRefIdeal.main_arg4) = m' ((c.tc : Thread Cert.GluRefIdeal.nD Cert.GluRefIdeal.τ).loc Cert.GluRefIdeal.main_arg4))

def Claim : Prop :=
  ∃ (hInProj : Cert.InProj.Facts) (hInProjIdeal : Cert.InProjIdeal.Facts) (hInProjRefIdeal : Cert.InProjRefIdeal.Facts) (hTail : Cert.Tail.Facts) (hTailIdeal : Cert.TailIdeal.Facts) (hTailRefIdeal : Cert.TailRefIdeal.Facts) (hAttn : Cert.Attn.Facts) (hAttnIdeal : Cert.AttnIdeal.Facts) (hAttnRefIdeal : Cert.AttnRefIdeal.Facts) (hGlu : Cert.Glu.Facts) (hGluIdeal : Cert.GluIdeal.Facts) (hGluRefIdeal : Cert.GluRefIdeal.Facts) (hPre_finite : Cert.Pre_finite.Facts),
    quiescent_InProj (hInProj := hInProj)
    ∧ quiescent_InProjIdeal (hInProjIdeal := hInProjIdeal)
    ∧ quiescent_InProjRefIdeal (hInProjRefIdeal := hInProjRefIdeal)
    ∧ quiescent_Tail (hTail := hTail)
    ∧ quiescent_TailIdeal (hTailIdeal := hTailIdeal)
    ∧ quiescent_TailRefIdeal (hTailRefIdeal := hTailRefIdeal)
    ∧ quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Glu (hGlu := hGlu)
    ∧ quiescent_GluIdeal (hGluIdeal := hGluIdeal)
    ∧ quiescent_GluRefIdeal (hGluRefIdeal := hGluRefIdeal)
    ∧ preserves_InProj_InProjIdeal
    ∧ algebraic_InProjIdeal_InProjRefIdeal (hInProjIdeal := hInProjIdeal) (hInProjRefIdeal := hInProjRefIdeal)
    ∧ preserves_Tail_TailIdeal
    ∧ algebraic_TailIdeal_TailRefIdeal (hTailIdeal := hTailIdeal) (hTailRefIdeal := hTailRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_Glu_GluIdeal
    ∧ algebraic_GluIdeal_GluRefIdeal (hGluIdeal := hGluIdeal) (hGluRefIdeal := hGluRefIdeal)
-- ==== Pre_finite.lean ====
abbrev S2x2048x2304 : Shape := ⟨3, ![2, 2048, 2304]⟩
abbrev S2x2048x1024 : Shape := ⟨3, ![2, 2048, 1024]⟩
abbrev S1x8 : Shape := ⟨2, ![1, 8]⟩
abbrev S2x2048x512 : Shape := ⟨3, ![2, 2048, 512]⟩
abbrev S512x256 : Shape := ⟨2, ![512, 256]⟩
abbrev S2x2048x1280 : Shape := ⟨3, ![2, 2048, 1280]⟩
abbrev S_ : Shape := ⟨0, ![]⟩

class Facts : Prop where
  slices_S2x2048x2304_S2x2048x1280_0_0_1024 : S2x2048x2304.Slices ![0, 0, 1024] S2x2048x1280
  bcast_S_S2x2048x1280 : S_.BroadcastsInDim S2x2048x1280 (![] : Fin 0 → Fin S2x2048x1280.rank)
  reducesTo_S2x2048x1280_S_d0_1_2 : S2x2048x1280.ReducesTo [0, 1, 2] S_
  h_S_ : 0 < S_.numel
  bcast_S_S1x8 : S_.BroadcastsInDim S1x8 (![] : Fin 0 → Fin S1x8.rank)
  reducesTo_S1x8_S_d0_1 : S1x8.ReducesTo [0, 1] S_
  bcast_S_S2x2048x512 : S_.BroadcastsInDim S2x2048x512 (![] : Fin 0 → Fin S2x2048x512.rank)
  reducesTo_S2x2048x512_S_d0_1_2 : S2x2048x512.ReducesTo [0, 1, 2] S_

variable [Facts]

def fn {F : FTy → Type} [FloatOps F] (main_arg0 : FVec F S2x2048x2304 .f32) (main_arg1 : FVec F S2x2048x1024 .f32) (main_arg2 : FVec F S1x8 .f32) (main_arg3 : FVec F S2x2048x512 .f32) (main_arg4 : FVec F S2x2048x512 .f32) (main_arg5 : FVec F S2x2048x512 .f32) (main_arg6 : FVec F S512x256 .bf16) : IVec S_ 1 :=
  let main_v0 : FVec F S2x2048x1280 .f32 := (extractStridedSlice S2x2048x1280 ![0, 0, 1024] · slices_S2x2048x2304_S2x2048x1280_0_0_1024) main_arg0
  let main_v1 : FVec F S2x2048x1280 .f32 := Host.absf main_v0
  let main_cst : FVec F S_ .f32 := constant S_ .f32 0x7F800000#32
  let main_v2 : FVec F S2x2048x1280 .f32 := broadcastInDim S2x2048x1280 ![] bcast_S_S2x2048x1280 main_cst
  let main_v3 : IVec S2x2048x1280 1 := cmpf .olt main_v1 main_v2
  let main_c : IVec S_ 1 := constantI S_ 1 1#1
  let main_v4 : IVec S_ 1 := (fun x v => Host.reduce IntOp.andi x v reducesTo_S2x2048x1280_S_d0_1_2 h_S_) main_v3 main_c
  let main_v5 : FVec F S1x8 .f32 := Host.absf main_arg2
  let main_cst_0 : FVec F S_ .f32 := constant S_ .f32 0x7F800000#32
  let main_v6 : FVec F S1x8 .f32 := broadcastInDim S1x8 ![] bcast_S_S1x8 main_cst_0
  let main_v7 : IVec S1x8 1 := cmpf .olt main_v5 main_v6
  let main_c_1 : IVec S_ 1 := constantI S_ 1 1#1
  let main_v8 : IVec S_ 1 := (fun x v => Host.reduce IntOp.andi x v reducesTo_S1x8_S_d0_1 h_S_) main_v7 main_c_1
  let main_v9 : IVec S_ 1 := andi main_v4 main_v8
  let main_v10 : FVec F S2x2048x512 .f32 := Host.absf main_arg5
  let main_cst_2 : FVec F S_ .f32 := constant S_ .f32 0x7F800000#32
  let main_v11 : FVec F S2x2048x512 .f32 := broadcastInDim S2x2048x512 ![] bcast_S_S2x2048x512 main_cst_2
  let main_v12 : IVec S2x2048x512 1 := cmpf .olt main_v10 main_v11
  let main_c_3 : IVec S_ 1 := constantI S_ 1 1#1
  let main_v13 : IVec S_ 1 := (fun x v => Host.reduce IntOp.andi x v reducesTo_S2x2048x512_S_d0_1_2 h_S_) main_v12 main_c_3
  let main_v14 : IVec S_ 1 := andi main_v9 main_v13
  main_v14
-- ==== InProj.lean ====
abbrev S2x2048x1024 : Shape := ⟨3, ![2, 2048, 1024]⟩
abbrev S4096x1024 : Shape := ⟨2, ![4096, 1024]⟩
abbrev S1x1024 : Shape := ⟨2, ![1, 1024]⟩
abbrev S1x1024x2304 : Shape := ⟨3, ![1, 1024, 2304]⟩
abbrev S4096x2304 : Shape := ⟨2, ![4096, 2304]⟩
abbrev S7x512x256 : Shape := ⟨3, ![7, 512, 256]⟩
abbrev S1024x2304 : Shape := ⟨2, ![1024, 2304]⟩
abbrev S2304x1024 : Shape := ⟨2, ![2304, 1024]⟩
abbrev S2304x512 : Shape := ⟨2, ![2304, 512]⟩
abbrev S512x1024 : Shape := ⟨2, ![512, 1024]⟩
abbrev S512x2304 : Shape := ⟨2, ![512, 2304]⟩
abbrev S512 : Shape := ⟨1, ![512]⟩
abbrev S512x1 : Shape := ⟨2, ![512, 1]⟩
abbrev S512x512 : Shape := ⟨2, ![512, 512]⟩
abbrev S1x512 : Shape := ⟨2, ![1, 512]⟩
abbrev S1024 : Shape := ⟨1, ![1024]⟩

abbrev nBuf : Space → Nat
  | .hbm => 13
  | .vmem => 12
  | .smem => 0
  | _ => 0

abbrev bufTy : (tb : Table) → Fin (tcTables nBuf tb) → BufTy
  | .hbm, ⟨0, _⟩ => ⟨S2x2048x1024, .f32⟩
  | .hbm, ⟨1, _⟩ => ⟨S4096x1024, .f32⟩
  | .hbm, ⟨2, _⟩ => ⟨S1x1024, .f32⟩
  | .hbm, ⟨3, _⟩ => ⟨S1x1024x2304, .f32⟩
  | .hbm, ⟨4, _⟩ => ⟨S4096x2304, .bf16⟩
  | .hbm, ⟨5, _⟩ => ⟨S7x512x256, .bf16⟩
  | .hbm, ⟨6, _⟩ => ⟨S4096x1024, .f32⟩
  | .hbm, ⟨7, _⟩ => ⟨S1024x2304, .f32⟩
  | .hbm, ⟨8, _⟩ => ⟨S2304x1024, .f32⟩
  | .hbm, ⟨9, _⟩ => ⟨S2304x1024, .bf16⟩
  | .hbm, ⟨10, _⟩ => ⟨S4096x1024, .f32⟩
  | .hbm, ⟨11, _⟩ => ⟨S2304x512, .f32⟩
  | .hbm, ⟨12, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S2304x1024, .bf16⟩
  | .local _ .vmem, ⟨6, _⟩ => ⟨S512x2304, .bf16⟩
  | .local _ .vmem, ⟨7, _⟩ => ⟨S512x2304, .bf16⟩
  | .local _ .vmem, ⟨8, _⟩ => ⟨S512x1024, .f32⟩
  | .local _ .vmem, ⟨9, _⟩ => ⟨S512x1024, .f32⟩
  | .local _ .vmem, ⟨10, _⟩ => ⟨S2304x512, .f32⟩
  | .local _ .vmem, ⟨11, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2304x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2304 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2304x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== InProjRefIdeal.lean ====
abbrev S2x2048x1024 : Shape := ⟨3, ![2, 2048, 1024]⟩
abbrev S4096x1024 : Shape := ⟨2, ![4096, 1024]⟩
abbrev S1x1024 : Shape := ⟨2, ![1, 1024]⟩
abbrev S1x1024x2304 : Shape := ⟨3, ![1, 1024, 2304]⟩
abbrev S4096x2304 : Shape := ⟨2, ![4096, 2304]⟩
abbrev S7x512x256 : Shape := ⟨3, ![7, 512, 256]⟩
abbrev S2x2048x2304 : Shape := ⟨3, ![2, 2048, 2304]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x2304 : Shape := ⟨2, ![1024, 2304]⟩
abbrev S2304x1024 : Shape := ⟨2, ![2304, 1024]⟩
abbrev S2304x512 : Shape := ⟨2, ![2304, 512]⟩

abbrev nBuf : Space → Nat
  | .hbm => 67
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S4096x1024, .f32⟩
  | .hbm, ⟨2, _⟩ => ⟨S1x1024, .f32⟩
  | .hbm, ⟨3, _⟩ => ⟨S1x1024x2304, .f32⟩
  | .hbm, ⟨4, _⟩ => ⟨S4096x2304, .bf16⟩
  | .hbm, ⟨5, _⟩ => ⟨S7x512x256, .bf16⟩
  | .hbm, ⟨6, _⟩ => ⟨S2x2048x1024, .f32⟩
  | .hbm, ⟨7, _⟩ => ⟨S4096x2304, .f32⟩
  | .hbm, ⟨8, _⟩ => ⟨S2x2048x2304, .f32⟩
  | .hbm, ⟨9, _⟩ => ⟨S1024, .f32⟩
  | .hbm, ⟨10, _⟩ => ⟨S2x2048x1024, .f32⟩
  | .hbm, ⟨11, _⟩ => ⟨S_, .f32⟩
  | .hbm, ⟨12, _⟩ => ⟨S2x2048, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S2x2048x1, .f32⟩
  | .hbm, ⟨21, _⟩ => ⟨S2x2048x1, .f32⟩
  | .hbm, ⟨22, _⟩ => ⟨S_, .f32⟩
  | .hbm, ⟨23, _⟩ => ⟨S2x2048x1, .f32⟩
  | .hbm, ⟨24, _⟩ => ⟨S2x2048x1, .f32⟩
  | .hbm, ⟨25, _⟩ => ⟨S2x2048x1024, .f32⟩
  | .hbm, ⟨26, _⟩ => ⟨S2x2048x1024, .f32⟩
  | .hbm, ⟨27, _⟩ => ⟨S1x1x1024, .f32⟩
  | .hbm, ⟨28, _⟩ => ⟨S2x2048x1024, .f32⟩
  | .hbm, ⟨29, _⟩ => ⟨S2x2048x1024, .f32⟩
  | .hbm, ⟨30, _⟩ => ⟨S1024x2304, .f32⟩
  | .hbm, ⟨31, _⟩ => ⟨S2x2048x2304, .f32⟩
  | .hbm, ⟨32, _⟩ => ⟨S2304x1024, .f32⟩
  | .hbm, ⟨33, _⟩ => ⟨S1024x2304, .f32⟩
  | .hbm, ⟨34, _⟩ => ⟨S2x2048x1024, .f32⟩
  | .hbm, ⟨35, _⟩ => ⟨S1x1024x2304, .f32⟩
  | .hbm, ⟨36, _⟩ => ⟨S2x2048x1024, .f32⟩
  | .hbm, ⟨37, _⟩ => ⟨S_, .f32⟩
  | .hbm, ⟨38, _⟩ => ⟨S1024, .f32⟩
  | .hbm, ⟨39, _⟩ => ⟨S1x1x1024, .f32⟩
  | .hbm, ⟨40, _⟩ => ⟨S2x2048x1024, .f32⟩
  | .hbm, ⟨41, _⟩ => ⟨S2x2048x1024, .f32⟩
  | .hbm, ⟨42, _⟩ => ⟨S_, .f32⟩
  | .hbm, ⟨43, _⟩ => ⟨S1024, .f32⟩
  | .hbm, ⟨44, _⟩ => ⟨S2x2048x1024, .f32⟩
  | .hbm, ⟨45, _⟩ => ⟨S_, .f32⟩
  | .hbm, ⟨46, _⟩ => ⟨S2x2048, .f32⟩
  | .hbm, ⟨47, _⟩ => ⟨S2x2048x1, .f32⟩
  | .hbm, ⟨48, _⟩ => ⟨S2x2048x1024, .f32⟩
  | .hbm, ⟨49, _⟩ => ⟨S2x2048x1024, .f32⟩
  | .hbm, ⟨50, _⟩ => ⟨S2x2048x1024, .f32⟩
  | .hbm, ⟨51, _⟩ => ⟨S2x2048x1, .f32⟩
  | .hbm, ⟨52, _⟩ => ⟨S_, .f32⟩
  | .hbm, ⟨53, _⟩ => ⟨S2x2048x1, .f32⟩
  | .hbm, ⟨54, _⟩ => ⟨S2x2048x1, .f32⟩
  | .hbm, ⟨55, _⟩ => ⟨S_, .f32⟩
  | .hbm, ⟨56, _⟩ => ⟨S2x2048, .f32⟩
  | .hbm, ⟨57, _⟩ => ⟨S2x2048x1024, .f32⟩
  | .hbm, ⟨58, _⟩ => ⟨S2x2048x1024, .f32⟩
  | .hbm, ⟨59, _⟩ => ⟨S2x2048x1024, .f32⟩
  | .hbm, ⟨60, _⟩ => ⟨S2x2048x1024, .f32⟩
  | .hbm, ⟨61, _⟩ => ⟨S2x2048x1024, .f32⟩
  | .hbm, ⟨62, _⟩ => ⟨S1x1024, .f32⟩
  | .hbm, ⟨63, _⟩ => ⟨S4096x1024, .f32⟩
  | .hbm, ⟨64, _⟩ => ⟨S1024x2304, .f32⟩
  | .hbm, ⟨65, _⟩ => ⟨S2304x1024, .f32⟩
  | .hbm, ⟨66, _⟩ => ⟨S2304x512, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩

abbrev nD : Nat := 1
abbrev τ : Topo := Topo.v7x

variable {F : FTy → Type} [FloatOps F]
-- ==== Tail.lean ====
abbrev S2x2048x512 : Shape := ⟨3, ![2, 2048, 512]⟩
abbrev S2x2048x1024 : Shape := ⟨3, ![2, 2048, 1024]⟩
abbrev S1x2x2048x256 : Shape := ⟨4, ![1, 2, 2048, 256]⟩
abbrev S1x1024x1024 : Shape := ⟨3, ![1, 1024, 1024]⟩
abbrev S1x1024 : Shape := ⟨2, ![1, 1024]⟩
abbrev S1x256x1024 : Shape := ⟨3, ![1, 256, 1024]⟩
abbrev S256x1024 : Shape := ⟨2, ![256, 1024]⟩
abbrev S256x4x256 : Shape := ⟨3, ![256, 4, 256]⟩
abbrev S4x256x256 : Shape := ⟨3, ![4, 256, 256]⟩
abbrev S1024x256 : Shape := ⟨2, ![1024, 256]⟩
abbrev S4096x512 : Shape := ⟨2, ![4096, 512]⟩
abbrev S4096x1024 : Shape := ⟨2, ![4096, 1024]⟩
abbrev S2x2048x256 : Shape := ⟨3, ![2, 2048, 256]⟩
abbrev S4096x256 : Shape := ⟨2, ![4096, 256]⟩
abbrev S1024x1024 : Shape := ⟨2, ![1024, 1024]⟩
abbrev S1x1 : Shape := ⟨2, ![1, 1]⟩
abbrev S512x512 : Shape := ⟨2, ![512, 512]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S256x256 : Shape := ⟨2, ![256, 256]⟩
abbrev S1 : Shape := ⟨1, ![1]⟩
abbrev S1024 : Shape := ⟨1, ![1024]⟩

abbrev nBuf : Space → Nat
  | .hbm => 36
  | .vmem => 27
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x1024, .f32⟩
  | .hbm, ⟨3, _⟩ => ⟨S1x2x2048x256, .f32⟩
  | .hbm, ⟨4, _⟩ => ⟨S2x2048x1024, .f32⟩
  | .hbm, ⟨5, _⟩ => ⟨S1x1024x1024, .f32⟩
  | .hbm, ⟨6, _⟩ => ⟨S1x1024, .f32⟩
  | .hbm, ⟨7, _⟩ => ⟨S1x1024x1024, .f32⟩
  | .hbm, ⟨8, _⟩ => ⟨S1x1024, .f32⟩
  | .hbm, ⟨9, _⟩ => ⟨S1x256x1024, .f32⟩
  | .hbm, ⟨10, _⟩ => ⟨S256x1024, .f32⟩
  | .hbm, ⟨11, _⟩ => ⟨S256x4x256, .f32⟩
  | .hbm, ⟨12, _⟩ => ⟨S4x256x256, .f32⟩
  | .hbm, ⟨13, _⟩ => ⟨S1024x256, .f32⟩
  | .hbm, ⟨14, _⟩ => ⟨S4096x512, .f32⟩
  | .hbm, ⟨15, _⟩ => ⟨S4096x512, .bf16⟩
  | .hbm, ⟨16, _⟩ => ⟨S4096x512, .f32⟩
  | .hbm, ⟨17, _⟩ => ⟨S4096x512, .bf16⟩
  | .hbm, ⟨18, _⟩ => ⟨S4096x1024, .f32⟩
  | .hbm, ⟨19, _⟩ => ⟨S2x2048x256, .f32⟩
  | .hbm, ⟨20, _⟩ => ⟨S4096x256, .f32⟩
  | .hbm, ⟨21, _⟩ => ⟨S4096x1024, .f32⟩
  | .hbm, ⟨22, _⟩ => ⟨S1024x1024, .f32⟩
  | .hbm, ⟨23, _⟩ => ⟨S1024x1024, .bf16⟩
  | .hbm, ⟨24, _⟩ => ⟨S1024x1024, .f32⟩
  | .hbm, ⟨25, _⟩ => ⟨S1024x1024, .bf16⟩
  | .hbm, ⟨26, _⟩ => ⟨S1024x256, .bf16⟩
  | .hbm, ⟨27, _⟩ => ⟨S4096x1024, .f32⟩
  | .hbm, ⟨28, _⟩ => ⟨S4096x512, .f32⟩
  | .hbm, ⟨29, _⟩ => ⟨S4096x512, .f32⟩
  | .hbm, ⟨30, _⟩ => ⟨S1024x1024, .f32⟩
  | .hbm, ⟨31, _⟩ => ⟨S1024x1024, .f32⟩
  | .hbm, ⟨32, _⟩ => ⟨S1024x256, .f32⟩
  | .hbm, ⟨33, _⟩ => ⟨S1x1024, .f32⟩
  | .hbm, ⟨34, _⟩ => ⟨S1x1024, .f32⟩
  | .hbm, ⟨35, _⟩ => ⟨S1x1, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S512x256, .f32⟩
  | .local _ .vmem, ⟨7, _⟩ => ⟨S512x256, .f32⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1x1024, .f32⟩
  | .local _ .vmem, ⟨12, _⟩ => ⟨S1024x1024, .bf16⟩
  | .local _ .vmem, ⟨13, _⟩ => ⟨S1x1024, .f32⟩
  | .local _ .vmem, ⟨14, _⟩ => ⟨S1024x256, .bf16⟩
  | .local _ .vmem, ⟨15, _⟩ => ⟨S512x1024, .f32⟩
  | .local _ .vmem, ⟨16, _⟩ => ⟨S512x1024, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S1024x1024, .f32⟩
  | .local _ .vmem, ⟨22, _⟩ => ⟨S1024x1024, .f32⟩
  | .local _ .vmem, ⟨23, _⟩ => ⟨S1024x256, .f32⟩
  | .local _ .vmem, ⟨24, _⟩ => ⟨S1x1024, .f32⟩
  | .local _ .vmem, ⟨25, _⟩ => ⟨S1x1024, .f32⟩
  | .local _ .vmem, ⟨26, _⟩ => ⟨S1x1, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev main_v17_2 : Ref sig .tc := ⟨.hbm, 29, rfl⟩
abbrev main_v17_3 : Ref sig .tc := ⟨.hbm, 30, rfl⟩
abbrev main_v17_4 : Ref sig .tc := ⟨.hbm, 31, rfl⟩
abbrev main_v17_5 : Ref sig .tc := ⟨.hbm, 32, rfl⟩
abbrev main_v17_6 : Ref sig .tc := ⟨.hbm, 33, rfl⟩
abbrev main_v17_7 : Ref sig .tc := ⟨.hbm, 34, rfl⟩
abbrev main_v17_8 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1024x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== TailRefIdeal.lean ====
abbrev S2x2048x512 : Shape := ⟨3, ![2, 2048, 512]⟩
abbrev S2x2048x1024 : Shape := ⟨3, ![2, 2048, 1024]⟩
abbrev S1x2x2048x256 : Shape := ⟨4, ![1, 2, 2048, 256]⟩
abbrev S1x1024x1024 : Shape := ⟨3, ![1, 1024, 1024]⟩
abbrev S1x1024 : Shape := ⟨2, ![1, 1024]⟩
abbrev S1x256x1024 : Shape := ⟨3, ![1, 256, 1024]⟩
abbrev S1024x1024 : Shape := ⟨2, ![1024, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x256 : Shape := ⟨3, ![2, 2048, 256]⟩
abbrev S256x1024 : Shape := ⟨2, ![256, 1024]⟩
abbrev S1024x256 : Shape := ⟨2, ![1024, 256]⟩
abbrev S256x4x256 : Shape := ⟨3, ![256, 4, 256]⟩
abbrev S4x256x256 : Shape := ⟨3, ![4, 256, 256]⟩
abbrev S4096x1024 : Shape := ⟨2, ![4096, 1024]⟩
abbrev S4096x512 : Shape := ⟨2, ![4096, 512]⟩
abbrev S1x1 : Shape := ⟨2, ![1, 1]⟩

abbrev nBuf : Space → Nat
  | .hbm => 140
  | .vmem => 0
  | .smem => 0
  | _ => 0

abbrev hbmTy0_0 (i : Nat) : BufTy := match i % 128 with
  | 0 => ⟨S2x2048x512, .f32⟩
  | 1 => ⟨S2x2048x512, .f32⟩
  | 2 => ⟨S2x2048x1024, .f32⟩
  | 3 => ⟨S1x2x2048x256, .f32⟩
  | 4 => ⟨S2x2048x1024, .f32⟩
  | 5 => ⟨S1x1024x1024, .f32⟩
  | 6 => ⟨S1x1024, .f32⟩
  | 7 => ⟨S1x1024x1024, .f32⟩
  | 8 => ⟨S1x1024, .f32⟩
  | 9 => ⟨S1x256x1024, .f32⟩
  | 10 => ⟨S2x2048x1024, .f32⟩
  | 11 => ⟨S1024x1024, .f32⟩
  | 12 => ⟨S2x2048x1024, .f32⟩
  | 13 => ⟨S1024, .f32⟩
  | 14 => ⟨S2x2048x1024, .f32⟩
  | 15 => ⟨S_, .f32⟩
  | 16 => ⟨S2x2048, .f32⟩
  | 17 => ⟨S2x2048x1, .f32⟩
  | 18 => ⟨S_, .f32⟩
  | 19 => ⟨S2x2048x1, .f32⟩
  | 20 => ⟨S2x2048x1, .f32⟩
  | 21 => ⟨S_, .f32⟩
  | 22 => ⟨S2x2048x1, .f32⟩
  | 23 => ⟨S2x2048x1, .f32⟩
  | 24 => ⟨S2x2048x1, .f32⟩
  | 25 => ⟨S2x2048x1, .f32⟩
  | 26 => ⟨S_, .f32⟩
  | 27 => ⟨S2x2048x1, .f32⟩
  | 28 => ⟨S2x2048x1, .f32⟩
  | 29 => ⟨S2x2048x1024, .f32⟩
  | 30 => ⟨S2x2048x1024, .f32⟩
  | 31 => ⟨S1x1x1024, .f32⟩
  | 32 => ⟨S2x2048x1024, .f32⟩
  | 33 => ⟨S2x2048x1024, .f32⟩
  | 34 => ⟨S2x2048x1024, .f32⟩
  | 35 => ⟨S1024x1024, .f32⟩
  | 36 => ⟨S2x2048x1024, .f32⟩
  | 37 => ⟨S1024, .f32⟩
  | 38 => ⟨S1x1x1024, .f32⟩
  | 39 => ⟨S2x2048x1024, .f32⟩
  | 40 => ⟨S2x2048x1024, .f32⟩
  | 41 => ⟨S2x2048x1024, .f32⟩
  | 42 => ⟨S2x2048x1024, .f32⟩
  | 43 => ⟨S_, .f32⟩
  | 44 => ⟨S2x2048x1024, .f32⟩
  | 45 => ⟨S2x2048x1024, .f32⟩
  | 46 => ⟨S_, .f32⟩
  | 47 => ⟨S2x2048x1024, .f32⟩
  | 48 => ⟨S2x2048x1024, .f32⟩
  | 49 => ⟨S_, .f32⟩
  | 50 => ⟨S2x2048x1024, .f32⟩
  | 51 => ⟨S2x2048x1024, .f32⟩
  | 52 => ⟨S2x2048x1024, .f32⟩
  | 53 => ⟨S2x2048x256, .f32⟩
  | 54 => ⟨S256x1024, .f32⟩
  | 55 => ⟨S2x2048x1024, .f32⟩
  | 56 => ⟨S2x2048x1024, .f32⟩
  | 57 => ⟨S2x2048x1024, .f32⟩
  | 58 => ⟨S2x2048x1024, .f32⟩
  | 59 => ⟨S2x2048x1024, .f32⟩
  | 60 => ⟨S_, .f32⟩
  | 61 => ⟨S2x2048x1024, .f32⟩
  | 62 => ⟨S2x2048x1024, .f32⟩
  | 63 => ⟨S_, .f32⟩
  | 64 => ⟨S2x2048, .f32⟩
  | 65 => ⟨S_, .f32⟩
  | 66 => ⟨S2x2048, .f32⟩
  | 67 => ⟨S2x2048, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S2x2048, .f32⟩
  | 76 => ⟨S_, .f32⟩
  | 77 => ⟨S2x2048, .f32⟩
  | 78 => ⟨S2x2048, .f32⟩
  | 79 => ⟨S2x2048x1024, .f32⟩
  | 80 => ⟨S2x2048x1024, .f32⟩
  | 81 => ⟨S2x2048x1024, .f32⟩
  | 82 => ⟨S2x2048x1024, .f32⟩
  | 83 => ⟨S1024x256, .f32⟩
  | 84 => ⟨S256x1024, .f32⟩
  | 85 => ⟨S1x256x1024, .f32⟩
  | 86 => ⟨S2x2048x1024, .f32⟩
  | 87 => ⟨S_, .f32⟩
  | 88 => ⟨S1024, .f32⟩
  | 89 => ⟨S1x1x1024, .f32⟩
  | 90 => ⟨S_, .f32⟩
  | 91 => ⟨S1024, .f32⟩
  | 92 => ⟨S1x1024, .f32⟩
  | 93 => ⟨S1024x1024, .f32⟩
  | 94 => ⟨S1024x1024, .f32⟩
  | 95 => ⟨S2x2048x1024, .f32⟩
  | 96 => ⟨S2x2048x1024, .f32⟩
  | 97 => ⟨S1x1024x1024, .f32⟩
  | 98 => ⟨S2x2048x1024, .f32⟩
  | 99 => ⟨S_, .f32⟩
  | 100 => ⟨S1024, .f32⟩
  | 101 => ⟨S1x1x1024, .f32⟩
  | 102 => ⟨S2x2048x1024, .f32⟩
  | 103 => ⟨S2x2048x1024, .f32⟩
  | 104 => ⟨S_, .f32⟩
  | 105 => ⟨S1024, .f32⟩
  | 106 => ⟨S2x2048x1024, .f32⟩
  | 107 => ⟨S_, .f32⟩
  | 108 => ⟨S2x2048, .f32⟩
  | 109 => ⟨S2x2048x1, .f32⟩
  | 110 => ⟨S2x2048x1024, .f32⟩
  | 111 => ⟨S2x2048x1024, .f32⟩
  | 112 => ⟨S2x2048x1, .f32⟩
  | 113 => ⟨S_, .f32⟩
  | 114 => ⟨S2x2048x1, .f32⟩
  | 115 => ⟨S2x2048x1, .f32⟩
  | 116 => ⟨S_, .f32⟩
  | 117 => ⟨S2x2048, .f32⟩
  | 118 => ⟨S2x2048x1024, .f32⟩
  | 119 => ⟨S2x2048x1024, .f32⟩
  | 120 => ⟨S2x2048x1024, .f32⟩
  | 121 => ⟨S2x2048x1024, .f32⟩
  | 122 => ⟨S2x2048x1024, .f32⟩
  | 123 => ⟨S1x1024, .f32⟩
  | 124 => ⟨S1024x1024, .f32⟩
  | 125 => ⟨S1024x1024, .f32⟩
  | 126 => ⟨S2x2048x1024, .f32⟩
  | 127 => ⟨S1x1024x1024, .f32⟩
  | _ => ⟨S2x2048x512, .f32⟩

abbrev hbmTy0_1 (i : Nat) : BufTy := match i % 128 with
  | 0 => ⟨S2x2048x512, .f32⟩
  | 1 => ⟨S2x2048x512, .f32⟩
  | 2 => ⟨S256x1024, .f32⟩
  | 3 => ⟨S256x4x256, .f32⟩
  | 4 => ⟨S4x256x256, .f32⟩
  | 5 => ⟨S1024x256, .f32⟩
  | 6 => ⟨S4096x1024, .f32⟩
  | 7 => ⟨S4096x512, .f32⟩
  | 8 => ⟨S4096x512, .f32⟩
  | 9 => ⟨S1024x1024, .f32⟩
  | 10 => ⟨S1024x1024, .f32⟩
  | 11 => ⟨S1x1, .f32⟩
  | _ => ⟨S2x2048x512, .f32⟩

abbrev hbmTy (i : Nat) : BufTy := match i / 128 with
  | 0 => hbmTy0_0 i
  | 1 => hbmTy0_1 i
  | _ => ⟨S2x2048x512, .f32⟩

abbrev bufTy : (tb : Table) → Fin (tcTables nBuf tb) → BufTy
  | .hbm, ⟨i, _⟩ => hbmTy i
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_cst_9 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_cst_11 : Ref sig .tc := ⟨.hbm, 72, rfl⟩
abbrev main_cst_12 : Ref sig .tc := ⟨.hbm, 73, rfl⟩
abbrev main_v50 : Ref sig .tc := ⟨.hbm, 74, rfl⟩
abbrev main_v51 : Ref sig .tc := ⟨.hbm, 75, rfl⟩
abbrev main_cst_13 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_14 : Ref sig .tc := ⟨.hbm, 87, rfl⟩
abbrev main_v62 : Ref sig .tc := ⟨.hbm, 88, rfl⟩
abbrev main_v63 : Ref sig .tc := ⟨.hbm, 89, rfl⟩
abbrev main_cst_15 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_16 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_17 : Ref sig .tc := ⟨.hbm, 104, rfl⟩
abbrev main_v76 : Ref sig .tc := ⟨.hbm, 105, rfl⟩
abbrev main_v77 : Ref sig .tc := ⟨.hbm, 106, rfl⟩
abbrev main_cst_18 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_19 : Ref sig .tc := ⟨.hbm, 113, rfl⟩
abbrev main_v83 : Ref sig .tc := ⟨.hbm, 114, rfl⟩
abbrev main_v84 : Ref sig .tc := ⟨.hbm, 115, rfl⟩
abbrev main_cst_20 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩

abbrev nD : Nat := 1
abbrev τ : Topo := Topo.v7x

variable {F : FTy → Type} [FloatOps F]
-- ==== Attn.lean ====
abbrev S2x2048x2304 : Shape := ⟨3, ![2, 2048, 2304]⟩
abbrev S2x2048x1024 : Shape := ⟨3, ![2, 2048, 1024]⟩
abbrev S1x8 : Shape := ⟨2, ![1, 8]⟩
abbrev S2x2048x512 : Shape := ⟨3, ![2, 2048, 512]⟩
abbrev S512x256 : Shape := ⟨2, ![512, 256]⟩
abbrev S8 : Shape := ⟨1, ![8]⟩
abbrev S2x2048x128 : Shape := ⟨3, ![2, 2048, 128]⟩
abbrev S4096x512 : Shape := ⟨2, ![4096, 512]⟩
abbrev S_ : Shape := ⟨0, ![]⟩
abbrev S4096x128 : Shape := ⟨2, ![4096, 128]⟩
abbrev S2x2048x8x64 : Shape := ⟨4, ![2, 2048, 8, 64]⟩
abbrev S2x2048x2x64 : Shape := ⟨4, ![2, 2048, 2, 64]⟩
abbrev S2x16x128x2x4x64 : Shape := ⟨6, ![2, 16, 128, 2, 4, 64]⟩
abbrev S2x16x128x2x64 : Shape := ⟨5, ![2, 16, 128, 2, 64]⟩
abbrev S2x1x128x2x64 : Shape := ⟨5, ![2, 1, 128, 2, 64]⟩
abbrev S2x15x128x2x64 : Shape := ⟨5, ![2, 15, 128, 2, 64]⟩
abbrev S2x16x256x2x64 : Shape := ⟨5, ![2, 16, 256, 2, 64]⟩
abbrev S2x16x2x256x128x4 : Shape := ⟨6, ![2, 16, 2, 256, 128, 4]⟩
abbrev S2x16x2x4x128x256 : Shape := ⟨6, ![2, 16, 2, 4, 128, 256]⟩
abbrev S16x128x256 : Shape := ⟨3, ![16, 128, 256]⟩
abbrev S2x4x1x1 : Shape := ⟨4, ![2, 4, 1, 1]⟩
abbrev S1x2x4x1x1 : Shape := ⟨5, ![1, 2, 4, 1, 1]⟩
abbrev S16x1x1x128x256 : Shape := ⟨5, ![16, 1, 1, 128, 256]⟩
abbrev S16x2x4x128x256 : Shape := ⟨5, ![16, 2, 4, 128, 256]⟩
abbrev S1x16x1x1x128x256 : Shape := ⟨6, ![1, 16, 1, 1, 128, 256]⟩
abbrev S1x16x2x4x128x256 : Shape := ⟨6, ![1, 16, 2, 4, 128, 256]⟩
abbrev S1x1x2x4x1x1 : Shape := ⟨6, ![1, 1, 2, 4, 1, 1]⟩
abbrev S2x16x2x4x128 : Shape := ⟨5, ![2, 16, 2, 4, 128]⟩
abbrev S2x16x2x4x128x1 : Shape := ⟨6, ![2, 16, 2, 4, 128, 1]⟩
abbrev S2x16x2x64x4x128 : Shape := ⟨6, ![2, 16, 2, 64, 4, 128]⟩
abbrev S16x256x4x128 : Shape := ⟨4, ![16, 256, 4, 128]⟩
abbrev S4x256x16x128 : Shape := ⟨4, ![4, 256, 16, 128]⟩
abbrev S4x4096x128 : Shape := ⟨3, ![4, 4096, 128]⟩
abbrev S256x128 : Shape := ⟨2, ![256, 128]⟩
abbrev S4096x1024 : Shape := ⟨2, ![4096, 1024]⟩
abbrev S1x4096x128 : Shape := ⟨3, ![1, 4096, 128]⟩
abbrev S4096x2304 : Shape := ⟨2, ![4096, 2304]⟩
abbrev S2304x512 : Shape := ⟨2, ![2304, 512]⟩
abbrev S1024x512 : Shape := ⟨2, ![1024, 512]⟩
abbrev S1024x128 : Shape := ⟨2, ![1024, 128]⟩
abbrev S128x128 : Shape := ⟨2, ![128, 128]⟩
abbrev S64x128 : Shape := ⟨2, ![64, 128]⟩
abbrev S1024x2304 : Shape := ⟨2, ![1024, 2304]⟩
abbrev S2x2x128x512 : Shape := ⟨4, ![2, 2, 128, 512]⟩
abbrev S2x128x64 : Shape := ⟨3, ![2, 128, 64]⟩
abbrev S128x512 : Shape := ⟨2, ![128, 512]⟩
abbrev S1x1x128x512 : Shape := ⟨4, ![1, 1, 128, 512]⟩
abbrev S1x1 : Shape := ⟨2, ![1, 1]⟩
abbrev S1x128 : Shape := ⟨2, ![1, 128]⟩
abbrev S1x512 : Shape := ⟨2, ![1, 512]⟩
abbrev S1x128x64 : Shape := ⟨3, ![1, 128, 64]⟩
abbrev S128x64 : Shape := ⟨2, ![128, 64]⟩
abbrev S512x64 : Shape := ⟨2, ![512, 64]⟩
abbrev S8x128 : Shape := ⟨2, ![8, 128]⟩
abbrev S512 : Shape := ⟨1, ![512]⟩
abbrev S1 : Shape := ⟨1, ![1]⟩
abbrev S256x512 : Shape := ⟨2, ![256, 512]⟩

abbrev nBuf : Space → Nat
  | .hbm => 128
  | .vmem => 35
  | .smem => 0
  | _ => 0

abbrev bufTy : (tb : Table) → Fin (tcTables nBuf tb) → BufTy
  | .hbm, ⟨0, _⟩ => ⟨S2x2048x2304, .f32⟩
  | .hbm, ⟨1, _⟩ => ⟨S2x2048x1024, .f32⟩
  | .hbm, ⟨2, _⟩ => ⟨S1x8, .f32⟩
  | .hbm, ⟨3, _⟩ => ⟨S2x2048x512, .f32⟩
  | .hbm, ⟨4, _⟩ => ⟨S2x2048x512, .f32⟩
  | .hbm, ⟨5, _⟩ => ⟨S2x2048x512, .f32⟩
  | .hbm, ⟨6, _⟩ => ⟨S512x256, .bf16⟩
  | .hbm, ⟨7, _⟩ => ⟨S8, .f32⟩
  | .hbm, ⟨8, _⟩ => ⟨S2x2048x512, .f32⟩
  | .hbm, ⟨9, _⟩ => ⟨S2x2048x128, .f32⟩
  | .hbm, ⟨10, _⟩ => ⟨S2x2048x128, .f32⟩
  | .hbm, ⟨11, _⟩ => ⟨S2x2048x512, .f32⟩
  | .hbm, ⟨12, _⟩ => ⟨S4096x512, .f32⟩
  | .hbm, ⟨13, _⟩ => ⟨S_, .f32⟩
  | .hbm, ⟨14, _⟩ => ⟨S4096x512, .f32⟩
  | .hbm, ⟨15, _⟩ => ⟨S4096x512, .f32⟩
  | .hbm, ⟨16, _⟩ => ⟨S4096x512, .bf16⟩
  | .hbm, ⟨17, _⟩ => ⟨S4096x128, .f32⟩
  | .hbm, ⟨18, _⟩ => ⟨S4096x128, .bf16⟩
  | .hbm, ⟨19, _⟩ => ⟨S4096x128, .f32⟩
  | .hbm, ⟨20, _⟩ => ⟨S4096x128, .bf16⟩
  | .hbm, ⟨21, _⟩ => ⟨S4096x512, .f32⟩
  | .hbm, ⟨22, _⟩ => ⟨S2x2048x8x64, .f32⟩
  | .hbm, ⟨23, _⟩ => ⟨S2x2048x2x64, .f32⟩
  | .hbm, ⟨24, _⟩ => ⟨S2x2048x2x64, .f32⟩
  | .hbm, ⟨25, _⟩ => ⟨S8, .f32⟩
  | .hbm, ⟨26, _⟩ => ⟨S2x16x128x2x4x64, .f32⟩
  | .hbm, ⟨27, _⟩ => ⟨S2x16x128x2x64, .f32⟩
  | .hbm, ⟨28, _⟩ => ⟨S2x1x128x2x64, .f32⟩
  | .hbm, ⟨29, _⟩ => ⟨S_, .f32⟩
  | .hbm, ⟨30, _⟩ => ⟨S2x1x128x2x64, .f32⟩
  | .hbm, ⟨31, _⟩ => ⟨S2x15x128x2x64, .f32⟩
  | .hbm, ⟨32, _⟩ => ⟨S2x16x128x2x64, .f32⟩
  | .hbm, ⟨33, _⟩ => ⟨S2x16x256x2x64, .f32⟩
  | .hbm, ⟨34, _⟩ => ⟨S2x16x2x256x128x4, .f32⟩
  | .hbm, ⟨35, _⟩ => ⟨S2x16x2x4x128x256, .f32⟩
  | .hbm, ⟨36, _⟩ => ⟨S_, .f32⟩
  | .hbm, ⟨37, _⟩ => ⟨S2x16x2x4x128x256, .f32⟩
  | .hbm, ⟨38, _⟩ => ⟨S2x16x2x4x128x256, .f32⟩
  | .hbm, ⟨39, _⟩ => ⟨S16x128x256, .i32⟩
  | .hbm, ⟨40, _⟩ => ⟨S16x128x256, .i32⟩
  | .hbm, ⟨41, _⟩ => ⟨S16x128x256, .i32⟩
  | .hbm, ⟨42, _⟩ => ⟨S_, .i32⟩
  | .hbm, ⟨43, _⟩ => ⟨S16x128x256, .i32⟩
  | .hbm, ⟨44, _⟩ => ⟨S16x128x256, .i32⟩
  | .hbm, ⟨45, _⟩ => ⟨S16x128x256, .i32⟩
  | .hbm, ⟨46, _⟩ => ⟨S_, .i32⟩
  | .hbm, ⟨47, _⟩ => ⟨S16x128x256, .i32⟩
  | .hbm, ⟨48, _⟩ => ⟨S16x128x256, .i1⟩
  | .hbm, ⟨49, _⟩ => ⟨S_, .i32⟩
  | .hbm, ⟨50, _⟩ => ⟨S16x128x256, .i32⟩
  | .hbm, ⟨51, _⟩ => ⟨S16x128x256, .i1⟩
  | .hbm, ⟨52, _⟩ => ⟨S16x128x256, .i1⟩
  | .hbm, ⟨53, _⟩ => ⟨S_, .i32⟩
  | .hbm, ⟨54, _⟩ => ⟨S16x128x256, .i32⟩
  | .hbm, ⟨55, _⟩ => ⟨S16x128x256, .i1⟩
  | .hbm, ⟨56, _⟩ => ⟨S_, .i32⟩
  | .hbm, ⟨57, _⟩ => ⟨S16x128x256, .i32⟩
  | .hbm, ⟨58, _⟩ => ⟨S16x128x256, .i1⟩
  | .hbm, ⟨59, _⟩ => ⟨S16x128x256, .i1⟩
  | .hbm, ⟨60, _⟩ => ⟨S16x128x256, .i1⟩
  | .hbm, ⟨61, _⟩ => ⟨S2x4x1x1, .f32⟩
  | .hbm, ⟨62, _⟩ => ⟨S2x4x1x1, .f32⟩
  | .hbm, ⟨63, _⟩ => ⟨S1x2x4x1x1, .f32⟩
  | .hbm, ⟨64, _⟩ => ⟨S16x128x256, .f32⟩
  | .hbm, ⟨65, _⟩ => ⟨S16x1x1x128x256, .f32⟩
  | .hbm, ⟨66, _⟩ => ⟨S16x2x4x128x256, .f32⟩
  | .hbm, ⟨67, _⟩ => ⟨S16x2x4x128x256, .f32⟩
  | .hbm, ⟨68, _⟩ => ⟨S16x2x4x128x256, .f32⟩
  | .hbm, ⟨69, _⟩ => ⟨S1x16x1x1x128x256, .i1⟩
  | .hbm, ⟨70, _⟩ => ⟨S2x16x2x4x128x256, .i1⟩
  | .hbm, ⟨71, _⟩ => ⟨S1x16x2x4x128x256, .f32⟩
  | .hbm, ⟨72, _⟩ => ⟨S2x16x2x4x128x256, .f32⟩
  | .hbm, ⟨73, _⟩ => ⟨S2x16x2x4x128x256, .f32⟩
  | .hbm, ⟨74, _⟩ => ⟨S_, .f32⟩
  | .hbm, ⟨75, _⟩ => ⟨S2x16x2x4x128x256, .f32⟩
  | .hbm, ⟨76, _⟩ => ⟨S2x16x2x4x128x256, .f32⟩
  | .hbm, ⟨77, _⟩ => ⟨S1x1x2x4x1x1, .f32⟩
  | .hbm, ⟨78, _⟩ => ⟨S_, .f32⟩
  | .hbm, ⟨79, _⟩ => ⟨S2x16x2x4x128, .f32⟩
  | .hbm, ⟨80, _⟩ => ⟨S2x16x2x4x128x1, .f32⟩
  | .hbm, ⟨81, _⟩ => ⟨S2x16x2x4x128x1, .f32⟩
  | .hbm, ⟨82, _⟩ => ⟨S2x16x2x4x128x1, .f32⟩
  | .hbm, ⟨83, _⟩ => ⟨S2x16x2x4x128x256, .f32⟩
  | .hbm, ⟨84, _⟩ => ⟨S2x16x2x4x128x256, .f32⟩
  | .hbm, ⟨85, _⟩ => ⟨S2x16x2x4x128x256, .f32⟩
  | .hbm, ⟨86, _⟩ => ⟨S_, .f32⟩
  | .hbm, ⟨87, _⟩ => ⟨S2x16x2x4x128, .f32⟩
  | .hbm, ⟨88, _⟩ => ⟨S2x16x2x4x128x1, .f32⟩
  | .hbm, ⟨89, _⟩ => ⟨S2x16x2x4x128x1, .f32⟩
  | .hbm, ⟨90, _⟩ => ⟨S2x16x2x4x128x1, .f32⟩
  | .hbm, ⟨91, _⟩ => ⟨S2x16x2x4x128x1, .f32⟩
  | .hbm, ⟨92, _⟩ => ⟨S2x16x2x4x128x1, .f32⟩
  | .hbm, ⟨93, _⟩ => ⟨S2x16x2x4x128x256, .f32⟩
  | .hbm, ⟨94, _⟩ => ⟨S2x16x2x4x128x256, .f32⟩
  | .hbm, ⟨95, _⟩ => ⟨S2x16x128x2x64, .f32⟩
  | .hbm, ⟨96, _⟩ => ⟨S2x1x128x2x64, .f32⟩
  | .hbm, ⟨97, _⟩ => ⟨S_, .f32⟩
  | .hbm, ⟨98, _⟩ => ⟨S2x1x128x2x64, .f32⟩
  | .hbm, ⟨99, _⟩ => ⟨S2x15x128x2x64, .f32⟩
  | .hbm, ⟨100, _⟩ => ⟨S2x16x128x2x64, .f32⟩
  | .hbm, ⟨101, _⟩ => ⟨S2x16x256x2x64, .f32⟩
  | .hbm, ⟨102, _⟩ => ⟨S2x16x2x64x4x128, .f32⟩
  | .hbm, ⟨103, _⟩ => ⟨S2x16x128x2x4x64, .f32⟩
  | .hbm, ⟨104, _⟩ => ⟨S2x16x2x4x128x1, .f32⟩
  | .hbm, ⟨105, _⟩ => ⟨S2x16x2x4x128x1, .f32⟩
  | .hbm, ⟨106, _⟩ => ⟨S16x256x4x128, .f32⟩
  | .hbm, ⟨107, _⟩ => ⟨S4x256x16x128, .f32⟩
  | .hbm, ⟨108, _⟩ => ⟨S4x4096x128, .f32⟩
  | .hbm, ⟨109, _⟩ => ⟨S4096x512, .f32⟩
  | .hbm, ⟨110, _⟩ => ⟨S256x128, .f32⟩
  | .hbm, ⟨111, _⟩ => ⟨S4096x512, .f32⟩
  | .hbm, ⟨112, _⟩ => ⟨S4096x1024, .f32⟩
  | .hbm, ⟨113, _⟩ => ⟨S4096x1024, .bf16⟩
  | .hbm, ⟨114, _⟩ => ⟨S1x4096x128, .f32⟩
  | .hbm, ⟨115, _⟩ => ⟨S4096x128, .f32⟩
  | .hbm, ⟨116, _⟩ => ⟨S1x4096x128, .f32⟩
  | .hbm, ⟨117, _⟩ => ⟨S4096x128, .f32⟩
  | .hbm, ⟨118, _⟩ => ⟨S1x4096x128, .f32⟩
  | .hbm, ⟨119, _⟩ => ⟨S4096x128, .f32⟩
  | .hbm, ⟨120, _⟩ => ⟨S1x4096x128, .f32⟩
  | .hbm, ⟨121, _⟩ => ⟨S4096x128, .f32⟩
  | .hbm, ⟨122, _⟩ => ⟨S4096x512, .f32⟩
  | .hbm, ⟨123, _⟩ => ⟨S4096x512, .bf16⟩
  | .hbm, ⟨124, _⟩ => ⟨S4096x2304, .bf16⟩
  | .hbm, ⟨125, _⟩ => ⟨S2304x512, .f32⟩
  | .hbm, ⟨126, _⟩ => ⟨S2304x512, .bf16⟩
  | .hbm, ⟨127, _⟩ => ⟨S1x8, .f32⟩
  | .local _ .vmem, ⟨0, _⟩ => ⟨S1024x512, .bf16⟩
  | .local _ .vmem, ⟨1, _⟩ => ⟨S1024x512, .bf16⟩
  | .local _ .vmem, ⟨2, _⟩ => ⟨S1024x128, .bf16⟩
  | .local _ .vmem, ⟨3, _⟩ => ⟨S1024x128, .bf16⟩
  | .local _ .vmem, ⟨4, _⟩ => ⟨S128x128, .bf16⟩
  | .local _ .vmem, ⟨5, _⟩ => ⟨S128x128, .bf16⟩
  | .local _ .vmem, ⟨6, _⟩ => ⟨S1024x128, .bf16⟩
  | .local _ .vmem, ⟨7, _⟩ => ⟨S1024x128, .bf16⟩
  | .local _ .vmem, ⟨8, _⟩ => ⟨S128x128, .bf16⟩
  | .local _ .vmem, ⟨9, _⟩ => ⟨S128x128, .bf16⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S64x128, .f32⟩
  | .local _ .vmem, ⟨15, _⟩ => ⟨S64x128, .f32⟩
  | .local _ .vmem, ⟨16, _⟩ => ⟨S1024x512, .f32⟩
  | .local _ .vmem, ⟨17, _⟩ => ⟨S1024x512, .f32⟩
  | .local _ .vmem, ⟨18, _⟩ => ⟨S1x8, .f32⟩
  | .local _ .vmem, ⟨19, _⟩ => ⟨S1024x512, .bf16⟩
  | .local _ .vmem, ⟨20, _⟩ => ⟨S1024x512, .bf16⟩
  | .local _ .vmem, ⟨21, _⟩ => ⟨S4096x128, .f32⟩
  | .local _ .vmem, ⟨22, _⟩ => ⟨S4096x128, .f32⟩
  | .local _ .vmem, ⟨23, _⟩ => ⟨S4096x128, .f32⟩
  | .local _ .vmem, ⟨24, _⟩ => ⟨S4096x128, .f32⟩
  | .local _ .vmem, ⟨25, _⟩ => ⟨S1024x512, .bf16⟩
  | .local _ .vmem, ⟨26, _⟩ => ⟨S1024x512, .bf16⟩
  | .local _ .vmem, ⟨27, _⟩ => ⟨S1024x2304, .bf16⟩
  | .local _ .vmem, ⟨28, _⟩ => ⟨S1024x2304, .bf16⟩
  | .local _ .vmem, ⟨29, _⟩ => ⟨S2304x512, .f32⟩
  | .local _ .vmem, ⟨30, _⟩ => ⟨S2304x512, .bf16⟩
  | .local _ .vmem, ⟨31, _⟩ => ⟨S1x8, .f32⟩
  | .local _ .vmem, ⟨32, _⟩ => ⟨S2x2x128x512, .f32⟩
  | .local _ .vmem, ⟨33, _⟩ => ⟨S2x128x64, .f32⟩
  | .local _ .vmem, ⟨34, _⟩ => ⟨S2x128x64, .f32⟩
  | _, _ => ⟨S2x2048x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_3 : Ref sig .tc := ⟨.hbm, 46, rfl⟩
abbrev main_v34 : Ref sig .tc := ⟨.hbm, 47, rfl⟩
abbrev main_v35 : Ref sig .tc := ⟨.hbm, 48, rfl⟩
abbrev main_c_4 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_5 : Ref sig .tc := ⟨.hbm, 53, rfl⟩
abbrev main_v39 : Ref sig .tc := ⟨.hbm, 54, rfl⟩
abbrev main_v40 : Ref sig .tc := ⟨.hbm, 55, rfl⟩
abbrev main_c_6 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_7 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_8 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_9 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_cst_10 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104_0 : Ref sig .tc := ⟨.hbm, 124, rfl⟩
abbrev main_v104_1 : Ref sig .tc := ⟨.hbm, 125, rfl⟩
abbrev main_v104_2 : Ref sig .tc := ⟨.hbm, 126, rfl⟩
abbrev main_v104_3 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg19_0 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem18_0 : DmaSem sig := 30
abbrev cc0_sem19_0 : DmaSem sig := 31

abbrev nD : Nat := 1
abbrev τ : Topo := Topo.v7x

variable {F : FTy → Type} [FloatOps F]

abbrev grid0 : Pipeline.Grid := ⟨2, ![2, 2], ![false, false]⟩

def k0_off1 (i : grid0.Coords) (c0_i32_665 : BitVec 32) : Fin 2 → Nat :=
  let arg0 : BitVec 32 := BitVec.ofNat 32 (i 0).val
  let c2_i32 : BitVec 32 := 2#32
  let v1708 : BitVec 32 := Scalar.muli arg0 c2_i32
  let c2_i32_663 : BitVec 32 := 2#32
  let v1709 : BitVec 32 := Scalar.addi v1708 c2_i32_663
  let c1_i32_664 : BitVec 32 := 1#32
  let v1710 : BitVec 32 := Scalar.subi v1709 c1_i32_664
  let arg1 : BitVec 32 := BitVec.ofNat 32 (i 1).val
  let v1711 : BitVec 32 := Scalar.subi v1710 arg1
  let c4_i32 : BitVec 32 := 4#32
  let v1712 : BitVec 32 := Scalar.muli v1711 c4_i32
  let v1713 : BitVec 32 := Scalar.addi v1712 c0_i32_665
  let v1714 : Index := Scalar.indexCast v1713
  let c0_666 : Index := 0#32
  ![v1714.toNat, 0]
def k0_cond3 (i : grid0.Coords) : BitVec 1 :=
  let arg0 : BitVec 32 := BitVec.ofNat 32 (i 0).val
  let c1_i32_711 : BitVec 32 := 1#32
  let v1800 : BitVec 1 := Scalar.cmpi .eq arg0 c1_i32_711
  let arg1 : BitVec 32 := BitVec.ofNat 32 (i 1).val
  let c1_i32_712 : BitVec 32 := 1#32
  let v1801 : BitVec 1 := Scalar.cmpi .eq arg1 c1_i32_712
  let v1802 : BitVec 1 := Scalar.andi v1800 v1801
  let v1803 : BitVec 32 := Scalar.extui v1802
  let c0_i32_713 : BitVec 32 := 0#32
  let v1804 : BitVec 1 := Scalar.cmpi .ne v1803 c0_i32_713
  v1804

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c2_i32_0 : BitVec 32 := 2#32
  let v1 : BitVec 32 := Scalar.addi v0 c2_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c2_i32_0 : BitVec 32 := 2#32
  let v1 : BitVec 32 := Scalar.addi v0 c2_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.addi arg1 c1_i32
  let c8_i32 : BitVec 32 := 8#32
  let v2 : BitVec 32 := Scalar.muli c8_i32 v1
  let c16_i32_0 : BitVec 32 := 16#32
  let v3 : BitVec 32 := Scalar.subi c16_i32_0 v2
  let c1_i32_1 : BitVec 32 := 1#32
  let v4 : BitVec 32 := Scalar.subi v3 c1_i32_1
  let c0_i32 : BitVec 32 := 0#32
  let v5 : BitVec 32 := Scalar.maxsi v4 c0_i32
  let v6 : BitVec 32 := Scalar.addi v0 v5
  let c0_i32_2 : BitVec 32 := 0#32
  let c0_i32_3 : BitVec 32 := 0#32
  ![v6.toNat, c0_i32_2.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c2_i32_0 : BitVec 32 := 2#32
  let v1 : BitVec 32 := Scalar.addi v0 c2_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.addi arg1 c1_i32
  let c8_i32 : BitVec 32 := 8#32
  let v2 : BitVec 32 := Scalar.muli c8_i32 v1
  let c16_i32_0 : BitVec 32 := 16#32
  let v3 : BitVec 32 := Scalar.subi c16_i32_0 v2
  let c1_i32_1 : BitVec 32 := 1#32
  let v4 : BitVec 32 := Scalar.subi v3 c1_i32_1
  let c0_i32 : BitVec 32 := 0#32
  let v5 : BitVec 32 := Scalar.maxsi v4 c0_i32
  let v6 : BitVec 32 := Scalar.addi v0 v5
  let c0_i32_2 : BitVec 32 := 0#32
  let c0_i32_3 : BitVec 32 := 0#32
  ![v6.toNat, c0_i32_2.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c2_i32_0 : BitVec 32 := 2#32
  let v1 : BitVec 32 := Scalar.addi v0 c2_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c2_i32_0 : BitVec 32 := 2#32
  let v1 : BitVec 32 := Scalar.addi v0 c2_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c2_i32_0 : BitVec 32 := 2#32
  let v1 : BitVec 32 := Scalar.addi v0 c2_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c2_i32_0 : BitVec 32 := 2#32
  let v1 : BitVec 32 := Scalar.addi v0 c2_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c2_i32_0 : BitVec 32 := 2#32
  let v1 : BitVec 32 := Scalar.addi v0 c2_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c2_i32_0 : BitVec 32 := 2#32
  let v1 : BitVec 32 := Scalar.addi v0 c2_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_17 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c2_i32_0 : BitVec 32 := 2#32
  let v1 : BitVec 32 := Scalar.addi v0 c2_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S4096x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S4096x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S4096x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S4096x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1024x2304 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 1 → Memref sig .tc .vmem S2304x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S2304x512 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x8 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]
-- ==== AttnRefIdeal.lean ====
abbrev S2x2048x2304 : Shape := ⟨3, ![2, 2048, 2304]⟩
abbrev S2x2048x1024 : Shape := ⟨3, ![2, 2048, 1024]⟩
abbrev S1x8 : Shape := ⟨2, ![1, 8]⟩
abbrev S2x2048x512 : Shape := ⟨3, ![2, 2048, 512]⟩
abbrev S512x256 : Shape := ⟨2, ![512, 256]⟩
abbrev S8 : Shape := ⟨1, ![8]⟩
abbrev S2x2048x128 : Shape := ⟨3, ![2, 2048, 128]⟩
abbrev S2x2048x8x64 : Shape := ⟨4, ![2, 2048, 8, 64]⟩
abbrev S2x2048x2x64 : Shape := ⟨4, ![2, 2048, 2, 64]⟩
abbrev S2x16x128x2x4x64 : Shape := ⟨6, ![2, 16, 128, 2, 4, 64]⟩
abbrev S2x16x128x2x64 : Shape := ⟨5, ![2, 16, 128, 2, 64]⟩
abbrev S2x1x128x2x64 : Shape := ⟨5, ![2, 1, 128, 2, 64]⟩
abbrev S_ : Shape := ⟨0, ![]⟩
abbrev S2x15x128x2x64 : Shape := ⟨5, ![2, 15, 128, 2, 64]⟩
abbrev S2x16x256x2x64 : Shape := ⟨5, ![2, 16, 256, 2, 64]⟩
abbrev S2x16x2x256x128x4 : Shape := ⟨6, ![2, 16, 2, 256, 128, 4]⟩
abbrev S2x16x2x4x128x256 : Shape := ⟨6, ![2, 16, 2, 4, 128, 256]⟩
abbrev S16x128x256 : Shape := ⟨3, ![16, 128, 256]⟩
abbrev S2x4x1x1 : Shape := ⟨4, ![2, 4, 1, 1]⟩
abbrev S1x2x4x1x1 : Shape := ⟨5, ![1, 2, 4, 1, 1]⟩
abbrev S16x1x1x128x256 : Shape := ⟨5, ![16, 1, 1, 128, 256]⟩
abbrev S16x2x4x128x256 : Shape := ⟨5, ![16, 2, 4, 128, 256]⟩
abbrev S1x16x1x1x128x256 : Shape := ⟨6, ![1, 16, 1, 1, 128, 256]⟩
abbrev S1x16x2x4x128x256 : Shape := ⟨6, ![1, 16, 2, 4, 128, 256]⟩
abbrev S1x1x2x4x1x1 : Shape := ⟨6, ![1, 1, 2, 4, 1, 1]⟩
abbrev S2x16x2x4x128 : Shape := ⟨5, ![2, 16, 2, 4, 128]⟩
abbrev S2x16x2x4x128x1 : Shape := ⟨6, ![2, 16, 2, 4, 128, 1]⟩
abbrev S2x16x2x64x4x128 : Shape := ⟨6, ![2, 16, 2, 64, 4, 128]⟩
abbrev S2x16x2x64x256 : Shape := ⟨5, ![2, 16, 2, 64, 256]⟩
abbrev S2x4x1 : Shape := ⟨3, ![2, 4, 1]⟩
abbrev S2x16x2x128x4x64 : Shape := ⟨6, ![2, 16, 2, 128, 4, 64]⟩
abbrev S2x16x2x256x64 : Shape := ⟨5, ![2, 16, 2, 256, 64]⟩
abbrev S1024x2304 : Shape := ⟨2, ![1024, 2304]⟩
abbrev S2304x1024 : Shape := ⟨2, ![2304, 1024]⟩
abbrev S2304x512 : Shape := ⟨2, ![2304, 512]⟩
abbrev S4096x2304 : Shape := ⟨2, ![4096, 2304]⟩

abbrev nBuf : Space → Nat
  | .hbm => 242
  | .vmem => 0
  | .smem => 0
  | _ => 0

abbrev hbmTy0_0 (i : Nat) : BufTy := match i % 128 with
  | 0 => ⟨S2x2048x2304, .f32⟩
  | 1 => ⟨S2x2048x1024, .f32⟩
  | 2 => ⟨S1x8, .f32⟩
  | 3 => ⟨S2x2048x512, .f32⟩
  | 4 => ⟨S2x2048x512, .f32⟩
  | 5 => ⟨S2x2048x512, .f32⟩
  | 6 => ⟨S512x256, .bf16⟩
  | 7 => ⟨S8, .f32⟩
  | 8 => ⟨S2x2048x512, .f32⟩
  | 9 => ⟨S2x2048x512, .f32⟩
  | 10 => ⟨S2x2048x512, .f32⟩
  | 11 => ⟨S2x2048x128, .f32⟩
  | 12 => ⟨S2x2048x128, .f32⟩
  | 13 => ⟨S2x2048x512, .f32⟩
  | 14 => ⟨S2x2048x8x64, .f32⟩
  | 15 => ⟨S2x2048x2x64, .f32⟩
  | 16 => ⟨S2x2048x2x64, .f32⟩
  | 17 => ⟨S8, .f32⟩
  | 18 => ⟨S2x16x128x2x4x64, .f32⟩
  | 19 => ⟨S2x16x128x2x64, .f32⟩
  | 20 => ⟨S2x1x128x2x64, .f32⟩
  | 21 => ⟨S_, .f32⟩
  | 22 => ⟨S2x1x128x2x64, .f32⟩
  | 23 => ⟨S2x15x128x2x64, .f32⟩
  | 24 => ⟨S2x16x128x2x64, .f32⟩
  | 25 => ⟨S_, .f32⟩
  | 26 => ⟨S2x1x128x2x64, .f32⟩
  | 27 => ⟨S2x16x256x2x64, .f32⟩
  | 28 => ⟨S2x16x2x256x128x4, .f32⟩
  | 29 => ⟨S2x16x2x4x128x256, .f32⟩
  | 30 => ⟨S_, .f32⟩
  | 31 => ⟨S2x16x2x4x128x256, .f32⟩
  | 32 => ⟨S2x16x2x4x128x256, .f32⟩
  | 33 => ⟨S16x128x256, .i32⟩
  | 34 => ⟨S16x128x256, .i32⟩
  | 35 => ⟨S16x128x256, .i32⟩
  | 36 => ⟨S_, .i32⟩
  | 37 => ⟨S16x128x256, .i32⟩
  | 38 => ⟨S16x128x256, .i32⟩
  | 39 => ⟨S16x128x256, .i32⟩
  | 40 => ⟨S_, .i32⟩
  | 41 => ⟨S16x128x256, .i32⟩
  | 42 => ⟨S16x128x256, .i1⟩
  | 43 => ⟨S_, .i32⟩
  | 44 => ⟨S16x128x256, .i32⟩
  | 45 => ⟨S16x128x256, .i1⟩
  | 46 => ⟨S16x128x256, .i1⟩
  | 47 => ⟨S_, .i32⟩
  | 48 => ⟨S16x128x256, .i32⟩
  | 49 => ⟨S16x128x256, .i1⟩
  | 50 => ⟨S_, .i32⟩
  | 51 => ⟨S16x128x256, .i32⟩
  | 52 => ⟨S16x128x256, .i1⟩
  | 53 => ⟨S16x128x256, .i1⟩
  | 54 => ⟨S16x128x256, .i1⟩
  | 55 => ⟨S2x4x1x1, .f32⟩
  | 56 => ⟨S2x4x1x1, .f32⟩
  | 57 => ⟨S1x2x4x1x1, .f32⟩
  | 58 => ⟨S16x128x256, .f32⟩
  | 59 => ⟨S16x1x1x128x256, .f32⟩
  | 60 => ⟨S16x2x4x128x256, .f32⟩
  | 61 => ⟨S16x2x4x128x256, .f32⟩
  | 62 => ⟨S16x2x4x128x256, .f32⟩
  | 63 => ⟨S1x16x1x1x128x256, .i1⟩
  | 64 => ⟨S2x16x2x4x128x256, .i1⟩
  | 65 => ⟨S1x16x2x4x128x256, .f32⟩
  | 66 => ⟨S2x16x2x4x128x256, .f32⟩
  | 67 => ⟨S2x16x2x4x128x256, .f32⟩
  | 68 => ⟨S_, .f32⟩
  | 69 => ⟨S2x16x2x4x128x256, .f32⟩
  | 70 => ⟨S2x16x2x4x128x256, .f32⟩
  | 71 => ⟨S_, .f32⟩
  | 72 => ⟨S2x16x2x4x128x256, .f32⟩
  | 73 => ⟨S1x1x2x4x1x1, .f32⟩
  | 74 => ⟨S_, .f32⟩
  | 75 => ⟨S2x16x2x4x128, .f32⟩
  | 76 => ⟨S2x16x2x4x128x1, .f32⟩
  | 77 => ⟨S2x16x2x4x128x256, .f32⟩
  | 78 => ⟨S2x16x2x4x128x256, .i1⟩
  | 79 => ⟨S2x16x2x4x128x256, .f32⟩
  | 80 => ⟨S_, .f32⟩
  | 81 => ⟨S2x16x2x4x128, .f32⟩
  | 82 => ⟨S2x16x2x4x128x1, .f32⟩
  | 83 => ⟨S2x16x2x4x128x1, .f32⟩
  | 84 => ⟨S2x16x2x4x128x1, .f32⟩
  | 85 => ⟨S2x16x2x4x128x1, .f32⟩
  | 86 => ⟨S2x16x2x4x128x1, .i1⟩
  | 87 => ⟨S2x16x2x4x128x1, .f32⟩
  | 88 => ⟨S2x16x2x4x128x1, .i1⟩
  | 89 => ⟨S_, .f32⟩
  | 90 => ⟨S2x16x2x4x128x1, .f32⟩
  | 91 => ⟨S_, .f32⟩
  | 92 => ⟨S2x16x2x4x128x1, .f32⟩
  | 93 => ⟨S_, .f32⟩
  | 94 => ⟨S2x16x2x4x128x1, .f32⟩
  | 95 => ⟨S2x16x2x4x128x1, .f32⟩
  | 96 => ⟨S2x16x2x4x128x1, .f32⟩
  | 97 => ⟨S2x16x2x4x128x1, .f32⟩
  | 98 => ⟨S2x16x2x4x128x1, .i1⟩
  | 99 => ⟨S2x16x2x4x128x1, .f32⟩
  | 100 => ⟨S2x16x2x4x128x1, .i1⟩
  | 101 => ⟨S_, .f32⟩
  | 102 => ⟨S2x16x2x4x128x1, .f32⟩
  | 103 => ⟨S_, .f32⟩
  | 104 => ⟨S2x16x2x4x128x1, .f32⟩
  | 105 => ⟨S_, .f32⟩
  | 106 => ⟨S2x16x2x4x128x1, .f32⟩
  | 107 => ⟨S2x16x2x4x128x1, .f32⟩
  | 108 => ⟨S2x16x2x4x128x1, .f32⟩
  | 109 => ⟨S2x16x2x4x128x256, .f32⟩
  | 110 => ⟨S2x16x2x4x128x256, .f32⟩
  | 111 => ⟨S2x16x2x4x128x256, .f32⟩
  | 112 => ⟨S_, .f32⟩
  | 113 => ⟨S2x16x2x4x128, .f32⟩
  | 114 => ⟨S2x16x2x4x128x1, .f32⟩
  | 115 => ⟨S2x16x2x4x128x1, .f32⟩
  | 116 => ⟨S2x16x2x4x128x1, .f32⟩
  | 117 => ⟨S2x16x2x4x128x1, .f32⟩
  | 118 => ⟨S2x16x2x4x128x1, .f32⟩
  | 119 => ⟨S2x16x2x4x128x256, .f32⟩
  | 120 => ⟨S2x16x2x4x128x256, .f32⟩
  | 121 => ⟨S2x16x2x4x128x1, .f32⟩
  | 122 => ⟨S_, .f32⟩
  | 123 => ⟨S2x16x2x4x128x1, .f32⟩
  | 124 => ⟨S2x16x2x4x128x1, .f32⟩
  | 125 => ⟨S2x16x128x2x64, .f32⟩
  | 126 => ⟨S2x1x128x2x64, .f32⟩
  | 127 => ⟨S_, .f32⟩
  | _ => ⟨S2x2048x2304, .f32⟩

abbrev hbmTy0_1 (i : Nat) : BufTy := match i % 128 with
  | 0 => ⟨S2x1x128x2x64, .f32⟩
  | 1 => ⟨S2x15x128x2x64, .f32⟩
  | 2 => ⟨S2x16x128x2x64, .f32⟩
  | 3 => ⟨S_, .f32⟩
  | 4 => ⟨S2x1x128x2x64, .f32⟩
  | 5 => ⟨S2x16x256x2x64, .f32⟩
  | 6 => ⟨S2x16x2x64x4x128, .f32⟩
  | 7 => ⟨S2x16x128x2x4x64, .f32⟩
  | 8 => ⟨S2x2048x512, .f32⟩
  | 9 => ⟨S2x2048x512, .f32⟩
  | 10 => ⟨S2x2048x512, .f32⟩
  | 11 => ⟨S_, .f32⟩
  | 12 => ⟨S2x2048x512, .f32⟩
  | 13 => ⟨S2x2048x512, .f32⟩
  | 14 => ⟨S_, .f32⟩
  | 15 => ⟨S2x2048x512, .f32⟩
  | 16 => ⟨S2x2048x512, .f32⟩
  | 17 => ⟨S_, .f32⟩
  | 18 => ⟨S2x2048x512, .f32⟩
  | 19 => ⟨S2x2048x512, .f32⟩
  | 20 => ⟨S2x2048x512, .f32⟩
  | 21 => ⟨S2x2048x512, .f32⟩
  | 22 => ⟨S2x2048x512, .f32⟩
  | 23 => ⟨S2x2048x512, .f32⟩
  | 24 => ⟨S2x2048x512, .f32⟩
  | 25 => ⟨S2x2048x512, .f32⟩
  | 26 => ⟨S2x2048x512, .f32⟩
  | 27 => ⟨S2x2048x512, .f32⟩
  | 28 => ⟨S2x2048x512, .f32⟩
  | 29 => ⟨S2x16x128x2x4x64, .f32⟩
  | 30 => ⟨S2x16x2x64x4x128, .f32⟩
  | 31 => ⟨S2x16x2x4x128x256, .f32⟩
  | 32 => ⟨S2x16x2x64x256, .f32⟩
  | 33 => ⟨S2x16x256x2x64, .f32⟩
  | 34 => ⟨S2x16x128x2x64, .f32⟩
  | 35 => ⟨S2x16x128x2x64, .f32⟩
  | 36 => ⟨S2x1x128x2x64, .f32⟩
  | 37 => ⟨S2x15x128x2x64, .f32⟩
  | 38 => ⟨S_, .f32⟩
  | 39 => ⟨S2x16x128x2x64, .f32⟩
  | 40 => ⟨S2x16x128x2x64, .f32⟩
  | 41 => ⟨S2x2048x2x64, .f32⟩
  | 42 => ⟨S2x16x2x4x128x256, .f32⟩
  | 43 => ⟨S2x16x2x4x128x256, .f32⟩
  | 44 => ⟨S2x16x2x4x128x256, .f32⟩
  | 45 => ⟨S_, .f32⟩
  | 46 => ⟨S2x16x2x4x128, .f32⟩
  | 47 => ⟨S2x16x2x4x128x1, .f32⟩
  | 48 => ⟨S2x16x2x4x128x1, .f32⟩
  | 49 => ⟨S2x16x2x4x128x256, .f32⟩
  | 50 => ⟨S2x16x2x4x128x256, .f32⟩
  | 51 => ⟨S2x16x2x4x128x1, .f32⟩
  | 52 => ⟨S_, .f32⟩
  | 53 => ⟨S2x4x1, .f32⟩
  | 54 => ⟨S1x1x2x4x1x1, .f32⟩
  | 55 => ⟨S2x16x2x4x128x1, .f32⟩
  | 56 => ⟨S_, .f32⟩
  | 57 => ⟨S2x16x2x4x128, .f32⟩
  | 58 => ⟨S2x16x2x4x128x256, .f32⟩
  | 59 => ⟨S2x16x2x4x128x256, .f32⟩
  | 60 => ⟨S2x16x2x4x128x256, .f32⟩
  | 61 => ⟨S2x16x2x4x128x256, .f32⟩
  | 62 => ⟨S_, .f32⟩
  | 63 => ⟨S2x16x2x4x128, .f32⟩
  | 64 => ⟨S2x16x2x4x128x1, .f32⟩
  | 65 => ⟨S2x16x2x4x128x1, .f32⟩
  | 66 => ⟨S2x16x2x4x128x1, .f32⟩
  | 67 => ⟨S_, .f32⟩
  | 68 => ⟨S2x4x1, .f32⟩
  | 69 => ⟨S1x1x2x4x1x1, .f32⟩
  | 70 => ⟨S1x1x2x4x1x1, .f32⟩
  | 71 => ⟨S2x16x2x4x128x1, .f32⟩
  | 72 => ⟨S_, .f32⟩
  | 73 => ⟨S2x16x2x4x128, .f32⟩
  | 74 => ⟨S2x16x2x4x128, .f32⟩
  | 75 => ⟨S2x16x2x4x128x256, .f32⟩
  | 76 => ⟨S2x16x2x4x128x256, .f32⟩
  | 77 => ⟨S2x16x2x4x128x256, .f32⟩
  | 78 => ⟨S8, .f32⟩
  | 79 => ⟨S_, .f32⟩
  | 80 => ⟨S2x16x2x4x128x256, .f32⟩
  | 81 => ⟨S2x16x2x4x128x256, .f32⟩
  | 82 => ⟨S_, .f32⟩
  | 83 => ⟨S2x16x2x4x128x256, .f32⟩
  | 84 => ⟨S2x16x2x4x128x256, .f32⟩
  | 85 => ⟨S2x16x2x256x128x4, .f32⟩
  | 86 => ⟨S2x16x2x128x4x64, .f32⟩
  | 87 => ⟨S2x16x128x2x4x64, .f32⟩
  | 88 => ⟨S2x16x2x256x64, .f32⟩
  | 89 => ⟨S2x16x256x2x64, .f32⟩
  | 90 => ⟨S2x16x128x2x64, .f32⟩
  | 91 => ⟨S2x16x128x2x64, .f32⟩
  | 92 => ⟨S2x1x128x2x64, .f32⟩
  | 93 => ⟨S2x15x128x2x64, .f32⟩
  | 94 => ⟨S_, .f32⟩
  | 95 => ⟨S2x16x128x2x64, .f32⟩
  | 96 => ⟨S2x16x128x2x64, .f32⟩
  | 97 => ⟨S2x2048x2x64, .f32⟩
  | 98 => ⟨S2x2048x8x64, .f32⟩
  | 99 => ⟨S1x8, .f32⟩
  | 100 => ⟨S2x2048x128, .f32⟩
  | 101 => ⟨S2x2048x128, .f32⟩
  | 102 => ⟨S2x2048x512, .f32⟩
  | 103 => ⟨S2x2048x2304, .f32⟩
  | 104 => ⟨S_, .f32⟩
  | 105 => ⟨S1024x2304, .f32⟩
  | 106 => ⟨S2x2048x2304, .f32⟩
  | 107 => ⟨S2304x1024, .f32⟩
  | 108 => ⟨S1024x2304, .f32⟩
  | 109 => ⟨S2304x1024, .f32⟩
  | 110 => ⟨S2304x512, .f32⟩
  | 111 => ⟨S4096x2304, .f32⟩
  | 112 => ⟨S4096x2304, .bf16⟩
  | 113 => ⟨S2304x512, .bf16⟩
  | _ => ⟨S2x2048x2304, .f32⟩

abbrev hbmTy (i : Nat) : BufTy := match i / 128 with
  | 0 => hbmTy0_0 i
  | 1 => hbmTy0_1 i
  | _ => ⟨S2x2048x2304, .f32⟩

abbrev bufTy : (tb : Table) → Fin (tcTables nBuf tb) → BufTy
  | .hbm, ⟨i, _⟩ => hbmTy i
  | _, _ => ⟨S2x2048x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_3 : Ref sig .tc := ⟨.hbm, 40, rfl⟩
abbrev main_v28 : Ref sig .tc := ⟨.hbm, 41, rfl⟩
abbrev main_v29 : Ref sig .tc := ⟨.hbm, 42, rfl⟩
abbrev main_c_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_5 : Ref sig .tc := ⟨.hbm, 47, rfl⟩
abbrev main_v33 : Ref sig .tc := ⟨.hbm, 48, rfl⟩
abbrev main_v34 : Ref sig .tc := ⟨.hbm, 49, rfl⟩
abbrev main_c_6 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_7 : Ref sig .tc := ⟨.hbm, 68, rfl⟩
abbrev main_v52 : Ref sig .tc := ⟨.hbm, 69, rfl⟩
abbrev main_v53 : Ref sig .tc := ⟨.hbm, 70, rfl⟩
abbrev main_cst_8 : Ref sig .tc := ⟨.hbm, 71, rfl⟩
abbrev main_v54 : Ref sig .tc := ⟨.hbm, 72, rfl⟩
abbrev main_v55 : Ref sig .tc := ⟨.hbm, 73, rfl⟩
abbrev main_cst_9 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_10 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_11 : Ref sig .tc := ⟨.hbm, 89, rfl⟩
abbrev main_v69 : Ref sig .tc := ⟨.hbm, 90, rfl⟩
abbrev main_cst_12 : Ref sig .tc := ⟨.hbm, 91, rfl⟩
abbrev main_v70 : Ref sig .tc := ⟨.hbm, 92, rfl⟩
abbrev main_cst_13 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_14 : Ref sig .tc := ⟨.hbm, 101, rfl⟩
abbrev main_v78 : Ref sig .tc := ⟨.hbm, 102, rfl⟩
abbrev main_cst_15 : Ref sig .tc := ⟨.hbm, 103, rfl⟩
abbrev main_v79 : Ref sig .tc := ⟨.hbm, 104, rfl⟩
abbrev main_cst_16 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_17 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_18 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_cst_19 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_cst_20 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_call0_v0 : Ref sig .tc := ⟨.hbm, 137, rfl⟩
abbrev main_call0_v1 : Ref sig .tc := ⟨.hbm, 138, rfl⟩
abbrev main_call0_cst : Ref sig .tc := ⟨.hbm, 139, rfl⟩
abbrev main_call0_v2 : Ref sig .tc := ⟨.hbm, 140, rfl⟩
abbrev main_call0_v3 : Ref sig .tc := ⟨.hbm, 141, rfl⟩
abbrev main_call0_cst_0 : Ref sig .tc := ⟨.hbm, 142, rfl⟩
abbrev main_call0_v4 : Ref sig .tc := ⟨.hbm, 143, rfl⟩
abbrev main_v107_2 : Ref sig .tc := ⟨.hbm, 144, rfl⟩
abbrev main_call0_cst_1 : Ref sig .tc := ⟨.hbm, 145, rfl⟩
abbrev main_call0_v6 : Ref sig .tc := ⟨.hbm, 146, rfl⟩
abbrev main_call0_v7 : Ref sig .tc := ⟨.hbm, 147, rfl⟩
abbrev main_v107_1 : Ref sig .tc := ⟨.hbm, 148, rfl⟩
abbrev main_v107_0 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_call1_v0 : Ref sig .tc := ⟨.hbm, 153, rfl⟩
abbrev main_call1_v1 : Ref sig .tc := ⟨.hbm, 154, rfl⟩
abbrev main_call1_v2 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_cst_21 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_cst_22 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_cst_23 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_cst_24 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_cst_25 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_cst_26 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_cst_27 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_cst_28 : Ref sig .tc := ⟨.hbm, 207, rfl⟩
abbrev main_v155 : Ref sig .tc := ⟨.hbm, 208, rfl⟩
abbrev main_v156 : Ref sig .tc := ⟨.hbm, 209, rfl⟩
abbrev main_cst_29 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_cst_30 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_cst_31 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩

abbrev nD : Nat := 1
abbrev τ : Topo := Topo.v7x

variable {F : FTy → Type} [FloatOps F]
-- ==== Glu.lean ====
abbrev S2x2048x512 : Shape := ⟨3, ![2, 2048, 512]⟩
abbrev S1x512x512 : Shape := ⟨3, ![1, 512, 512]⟩
abbrev S1x512 : Shape := ⟨2, ![1, 512]⟩
abbrev S16x256x4x128 : Shape := ⟨4, ![16, 256, 4, 128]⟩
abbrev S4x256x16x128 : Shape := ⟨4, ![4, 256, 16, 128]⟩
abbrev S4x4096x128 : Shape := ⟨3, ![4, 4096, 128]⟩
abbrev S1x4096x128 : Shape := ⟨3, ![1, 4096, 128]⟩
abbrev S4096x128 : Shape := ⟨2, ![4096, 128]⟩
abbrev S4096x512 : Shape := ⟨2, ![4096, 512]⟩
abbrev S512x512 : Shape := ⟨2, ![512, 512]⟩
abbrev S256x128 : Shape := ⟨2, ![256, 128]⟩
abbrev S256x512 : Shape := ⟨2, ![256, 512]⟩
abbrev S512 : Shape := ⟨1, ![512]⟩

abbrev nBuf : Space → Nat
  | .hbm => 27
  | .vmem => 18
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x512, .f32⟩
  | .hbm, ⟨3, _⟩ => ⟨S1x512x512, .f32⟩
  | .hbm, ⟨4, _⟩ => ⟨S1x512, .f32⟩
  | .hbm, ⟨5, _⟩ => ⟨S16x256x4x128, .f32⟩
  | .hbm, ⟨6, _⟩ => ⟨S4x256x16x128, .f32⟩
  | .hbm, ⟨7, _⟩ => ⟨S4x4096x128, .f32⟩
  | .hbm, ⟨8, _⟩ => ⟨S1x4096x128, .f32⟩
  | .hbm, ⟨9, _⟩ => ⟨S4096x128, .f32⟩
  | .hbm, ⟨10, _⟩ => ⟨S1x4096x128, .f32⟩
  | .hbm, ⟨11, _⟩ => ⟨S4096x128, .f32⟩
  | .hbm, ⟨12, _⟩ => ⟨S1x4096x128, .f32⟩
  | .hbm, ⟨13, _⟩ => ⟨S4096x128, .f32⟩
  | .hbm, ⟨14, _⟩ => ⟨S1x4096x128, .f32⟩
  | .hbm, ⟨15, _⟩ => ⟨S4096x128, .f32⟩
  | .hbm, ⟨16, _⟩ => ⟨S4096x512, .f32⟩
  | .hbm, ⟨17, _⟩ => ⟨S4096x512, .f32⟩
  | .hbm, ⟨18, _⟩ => ⟨S512x512, .f32⟩
  | .hbm, ⟨19, _⟩ => ⟨S512x512, .bf16⟩
  | .hbm, ⟨20, _⟩ => ⟨S4096x128, .f32⟩
  | .hbm, ⟨21, _⟩ => ⟨S4096x128, .f32⟩
  | .hbm, ⟨22, _⟩ => ⟨S4096x128, .f32⟩
  | .hbm, ⟨23, _⟩ => ⟨S4096x128, .f32⟩
  | .hbm, ⟨24, _⟩ => ⟨S4096x512, .bf16⟩
  | .hbm, ⟨25, _⟩ => ⟨S512x512, .f32⟩
  | .hbm, ⟨26, _⟩ => ⟨S1x512, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S1x512, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S512x512, .bf16⟩
  | .local _ .vmem, ⟨15, _⟩ => ⟨S512x512, .bf16⟩
  | .local _ .vmem, ⟨16, _⟩ => ⟨S512x512, .f32⟩
  | .local _ .vmem, ⟨17, _⟩ => ⟨S1x512, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15_0 : Ref sig .tc := ⟨.hbm, 20, rfl⟩
abbrev main_v15_1 : Ref sig .tc := ⟨.hbm, 21, rfl⟩
abbrev main_v15_2 : Ref sig .tc := ⟨.hbm, 22, rfl⟩
abbrev main_v15_3 : Ref sig .tc := ⟨.hbm, 23, rfl⟩
abbrev main_v15_4 : Ref sig .tc := ⟨.hbm, 24, rfl⟩
abbrev main_v15_5 : Ref sig .tc := ⟨.hbm, 25, rfl⟩
abbrev main_v15_6 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg14_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem14_0 : DmaSem sig := 17

abbrev nD : Nat := 1
abbrev τ : Topo := Topo.v7x

variable {F : FTy → Type} [FloatOps F]

abbrev grid0 : Pipeline.Grid := ⟨1, ![8], ![false]⟩

def k0_off1 (i : grid0.Coords) (c0_i32_1 : BitVec 32) : Fin 2 → Nat :=
  let arg0 : BitVec 32 := BitVec.ofNat 32 (i 0).val
  let c2_i32 : BitVec 32 := 2#32
  let v0 : BitVec 32 := Scalar.muli arg0 c2_i32
  let v4 : BitVec 32 := Scalar.addi v0 c0_i32_1
  let v5 : Index := Scalar.indexCast v4
  let c0 : Index := 0#32
  ![v5.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4096x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4096x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S512x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== GluRefIdeal.lean ====
abbrev S2x2048x512 : Shape := ⟨3, ![2, 2048, 512]⟩
abbrev S1x512x512 : Shape := ⟨3, ![1, 512, 512]⟩
abbrev S1x512 : Shape := ⟨2, ![1, 512]⟩
abbrev S_ : Shape := ⟨0, ![]⟩
abbrev S512x512 : Shape := ⟨2, ![512, 512]⟩
abbrev S512 : Shape := ⟨1, ![512]⟩
abbrev S1x1x512 : Shape := ⟨3, ![1, 1, 512]⟩
abbrev S16x256x4x128 : Shape := ⟨4, ![16, 256, 4, 128]⟩
abbrev S4x256x16x128 : Shape := ⟨4, ![4, 256, 16, 128]⟩
abbrev S4x4096x128 : Shape := ⟨3, ![4, 4096, 128]⟩
abbrev S1x4096x128 : Shape := ⟨3, ![1, 4096, 128]⟩
abbrev S4096x128 : Shape := ⟨2, ![4096, 128]⟩
abbrev S4096x512 : Shape := ⟨2, ![4096, 512]⟩

abbrev nBuf : Space → Nat
  | .hbm => 115
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x512, .f32⟩
  | .hbm, ⟨3, _⟩ => ⟨S1x512x512, .f32⟩
  | .hbm, ⟨4, _⟩ => ⟨S1x512, .f32⟩
  | .hbm, ⟨5, _⟩ => ⟨S2x2048x512, .f32⟩
  | .hbm, ⟨6, _⟩ => ⟨S2x2048x512, .f32⟩
  | .hbm, ⟨7, _⟩ => ⟨S2x2048x512, .f32⟩
  | .hbm, ⟨8, _⟩ => ⟨S_, .f32⟩
  | .hbm, ⟨9, _⟩ => ⟨S2x2048x512, .f32⟩
  | .hbm, ⟨10, _⟩ => ⟨S2x2048x512, .f32⟩
  | .hbm, ⟨11, _⟩ => ⟨S_, .f32⟩
  | .hbm, ⟨12, _⟩ => ⟨S2x2048x512, .f32⟩
  | .hbm, ⟨13, _⟩ => ⟨S2x2048x512, .f32⟩
  | .hbm, ⟨14, _⟩ => ⟨S2x2048x512, .f32⟩
  | .hbm, ⟨15, _⟩ => ⟨S_, .f32⟩
  | .hbm, ⟨16, _⟩ => ⟨S2x2048x512, .f32⟩
  | .hbm, ⟨17, _⟩ => ⟨S2x2048x512, .f32⟩
  | .hbm, ⟨18, _⟩ => ⟨S2x2048x512, .f32⟩
  | .hbm, ⟨19, _⟩ => ⟨S_, .f32⟩
  | .hbm, ⟨20, _⟩ => ⟨S2x2048x512, .f32⟩
  | .hbm, ⟨21, _⟩ => ⟨S2x2048x512, .f32⟩
  | .hbm, ⟨22, _⟩ => ⟨S_, .f32⟩
  | .hbm, ⟨23, _⟩ => ⟨S2x2048x512, .f32⟩
  | .hbm, ⟨24, _⟩ => ⟨S2x2048x512, .f32⟩
  | .hbm, ⟨25, _⟩ => ⟨S2x2048x512, .f32⟩
  | .hbm, ⟨26, _⟩ => ⟨S_, .f32⟩
  | .hbm, ⟨27, _⟩ => ⟨S2x2048x512, .f32⟩
  | .hbm, ⟨28, _⟩ => ⟨S2x2048x512, .f32⟩
  | .hbm, ⟨29, _⟩ => ⟨S_, .f32⟩
  | .hbm, ⟨30, _⟩ => ⟨S2x2048x512, .f32⟩
  | .hbm, ⟨31, _⟩ => ⟨S2x2048x512, .f32⟩
  | .hbm, ⟨32, _⟩ => ⟨S2x2048x512, .f32⟩
  | .hbm, ⟨33, _⟩ => ⟨S512x512, .f32⟩
  | .hbm, ⟨34, _⟩ => ⟨S2x2048x512, .f32⟩
  | .hbm, ⟨35, _⟩ => ⟨S512, .f32⟩
  | .hbm, ⟨36, _⟩ => ⟨S1x1x512, .f32⟩
  | .hbm, ⟨37, _⟩ => ⟨S2x2048x512, .f32⟩
  | .hbm, ⟨38, _⟩ => ⟨S2x2048x512, .f32⟩
  | .hbm, ⟨39, _⟩ => ⟨S2x2048x512, .f32⟩
  | .hbm, ⟨40, _⟩ => ⟨S2x2048x512, .f32⟩
  | .hbm, ⟨41, _⟩ => ⟨S_, .f32⟩
  | .hbm, ⟨42, _⟩ => ⟨S2x2048x512, .f32⟩
  | .hbm, ⟨43, _⟩ => ⟨S2x2048x512, .f32⟩
  | .hbm, ⟨44, _⟩ => ⟨S_, .f32⟩
  | .hbm, ⟨45, _⟩ => ⟨S2x2048x512, .f32⟩
  | .hbm, ⟨46, _⟩ => ⟨S2x2048x512, .f32⟩
  | .hbm, ⟨47, _⟩ => ⟨S_, .f32⟩
  | .hbm, ⟨48, _⟩ => ⟨S2x2048x512, .f32⟩
  | .hbm, ⟨49, _⟩ => ⟨S2x2048x512, .f32⟩
  | .hbm, ⟨50, _⟩ => ⟨S2x2048x512, .f32⟩
  | .hbm, ⟨51, _⟩ => ⟨S2x2048x512, .f32⟩
  | .hbm, ⟨52, _⟩ => ⟨S2x2048x512, .f32⟩
  | .hbm, ⟨53, _⟩ => ⟨S2x2048x512, .f32⟩
  | .hbm, ⟨54, _⟩ => ⟨S_, .f32⟩
  | .hbm, ⟨55, _⟩ => ⟨S2x2048x512, .f32⟩
  | .hbm, ⟨56, _⟩ => ⟨S2x2048x512, .f32⟩
  | .hbm, ⟨57, _⟩ => ⟨S_, .f32⟩
  | .hbm, ⟨58, _⟩ => ⟨S2x2048x512, .f32⟩
  | .hbm, ⟨59, _⟩ => ⟨S2x2048x512, .f32⟩
  | .hbm, ⟨60, _⟩ => ⟨S_, .f32⟩
  | .hbm, ⟨61, _⟩ => ⟨S2x2048x512, .f32⟩
  | .hbm, ⟨62, _⟩ => ⟨S2x2048x512, .f32⟩
  | .hbm, ⟨63, _⟩ => ⟨S2x2048x512, .f32⟩
  | .hbm, ⟨64, _⟩ => ⟨S2x2048x512, .f32⟩
  | .hbm, ⟨65, _⟩ => ⟨S2x2048x512, .f32⟩
  | .hbm, ⟨66, _⟩ => ⟨S2x2048x512, .f32⟩
  | .hbm, ⟨67, _⟩ => ⟨S2x2048x512, .f32⟩
  | .hbm, ⟨68, _⟩ => ⟨S2x2048x512, .f32⟩
  | .hbm, ⟨69, _⟩ => ⟨S2x2048x512, .f32⟩
  | .hbm, ⟨70, _⟩ => ⟨S2x2048x512, .f32⟩
  | .hbm, ⟨71, _⟩ => ⟨S2x2048x512, .f32⟩
  | .hbm, ⟨72, _⟩ => ⟨S2x2048x512, .f32⟩
  | .hbm, ⟨73, _⟩ => ⟨S2x2048x512, .f32⟩
  | .hbm, ⟨74, _⟩ => ⟨S2x2048x512, .f32⟩
  | .hbm, ⟨75, _⟩ => ⟨S_, .f32⟩
  | .hbm, ⟨76, _⟩ => ⟨S512, .f32⟩
  | .hbm, ⟨77, _⟩ => ⟨S1x1x512, .f32⟩
  | .hbm, ⟨78, _⟩ => ⟨S_, .f32⟩
  | .hbm, ⟨79, _⟩ => ⟨S512, .f32⟩
  | .hbm, ⟨80, _⟩ => ⟨S1x512, .f32⟩
  | .hbm, ⟨81, _⟩ => ⟨S512x512, .f32⟩
  | .hbm, ⟨82, _⟩ => ⟨S512x512, .f32⟩
  | .hbm, ⟨83, _⟩ => ⟨S2x2048x512, .f32⟩
  | .hbm, ⟨84, _⟩ => ⟨S2x2048x512, .f32⟩
  | .hbm, ⟨85, _⟩ => ⟨S1x512x512, .f32⟩
  | .hbm, ⟨86, _⟩ => ⟨S2x2048x512, .f32⟩
  | .hbm, ⟨87, _⟩ => ⟨S2x2048x512, .f32⟩
  | .hbm, ⟨88, _⟩ => ⟨S_, .f32⟩
  | .hbm, ⟨89, _⟩ => ⟨S2x2048x512, .f32⟩
  | .hbm, ⟨90, _⟩ => ⟨S2x2048x512, .f32⟩
  | .hbm, ⟨91, _⟩ => ⟨S2x2048x512, .f32⟩
  | .hbm, ⟨92, _⟩ => ⟨S_, .f32⟩
  | .hbm, ⟨93, _⟩ => ⟨S2x2048x512, .f32⟩
  | .hbm, ⟨94, _⟩ => ⟨S2x2048x512, .f32⟩
  | .hbm, ⟨95, _⟩ => ⟨S2x2048x512, .f32⟩
  | .hbm, ⟨96, _⟩ => ⟨S_, .f32⟩
  | .hbm, ⟨97, _⟩ => ⟨S2x2048x512, .f32⟩
  | .hbm, ⟨98, _⟩ => ⟨S2x2048x512, .f32⟩
  | .hbm, ⟨99, _⟩ => ⟨S2x2048x512, .f32⟩
  | .hbm, ⟨100, _⟩ => ⟨S2x2048x512, .f32⟩
  | .hbm, ⟨101, _⟩ => ⟨S16x256x4x128, .f32⟩
  | .hbm, ⟨102, _⟩ => ⟨S4x256x16x128, .f32⟩
  | .hbm, ⟨103, _⟩ => ⟨S4x4096x128, .f32⟩
  | .hbm, ⟨104, _⟩ => ⟨S1x4096x128, .f32⟩
  | .hbm, ⟨105, _⟩ => ⟨S4096x128, .f32⟩
  | .hbm, ⟨106, _⟩ => ⟨S1x4096x128, .f32⟩
  | .hbm, ⟨107, _⟩ => ⟨S4096x128, .f32⟩
  | .hbm, ⟨108, _⟩ => ⟨S1x4096x128, .f32⟩
  | .hbm, ⟨109, _⟩ => ⟨S4096x128, .f32⟩
  | .hbm, ⟨110, _⟩ => ⟨S1x4096x128, .f32⟩
  | .hbm, ⟨111, _⟩ => ⟨S4096x128, .f32⟩
  | .hbm, ⟨112, _⟩ => ⟨S4096x512, .f32⟩
  | .hbm, ⟨113, _⟩ => ⟨S4096x512, .bf16⟩
  | .hbm, ⟨114, _⟩ => ⟨S512x512, .f32⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_v37_2 : Ref sig .tc := ⟨.hbm, 59, rfl⟩
abbrev main_call0_cst_1 : Ref sig .tc := ⟨.hbm, 60, rfl⟩
abbrev main_call0_v6 : Ref sig .tc := ⟨.hbm, 61, rfl⟩
abbrev main_call0_v7 : Ref sig .tc := ⟨.hbm, 62, rfl⟩
abbrev main_v37_1 : Ref sig .tc := ⟨.hbm, 63, rfl⟩
abbrev main_v37_0 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_9 : Ref sig .tc := ⟨.hbm, 75, rfl⟩
abbrev main_v45 : Ref sig .tc := ⟨.hbm, 76, rfl⟩
abbrev main_v46 : Ref sig .tc := ⟨.hbm, 77, rfl⟩
abbrev main_cst_10 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_11 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_12 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_13 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩

abbrev nD : Nat := 1
abbrev τ : Topo := Topo.v7x

variable {F : FTy → Type} [FloatOps F]
-- ==== Proof.EReals.lean ====
/- Facts about sums and products of extended reals, and about sums over the leading axes of an array. -/
module

public import Idealize.ShloMosaic.Lib.Pointwise
public import Idealize.ShloMosaic.Lib.IdealHost

@[expose] public section

set_option maxRecDepth 16384

noncomputable section

open Idealize.ShloMosaic

namespace Cert.Ext

/-- A sum over the two leading axes of a rank three array. -/
theorem hostReduceAdd_lead {n0 n1 n2 : Nat} (h : (⟨3, ![n0, n1, n2]⟩ : Shape).ReducesTo [0, 1] ⟨1, ![n2]⟩)
    (v : (⟨3, ![n0, n1, n2]⟩ : Shape).Idx → EReal) (init : EReal) (q : Fin n2) :
    Ideal.hostReduceAdd h v init (ix1 q) = init + ∑ a : Fin n0, ∑ b : Fin n1, v (ix3 a b q) := by
  show init + ∑ i ∈ Finset.univ.filter (fun i => h.drop i = ix1 q), v i = _
  have hd : ∀ (a : Fin n0) (b : Fin n1) (c : Fin n2), h.drop (ix3 a b c) = (ix1 c : (⟨1, ![n2]⟩ : Shape).Idx) :=
    fun a b c => funext fun k => match k with | ⟨0, _⟩ => rfl
  rw [Finset.sum_filter, sum_idx3]
  refine congrArg (init + ·) (Finset.sum_congr rfl fun a _ => Finset.sum_congr rfl fun b _ => ?_)
  have hc : ∀ c : Fin n2, (if h.drop (ix3 a b c) = (ix1 q : (⟨1, ![n2]⟩ : Shape).Idx) then v (ix3 a b c) else 0)
      = if c = q then v (ix3 a b c) else 0 := by
    intro c
    rw [hd]
    by_cases e : c = q
    · subst e; simp
    · rw [if_neg e, if_neg fun h' => e (congrFun h' 0)]
  simp only [hc]
  rw [Finset.sum_ite_eq' Finset.univ q, if_pos (Finset.mem_univ q)]

/-- A nonnegative real factor comes out of a sum. -/
theorem mul_sum_coe {ι : Type} (s : Finset ι) (f : ι → EReal) (r : ℝ) (hr : 0 ≤ r) :
    ∑ i ∈ s, (r : EReal) * f i = (r : EReal) * ∑ i ∈ s, f i := by
  classical
  induction s using Finset.induction_on with
  | empty => simp
  | insert a s ha ih =>
    rw [Finset.sum_insert ha, Finset.sum_insert ha, ih,
      EReal.left_distrib_of_nonneg_of_ne_top (EReal.coe_nonneg.2 hr) (EReal.coe_ne_top r)]

/-- Twice an extended real, halved. -/
theorem half_add_half (y : EReal) : y * ((-(1 / 2) : ℝ) : EReal) + y * ((-(1 / 2) : ℝ) : EReal) = -y := by
  induction y using EReal.rec with
  | bot => rw [EReal.bot_mul_coe_of_neg (show (-(1 / 2) : ℝ) < 0 by norm_num)]; rfl
  | top => rw [EReal.top_mul_coe_of_neg (show (-(1 / 2) : ℝ) < 0 by norm_num)]; rfl
  | coe r => norm_cast; ring

/-- A square is nonnegative. -/
theorem mul_self_nonneg' (y : EReal) : 0 ≤ y * y := by
  induction y using EReal.rec with
  | bot => simp
  | top => simp
  | coe r => exact_mod_cast mul_self_nonneg r

/-- A nonnegative extended real over a positive real, plus a positive real, is `⊤` or a positive real. -/
theorem div_add_cases {y : EReal} (hy : 0 ≤ y) {c e : ℝ} (hc : 0 < c) (he : 0 < e) :
    Ideal.div y (c : EReal) + (e : EReal) = ⊤ ∨ ∃ μ : ℝ, 0 < μ ∧ Ideal.div y (c : EReal) + (e : EReal) = (μ : EReal) := by
  have hc0 : (c : EReal) ≠ 0 := by exact_mod_cast hc.ne'
  unfold Ideal.div
  rw [if_neg hc0, ← EReal.coe_inv]
  induction y using EReal.rec with
  | bot => exact absurd hy (by simp)
  | top => left; rw [EReal.top_mul_coe_of_pos (inv_pos.2 hc)]; rfl
  | coe r =>
    right
    have hr : 0 ≤ r := by exact_mod_cast hy
    exact ⟨r * c⁻¹ + e, by positivity, by norm_cast⟩

end Cert.Ext

end
-- ==== Proof.InProj.Row.lean ====
/- The gradient of a row scaled to unit mean square: the closed form against the chain rule, over the extended reals. -/
module

public import proofs.«01_k».proof.Proof.EReals

@[expose] public section

noncomputable section

open Idealize.ShloMosaic

namespace Cert.InProj.Row

open Cert.Ext

/-- The row's length, as the constant the programs divide by. -/
abbrev len : EReal := Ideal.ofBits .f32 1149239296#32
/-- The constant that keeps the mean square positive. -/
abbrev tiny : EReal := Ideal.ofBits .f32 897988541#32
/-- Minus one half. -/
abbrev mhalf : EReal := Ideal.ofBits .f32 3204448256#32

theorem len_eq : len = ((1024 : ℝ) : EReal) := by
  simp [len, Ideal.ofBits, Ideal.ieee]; rw [← EReal.coe_mul]; norm_num
theorem mhalf_eq : mhalf = ((-(1 / 2) : ℝ) : EReal) := by
  simp [mhalf, Ideal.ofBits, Ideal.ieee]; rw [← EReal.coe_mul]; norm_num
theorem tiny_pos : ∃ e : ℝ, 0 < e ∧ tiny = (e : EReal) := by
  refine ⟨8796093 * 2 ^ (-43 : ℤ), by positivity, ?_⟩
  simp [tiny, Ideal.ofBits, Ideal.ieee]

/-- The mean square of a row. -/
def meanSq (s : Fin 1024 → EReal) : EReal := Ideal.div (∑ k, s k * s k) len + tiny

theorem meanSq_cases (s : Fin 1024 → EReal) : meanSq s = ⊤ ∨ ∃ μ : ℝ, 0 < μ ∧ meanSq s = (μ : EReal) := by
  obtain ⟨e, he, hE⟩ := tiny_pos
  unfold meanSq
  rw [len_eq, hE]
  exact div_add_cases (Finset.sum_nonneg fun k _ => mul_self_nonneg' _) (by norm_num) he

/-- The row's gradient by the chain rule equals the closed form: `δ + r a − s r (r (∑ a s r) / n)`. -/
theorem grad_eq (s a : Fin 1024 → EReal) (δ : EReal) (q : Fin 1024) (D : EReal)
    (hD : D = Ideal.div ((∑ k, s k * a k) * (mhalf * Ideal.div (Ideal.rsqrt (meanSq s)) (meanSq s))) len) :
    δ + Ideal.rsqrt (meanSq s) * a q
        - s q * Ideal.rsqrt (meanSq s) * (Ideal.rsqrt (meanSq s) * Ideal.div (∑ k, a k * (s k * Ideal.rsqrt (meanSq s))) len)
      = δ + a q * Ideal.rsqrt (meanSq s) + s q * D + D * s q := by
  have hlen : ∀ y, Ideal.div y len = y * ((1024⁻¹ : ℝ) : EReal) := by
    intro y
    unfold Ideal.div
    rw [len_eq, if_neg (by norm_cast), ← EReal.coe_inv]
  rw [hlen] at hD ⊢
  rcases meanSq_cases s with h | ⟨μ, hμ, h⟩
  · rw [h] at hD ⊢
    have h0 : Ideal.rsqrt ⊤ = 0 := rfl
    have h1 : Ideal.div 0 ⊤ = 0 := by simp [Ideal.div]
    rw [h0, h1] at hD
    simp only [mul_zero, zero_mul] at hD
    rw [h0, hD]
    simp
  · rw [h] at hD ⊢
    have hr : Ideal.rsqrt (μ : EReal) = (((Real.sqrt μ)⁻¹ : ℝ) : EReal) := by
      show (if μ < 0 then ⊥ else if μ = 0 then ⊤ else (((Real.sqrt μ)⁻¹ : ℝ) : EReal)) = _
      rw [if_neg hμ.le.not_gt, if_neg hμ.ne']
    have hd : Ideal.div (((Real.sqrt μ)⁻¹ : ℝ) : EReal) (μ : EReal) = (((Real.sqrt μ)⁻¹ * μ⁻¹ : ℝ) : EReal) := by
      unfold Ideal.div
      rw [if_neg (by exact_mod_cast hμ.ne'), ← EReal.coe_inv, EReal.coe_mul]
    rw [hr, hd, mhalf_eq] at hD
    rw [hr]
    set ρ : ℝ := (Real.sqrt μ)⁻¹ with hρ
    have hρ0 : 0 ≤ ρ := by positivity
    have hρ3 : ρ * ρ * ρ = ρ * μ⁻¹ := by
      have : ρ * ρ = μ⁻¹ := by rw [hρ, ← mul_inv, Real.mul_self_sqrt hμ.le]
      rw [this, mul_comm]
    set T : EReal := ∑ k, s k * a k with hT
    have hsum : ∑ k, a k * (s k * (ρ : EReal)) = (ρ : EReal) * T := by
      rw [hT, ← mul_sum_coe _ _ _ hρ0]
      exact Finset.sum_congr rfl fun k _ => by ac_rfl
    rw [hsum]
    have hz : s q * D = s q * (ρ : EReal) * ((ρ : EReal) * ((ρ : EReal) * T * ((1024⁻¹ : ℝ) : EReal))) * ((-(1 / 2) : ℝ) : EReal) := by
      have e1 : s q * D = s q * T * ((-(1 / 2) * (ρ * μ⁻¹) * 1024⁻¹ : ℝ) : EReal) := by
        rw [hD]; simp only [EReal.coe_mul]; ac_rfl
      have e2 : s q * (ρ : EReal) * ((ρ : EReal) * ((ρ : EReal) * T * ((1024⁻¹ : ℝ) : EReal))) * ((-(1 / 2) : ℝ) : EReal)
          = s q * T * ((-(1 / 2) * (ρ * ρ * ρ) * 1024⁻¹ : ℝ) : EReal) := by
        simp only [EReal.coe_mul]; ac_rfl
      rw [e1, e2, hρ3]
    rw [mul_comm D, add_assoc _ (s q * D), hz, half_add_half, sub_eq_add_neg, mul_comm (a q)]

end Cert.InProj.Row

end
-- ==== Proof.InProj.Ref.lean ====
/- The derivative of the normalised in-projection, read element by element: what each of the reference's three results
   holds at an index, as sums over the extended reals. -/
module

public import proofs.«01_k».proof.Proof.Gen.InProjRefIdeal.Run
public import proofs.«01_k».proof.Proof.InProj.Row
public import Idealize.ShloMosaic.Lib.Pointwise

@[expose] public section

set_option maxRecDepth 16384

noncomputable section

open Idealize.ShloMosaic Idealize.ShloMosaic.TcCoe Idealize.SL.Sem

namespace Cert.InProjRefIdeal.Read

open Cert.InProjRefIdeal Cert.InProjRefIdeal.Gen Cert.InProj

/-- The activations, one block of rows per sequence. -/
abbrev Acts := FVec Ideal S2x2048x1024 .f32

/-- The mean square of a row plus the constant that keeps it positive. -/
def meanSq (x : Acts) : FVec Ideal S2x2048x1 .f32 :=
  addf (Host.divf (broadcastInDim S2x2048x1 ![0, 1] bcast_S2x2048_S2x2048x1_0_1
      (Host.reduceAdd (mulf x x) (constant S_ .f32 0x00000000#32) reducesTo_S2x2048x1024_S2x2048_d2 h_S_))
    (broadcastInDim S2x2048x1 ![] bcast_S_S2x2048x1 (constant S_ .f32 0x44800000#32)))
    (broadcastInDim S2x2048x1 ![] bcast_S_S2x2048x1 (constant S_ .f32 0x358637BD#32))

/-- The rows scaled to unit mean square. -/
def scaled (x : Acts) : Acts :=
  mulf x (broadcastInDim S2x2048x1024 ![0, 1, 2] bcast_S2x2048x1_S2x2048x1024_0_1_2 (Host.rsqrt (meanSq x)))

/-- The gain, spread over the rows. -/
def gain (g : FVec Ideal S1x1024 .f32) : Acts :=
  broadcastInDim S2x2048x1024 ![0, 1, 2] bcast_S1x1x1024_S2x2048x1024_0_1_2
    (broadcastInDim S1x1x1024 ![2] bcast_S1024_S1x1x1024_2 (shapeCast _ g shapeCasts_S1x1024_S1024))

/-- The cotangent of the projection, in f32 and one block per sequence. -/
def cot (dp : FVec Ideal S4096x2304 .bf16) : FVec Ideal S2x2048x2304 .f32 :=
  shapeCast _ (extf .f32 dp bitsLt_bf16_f32) shapeCasts_S4096x2304_S2x2048x2304

/-- The cotangent of the normalised rows. -/
def cotNorm (w : FVec Ideal S1x1024x2304 .f32) (dp : FVec Ideal S4096x2304 .bf16) : Acts :=
  Host.dotGeneral dot_S2x2048x2304_S1024x2304_S2x2048x1024_2_1_01_0_n_n none (cot dp)
    (shapeCast _ w shapeCasts_S1x1024x2304_S1024x2304)

/-- The cotangent of the row's mean square, times two over its length. -/
def cotSq (x : Acts) (g : FVec Ideal S1x1024 .f32) (w : FVec Ideal S1x1024x2304 .f32)
    (dp : FVec Ideal S4096x2304 .bf16) : Acts :=
  broadcastInDim S2x2048x1024 ![0, 1] bcast_S2x2048_S2x2048x1024_0_1 (Host.reduceAdd
    (Host.divf (mulf (shapeCast _ (Host.reduceAdd (mulf x (mulf (cotNorm w dp) (gain g)))
        (constant S_ .f32 0x00000000#32) reducesTo_S2x2048x1024_S2x2048_d2 h_S_) shapeCasts_S2x2048_S2x2048x1)
      (mulf (broadcastInDim S2x2048x1 ![] bcast_S_S2x2048x1 (constant S_ .f32 0xBF000000#32))
        (Host.divf (Host.rsqrt (meanSq x)) (meanSq x))))
      (broadcastInDim S2x2048x1 ![] bcast_S_S2x2048x1 (constant S_ .f32 0x44800000#32)))
    (constant S_ .f32 0x00000000#32) reducesTo_S2x2048x1_S2x2048_d2 h_S_)

/-- The gradient of the activations. -/
def gradX (x : Acts) (dh : FVec Ideal S4096x1024 .f32) (g : FVec Ideal S1x1024 .f32) (w : FVec Ideal S1x1024x2304 .f32)
    (dp : FVec Ideal S4096x2304 .bf16) : FVec Ideal S4096x1024 .f32 :=
  shapeCast _ (addf (addf (addf (shapeCast _ dh shapeCasts_S4096x1024_S2x2048x1024)
      (mulf (mulf (cotNorm w dp) (gain g))
        (broadcastInDim S2x2048x1024 ![0, 1, 2] bcast_S2x2048x1_S2x2048x1024_0_1_2 (Host.rsqrt (meanSq x)))))
      (mulf x (cotSq x g w dp))) (mulf (cotSq x g w dp) x)) shapeCasts_S2x2048x1024_S4096x1024

/-- The late columns of the transposed gradient of the weights. -/
def gradW (x : Acts) (g : FVec Ideal S1x1024 .f32) (dp : FVec Ideal S4096x2304 .bf16) : FVec Ideal S2304x512 .f32 :=
  extractStridedSlice S2304x512 ![0, 512] (transpose S2304x1024 [1, 0] (shapeCast _ (broadcastInDim S1x1024x2304 ![1, 2]
    bcast_S1024x2304_S1x1024x2304_1_2 (transpose S1024x2304 [1, 0]
      (Host.dotGeneral dot_S2x2048x2304_S2x2048x1024_S2304x1024_01_01_2_2_n_n none (cot dp) (mulf (scaled x) (gain g)))
      transposes_S2304x1024_S1024x2304_1_0)) shapeCasts_S1x1024x2304_S1024x2304) transposes_S1024x2304_S2304x1024_1_0)
    slices_S2304x1024_S2304x512_0_512

/-- The gradient of the gain. -/
def gradG (x : Acts) (w : FVec Ideal S1x1024x2304 .f32) (dp : FVec Ideal S4096x2304 .bf16) : FVec Ideal S1x1024 .f32 :=
  broadcastInDim S1x1024 ![1] bcast_S1024_S1x1024_1 (Host.reduceAdd (shapeCast _ (Host.reduceAdd
      (mulf (scaled x) (cotNorm w dp)) (constant S_ .f32 0x00000000#32) reducesTo_S2x2048x1024_S1024_d0_1 h_S_)
    shapeCasts_S1024_S1x1x1024) (constant S_ .f32 0x00000000#32) reducesTo_S1x1x1024_S1024_d0_1 h_S_)

variable (m : (ℓ : Loc nD τ sig) → Buf (Elt Ideal) ℓ) (ρ : Dev nD → PrngReg)

/-- The run of the derivative: every result at its composed term, the arguments unchanged. -/
theorem run : θ_run defs (onTc (τ := τ) (main (F := Ideal))) ⟨m, fun _ => 0, ρ⟩ fun r => ∀ c : Dev nD,
      r.2.mem ((c.tc : Thread nD τ).loc main_v48) = gradX (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_v51) = gradW (m ((c.tc : Thread nD τ).loc main_arg0)) (m ((c.tc : Thread nD τ).loc main_arg2))
        (m ((c.tc : Thread nD τ).loc main_arg4))
      ∧ r.2.mem ((c.tc : Thread nD τ).loc main_v47) = gradG (m ((c.tc : Thread nD τ).loc main_arg0)) (m ((c.tc : Thread nD τ).loc main_arg3))
        (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Value.run m ρ

/-- Row `p` of the activations, the rows numbered through both sequences. -/
def row (x : Acts) (p : Fin 4096) : Fin 1024 → EReal :=
  fun k => x (ix3 ⟨p.val / 2048, by omega⟩ ⟨p.val % 2048, by omega⟩ k)

/-- Row `p` of the cotangent of the normalised rows, before the gain. -/
def cotRow (w : FVec Ideal S1x1024x2304 .f32) (dp : FVec Ideal S4096x2304 .bf16) (p : Fin 4096) : Fin 1024 → EReal :=
  fun k => ∑ j : Fin 2304, dp (ix2 p j) * w (ix3 0 k j)

/-- The gradient of the activations at a row and a column, in closed form. -/
theorem gradX_at (x : Acts) (dh : FVec Ideal S4096x1024 .f32) (g : FVec Ideal S1x1024 .f32) (w : FVec Ideal S1x1024x2304 .f32)
    (dp : FVec Ideal S4096x2304 .bf16) (p : Fin 4096) (q : Fin 1024) :
    gradX x dh g w dp (ix2 p q) = dh (ix2 p q) + Ideal.rsqrt (Row.meanSq (row x p)) * (cotRow w dp p q * g (ix2 0 q))
      - row x p q * Ideal.rsqrt (Row.meanSq (row x p)) * (Ideal.rsqrt (Row.meanSq (row x p))
        * Ideal.div (∑ k, cotRow w dp p k * g (ix2 0 k) * (row x p k * Ideal.rsqrt (Row.meanSq (row x p)))) Row.len) := by
  rw [Row.grad_eq (row x p) (fun k => cotRow w dp p k * g (ix2 0 k)) (dh (ix2 p q)) q _ rfl]
  pointwise [gradX, cotSq, cotNorm, cot, meanSq, gain]
  rw [Fin.sum_univ_one]
  rfl

/-- The gradient of a weight: the sum over the rows of both sequences. -/
theorem gradW_at (x : Acts) (g : FVec Ideal S1x1024 .f32) (dp : FVec Ideal S4096x2304 .bf16) (p : Fin 2304) (q : Fin 512) :
    gradW x g dp (ix2 p q) = ∑ a : Fin 2, ∑ b : Fin 2048, dp (ix2 ⟨a.val * 2048 + b.val, by omega⟩ p)
      * (x (ix3 a b ⟨512 + q.val, by omega⟩) * Ideal.rsqrt (Row.meanSq fun k => x (ix3 a b k))
        * g (ix2 0 ⟨512 + q.val, by omega⟩)) := by
  pointwise [gradW, cot, scaled, gain, meanSq]
  rfl

/-- The gradient of a gain: the sum over the rows of both sequences. -/
theorem gradG_at (x : Acts) (w : FVec Ideal S1x1024x2304 .f32) (dp : FVec Ideal S4096x2304 .bf16) (q : Fin 1024) :
    gradG x w dp (ix2 0 q) = ∑ a : Fin 2, ∑ b : Fin 2048, x (ix3 a b q) * Ideal.rsqrt (Row.meanSq fun k => x (ix3 a b k))
      * ∑ j : Fin 2304, dp (ix2 ⟨a.val * 2048 + b.val, by omega⟩ j) * w (ix3 0 q j) := by
  pointwise [gradG]
  rw [Cert.Ext.hostReduceAdd_lead, zero_add, Fin.sum_univ_one, Fin.sum_univ_one]
  pointwise
  rw [Cert.Ext.hostReduceAdd_lead, zero_add]
  refine Finset.sum_congr rfl fun a _ => Finset.sum_congr rfl fun b _ => ?_
  pointwise [scaled, cotNorm, cot, meanSq]
  rfl

end Cert.InProjRefIdeal.Read

end
-- ==== Proof.InProj.Value.lean ====
/- The normalised in-projection's gradient kernel: what its three result arrays hold after the eight grid points. -/
module

public import proofs.«01_k».proof.Proof.Gen.InProjIdeal.Value
public import proofs.«01_k».proof.Proof.InProj.Ref
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InProjIdeal.Value

open Cert.InProjIdeal Cert.InProjIdeal.Gen Cert.InProj
open Cert.InProjRefIdeal.Read (gradX gradW gradG gradX_at gradW_at gradG_at)

variable (m : (ℓ : Loc nD τ sig) → Buf (Elt Ideal) ℓ)

/-- Which block of its array every window holds at a grid point. -/
theorem idx_val : ∀ t : Fin cfg0.N, win0_0.index t = ![t.val, 0]
    ∧ win0_1.index t = ![t.val, 0]
    ∧ win0_2.index t = ![0, 0]
    ∧ win0_3.index t = ![0, 0]
    ∧ win0_4.index t = ![t.val, 0]
    ∧ win0_5.index t = ![t.val, 0]
    ∧ win0_6.index t = ![0, 0]
    ∧ win0_7.index t = ![0, 0] :=
  (by decide +kernel : ∀ t : Fin grid0.N, _)

theorem hzero_6 (j : S2304x512.Idx) : k0_pay3 (F := Ideal) j = 0 := by pointwise! [k0_pay3]
theorem hzero_7 (j : S1x1024.Idx) : k0_pay4 (F := Ideal) j = 0 := by pointwise! [k0_pay4]

/-- One point's part of the weights' gradient: the sum over its 512 rows. -/
theorem pay9_at (x : Vec Ideal S512x1024 .f32) (g : Vec Ideal S1x1024 .f32) (dp : Vec Ideal S512x2304 .bf16)
    (acc : Vec Ideal S2304x512 .f32) (j : S2304x512.Idx) :
    k0_pay9 x g dp acc j = acc j + ∑ k : Fin 512, dp (ix2 k (j 0)) * (x (ix2 k ⟨512 + (j 1).val, by have := (j 1).isLt; simp at this; omega⟩)
      * Ideal.rsqrt (Row.meanSq fun l => x (ix2 k l)) * g (ix2 0 ⟨512 + (j 1).val, by have := (j 1).isLt; simp at this; omega⟩)) := by
  pointwise [k0_pay9, k0_pay7, k0_pay6, k0_pay5]
  rfl

/-- One point's part of the gains' gradient. -/
theorem pay1_at (x : Vec Ideal S512x1024 .f32) (dp : Vec Ideal S512x2304 .bf16) (w : Vec Ideal S2304x1024 .bf16)
    (acc : Vec Ideal S1x1024 .f32) (j : S1x1024.Idx) :
    k0_pay1 acc (k0_pay10 x dp w) j = acc j + ∑ k : Fin 512, (∑ l : Fin 2304, dp (ix2 k l) * w (ix2 l (j 1)))
      * (x (ix2 k (j 1)) * Ideal.rsqrt (Row.meanSq fun l => x (ix2 k l))) := by
  pointwise [k0_pay1, k0_pay10, k0_pay8, k0_pay7, k0_pay6, k0_pay5]
  rfl

/-- One point's block of the activations' gradient. -/
theorem pay2_at (x : Vec Ideal S512x1024 .f32) (dh : Vec Ideal S512x1024 .f32) (g : Vec Ideal S1x1024 .f32) (dp : Vec Ideal S512x2304 .bf16) (w : Vec Ideal S2304x1024 .bf16)
    (p : Fin 512) (q : Fin 1024) :
    k0_pay2 g (k0_pay6 x) (k0_pay7 x) (k0_pay8 dp w) dh (ix2 p q) = dh (ix2 p q)
      + Ideal.rsqrt (Row.meanSq fun k => x (ix2 p k)) * ((∑ l : Fin 2304, dp (ix2 p l) * w (ix2 l q)) * g (ix2 0 q))
      - x (ix2 p q) * Ideal.rsqrt (Row.meanSq fun k => x (ix2 p k)) * (Ideal.rsqrt (Row.meanSq fun k => x (ix2 p k))
        * Ideal.div (∑ k, (∑ l : Fin 2304, dp (ix2 p l) * w (ix2 l k)) * g (ix2 0 k) * (x (ix2 p k) * Ideal.rsqrt (Row.meanSq fun k => x (ix2 p k)))) Row.len) := by
  pointwise [k0_pay2, k0_pay8, k0_pay7, k0_pay6, k0_pay5]
  rfl

theorem t_lt (t : Fin cfg0.N) : t.val < 8 := by exact lt_of_lt_of_eq t.isLt (show cfg0.N = 8 from N_0)

/-- The operands' blocks at a grid point: 512 consecutive rows of the activations and of the two cotangents, the whole
    gain and the whole transposed weights. -/
theorem blk_x (c : Dev nD) (t : Fin cfg0.N) (p : Fin 512) (k : Fin 1024) : iblk m c 0 t (ix2 p k)
    = m ((c : Thread nD τ).loc main_arg0) (ix3 ⟨t.val / 4, by have := t_lt t; omega⟩
        ⟨t.val % 4 * 512 + p.val, by omega⟩ k) := by
  blk_simp [iblk, idx_val t]; entry_read; pointwise; blk_ext [idx_val t]
theorem blk_dh (c : Dev nD) (t : Fin cfg0.N) (p : Fin 512) (k : Fin 1024) : iblk m c 1 t (ix2 p k)
    = m ((c : Thread nD τ).loc main_arg1) (ix2 ⟨t.val * 512 + p.val, by have := t_lt t; omega⟩ k) := by
  blk_simp [iblk, idx_val t]; entry_read; blk_ext [idx_val t]
theorem blk_g (c : Dev nD) (t : Fin cfg0.N) (k : Fin 1024) : iblk m c 2 t (ix2 0 k)
    = m ((c : Thread nD τ).loc main_arg2) (ix2 0 k) := by
  blk_simp [iblk, idx_val t]; entry_read; blk_ext [idx_val t]
theorem blk_w (c : Dev nD) (t : Fin cfg0.N) (j : Fin 2304) (k : Fin 1024) : iblk m c 3 t (ix2 j k)
    = m ((c : Thread nD τ).loc main_arg3) (ix3 0 k j) := by
  blk_simp [iblk, idx_val t]; entry_read; pointwise; blk_ext [idx_val t]
theorem blk_dp (c : Dev nD) (t : Fin cfg0.N) (p : Fin 512) (k : Fin 2304) : iblk m c 4 t (ix2 p k)
    = m ((c : Thread nD τ).loc main_arg4) (ix2 ⟨t.val * 512 + p.val, by have := t_lt t; omega⟩ k) := by
  blk_simp [iblk, idx_val t]; entry_read; blk_ext [idx_val t]

/-- Row `k` of block `t` in the numbering through both sequences. -/
theorem row_eq (t : ℕ) (k : ℕ) (h : t * 512 + k < 4096) :
    (⟨t * 512 + k, h⟩ : Fin 4096) = ⟨t / 4 * 2048 + (t % 4 * 512 + k), by omega⟩ := Fin.ext (by dsimp only; omega)

/-- The array of the gains' gradient after the last point. -/
theorem final_7 (c : Dev nD) : (dats m 0 c).arrAt 7 (cfgs 0).N = gradG (m ((c : Thread nD τ).loc main_arg0))
    (m ((c : Thread nD τ).loc main_arg3)) (m ((c : Thread nD τ).loc main_arg4)) := by
  refine (dats m 0 c).arrAt_eq_of_after_last 7 t0_7 (by decide +kernel) _ fun j => ?_
  blk_simp
  rw [after0_7, Pipeline.eq_sum_fin_of_reset_step_apply_last (fun n h => (outsAt0 m c n h).2.2) 8 (fun _ => 0) _
    (fun t h j => by rw [outsAt0_A m c t h]; frame_out; rw [pay1_at, hzero_7])
    (fun t h j => by rw [outsAt0_B m c t h]; frame_out; rw [pay1_at])
    (le_of_eq N_0) t0_7 rfl j, zero_add]
  idx_vars j
  obtain rfl : j0 = 0 := Subsingleton.elim _ _
  rw [gradG_at]
  refine Fin.sum_points_lanes_congr 4 fun t k ha hl => ?_
  simp only [blk_x, blk_dp, blk_w, row_eq]
  rw [mul_comm]

/-- The array of the weights' gradient after the last point. -/
theorem final_6 (c : Dev nD) : (dats m 0 c).arrAt 6 (cfgs 0).N = gradW (m ((c : Thread nD τ).loc main_arg0))
    (m ((c : Thread nD τ).loc main_arg2)) (m ((c : Thread nD τ).loc main_arg4)) := by
  refine (dats m 0 c).arrAt_eq_of_after_last 6 t0_7 (by decide +kernel) _ fun j => ?_
  blk_simp
  rw [after0_6, Pipeline.eq_sum_fin_of_reset_step_apply_last (fun n h => (outsAt0 m c n h).2.1) 8 (fun _ => 0) _
    (fun t h j => by rw [outsAt0_A m c t h]; frame_out; rw [pay9_at, hzero_6])
    (fun t h j => by rw [outsAt0_B m c t h]; frame_out; rw [pay9_at])
    (le_of_eq N_0) t0_7 rfl j, zero_add]
  idx_vars j
  rw [gradW_at]
  refine Fin.sum_points_lanes_congr 4 fun t k ha hl => ?_
  simp only [blk_x, blk_dp, blk_g, row_eq]

/-- The array of the activations' gradient after the last point. -/
theorem final_5 (c : Dev nD) : (dats m 0 c).arrAt 5 (cfgs 0).N = gradX (m ((c : Thread nD τ).loc main_arg0))
    (m ((c : Thread nD τ).loc main_arg1)) (m ((c : Thread nD τ).loc main_arg2))
    (m ((c : Thread nD τ).loc main_arg3)) (m ((c : Thread nD τ).loc main_arg4)) := by
  refine (dats m 0 c).arrAt_eq_of_covers 5 _ (by decide +kernel) fun t hf y => ?_
  blk_simp; rw [after0_5]
  idx_vars y
  have hz : (((cfg0.win 5).blk t).view.emb (ix2 y0 y1) : S4096x1024.Idx) = ix2 ⟨t.val * 512 + y0.val, by have := t_lt t; omega⟩ y1 := by
    blk_ext [idx_val t]
  have hp : (outsAt0 m c t.val t.isLt).1 = k0_pay2 (iblk m c 2 t) (k0_pay6 (iblk m c 0 t)) (k0_pay7 (iblk m c 0 t))
      (k0_pay8 (iblk m c 4 t) (iblk m c 3 t)) (iblk m c 1 t) := by
    by_cases h : t.val % 8 = 0
    · rw [outsAt0_A m c t h]; dsimp only; frame_out
    · rw [outsAt0_B m c t h]; dsimp only; frame_out
  rw [hp, pay2_at, hz, gradX_at]
  simp only [blk_x, blk_dp, blk_w, blk_g, blk_dh]
  rw [show Cert.InProjRefIdeal.Read.row (m ((c : Thread nD τ).loc main_arg0)) ⟨t.val * 512 + y0.val, by have := t_lt t; omega⟩
      = fun k => m ((c : Thread nD τ).loc main_arg0) (ix3 ⟨t.val / 4, by have := t_lt t; omega⟩ ⟨t.val % 4 * 512 + y0.val, by omega⟩ k)
    from funext fun k => congrArg₂ (fun a b => m ((c : Thread nD τ).loc main_arg0) (ix3 a b k))
      (Fin.ext (by dsimp only; omega)) (Fin.ext (by dsimp only; omega))]
  rfl

end Cert.InProjIdeal.Value

end
-- ==== Proof.Tail.Row.lean ====
/- The tail of the layer on one row: output projection, norm, gate, loss, and their derivatives, over the extended reals. -/
module

public import proofs.«01_k».proof.Proof.InProj.Row

@[expose] public section

noncomputable section

open Idealize.ShloMosaic
open Cert.InProj (Row.len Row.meanSq Row.mhalf Row.grad_eq Row.len_eq)

namespace Cert.Tail

/-- The weights every row meets. -/
structure Weights where
  wo : Fin 1024 → Fin 1024 → EReal
  g : Fin 1024 → EReal
  wg : Fin 1024 → Fin 1024 → EReal
  bg : Fin 1024 → EReal
  wp : Fin 256 → Fin 1024 → EReal

/-- What one row brings: the two mixers' outputs side by side, the residual stream, the embedding and the target. -/
structure Line where
  cat : Fin 1024 → EReal
  x : Fin 1024 → EReal
  p : Fin 256 → EReal
  y : Fin 1024 → EReal

namespace Line

variable (l : Line) (w : Weights)

/-- One half. -/
abbrev half : EReal := Ideal.ofBits .f32 1056964608#32
/-- Two. -/
abbrev two : EReal := Ideal.ofBits .f32 1073741824#32
/-- One over the row's length. -/
abbrev inv1024 : EReal := Ideal.ofBits .f32 981467136#32

theorem half_eq : half = ((1 / 2 : ℝ) : EReal) := by
  simp [half, Ideal.ofBits, Ideal.ieee]; rw [← EReal.coe_mul]; norm_num
theorem two_eq : two = ((2 : ℝ) : EReal) := by
  simp [two, Ideal.ofBits, Ideal.ieee]; rw [← EReal.coe_mul]; norm_num
theorem inv1024_eq : inv1024 = ((1024⁻¹ : ℝ) : EReal) := by
  simp [inv1024, Ideal.ofBits, Ideal.ieee]; rw [← EReal.coe_mul]; norm_num

/-- The projected row. -/
def mixed (q : Fin 1024) : EReal := ∑ k, l.cat k * w.wo k q
/-- One over its root mean square. -/
def inv : EReal := Ideal.rsqrt (Row.meanSq (l.mixed w))
/-- The residual stream after the normalised projection. -/
def hid (q : Fin 1024) : EReal := l.x q + l.mixed w q * l.inv w * w.g q
/-- The gate. -/
def gate (q : Fin 1024) : EReal := Ideal.logistic ((∑ k, l.hid w k * w.wg k q) + w.bg q)
/-- The projection of the embedding. -/
def pp (q : Fin 1024) : EReal := ∑ k, l.p k * w.wp k q
/-- The output less its target. -/
def err (q : Fin 1024) : EReal := l.hid w q + l.gate w q * l.pp w q - l.y q
/-- The mean squared error. -/
def lossRow : EReal := Ideal.div (∑ q, l.err w q * l.err w q) Row.len
/-- The cotangent of the output. -/
def cotOut (q : Fin 1024) : EReal := l.err w q * inv1024
/-- The cotangent of the gate before its sigmoid. -/
def cotGate (q : Fin 1024) : EReal := l.cotOut w q * l.pp w q * l.gate w q * (1 - l.gate w q)
/-- The cotangent of the residual stream. -/
def cotHid (q : Fin 1024) : EReal := l.cotOut w q + ∑ k, l.cotGate w k * w.wg q k
/-- The cotangent of the normalised row. -/
def cotNorm (q : Fin 1024) : EReal := l.cotHid w q * w.g q
/-- The cotangent of the projected row. -/
def cotMixed (q : Fin 1024) : EReal :=
  l.inv w * l.cotNorm w q - l.mixed w q * l.inv w * (l.inv w * Ideal.div (∑ k, l.cotNorm w k * (l.mixed w k * l.inv w)) Row.len)
/-- The cotangent of the two mixers' outputs. -/
def cotCat (k : Fin 1024) : EReal := ∑ q, l.cotMixed w q * w.wo k q

/-- The cotangent of a squared error's mean, as the chain rule writes it. -/
theorem cotOut_eq (q : Fin 1024) : l.cotOut w q = Ideal.div (half) Row.len * (two * l.err w q) := by
  have h : Ideal.div (half) Row.len = ((1 / 2048 : ℝ) : EReal) := by
    rw [half_eq, Ideal.div, Row.len_eq, if_neg (by norm_cast), ← EReal.coe_inv, ← EReal.coe_mul]
    norm_num
  rw [cotOut, h, two_eq, inv1024_eq, ← mul_assoc, ← EReal.coe_mul, mul_comm]
  norm_num

/-- The chain rule through the mean square of the projected row. -/
theorem cotMixed_eq (q : Fin 1024) (D : EReal)
    (hD : D = Ideal.div ((∑ k, l.mixed w k * l.cotNorm w k)
      * (Row.mhalf * Ideal.div (Ideal.rsqrt (Row.meanSq (l.mixed w))) (Row.meanSq (l.mixed w)))) Row.len) :
    l.cotMixed w q = l.cotNorm w q * l.inv w + l.mixed w q * D + D * l.mixed w q := by
  have h := Row.grad_eq (l.mixed w) (l.cotNorm w) 0 q D hD
  rw [zero_add, zero_add] at h
  exact h

end Line

end Cert.Tail

end
-- ==== Proof.Tail.Ref.lean ====
/- The derivative of the layer's tail, read element by element: what each of the reference's nine results holds at an
   index, in terms of one row's functions. -/
module

public import proofs.«01_k».proof.Proof.Gen.TailRefIdeal.Run
public import proofs.«01_k».proof.Proof.Tail.Row
public import Idealize.ShloMosaic.Lib.Pointwise

@[expose] public section

set_option maxRecDepth 16384

noncomputable section

open Idealize.ShloMosaic Idealize.ShloMosaic.TcCoe Idealize.SL.Sem

namespace Cert.TailRefIdeal.Read

open Cert.TailRefIdeal Cert.TailRefIdeal.Gen Cert.InProj Cert.Tail

/-- A tensor with one row of 1024 elements per position of the two sequences. -/
abbrev Acts := FVec Ideal S2x2048x1024 .f32

/-- The tail's ten operands. -/
structure Ins where
  so : FVec Ideal S2x2048x512 .f32
  ao : FVec Ideal S2x2048x512 .f32
  x : Acts
  p : FVec Ideal S1x2x2048x256 .f32
  y : Acts
  wo : FVec Ideal S1x1024x1024 .f32
  g : FVec Ideal S1x1024 .f32
  wg : FVec Ideal S1x1024x1024 .f32
  bg : FVec Ideal S1x1024 .f32
  wp : FVec Ideal S1x256x1024 .f32

/-- The two mixers' outputs side by side. -/
def cat (a : Ins) : Acts := Value.fn_main_v0 (F := Ideal) a.so a.ao

/-- The two mixers' outputs side by side, projected. -/
def mixed (a : Ins) : Acts :=
  Host.dotGeneral dot_S2x2048x1024_S1024x1024_S2x2048x1024_2_0_01_1_n_n none (cat a) (shapeCast _ a.wo shapeCasts_S1x1024x1024_S1024x1024)

/-- The mean square of a projected row plus the constant that keeps it positive. -/
def meanSq (a : Ins) : FVec Ideal S2x2048x1 .f32 :=
  addf (Host.divf (broadcastInDim S2x2048x1 ![0, 1] bcast_S2x2048_S2x2048x1_0_1 (Host.reduceAdd (mulf (mixed a) (mixed a)) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32))

/-- The projected rows scaled to unit mean square. -/
def scaled (a : Ins) : Acts :=
  mulf (mixed a) (broadcastInDim S2x2048x1024 ![0, 1, 2] bcast_S2x2048x1_S2x2048x1024_0_1_2 (Host.rsqrt (meanSq a)))

/-- The residual stream after the normalised projection. -/
def hidden (a : Ins) : Acts :=
  addf a.x (mulf (scaled a) (broadcastInDim S2x2048x1024 ![0, 1, 2] bcast_S1x1x1024_S2x2048x1024_0_1_2 (broadcastInDim S1x1x1024 ![2] bcast_S1024_S1x1x1024_2 (shapeCast _ a.g shapeCasts_S1x1024_S1024))))

/-- The gate. -/
def gate (a : Ins) : Acts :=
  Host.divf (broadcastInDim S2x2048x1024 ![] bcast_S_S2x2048x1024 (constant S_ .f32 0x3F800000#32)) (addf (broadcastInDim S2x2048x1024 ![] bcast_S_S2x2048x1024 (constant S_ .f32 0x3F800000#32)) (Host.exp (Host.negf (addf (Host.dotGeneral dot_S2x2048x1024_S1024x1024_S2x2048x1024_2_0_01_1_n_n none (hidden a) (shapeCast _ a.wg shapeCasts_S1x1024x1024_S1024x1024)) (broadcastInDim S2x2048x1024 ![0, 1, 2] bcast_S1x1x1024_S2x2048x1024_0_1_2 (broadcastInDim S1x1x1024 ![2] bcast_S1024_S1x1x1024_2 (shapeCast _ a.bg shapeCasts_S1x1024_S1024)))))))

/-- The projection of the per-layer embedding. -/
def proj (a : Ins) : Acts :=
  Host.dotGeneral dot_S2x2048x256_S256x1024_S2x2048x1024_2_0_01_1_n_n none (shapeCast _ a.p shapeCasts_S1x2x2048x256_S2x2048x256) (shapeCast _ a.wp shapeCasts_S1x256x1024_S256x1024)

/-- The error: the output less its target. -/
def err (a : Ins) : Acts :=
  subf (addf (hidden a) (mulf (gate a) (proj a))) a.y

/-- The cotangent of the output. -/
def cotOut (a : Ins) : Acts :=
  mulf (broadcastInDim S2x2048x1024 ![0, 1] bcast_S2x2048_S2x2048x1024_0_1 (Host.divf (broadcastInDim S2x2048 ![] bcast_S_S2x2048 (mulf (constant S_ .f32 0x3F000000#32) (constant S_ .f32 0x3F800000#32))) (broadcastInDim S2x2048 ![] bcast_S_S2x2048 (constant S_ .f32 0x44800000#32)))) (mulf (broadcastInDim S2x2048x1024 ![] bcast_S_S2x2048x1024 (constant S_ .f32 0x40000000#32)) (err a))

/-- The cotangent of the gate before its sigmoid. -/
def cotGate (a : Ins) : Acts :=
  mulf (mulf (cotOut a) (proj a)) (mulf (gate a) (subf (broadcastInDim S2x2048x1024 ![] bcast_S_S2x2048x1024 (constant S_ .f32 0x3F800000#32)) (gate a)))

/-- The gradient of the gate's bias. -/
def gradBg (a : Ins) : FVec Ideal S1x1024 .f32 :=
  broadcastInDim S1x1024 ![1] bcast_S1024_S1x1024_1 (Host.reduceAdd (shapeCast _ (Host.reduceAdd (cotGate a) (constant S_ .f32 0x00000000#32) reducesTo_S2x2048x1024_S1024_d0_1 h_S_) shapeCasts_S1024_S1x1x1024) (constant S_ .f32 0x00000000#32) reducesTo_S1x1x1024_S1024_d0_1 h_S_)

/-- The cotangent of the residual stream. -/
def cotHidden (a : Ins) : Acts :=
  addf (cotOut a) (Host.dotGeneral dot_S2x2048x1024_S1024x1024_S2x2048x1024_2_1_01_0_n_n none (cotGate a) (shapeCast _ a.wg shapeCasts_S1x1024x1024_S1024x1024))

/-- The cotangent of the row's mean square, times two over its length. -/
def cotSq (a : Ins) : Acts :=
  broadcastInDim S2x2048x1024 ![0, 1] bcast_S2x2048_S2x2048x1024_0_1 (Host.reduceAdd (Host.divf (mulf (shapeCast _ (Host.reduceAdd (mulf (mixed a) (mulf (cotHidden a) (broadcastInDim S2x2048x1024 ![0, 1, 2] bcast_S1x1x1024_S2x2048x1024_0_1_2 (broadcastInDim S1x1x1024 ![2] bcast_S1024_S1x1x1024_2 (shapeCast _ a.g shapeCasts_S1x1024_S1024))))) (constant S_ .f32 0x00000000#32) reducesTo_S2x2048x1024_S2x2048_d2 h_S_) shapeCasts_S2x2048_S2x2048x1) (mulf (broadcastInDim S2x2048x1 ![] bcast_S_S2x2048x1 (constant S_ .f32 0xBF000000#32)) (Host.divf (Host.rsqrt (meanSq a)) (meanSq a)))) (broadcastInDim S2x2048x1 ![] bcast_S_S2x2048x1 (constant S_ .f32 0x44800000#32))) (constant S_ .f32 0x00000000#32) reducesTo_S2x2048x1_S2x2048_d2 h_S_)

/-- The cotangent of the projected rows. -/
def cotMixed (a : Ins) : Acts :=
  addf (addf (mulf (mulf (cotHidden a) (broadcastInDim S2x2048x1024 ![0, 1, 2] bcast_S1x1x1024_S2x2048x1024_0_1_2 (broadcastInDim S1x1x1024 ![2] bcast_S1024_S1x1x1024_2 (shapeCast _ a.g shapeCasts_S1x1024_S1024)))) (broadcastInDim S2x2048x1024 ![0, 1, 2] bcast_S2x2048x1_S2x2048x1024_0_1_2 (Host.rsqrt (meanSq a)))) (mulf (mixed a) (cotSq a))) (mulf (cotSq a) (mixed a))

/-- The gradient of the gain. -/
def gradG (a : Ins) : FVec Ideal S1x1024 .f32 :=
  broadcastInDim S1x1024 ![1] bcast_S1024_S1x1024_1 (Host.reduceAdd (shapeCast _ (Host.reduceAdd (mulf (scaled a) (cotHidden a)) (constant S_ .f32 0x00000000#32) reducesTo_S2x2048x1024_S1024_d0_1 h_S_) shapeCasts_S1024_S1x1x1024) (constant S_ .f32 0x00000000#32) reducesTo_S1x1x1024_S1024_d0_1 h_S_)

/-- The gradient of the embedding's weights, as four blocks of rows. -/
def gradWp (a : Ins) : FVec Ideal S1024x256 .f32 :=
  shapeCast _ (transpose S4x256x256 [1, 0, 2] (shapeCast _ (shapeCast _ (broadcastInDim S1x256x1024 ![1, 2] bcast_S256x1024_S1x256x1024_1_2 (transpose S256x1024 [1, 0] (Host.dotGeneral dot_S2x2048x1024_S2x2048x256_S1024x256_01_01_2_2_n_n none (mulf (gate a) (cotOut a)) (shapeCast _ a.p shapeCasts_S1x2x2048x256_S2x2048x256)) transposes_S1024x256_S256x1024_1_0)) shapeCasts_S1x256x1024_S256x1024) shapeCasts_S256x1024_S256x4x256) transposes_S256x4x256_S4x256x256_1_0_2) shapeCasts_S4x256x256_S1024x256

/-- The gradient of the residual stream. -/
def gradH (a : Ins) : FVec Ideal S4096x1024 .f32 :=
  shapeCast _ (cotHidden a) shapeCasts_S2x2048x1024_S4096x1024

/-- The gradient of the scan's output. -/
def gradSo (a : Ins) : FVec Ideal S4096x512 .f32 :=
  shapeCast _ (extractStridedSlice S2x2048x512 ![0, 0, 0] (Host.dotGeneral dot_S2x2048x1024_S1024x1024_S2x2048x1024_2_1_01_0_n_n none (cotMixed a) (shapeCast _ a.wo shapeCasts_S1x1024x1024_S1024x1024)) slices_S2x2048x1024_S2x2048x512_0_0_0) shapeCasts_S2x2048x512_S4096x512

/-- The gradient of the attention's output. -/
def gradAo (a : Ins) : FVec Ideal S4096x512 .f32 :=
  shapeCast _ (extractStridedSlice S2x2048x512 ![0, 0, 512] (Host.dotGeneral dot_S2x2048x1024_S1024x1024_S2x2048x1024_2_1_01_0_n_n none (cotMixed a) (shapeCast _ a.wo shapeCasts_S1x1024x1024_S1024x1024)) slices_S2x2048x1024_S2x2048x512_0_0_512) shapeCasts_S2x2048x512_S4096x512

/-- The gradient of the output weights. -/
def gradWo (a : Ins) : FVec Ideal S1024x1024 .f32 :=
  shapeCast _ (broadcastInDim S1x1024x1024 ![1, 2] bcast_S1024x1024_S1x1024x1024_1_2 (transpose S1024x1024 [1, 0] (Host.dotGeneral dot_S2x2048x1024_S2x2048x1024_S1024x1024_01_01_2_2_n_n none (cotMixed a) (cat a)) transposes_S1024x1024_S1024x1024_1_0)) shapeCasts_S1x1024x1024_S1024x1024

/-- The gradient of the gate's weights. -/
def gradWg (a : Ins) : FVec Ideal S1024x1024 .f32 :=
  shapeCast _ (broadcastInDim S1x1024x1024 ![1, 2] bcast_S1024x1024_S1x1024x1024_1_2 (transpose S1024x1024 [1, 0] (Host.dotGeneral dot_S2x2048x1024_S2x2048x1024_S1024x1024_01_01_2_2_n_n none (cotGate a) (hidden a)) transposes_S1024x1024_S1024x1024_1_0)) shapeCasts_S1x1024x1024_S1024x1024

/-- The loss. -/
def loss (a : Ins) : FVec Ideal S1x1 .f32 :=
  shapeCast _ (mulf (constant S_ .f32 0x3F000000#32) (Host.reduceAdd (Host.divf (Host.reduceAdd (mulf (err a) (err a)) (constant S_ .f32 0x00000000#32) reducesTo_S2x2048x1024_S2x2048_d2 h_S_) (broadcastInDim S2x2048 ![] bcast_S_S2x2048 (constant S_ .f32 0x44800000#32))) (constant S_ .f32 0x00000000#32) reducesTo_S2x2048_S_d0_1 h_S_)) shapeCasts_S_S1x1

variable (m : (ℓ : Loc nD τ sig) → Buf (Elt Ideal) ℓ) (ρ : Dev nD → PrngReg)

/-- The operands as a device's memory holds them. -/
def ins (c : Dev nD) : Ins :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9)⟩

theorem res_gradH (c : Dev nD) : Value.res_main_v102 m c = gradH (ins m c) := by
  unfold Value.res_main_v102
  simp only [gradH, cotHidden, cotOut, cotGate, err, gate, proj, hidden, scaled, meanSq, mixed, cat, ins]
  rfl
theorem res_gradSo (c : Dev nD) : Value.res_main_v103 m c = gradSo (ins m c) := by
  unfold Value.res_main_v103
  simp only [gradSo, cotMixed, cotSq, cotHidden, cotOut, cotGate, err, gate, proj, hidden, scaled, meanSq, mixed, cat, ins]
  rfl
theorem res_gradAo (c : Dev nD) : Value.res_main_v104 m c = gradAo (ins m c) := by
  unfold Value.res_main_v104
  simp only [gradAo, cotMixed, cotSq, cotHidden, cotOut, cotGate, err, gate, proj, hidden, scaled, meanSq, mixed, cat, ins]
  rfl
theorem res_gradWo (c : Dev nD) : Value.res_main_v105 m c = gradWo (ins m c) := by
  unfold Value.res_main_v105
  simp only [gradWo, cotMixed, cotSq, cotHidden, cotOut, cotGate, err, gate, proj, hidden, scaled, meanSq, mixed, cat, ins]
  rfl
theorem res_gradWg (c : Dev nD) : Value.res_main_v106 m c = gradWg (ins m c) := by
  unfold Value.res_main_v106
  simp only [gradWg, cotHidden, cotOut, cotGate, err, gate, proj, hidden, scaled, meanSq, mixed, cat, ins]
  rfl
theorem res_gradWp (c : Dev nD) : Value.res_main_v101 m c = gradWp (ins m c) := by
  unfold Value.res_main_v101
  simp only [gradWp, cotHidden, cotOut, cotGate, err, gate, proj, hidden, scaled, meanSq, mixed, cat, ins]
  rfl
theorem res_gradBg (c : Dev nD) : Value.res_main_v65 m c = gradBg (ins m c) := by
  unfold Value.res_main_v65
  simp only [gradBg, cotHidden, cotOut, cotGate, err, gate, proj, hidden, scaled, meanSq, mixed, cat, ins]
  rfl
theorem res_gradG (c : Dev nD) : Value.res_main_v91 m c = gradG (ins m c) := by
  unfold Value.res_main_v91
  simp only [gradG, cotHidden, cotOut, cotGate, err, gate, proj, hidden, scaled, meanSq, mixed, cat, ins]
  rfl
theorem res_loss (c : Dev nD) : Value.res_main_v107 m c = loss (ins m c) := by
  unfold Value.res_main_v107
  simp only [loss, cotHidden, cotOut, cotGate, err, gate, proj, hidden, scaled, meanSq, mixed, cat, ins]
  rfl

/-- The run of the derivative: every result at its composed term, the arguments unchanged. -/
theorem run : θ_run defs (onTc (τ := τ) (main (F := Ideal))) ⟨m, fun _ => 0, ρ⟩ fun r => ∀ c : Dev nD,
      r.2.mem ((c.tc : Thread nD τ).loc main_v102) = gradH (ins m c)
      ∧ r.2.mem ((c.tc : Thread nD τ).loc main_v103) = gradSo (ins m c)
      ∧ r.2.mem ((c.tc : Thread nD τ).loc main_v104) = gradAo (ins m c)
      ∧ r.2.mem ((c.tc : Thread nD τ).loc main_v105) = gradWo (ins m c)
      ∧ r.2.mem ((c.tc : Thread nD τ).loc main_v106) = gradWg (ins m c)
      ∧ r.2.mem ((c.tc : Thread nD τ).loc main_v101) = gradWp (ins m c)
      ∧ r.2.mem ((c.tc : Thread nD τ).loc main_v65) = gradBg (ins m c)
      ∧ r.2.mem ((c.tc : Thread nD τ).loc main_v91) = gradG (ins m c)
      ∧ r.2.mem ((c.tc : Thread nD τ).loc main_v107) = loss (ins m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  simp only [← res_gradH, ← res_gradSo, ← res_gradAo, ← res_gradWo, ← res_gradWg, ← res_gradWp, ← res_gradBg, ← res_gradG, ← res_loss]
  exact Value.run m ρ

/-- The weights every row meets. -/
def wts (a : Ins) : Weights where
  wo k q := a.wo (ix3 0 k q)
  g q := a.g (ix2 0 q)
  wg k q := a.wg (ix3 0 k q)
  bg q := a.bg (ix2 0 q)
  wp k q := a.wp (ix3 0 k q)

/-- The row of position `b` of sequence `i`. -/
def line (a : Ins) (i : Fin 2) (b : Fin 2048) : Line where
  cat k := if h : k.val < 512 then a.so (ix3 i b ⟨k.val, h⟩) else a.ao (ix3 i b ⟨k.val - 512, by omega⟩)
  x q := a.x (ix3 i b q)
  p k := a.p (ix4 0 i b k)
  y q := a.y (ix3 i b q)

theorem cat_at (a : Ins) (i : Fin 2) (b : Fin 2048) (k : Fin 1024) :
    cat a (ix3 i b k) = (line a i b).cat k := by
  pointwise [cat, Value.fn_main_v0]
  rfl

theorem mixed_at (a : Ins) (i : Fin 2) (b : Fin 2048) (q : Fin 1024) :
    mixed a (ix3 i b q) = (line a i b).mixed (wts a) q := by
  pointwise [mixed]
  simp only [cat_at]
  rfl

theorem meanSq_at (a : Ins) (i : Fin 2) (b : Fin 2048) :
    meanSq a (ix3 i b 0) = Row.meanSq ((line a i b).mixed (wts a)) := by
  pointwise [meanSq]
  simp only [mixed_at]
  rfl

theorem scaled_at (a : Ins) (i : Fin 2) (b : Fin 2048) (q : Fin 1024) :
    scaled a (ix3 i b q) = (line a i b).mixed (wts a) q * (line a i b).inv (wts a) := by
  pointwise [scaled]
  simp only [mixed_at, meanSq_at]
  rfl

theorem hidden_at (a : Ins) (i : Fin 2) (b : Fin 2048) (q : Fin 1024) :
    hidden a (ix3 i b q) = (line a i b).hid (wts a) q := by
  pointwise [hidden]
  simp only [scaled_at]
  rfl

theorem gate_at (a : Ins) (i : Fin 2) (b : Fin 2048) (q : Fin 1024) :
    gate a (ix3 i b q) = (line a i b).gate (wts a) q := by
  pointwise [gate]
  simp only [hidden_at]
  rfl

theorem proj_at (a : Ins) (i : Fin 2) (b : Fin 2048) (q : Fin 1024) :
    proj a (ix3 i b q) = (line a i b).pp (wts a) q := by
  pointwise [proj]
  rfl

theorem err_at (a : Ins) (i : Fin 2) (b : Fin 2048) (q : Fin 1024) :
    err a (ix3 i b q) = (line a i b).err (wts a) q := by
  pointwise [err]
  simp only [hidden_at, gate_at, proj_at]
  rfl

theorem cotOut_at (a : Ins) (i : Fin 2) (b : Fin 2048) (q : Fin 1024) :
    cotOut a (ix3 i b q) = (line a i b).cotOut (wts a) q := by
  pointwise [cotOut]
  simp only [err_at]
  rw [Line.cotOut_eq]

theorem cotGate_at (a : Ins) (i : Fin 2) (b : Fin 2048) (q : Fin 1024) :
    cotGate a (ix3 i b q) = (line a i b).cotGate (wts a) q := by
  pointwise [cotGate]
  simp only [cotOut_at, proj_at, gate_at]
  rw [Line.cotGate, mul_assoc ((line a i b).cotOut (wts a) q * _)]

theorem cotHidden_at (a : Ins) (i : Fin 2) (b : Fin 2048) (q : Fin 1024) :
    cotHidden a (ix3 i b q) = (line a i b).cotHid (wts a) q := by
  pointwise [cotHidden]
  simp only [cotOut_at, cotGate_at]
  rfl

theorem cotMixed_at (a : Ins) (i : Fin 2) (b : Fin 2048) (q : Fin 1024) :
    cotMixed a (ix3 i b q) = (line a i b).cotMixed (wts a) q := by
  have h : cotSq a (ix3 i b q) = Ideal.div ((∑ k, (line a i b).mixed (wts a) k * (line a i b).cotNorm (wts a) k)
      * (Row.mhalf * Ideal.div (Ideal.rsqrt (Row.meanSq ((line a i b).mixed (wts a)))) (Row.meanSq ((line a i b).mixed (wts a))))) Row.len := by
    pointwise [cotSq]
    simp only [Fin.sum_univ_one, mixed_at, meanSq_at, cotHidden_at]
    rfl
  rw [Line.cotMixed_eq _ _ _ _ h]
  pointwise [cotMixed]
  simp only [mixed_at, meanSq_at, cotHidden_at]
  rfl

/-- The gradient of the residual stream. -/
theorem gradH_at (a : Ins) (p : Fin 4096) (q : Fin 1024) : gradH a (ix2 p q)
    = (line a ⟨p.val / 2048, by omega⟩ ⟨p.val % 2048, by omega⟩).cotHid (wts a) q := by
  pointwise [gradH]
  exact cotHidden_at a _ _ q

/-- The gradient of the scan's output. -/
theorem gradSo_at (a : Ins) (p : Fin 4096) (q : Fin 512) : gradSo a (ix2 p q)
    = (line a ⟨p.val / 2048, by omega⟩ ⟨p.val % 2048, by omega⟩).cotCat (wts a) ⟨q.val, by omega⟩ := by
  pointwise [gradSo]
  simp only [cotMixed_at]
  rfl

/-- The gradient of the attention's output. -/
theorem gradAo_at (a : Ins) (p : Fin 4096) (q : Fin 512) : gradAo a (ix2 p q)
    = (line a ⟨p.val / 2048, by omega⟩ ⟨p.val % 2048, by omega⟩).cotCat (wts a) ⟨512 + q.val, by omega⟩ := by
  pointwise [gradAo]
  simp only [cotMixed_at]
  rfl

/-- The gradient of an output weight: the sum over the rows of both sequences. -/
theorem gradWo_at (a : Ins) (p q : Fin 1024) : gradWo a (ix2 p q)
    = ∑ i : Fin 2, ∑ b : Fin 2048, (line a i b).cotMixed (wts a) q * (line a i b).cat p := by
  pointwise [gradWo]
  simp only [cotMixed_at, cat_at]

/-- The gradient of a gate weight: the sum over the rows of both sequences. -/
theorem gradWg_at (a : Ins) (p q : Fin 1024) : gradWg a (ix2 p q)
    = ∑ i : Fin 2, ∑ b : Fin 2048, (line a i b).cotGate (wts a) q * (line a i b).hid (wts a) p := by
  pointwise [gradWg]
  simp only [cotGate_at, hidden_at]

/-- The gradient of an embedding weight: the sum over the rows of both sequences. -/
theorem gradWp_at (a : Ins) (p : Fin 1024) (q : Fin 256) : gradWp a (ix2 p q)
    = ∑ i : Fin 2, ∑ b : Fin 2048, (line a i b).gate (wts a) ⟨p.val / 256 * 256 + q.val, by omega⟩
      * (line a i b).cotOut (wts a) ⟨p.val / 256 * 256 + q.val, by omega⟩ * (line a i b).p ⟨p.val % 256, by omega⟩ := by
  pointwise [gradWp]
  simp only [gate_at, cotOut_at]
  rfl

/-- The gradient of the gate's bias: the sum over the rows of both sequences. -/
theorem gradBg_at (a : Ins) (q : Fin 1024) : gradBg a (ix2 0 q)
    = ∑ i : Fin 2, ∑ b : Fin 2048, (line a i b).cotGate (wts a) q := by
  pointwise [gradBg]
  rw [Cert.Ext.hostReduceAdd_lead, zero_add, Fin.sum_univ_one, Fin.sum_univ_one]
  pointwise
  rw [Cert.Ext.hostReduceAdd_lead, zero_add]
  simp only [cotGate_at]

/-- The gradient of a gain: the sum over the rows of both sequences. -/
theorem gradG_at (a : Ins) (q : Fin 1024) : gradG a (ix2 0 q)
    = ∑ i : Fin 2, ∑ b : Fin 2048, (line a i b).mixed (wts a) q * (line a i b).inv (wts a) * (line a i b).cotHid (wts a) q := by
  pointwise [gradG]
  rw [Cert.Ext.hostReduceAdd_lead, zero_add, Fin.sum_univ_one, Fin.sum_univ_one]
  pointwise
  rw [Cert.Ext.hostReduceAdd_lead, zero_add]
  refine Finset.sum_congr rfl fun i _ => Finset.sum_congr rfl fun b _ => ?_
  pointwise
  rw [scaled_at, cotHidden_at]

/-- The loss: half the sum of the rows' mean squared errors. -/
theorem loss_at (a : Ins) : loss a (ix2 0 0) = Line.half * ∑ i : Fin 2, ∑ b : Fin 2048, (line a i b).lossRow (wts a) := by
  pointwise [loss]
  simp only [err_at]
  rfl

end Cert.TailRefIdeal.Read

end
-- ==== Proof.Tail.Pay.lean ====
/- The tail kernel's body on one block of 512 rows: what every value it computes holds at an index. -/
module

public import proofs.«01_k».proof.Proof.Gen.TailIdeal.Skeleton
public import proofs.«01_k».proof.Proof.Tail.Row
public import Idealize.ShloMosaic.Lib.Pointwise

@[expose] public section

set_option maxRecDepth 16384

noncomputable section

open Idealize.ShloMosaic Idealize.ShloMosaic.TcCoe Idealize.SL.Sem

namespace Cert.TailIdeal.Pay

open Cert.TailIdeal Cert.TailIdeal.Gen Cert.InProj Cert.Tail

/-- What the body loads at a grid point: its rows, and the weights, those of the embedding in four blocks. -/
structure Blk where
  (so ao : Vec Ideal S512x512 .bf16) (x : Vec Ideal S512x1024 .f32) (p : Vec Ideal S512x256 .f32)
  (y : Vec Ideal S512x1024 .f32) (wo : Vec Ideal S1024x1024 .bf16) (g : Vec Ideal S1x1024 .f32)
  (wg : Vec Ideal S1024x1024 .bf16) (bg : Vec Ideal S1x1024 .f32) (w0 w1 w2 w3 : Vec Ideal S256x256 .bf16)

variable (b : Blk)

/-- Row `r` of the block. -/
def Blk.line (r : Fin 512) : Line where
  cat k := if h : k.val < 512 then b.so (ix2 r ⟨k.val, h⟩) else b.ao (ix2 r ⟨k.val - 512, by omega⟩)
  x q := b.x (ix2 r q)
  p k := b.p (ix2 r k)
  y q := b.y (ix2 r q)

/-- The weights, those of the embedding in four blocks of 256 columns. -/
def Blk.wts : Weights where
  wo k q := b.wo (ix2 k q)
  g q := b.g (ix2 0 q)
  wg k q := b.wg (ix2 k q)
  bg q := b.bg (ix2 0 q)
  wp k q := if h : q.val < 256 then b.w0 (ix2 k ⟨q.val, h⟩)
    else if h1 : q.val - 256 < 256 then b.w1 (ix2 k ⟨q.val - 256, h1⟩)
    else if h2 : q.val - 256 - 256 < 256 then b.w2 (ix2 k ⟨q.val - 256 - 256, h2⟩)
    else b.w3 (ix2 k ⟨q.val - 256 - 256 - 256, by omega⟩)

/-- The gate, the embedding's product and the error of the block, as the body computes them. -/
abbrev Blk.gateB := k0_pay18 b.so b.ao b.g b.wo b.x b.wg b.bg
abbrev Blk.ppB := k0_pay20 b.p b.w0 b.w1 b.w2 b.w3
abbrev Blk.errB := k0_pay21 (k0_pay16 b.so b.ao b.g b.wo b.x) b.gateB b.p b.w0 b.w1 b.w2 b.w3 b.y
/-- The cotangents of the output and of the gate's product, and the two terms of the norm's. -/
abbrev Blk.outB := k0_pay24 b.errB k0_pay23
abbrev Blk.cotGateB := k0_pay26 b.gateB b.ppB b.errB k0_pay23
abbrev Blk.leftB := k0_pay38 b.g (k0_pay14 b.so b.ao b.wo) b.outB b.cotGateB b.wg
abbrev Blk.rightB := k0_pay39 b.g (k0_pay15 b.so b.ao b.wo) b.outB b.cotGateB b.wg

theorem cat_at (r : Fin 512) (k : Fin 1024) : k0_pay12 b.so b.ao (ix2 r k) = (b.line r).cat k := by
  pointwise [k0_pay12]
  rfl

theorem mixed_at (r : Fin 512) (q : Fin 1024) : k0_pay13 b.so b.ao b.wo (ix2 r q) = (b.line r).mixed b.wts q := by
  pointwise [k0_pay13]
  simp only [cat_at b]
  rfl

theorem inv_at (r : Fin 512) : k0_pay14 b.so b.ao b.wo (ix2 r 0) = (b.line r).inv b.wts := by
  pointwise [k0_pay14]
  simp only [mixed_at b]
  rfl

theorem norm_at (r : Fin 512) (q : Fin 1024) : k0_pay15 b.so b.ao b.wo (ix2 r q) = (b.line r).mixed b.wts q * (b.line r).inv b.wts := by
  pointwise [k0_pay15]
  simp only [mixed_at b, inv_at b]

theorem hid_at (r : Fin 512) (q : Fin 1024) : k0_pay16 b.so b.ao b.g b.wo b.x (ix2 r q) = (b.line r).hid b.wts q := by
  pointwise [k0_pay16]
  simp only [norm_at b]
  rfl

theorem hidb_at (r : Fin 512) (q : Fin 1024) : k0_pay17 b.so b.ao b.g b.wo b.x (ix2 r q) = (b.line r).hid b.wts q := by
  pointwise [k0_pay17]
  simp only [hid_at b]

theorem gate_at (r : Fin 512) (q : Fin 1024) : k0_pay18 b.so b.ao b.g b.wo b.x b.wg b.bg (ix2 r q) = (b.line r).gate b.wts q := by
  pointwise [k0_pay18]
  simp only [hidb_at b]
  rfl

theorem pb_at (r : Fin 512) (k : Fin 256) : k0_pay19 b.p (ix2 r k) = (b.line r).p k := by
  pointwise [k0_pay19]
  rfl

theorem pp_at (r : Fin 512) (q : Fin 1024) : k0_pay20 b.p b.w0 b.w1 b.w2 b.w3 (ix2 r q) = (b.line r).pp b.wts q := by
  pointwise [k0_pay20]
  simp only [pb_at b]
  simp only [Line.pp, Blk.wts]
  by_cases h : q.val < 256
  · simp only [h, dite_true]
  by_cases h1 : q.val - 256 < 256
  · simp only [h, h1, dite_true, dite_false]
  by_cases h2 : q.val - 256 - 256 < 256
  · simp only [h, h1, h2, dite_true, dite_false]
  simp only [h, h1, h2, dite_false]

theorem err_at (r : Fin 512) (q : Fin 1024) : b.errB (ix2 r q) = (b.line r).err b.wts q := by
  pointwise [Blk.errB, k0_pay21]
  simp only [hid_at b, gate_at b, pp_at b]
  rfl

/-- One point's part of the loss. -/
theorem loss_at (acc : Vec Ideal S1x1 .f32) : k0_pay22 (k0_pay16 b.so b.ao b.g b.wo b.x) b.gateB b.p b.w0 b.w1 b.w2 b.w3 b.y acc (ix2 0 0)
    = acc (ix2 0 0) + Line.half * ∑ r, (b.line r).lossRow b.wts := by
  have h : ∀ r q, k0_pay21 (k0_pay16 b.so b.ao b.g b.wo b.x) b.gateB b.p b.w0 b.w1 b.w2 b.w3 b.y (ix2 r q) = (b.line r).err b.wts q :=
    err_at b
  pointwise [k0_pay22]
  simp only [h]
  rfl

theorem cotOut_at (r : Fin 512) (q : Fin 1024) : k0_pay24 b.errB k0_pay23 (ix2 r q) = (b.line r).cotOut b.wts q := by
  pointwise [k0_pay24, k0_pay23]
  simp only [err_at b]
  rfl

theorem cotGate_at (r : Fin 512) (q : Fin 1024) : k0_pay25 b.gateB b.ppB b.errB k0_pay23 (ix2 r q) = (b.line r).cotGate b.wts q := by
  pointwise [k0_pay25]
  simp only [cotOut_at b, gate_at b, pp_at b]
  rfl

theorem cotGateb_at (r : Fin 512) (q : Fin 1024) : k0_pay26 b.gateB b.ppB b.errB k0_pay23 (ix2 r q) = (b.line r).cotGate b.wts q := by
  pointwise [k0_pay26]
  simp only [cotGate_at b]

/-- One point's part of the gate's weights' gradient. -/
theorem gradWg_at (acc : Vec Ideal S1024x1024 .f32) (k q : Fin 1024) :
    k0_pay27 (k0_pay17 b.so b.ao b.g b.wo b.x) b.gateB b.ppB b.errB k0_pay23 acc (ix2 k q) = acc (ix2 k q) + ∑ r, (b.line r).hid b.wts k * (b.line r).cotGate b.wts q := by
  pointwise [k0_pay27]
  simp only [hidb_at b, cotGateb_at b]

/-- One point's part of the gate's bias's gradient. -/
theorem gradBg_at (acc : Vec Ideal S1x1024 .f32) (q : Fin 1024) :
    k0_pay28 b.gateB b.ppB b.errB k0_pay23 acc (ix2 0 q) = acc (ix2 0 q) + ∑ r, (b.line r).cotGate b.wts q := by
  pointwise [k0_pay28]
  simp only [cotGate_at b]

theorem cotPp_at (r : Fin 512) (q : Fin 1024) : k0_pay29 b.gateB b.errB k0_pay23 (ix2 r q) = (b.line r).cotOut b.wts q * (b.line r).gate b.wts q := by
  pointwise [k0_pay29]
  simp only [cotOut_at b, gate_at b]

/-- One point's part of the embedding's weights' gradient, its four blocks of columns in turn. -/
theorem gradWp0_at (acc : Vec Ideal S256x256 .f32) (k q : Fin 256) : k0_pay30 b.gateB (k0_pay19 b.p) b.errB k0_pay23 acc (ix2 k q)
    = acc (ix2 k q) + ∑ r, (b.line r).p k * ((b.line r).cotOut b.wts ⟨q.val, by omega⟩ * (b.line r).gate b.wts ⟨q.val, by omega⟩) := by
  pointwise [k0_pay30]
  simp only [pb_at b, cotPp_at b]
theorem gradWp1_at (acc : Vec Ideal S256x256 .f32) (k q : Fin 256) : k0_pay31 b.gateB (k0_pay19 b.p) b.errB k0_pay23 acc (ix2 k q)
    = acc (ix2 k q) + ∑ r, (b.line r).p k * ((b.line r).cotOut b.wts ⟨256 + q.val, by omega⟩ * (b.line r).gate b.wts ⟨256 + q.val, by omega⟩) := by
  pointwise [k0_pay31]
  simp only [pb_at b, cotPp_at b]
theorem gradWp2_at (acc : Vec Ideal S256x256 .f32) (k q : Fin 256) : k0_pay32 (k0_pay19 b.p) (k0_pay29 b.gateB b.errB k0_pay23) acc (ix2 k q)
    = acc (ix2 k q) + ∑ r, (b.line r).p k * ((b.line r).cotOut b.wts ⟨512 + q.val, by omega⟩ * (b.line r).gate b.wts ⟨512 + q.val, by omega⟩) := by
  pointwise [k0_pay32]
  simp only [pb_at b, cotPp_at b]
theorem gradWp3_at (acc : Vec Ideal S256x256 .f32) (k q : Fin 256) : k0_pay33 (k0_pay19 b.p) (k0_pay29 b.gateB b.errB k0_pay23) acc (ix2 k q)
    = acc (ix2 k q) + ∑ r, (b.line r).p k * ((b.line r).cotOut b.wts ⟨768 + q.val, by omega⟩ * (b.line r).gate b.wts ⟨768 + q.val, by omega⟩) := by
  pointwise [k0_pay33]
  simp only [pb_at b, cotPp_at b]

theorem cotHid_at (r : Fin 512) (q : Fin 1024) : k0_pay34 b.outB b.cotGateB b.wg (ix2 r q) = (b.line r).cotHid b.wts q := by
  pointwise [k0_pay34]
  simp only [cotOut_at b, cotGateb_at b]
  rfl

/-- One point's rows of the residual stream's gradient. -/
theorem gradH_at (r : Fin 512) (q : Fin 1024) : k0_pay35 b.outB b.cotGateB b.wg (ix2 r q) = (b.line r).cotHid b.wts q := by
  pointwise [k0_pay35]
  simp only [cotHid_at b]

/-- One point's part of the gain's gradient. -/
theorem gradG_at (acc : Vec Ideal S1x1024 .f32) (q : Fin 1024) : k0_pay36 (k0_pay15 b.so b.ao b.wo) b.outB b.cotGateB b.wg acc (ix2 0 q)
    = acc (ix2 0 q) + ∑ r, (b.line r).cotHid b.wts q * ((b.line r).mixed b.wts q * (b.line r).inv b.wts) := by
  pointwise [k0_pay36]
  simp only [cotHid_at b, norm_at b]

theorem cotNorm_at (r : Fin 512) (q : Fin 1024) : k0_pay37 b.g b.outB b.cotGateB b.wg (ix2 r q) = (b.line r).cotNorm b.wts q := by
  pointwise [k0_pay37]
  simp only [cotHid_at b]
  rfl

theorem cotMixed_at (r : Fin 512) (q : Fin 1024) : k0_pay1 (k0_pay14 b.so b.ao b.wo) (k0_pay15 b.so b.ao b.wo) b.leftB b.rightB (ix2 r q) = (b.line r).cotMixed b.wts q := by
  pointwise [k0_pay1, k0_pay38, k0_pay39]
  simp only [cotNorm_at b, norm_at b, inv_at b]
  rfl

/-- One point's part of the output weights' gradient. -/
theorem gradWo_at (acc : Vec Ideal S1024x1024 .f32) (k q : Fin 1024) :
    k0_pay2 (k0_pay12 b.so b.ao) (k0_pay14 b.so b.ao b.wo) (k0_pay15 b.so b.ao b.wo) b.leftB b.rightB acc (ix2 k q)
      = acc (ix2 k q) + ∑ r, (b.line r).cat k * (b.line r).cotMixed b.wts q := by
  pointwise [k0_pay2]
  simp only [cat_at b, cotMixed_at b]

theorem cotCat_at (r : Fin 512) (k : Fin 1024) : k0_pay3 (k0_pay14 b.so b.ao b.wo) (k0_pay15 b.so b.ao b.wo) b.leftB b.rightB b.wo (ix2 r k) = (b.line r).cotCat b.wts k := by
  pointwise [k0_pay3]
  simp only [cotMixed_at b]
  rfl

/-- One point's rows of the gradient of the scan's output. -/
theorem gradSo_at (r : Fin 512) (k : Fin 512) : k0_pay4 (k0_pay14 b.so b.ao b.wo) (k0_pay15 b.so b.ao b.wo) b.leftB b.rightB b.wo (ix2 r k)
    = (b.line r).cotCat b.wts ⟨k.val, by omega⟩ := by
  pointwise [k0_pay4]
  exact cotCat_at b r _

/-- One point's rows of the gradient of the attention's output. -/
theorem gradAo_at (r : Fin 512) (k : Fin 512) : k0_pay5 (k0_pay14 b.so b.ao b.wo) (k0_pay15 b.so b.ao b.wo) b.leftB b.rightB b.wo (ix2 r k)
    = (b.line r).cotCat b.wts ⟨512 + k.val, by omega⟩ := by
  pointwise [k0_pay5]
  exact cotCat_at b r _

theorem zero_wo (j : S1024x1024.Idx) : k0_pay6 (F := Ideal) j = 0 := by pointwise! [k0_pay6]
theorem zero_wg (j : S1024x1024.Idx) : k0_pay7 (F := Ideal) j = 0 := by pointwise! [k0_pay7]
theorem zero_wp (j : S1024x256.Idx) : k0_pay8 (F := Ideal) j = 0 := by pointwise! [k0_pay8]
theorem zero_bg (j : S1x1024.Idx) : k0_pay9 (F := Ideal) j = 0 := by pointwise! [k0_pay9]
theorem zero_g (j : S1x1024.Idx) : k0_pay10 (F := Ideal) j = 0 := by pointwise! [k0_pay10]
theorem zero_loss (j : S1x1.Idx) : k0_pay11 (F := Ideal) j = 0 := by pointwise! [k0_pay11]

end Cert.TailIdeal.Pay

end
-- ==== Proof.Tail.Blocks.lean ====
/- The tail kernel: what its windows hold at a grid point. -/
module

public import proofs.«01_k».proof.Proof.Gen.TailIdeal.Value
public import proofs.«01_k».proof.Proof.Tail.Ref
public import proofs.«01_k».proof.Proof.Tail.Pay
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.TailIdeal.Value

open Cert.TailIdeal Cert.TailIdeal.Gen Cert.InProj Cert.Tail
open Cert.TailRefIdeal (Read.Ins Read.line Read.wts Read.gradH Read.gradSo Read.gradAo Read.gradWo Read.gradWg Read.gradWp Read.gradBg
  Read.gradG Read.loss Read.gradH_at Read.gradSo_at Read.gradAo_at Read.gradWo_at Read.gradWg_at Read.gradWp_at Read.gradBg_at
  Read.gradG_at Read.loss_at)

variable (m : (ℓ : Loc nD τ sig) → Buf (Elt Ideal) ℓ)

/-- The operands as a device's memory holds them. -/
def ins (c : Dev nD) : Read.Ins :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9)⟩

/-- Which block of its array every window holds at a grid point. -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![t.val, 0]
    ∧ win0_11.index t = ![t.val, 0]
    ∧ win0_12.index t = ![t.val, 0]
    ∧ win0_13.index t = ![0, 0]
    ∧ win0_14.index t = ![0, 0]
    ∧ win0_15.index t = ![0, 0]
    ∧ win0_16.index t = ![0, 0]
    ∧ win0_17.index t = ![0, 0]
    ∧ win0_18.index t = ![0, 0] :=
  (by decide +kernel : ∀ t : Fin grid0.N, _)

theorem t_lt (t : Fin cfg0.N) : t.val < 8 := by exact lt_of_lt_of_eq t.isLt (show cfg0.N = 8 from N_0)

/-- The sequence a block belongs to, and its rows there. -/
def seq (t : Fin cfg0.N) : Fin 2 := ⟨t.val / 4, by have := t_lt t; omega⟩
def pos (t : Fin cfg0.N) (r : Fin 512) : Fin 2048 := ⟨t.val % 4 * 512 + r.val, by omega⟩

theorem blk_so (c : Dev nD) (t : Fin cfg0.N) (r : Fin 512) (k : Fin 512) : iblk m c 0 t (ix2 r k) = (ins m c).so (ix3 (seq t) (pos t r) k) := by
  unfold ins seq pos; blk_simp [iblk, idx_val t]; entry_read; pointwise; blk_ext [idx_val t]
theorem blk_ao (c : Dev nD) (t : Fin cfg0.N) (r : Fin 512) (k : Fin 512) : iblk m c 1 t (ix2 r k) = (ins m c).ao (ix3 (seq t) (pos t r) k) := by
  unfold ins seq pos; blk_simp [iblk, idx_val t]; entry_read; pointwise; blk_ext [idx_val t]
theorem blk_x (c : Dev nD) (t : Fin cfg0.N) (r : Fin 512) (k : Fin 1024) : iblk m c 2 t (ix2 r k) = (ins m c).x (ix3 (seq t) (pos t r) k) := by
  unfold ins seq pos; blk_simp [iblk, idx_val t]; entry_read; pointwise; blk_ext [idx_val t]
theorem blk_p (c : Dev nD) (t : Fin cfg0.N) (r : Fin 512) (k : Fin 256) : iblk m c 3 t (ix2 r k) = (ins m c).p (ix4 0 (seq t) (pos t r) k) := by
  unfold ins seq pos; blk_simp [iblk, idx_val t]; entry_read; pointwise; blk_ext [idx_val t]
theorem blk_y (c : Dev nD) (t : Fin cfg0.N) (r : Fin 512) (k : Fin 1024) : iblk m c 4 t (ix2 r k) = (ins m c).y (ix3 (seq t) (pos t r) k) := by
  unfold ins seq pos; blk_simp [iblk, idx_val t]; entry_read; pointwise; blk_ext [idx_val t]
theorem blk_wo (c : Dev nD) (t : Fin cfg0.N) (k q : Fin 1024) : iblk m c 5 t (ix2 k q) = (ins m c).wo (ix3 0 k q) := by
  unfold ins; blk_simp [iblk, idx_val t]; entry_read; pointwise; blk_ext [idx_val t]
theorem blk_g (c : Dev nD) (t : Fin cfg0.N) (q : Fin 1024) : iblk m c 6 t (ix2 0 q) = (ins m c).g (ix2 0 q) := by
  unfold ins; blk_simp [iblk, idx_val t]; entry_read; blk_ext [idx_val t]
theorem blk_wg (c : Dev nD) (t : Fin cfg0.N) (k q : Fin 1024) : iblk m c 7 t (ix2 k q) = (ins m c).wg (ix3 0 k q) := by
  unfold ins; blk_simp [iblk, idx_val t]; entry_read; pointwise; blk_ext [idx_val t]
theorem blk_bg (c : Dev nD) (t : Fin cfg0.N) (q : Fin 1024) : iblk m c 8 t (ix2 0 q) = (ins m c).bg (ix2 0 q) := by
  unfold ins; blk_simp [iblk, idx_val t]; entry_read; blk_ext [idx_val t]
set_option maxHeartbeats 1000000 in
theorem blk_wp (c : Dev nD) (t : Fin cfg0.N) (r : Fin 1024) (k : Fin 256) : iblk m c 9 t (ix2 r k)
    = (ins m c).wp (ix3 0 ⟨r.val % 256, by omega⟩ ⟨r.val / 256 * 256 + k.val, by omega⟩) := by
  unfold ins; blk_simp [iblk, idx_val t]; entry_read; pointwise; blk_ext [idx_val t]

/-- The first block of columns of the embedding's weights, as the body loads it; then the other three. -/
abbrev w0 (c : Dev nD) (t : Fin cfg0.N) : Vec Ideal S256x256 .bf16 := View.ld (iblk m c 9 t) (Rect.unit ![0, 0] ![256, 256] inb_S1024x256_S256x256_0_0)
abbrev w1 (c : Dev nD) (t : Fin cfg0.N) : Vec Ideal S256x256 .bf16 := View.ld (iblk m c 9 t) (Rect.unit ![256, 0] ![256, 256] inb_S1024x256_S256x256_256_0)
abbrev w2 (c : Dev nD) (t : Fin cfg0.N) : Vec Ideal S256x256 .bf16 := View.ld (iblk m c 9 t) (Rect.unit ![512, 0] ![256, 256] inb_S1024x256_S256x256_512_0)
abbrev w3 (c : Dev nD) (t : Fin cfg0.N) : Vec Ideal S256x256 .bf16 := View.ld (iblk m c 9 t) (Rect.unit ![768, 0] ![256, 256] inb_S1024x256_S256x256_768_0)

theorem w0_at (c : Dev nD) (t : Fin cfg0.N) (k q : Fin 256) : w0 m c t (ix2 k q) = (ins m c).wp (ix3 0 k ⟨0 + q.val, by omega⟩) := by
  have h : w0 m c t (ix2 k q) = iblk m c 9 t (ix2 ⟨0 + k.val, by omega⟩ q) := by
    exact View.ld_unit_apply_of _ _ _ _ _ _ (fun a => match a with | ⟨0, _⟩ => rfl | ⟨1, _⟩ => (Nat.zero_add _).symm)
  rw [h, blk_wp]
  exact congrArg₂ (fun a b => (ins m c).wp (ix3 0 a b)) (Fin.ext (by dsimp only; omega)) (Fin.ext (by dsimp only; omega))
theorem w1_at (c : Dev nD) (t : Fin cfg0.N) (k q : Fin 256) : w1 m c t (ix2 k q) = (ins m c).wp (ix3 0 k ⟨256 + q.val, by omega⟩) := by
  have h : w1 m c t (ix2 k q) = iblk m c 9 t (ix2 ⟨256 + k.val, by omega⟩ q) := by
    exact View.ld_unit_apply_of _ _ _ _ _ _ (fun a => match a with | ⟨0, _⟩ => rfl | ⟨1, _⟩ => (Nat.zero_add _).symm)
  rw [h, blk_wp]
  exact congrArg₂ (fun a b => (ins m c).wp (ix3 0 a b)) (Fin.ext (by dsimp only; omega)) (Fin.ext (by dsimp only; omega))
theorem w2_at (c : Dev nD) (t : Fin cfg0.N) (k q : Fin 256) : w2 m c t (ix2 k q) = (ins m c).wp (ix3 0 k ⟨512 + q.val, by omega⟩) := by
  have h : w2 m c t (ix2 k q) = iblk m c 9 t (ix2 ⟨512 + k.val, by omega⟩ q) := by
    exact View.ld_unit_apply_of _ _ _ _ _ _ (fun a => match a with | ⟨0, _⟩ => rfl | ⟨1, _⟩ => (Nat.zero_add _).symm)
  rw [h, blk_wp]
  exact congrArg₂ (fun a b => (ins m c).wp (ix3 0 a b)) (Fin.ext (by dsimp only; omega)) (Fin.ext (by dsimp only; omega))
theorem w3_at (c : Dev nD) (t : Fin cfg0.N) (k q : Fin 256) : w3 m c t (ix2 k q) = (ins m c).wp (ix3 0 k ⟨768 + q.val, by omega⟩) := by
  have h : w3 m c t (ix2 k q) = iblk m c 9 t (ix2 ⟨768 + k.val, by omega⟩ q) := by
    exact View.ld_unit_apply_of _ _ _ _ _ _ (fun a => match a with | ⟨0, _⟩ => rfl | ⟨1, _⟩ => (Nat.zero_add _).symm)
  rw [h, blk_wp]
  exact congrArg₂ (fun a b => (ins m c).wp (ix3 0 a b)) (Fin.ext (by dsimp only; omega)) (Fin.ext (by dsimp only; omega))

/-- What the body loads at a grid point. -/
def blk (c : Dev nD) (t : Fin cfg0.N) : Pay.Blk :=
  ⟨iblk m c 0 t, iblk m c 1 t, iblk m c 2 t, iblk m c 3 t, iblk m c 4 t, iblk m c 5 t, iblk m c 6 t, iblk m c 7 t, iblk m c 8 t,
    w0 m c t, w1 m c t, w2 m c t, w3 m c t⟩

/-- The rows of a block are the operands' rows. -/
theorem line_eq (c : Dev nD) (t : Fin cfg0.N) (r : Fin 512) :
    (blk m c t).line r = Read.line (ins m c) (seq t) (pos t r) := by
  simp only [Pay.Blk.line, blk, Read.line, blk_so, blk_ao, blk_x, blk_p, blk_y]

/-- The weights as the body sees them are the operands. -/
theorem wts_eq (c : Dev nD) (t : Fin cfg0.N) : (blk m c t).wts = Read.wts (ins m c) := by
  simp only [Pay.Blk.wts, blk, Read.wts, blk_wo, blk_g, blk_wg, blk_bg, w0_at, w1_at, w2_at, w3_at]
  congr 1
  funext k q
  split_ifs <;> exact congrArg (fun b => (ins m c).wp (ix3 0 k b)) (Fin.ext (by dsimp only; omega))

/-- Row `p` of the arrays numbered through both sequences. -/
theorem row_eq (t : Fin cfg0.N) (r : Fin 512) (h : t.val * 512 + r.val < 4096) :
    ((⟨(⟨t.val * 512 + r.val, h⟩ : Fin 4096).val / 2048, by omega⟩ : Fin 2), (⟨(⟨t.val * 512 + r.val, h⟩ : Fin 4096).val % 2048, by omega⟩ : Fin 2048))
      = (seq t, pos t r) := by
  refine Prod.ext (Fin.ext ?_) (Fin.ext ?_) <;> simp only [seq, pos] <;> omega

end Cert.TailIdeal.Value

end
-- ==== Proof.Tail.Value.lean ====
/- The tail kernel: what its nine result arrays hold after the eight grid points. -/
module

public import proofs.«01_k».proof.Proof.Tail.Blocks
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.TailIdeal.Value

open Cert.TailIdeal Cert.TailIdeal.Gen Cert.InProj Cert.Tail
open Cert.TailRefIdeal (Read.Ins Read.line Read.wts Read.gradH Read.gradSo Read.gradAo Read.gradWo Read.gradWg Read.gradWp Read.gradBg
  Read.gradG Read.loss Read.gradH_at Read.gradSo_at Read.gradAo_at Read.gradWo_at Read.gradWg_at Read.gradWp_at Read.gradBg_at
  Read.gradG_at Read.loss_at)

variable (m : (ℓ : Loc nD τ sig) → Buf (Elt Ideal) ℓ)

set_option maxHeartbeats 1000000 in
/-- The array of the output weights' gradient after the last point. -/
theorem final_13 (c : Dev nD) : (dats m 0 c).arrAt 13 (cfgs 0).N = Read.gradWo (ins m c) := by
  refine (dats m 0 c).arrAt_eq_of_after_last 13 t0_7 (by decide +kernel) _ fun j => ?_
  blk_simp
  rw [after0_13, Pipeline.eq_sum_fin_of_reset_step_apply_last (fun n h => (outsAt0 m c n h).2.2.2.1) 8 (fun _ => 0)
    (fun t j => ∑ r : Fin 512, ((Read.line (ins m c) (seq t) (pos t r)).cat (j 0)) * ((Read.line (ins m c) (seq t) (pos t r)).cotMixed (Read.wts (ins m c)) (j 1)))
    (fun t h j => by
      rw [outsAt0_A m c t h]; frame_out
      idx_vars j
      have h := fun acc => Pay.gradWo_at (blk m c t) acc j0 j1
      simp only [line_eq, wts_eq] at h
      dsimp only [blk, Pay.Blk.leftB, Pay.Blk.rightB, Pay.Blk.outB, Pay.Blk.cotGateB, Pay.Blk.errB, Pay.Blk.gateB, Pay.Blk.ppB] at h
      exact (h _).trans (by rw [Pay.zero_wo]))
    (fun t h j => by
      rw [outsAt0_B m c t h]; frame_out
      idx_vars j
      have h := fun acc => Pay.gradWo_at (blk m c t) acc j0 j1
      simp only [line_eq, wts_eq] at h
      dsimp only [blk, Pay.Blk.leftB, Pay.Blk.rightB, Pay.Blk.outB, Pay.Blk.cotGateB, Pay.Blk.errB, Pay.Blk.gateB, Pay.Blk.ppB] at h
      exact h _)
    (le_of_eq N_0) t0_7 rfl j, zero_add]
  idx_vars j
  rw [Read.gradWo_at]
  refine Fin.sum_points_lanes_congr 4 fun t k ha hl => ?_
  exact (mul_comm (_ : EReal) _).trans rfl

set_option maxHeartbeats 1000000 in
/-- The array of the gate's weights' gradient after the last point. -/
theorem final_14 (c : Dev nD) : (dats m 0 c).arrAt 14 (cfgs 0).N = Read.gradWg (ins m c) := by
  refine (dats m 0 c).arrAt_eq_of_after_last 14 t0_7 (by decide +kernel) _ fun j => ?_
  blk_simp
  rw [after0_14, Pipeline.eq_sum_fin_of_reset_step_apply_last (fun n h => (outsAt0 m c n h).2.2.2.2.1) 8 (fun _ => 0)
    (fun t j => ∑ r : Fin 512, ((Read.line (ins m c) (seq t) (pos t r)).hid (Read.wts (ins m c)) (j 0)) * ((Read.line (ins m c) (seq t) (pos t r)).cotGate (Read.wts (ins m c)) (j 1)))
    (fun t h j => by
      rw [outsAt0_A m c t h]; frame_out
      idx_vars j
      have h := fun acc => Pay.gradWg_at (blk m c t) acc j0 j1
      simp only [line_eq, wts_eq] at h
      dsimp only [blk, Pay.Blk.leftB, Pay.Blk.rightB, Pay.Blk.outB, Pay.Blk.cotGateB, Pay.Blk.errB, Pay.Blk.gateB, Pay.Blk.ppB] at h
      exact (h _).trans (by rw [Pay.zero_wg]))
    (fun t h j => by
      rw [outsAt0_B m c t h]; frame_out
      idx_vars j
      have h := fun acc => Pay.gradWg_at (blk m c t) acc j0 j1
      simp only [line_eq, wts_eq] at h
      dsimp only [blk, Pay.Blk.leftB, Pay.Blk.rightB, Pay.Blk.outB, Pay.Blk.cotGateB, Pay.Blk.errB, Pay.Blk.gateB, Pay.Blk.ppB] at h
      exact h _)
    (le_of_eq N_0) t0_7 rfl j, zero_add]
  idx_vars j
  rw [Read.gradWg_at]
  refine Fin.sum_points_lanes_congr 4 fun t k ha hl => ?_
  exact (mul_comm (_ : EReal) _).trans rfl

set_option maxHeartbeats 1000000 in
/-- The array of the gate's bias's gradient after the last point. -/
theorem final_16 (c : Dev nD) : (dats m 0 c).arrAt 16 (cfgs 0).N = Read.gradBg (ins m c) := by
  refine (dats m 0 c).arrAt_eq_of_after_last 16 t0_7 (by decide +kernel) _ fun j => ?_
  blk_simp
  rw [after0_16, Pipeline.eq_sum_fin_of_reset_step_apply_last (fun n h => (outsAt0 m c n h).2.2.2.2.2.2.1) 8 (fun _ => 0)
    (fun t j => ∑ r : Fin 512, (Read.line (ins m c) (seq t) (pos t r)).cotGate (Read.wts (ins m c)) (j 1))
    (fun t h j => by
      rw [outsAt0_A m c t h]; frame_out
      idx_vars j
      obtain rfl : j0 = 0 := Subsingleton.elim _ _
      have h := fun acc => Pay.gradBg_at (blk m c t) acc j1
      simp only [line_eq, wts_eq] at h
      dsimp only [blk, Pay.Blk.leftB, Pay.Blk.rightB, Pay.Blk.outB, Pay.Blk.cotGateB, Pay.Blk.errB, Pay.Blk.gateB, Pay.Blk.ppB] at h
      exact (h _).trans (by rw [Pay.zero_bg]))
    (fun t h j => by
      rw [outsAt0_B m c t h]; frame_out
      idx_vars j
      obtain rfl : j0 = 0 := Subsingleton.elim _ _
      have h := fun acc => Pay.gradBg_at (blk m c t) acc j1
      simp only [line_eq, wts_eq] at h
      dsimp only [blk, Pay.Blk.leftB, Pay.Blk.rightB, Pay.Blk.outB, Pay.Blk.cotGateB, Pay.Blk.errB, Pay.Blk.gateB, Pay.Blk.ppB] at h
      exact h _)
    (le_of_eq N_0) t0_7 rfl j, zero_add]
  idx_vars j
  obtain rfl : j0 = 0 := Subsingleton.elim _ _
  rw [Read.gradBg_at]
  refine Fin.sum_points_lanes_congr 4 fun t k ha hl => ?_
  rfl

set_option maxHeartbeats 1000000 in
/-- The array of the gain's gradient after the last point. -/
theorem final_17 (c : Dev nD) : (dats m 0 c).arrAt 17 (cfgs 0).N = Read.gradG (ins m c) := by
  refine (dats m 0 c).arrAt_eq_of_after_last 17 t0_7 (by decide +kernel) _ fun j => ?_
  blk_simp
  rw [after0_17, Pipeline.eq_sum_fin_of_reset_step_apply_last (fun n h => (outsAt0 m c n h).2.2.2.2.2.2.2.1) 8 (fun _ => 0)
    (fun t j => ∑ r : Fin 512, ((Read.line (ins m c) (seq t) (pos t r)).cotHid (Read.wts (ins m c)) (j 1)) * (((Read.line (ins m c) (seq t) (pos t r)).mixed (Read.wts (ins m c)) (j 1)) * ((Read.line (ins m c) (seq t) (pos t r)).inv (Read.wts (ins m c)))))
    (fun t h j => by
      rw [outsAt0_A m c t h]; frame_out
      idx_vars j
      obtain rfl : j0 = 0 := Subsingleton.elim _ _
      have h := fun acc => Pay.gradG_at (blk m c t) acc j1
      simp only [line_eq, wts_eq] at h
      dsimp only [blk, Pay.Blk.leftB, Pay.Blk.rightB, Pay.Blk.outB, Pay.Blk.cotGateB, Pay.Blk.errB, Pay.Blk.gateB, Pay.Blk.ppB] at h
      exact (h _).trans (by rw [Pay.zero_g]))
    (fun t h j => by
      rw [outsAt0_B m c t h]; frame_out
      idx_vars j
      obtain rfl : j0 = 0 := Subsingleton.elim _ _
      have h := fun acc => Pay.gradG_at (blk m c t) acc j1
      simp only [line_eq, wts_eq] at h
      dsimp only [blk, Pay.Blk.leftB, Pay.Blk.rightB, Pay.Blk.outB, Pay.Blk.cotGateB, Pay.Blk.errB, Pay.Blk.gateB, Pay.Blk.ppB] at h
      exact h _)
    (le_of_eq N_0) t0_7 rfl j, zero_add]
  idx_vars j
  obtain rfl : j0 = 0 := Subsingleton.elim _ _
  rw [Read.gradG_at]
  refine Fin.sum_points_lanes_congr 4 fun t k ha hl => ?_
  exact (mul_comm (_ : EReal) _).trans rfl

set_option maxHeartbeats 1000000 in
/-- The array of the loss gradient after the last point. -/
theorem final_18 (c : Dev nD) : (dats m 0 c).arrAt 18 (cfgs 0).N = Read.loss (ins m c) := by
  refine (dats m 0 c).arrAt_eq_of_after_last 18 t0_7 (by decide +kernel) _ fun j => ?_
  blk_simp
  rw [after0_18, Pipeline.eq_sum_fin_of_reset_step_apply_last (fun n h => (outsAt0 m c n h).2.2.2.2.2.2.2.2) 8 (fun _ => 0)
    (fun t j => Line.half * ∑ r : Fin 512, (Read.line (ins m c) (seq t) (pos t r)).lossRow (Read.wts (ins m c)))
    (fun t h j => by
      rw [outsAt0_A m c t h]; frame_out
      idx_vars j
      obtain rfl : j0 = 0 := Subsingleton.elim _ _
      obtain rfl : j1 = 0 := Subsingleton.elim _ _
      have h := fun acc => Pay.loss_at (blk m c t) acc
      simp only [line_eq, wts_eq] at h
      dsimp only [blk, Pay.Blk.leftB, Pay.Blk.rightB, Pay.Blk.outB, Pay.Blk.cotGateB, Pay.Blk.errB, Pay.Blk.gateB, Pay.Blk.ppB] at h
      exact (h _).trans (by rw [Pay.zero_loss]))
    (fun t h j => by
      rw [outsAt0_B m c t h]; frame_out
      idx_vars j
      obtain rfl : j0 = 0 := Subsingleton.elim _ _
      obtain rfl : j1 = 0 := Subsingleton.elim _ _
      have h := fun acc => Pay.loss_at (blk m c t) acc
      simp only [line_eq, wts_eq] at h
      dsimp only [blk, Pay.Blk.leftB, Pay.Blk.rightB, Pay.Blk.outB, Pay.Blk.cotGateB, Pay.Blk.errB, Pay.Blk.gateB, Pay.Blk.ppB] at h
      exact h _)
    (le_of_eq N_0) t0_7 rfl j, zero_add]
  idx_vars j
  obtain rfl : j0 = 0 := Subsingleton.elim _ _
  obtain rfl : j1 = 0 := Subsingleton.elim _ _
  rw [Read.loss_at]
  simp only [Line.half_eq]
  refine (Cert.Ext.mul_sum_coe _ (fun t : Fin cfg0.N => ∑ r : Fin 512, (Read.line (ins m c) (seq t) (pos t r)).lossRow (Read.wts (ins m c))) _
    (by norm_num)).trans (congrArg _ ?_)
  exact Fin.sum_points_lanes_congr 4 fun t k ha hl => rfl

/-- Four blocks of 256 rows over anything stored before: the function they are blocks of. -/
theorem canon4 (G : S1024x256.Idx → EReal) (p3 p2 p1 p0 : S256x256.Idx → EReal) (T : List (View.Piece (Elt Ideal) S1024x256 .f32))
    (h0 : ∀ k q : Fin 256, p0 (ix2 k q) = G (ix2 ⟨0 + k.val, by omega⟩ q)) (h1 : ∀ k q : Fin 256, p1 (ix2 k q) = G (ix2 ⟨256 + k.val, by omega⟩ q))
    (h2 : ∀ k q : Fin 256, p2 (ix2 k q) = G (ix2 ⟨512 + k.val, by omega⟩ q)) (h3 : ∀ k q : Fin 256, p3 (ix2 k q) = G (ix2 ⟨768 + k.val, by omega⟩ q))
    (y : S1024x256.Idx) : View.canon (Val := Elt Ideal) (⟨Rect.unit ![768, 0] ![256, 256] inb_S1024x256_S256x256_768_0, p3⟩
      :: ⟨Rect.unit ![512, 0] ![256, 256] inb_S1024x256_S256x256_512_0, p2⟩ :: ⟨Rect.unit ![256, 0] ![256, 256] inb_S1024x256_S256x256_256_0, p1⟩
      :: ⟨Rect.unit ![0, 0] ![256, 256] inb_S1024x256_S256x256_0_0, p0⟩ :: T) y = G y := by
  have e : ∀ (o : ℕ) (ho : o + 256 ≤ 1024) (inb) (x : S256x256.Idx), (Rect.unit (s := S1024x256) ![o, 0] ![256, 256] inb).emb x
      = (ix2 ⟨o + (x 0).val, by have : (x 0).val < 256 := (x 0).isLt; omega⟩ (x 1) : S1024x256.Idx) := by
    intro o ho inb x
    funext a
    refine Fin.ext ?_
    match a with
    | ⟨0, _⟩ => exact Rect.idx_unit_val _ _ inb x 0
    | ⟨1, _⟩ => exact (Rect.idx_unit_val _ _ inb x 1).trans (Nat.zero_add _)
  have hx : ∀ x : S256x256.Idx, x = ix2 (x 0) (x 1) := fun x => by idx_vars x; rfl
  refine View.canon_append_of_piecesOf G T [⟨Rect.unit ![768, 0] ![256, 256] inb_S1024x256_S256x256_768_0, p3⟩,
    ⟨Rect.unit ![512, 0] ![256, 256] inb_S1024x256_S256x256_512_0, p2⟩, ⟨Rect.unit ![256, 0] ![256, 256] inb_S1024x256_S256x256_256_0, p1⟩,
    ⟨Rect.unit ![0, 0] ![256, 256] inb_S1024x256_S256x256_0_0, p0⟩] ⟨fun x => ?_, fun x => ?_, fun x => ?_, fun x => ?_, trivial⟩ y
    (View.cover_of_tiled_head _ _ _ rfl y)
  · exact (congrArg p3 (hx x)).trans ((h3 (x 0) (x 1)).trans (congrArg G (e 768 (by omega) inb_S1024x256_S256x256_768_0 x).symm))
  · exact (congrArg p2 (hx x)).trans ((h2 (x 0) (x 1)).trans (congrArg G (e 512 (by omega) inb_S1024x256_S256x256_512_0 x).symm))
  · exact (congrArg p1 (hx x)).trans ((h1 (x 0) (x 1)).trans (congrArg G (e 256 (by omega) inb_S1024x256_S256x256_256_0 x).symm))
  · exact (congrArg p0 (hx x)).trans ((h0 (x 0) (x 1)).trans (congrArg G (e 0 (by omega) inb_S1024x256_S256x256_0_0 x).symm))

/-- One point's part of the gradient of an embedding weight. -/
def wpTerm (c : Dev nD) (t : Fin cfg0.N) (a : Fin 256) (b : Fin 1024) : EReal :=
  ∑ r : Fin 512, (Read.line (ins m c) (seq t) (pos t r)).p a * ((Read.line (ins m c) (seq t) (pos t r)).cotOut (Read.wts (ins m c)) b
    * (Read.line (ins m c) (seq t) (pos t r)).gate (Read.wts (ins m c)) b)
/-- The same in the four blocks' numbering. -/
def wpPart (c : Dev nD) (t : Fin cfg0.N) (j : S1024x256.Idx) : EReal :=
  wpTerm m c t ⟨(j 0).val % 256, by omega⟩ ⟨(j 0).val / 256 * 256 + (j 1).val, by
    have h0 : (j 0).val < 1024 := (j 0).isLt
    have h1 : (j 1).val < 256 := (j 1).isLt
    omega⟩

theorem wpPart_0 (c : Dev nD) (t : Fin cfg0.N) (k q : Fin 256) :
    wpTerm m c t k ⟨q.val, by omega⟩ = wpPart m c t (ix2 ⟨0 + k.val, by omega⟩ q) :=
  congrArg₂ (wpTerm m c t) (Fin.ext (by show k.val = (0 + k.val) % 256; omega))
    (Fin.ext (by show q.val = (0 + k.val) / 256 * 256 + q.val; omega))
theorem wpPart_1 (c : Dev nD) (t : Fin cfg0.N) (k q : Fin 256) :
    wpTerm m c t k ⟨256 + q.val, by omega⟩ = wpPart m c t (ix2 ⟨256 + k.val, by omega⟩ q) :=
  congrArg₂ (wpTerm m c t) (Fin.ext (by show k.val = (256 + k.val) % 256; omega))
    (Fin.ext (by show 256 + q.val = (256 + k.val) / 256 * 256 + q.val; omega))
theorem wpPart_2 (c : Dev nD) (t : Fin cfg0.N) (k q : Fin 256) :
    wpTerm m c t k ⟨512 + q.val, by omega⟩ = wpPart m c t (ix2 ⟨512 + k.val, by omega⟩ q) :=
  congrArg₂ (wpTerm m c t) (Fin.ext (by show k.val = (512 + k.val) % 256; omega))
    (Fin.ext (by show 512 + q.val = (512 + k.val) / 256 * 256 + q.val; omega))
theorem wpPart_3 (c : Dev nD) (t : Fin cfg0.N) (k q : Fin 256) :
    wpTerm m c t k ⟨768 + q.val, by omega⟩ = wpPart m c t (ix2 ⟨768 + k.val, by omega⟩ q) :=
  congrArg₂ (wpTerm m c t) (Fin.ext (by show k.val = (768 + k.val) % 256; omega))
    (Fin.ext (by show 768 + q.val = (768 + k.val) / 256 * 256 + q.val; omega))

set_option maxHeartbeats 1000000 in
/-- The array of the embedding's weights' gradient after the last point. -/
theorem final_15 (c : Dev nD) : (dats m 0 c).arrAt 15 (cfgs 0).N = Read.gradWp (ins m c) := by
  refine (dats m 0 c).arrAt_eq_of_after_last 15 t0_7 (by decide +kernel) _ fun j => ?_
  blk_simp
  rw [after0_15, Pipeline.eq_sum_fin_of_reset_step_apply_last (fun n h => (outsAt0 m c n h).2.2.2.2.2.1) 8 (fun _ => 0) (wpPart m c)
    (fun t h j => by
      rw [outsAt0_A m c t h]; frame_out
      have h0 := fun acc k q => Pay.gradWp0_at (blk m c t) acc k q
      have h1 := fun acc k q => Pay.gradWp1_at (blk m c t) acc k q
      have h2 := fun acc k q => Pay.gradWp2_at (blk m c t) acc k q
      have h3 := fun acc k q => Pay.gradWp3_at (blk m c t) acc k q
      simp only [line_eq, wts_eq] at h0 h1 h2 h3
      dsimp only [blk, Pay.Blk.leftB, Pay.Blk.rightB, Pay.Blk.outB, Pay.Blk.cotGateB, Pay.Blk.errB, Pay.Blk.gateB, Pay.Blk.ppB] at h0 h1 h2 h3
      exact canon4 (fun j => 0 + wpPart m c t j) _ _ _ _ _
        (fun k q => (h0 _ k q).trans (congrArg₂ (· + ·)
        (by rw [View.readCov_fill _ _ _ _ _ (by decide)]; exact Pay.zero_wp _)
        (wpPart_0 m c t k q)))
        (fun k q => (h1 _ k q).trans (congrArg₂ (· + ·)
        (by rw [View.readCov_skip _ _ _ _ _ (by decide)]; rw [View.readCov_fill _ _ _ _ _ (by decide)]; exact Pay.zero_wp _)
        (wpPart_1 m c t k q)))
        (fun k q => (h2 _ k q).trans (congrArg₂ (· + ·)
        (by rw [View.readCov_skip _ _ _ _ _ (by decide)]; rw [View.readCov_skip _ _ _ _ _ (by decide)]; rw [View.readCov_fill _ _ _ _ _ (by decide)]; exact Pay.zero_wp _)
        (wpPart_2 m c t k q)))
        (fun k q => (h3 _ k q).trans (congrArg₂ (· + ·)
        (by rw [View.readCov_skip _ _ _ _ _ (by decide)]; rw [View.readCov_skip _ _ _ _ _ (by decide)]; rw [View.readCov_skip _ _ _ _ _ (by decide)]; rw [View.readCov_fill _ _ _ _ _ (by decide)]; exact Pay.zero_wp _)
        (wpPart_3 m c t k q))) j)
    (fun t h j => by
      rw [outsAt0_B m c t h]; frame_out
      have h0 := fun acc k q => Pay.gradWp0_at (blk m c t) acc k q
      have h1 := fun acc k q => Pay.gradWp1_at (blk m c t) acc k q
      have h2 := fun acc k q => Pay.gradWp2_at (blk m c t) acc k q
      have h3 := fun acc k q => Pay.gradWp3_at (blk m c t) acc k q
      simp only [line_eq, wts_eq] at h0 h1 h2 h3
      dsimp only [blk, Pay.Blk.leftB, Pay.Blk.rightB, Pay.Blk.outB, Pay.Blk.cotGateB, Pay.Blk.errB, Pay.Blk.gateB, Pay.Blk.ppB] at h0 h1 h2 h3
      exact canon4 (fun j => (outsAt0 m c (t.val - 1) (by omega)).2.2.2.2.2.1 j + wpPart m c t j) _ _ _ _ []
        (fun k q => (h0 _ k q).trans (congrArg₂ (· + ·)
        (View.ld_unit_apply_of _ _ _ _ _ _ (fun a => match a with | ⟨0, _⟩ => rfl | ⟨1, _⟩ => (Nat.zero_add _).symm))
        (wpPart_0 m c t k q)))
        (fun k q => (h1 _ k q).trans (congrArg₂ (· + ·)
        (View.ld_unit_apply_of _ _ _ _ _ _ (fun a => match a with | ⟨0, _⟩ => rfl | ⟨1, _⟩ => (Nat.zero_add _).symm))
        (wpPart_1 m c t k q)))
        (fun k q => (h2 _ k q).trans (congrArg₂ (· + ·)
        (View.ld_unit_apply_of _ _ _ _ _ _ (fun a => match a with | ⟨0, _⟩ => rfl | ⟨1, _⟩ => (Nat.zero_add _).symm))
        (wpPart_2 m c t k q)))
        (fun k q => (h3 _ k q).trans (congrArg₂ (· + ·)
        (View.ld_unit_apply_of _ _ _ _ _ _ (fun a => match a with | ⟨0, _⟩ => rfl | ⟨1, _⟩ => (Nat.zero_add _).symm))
        (wpPart_3 m c t k q))) j)
    (le_of_eq N_0) t0_7 rfl j, zero_add]
  idx_vars j
  rw [Read.gradWp_at]
  refine Fin.sum_points_lanes_congr 4 fun t k ha hl => ?_
  rw [mul_comm (_ * _ : EReal), mul_comm (_ : EReal) (Line.cotOut _ _ _)]
  rfl

set_option maxHeartbeats 1000000 in
/-- The array of the residual stream's gradient after the last point. -/
theorem final_10 (c : Dev nD) : (dats m 0 c).arrAt 10 (cfgs 0).N = Read.gradH (ins m c) := by
  refine (dats m 0 c).arrAt_eq_of_covers 10 _ (by decide +kernel) fun t hf y => ?_
  blk_simp; rw [after0_10]
  idx_vars y
  have hz : (((cfg0.win 10).blk t).view.emb (ix2 y0 y1) : S4096x1024.Idx) = ix2 ⟨t.val * 512 + y0.val, by have := t_lt t; omega⟩ y1 := by
    blk_ext [idx_val t]
  have h' := Pay.gradH_at (blk m c t) y0 y1
  simp only [line_eq, wts_eq] at h'
  dsimp only [blk, Pay.Blk.leftB, Pay.Blk.rightB, Pay.Blk.outB, Pay.Blk.cotGateB, Pay.Blk.errB, Pay.Blk.gateB, Pay.Blk.ppB] at h'
  have hp : (outsAt0 m c t.val t.isLt).1 (ix2 y0 y1) = (Read.line (ins m c) (seq t) (pos t y0)).cotHid (Read.wts (ins m c)) y1 := by
    by_cases h : t.val % 8 = 0
    · rw [outsAt0_A m c t h]; dsimp only; frame_out
      exact h'
    · rw [outsAt0_B m c t h]; dsimp only; frame_out
      exact h'
  rw [hp, hz, Read.gradH_at]
  have e := congrArg (fun q : Fin 2 × Fin 2048 => (Read.line (ins m c) q.1 q.2).cotHid (Read.wts (ins m c)) y1) (row_eq t y0 (by have := t_lt t; omega))
  dsimp only at e
  exact e.symm

set_option maxHeartbeats 1000000 in
/-- The array of the scan's output's gradient after the last point. -/
theorem final_11 (c : Dev nD) : (dats m 0 c).arrAt 11 (cfgs 0).N = Read.gradSo (ins m c) := by
  refine (dats m 0 c).arrAt_eq_of_covers 11 _ (by decide +kernel) fun t hf y => ?_
  blk_simp; rw [after0_11]
  idx_vars y
  have hz : (((cfg0.win 11).blk t).view.emb (ix2 y0 y1) : S4096x512.Idx) = ix2 ⟨t.val * 512 + y0.val, by have := t_lt t; omega⟩ y1 := by
    blk_ext [idx_val t]
  have h' := Pay.gradSo_at (blk m c t) y0 y1
  simp only [line_eq, wts_eq] at h'
  dsimp only [blk, Pay.Blk.leftB, Pay.Blk.rightB, Pay.Blk.outB, Pay.Blk.cotGateB, Pay.Blk.errB, Pay.Blk.gateB, Pay.Blk.ppB] at h'
  have hp : (outsAt0 m c t.val t.isLt).2.1 (ix2 y0 y1) = (Read.line (ins m c) (seq t) (pos t y0)).cotCat (Read.wts (ins m c)) ⟨y1.val, by omega⟩ := by
    by_cases h : t.val % 8 = 0
    · rw [outsAt0_A m c t h]; dsimp only; frame_out
      exact h'
    · rw [outsAt0_B m c t h]; dsimp only; frame_out
      exact h'
  rw [hp, hz, Read.gradSo_at]
  have e := congrArg (fun q : Fin 2 × Fin 2048 => (Read.line (ins m c) q.1 q.2).cotCat (Read.wts (ins m c)) ⟨y1.val, by omega⟩) (row_eq t y0 (by have := t_lt t; omega))
  dsimp only at e
  exact e.symm

set_option maxHeartbeats 1000000 in
/-- The array of the attention's output's gradient after the last point. -/
theorem final_12 (c : Dev nD) : (dats m 0 c).arrAt 12 (cfgs 0).N = Read.gradAo (ins m c) := by
  refine (dats m 0 c).arrAt_eq_of_covers 12 _ (by decide +kernel) fun t hf y => ?_
  blk_simp; rw [after0_12]
  idx_vars y
  have hz : (((cfg0.win 12).blk t).view.emb (ix2 y0 y1) : S4096x512.Idx) = ix2 ⟨t.val * 512 + y0.val, by have := t_lt t; omega⟩ y1 := by
    blk_ext [idx_val t]
  have h' := Pay.gradAo_at (blk m c t) y0 y1
  simp only [line_eq, wts_eq] at h'
  dsimp only [blk, Pay.Blk.leftB, Pay.Blk.rightB, Pay.Blk.outB, Pay.Blk.cotGateB, Pay.Blk.errB, Pay.Blk.gateB, Pay.Blk.ppB] at h'
  have hp : (outsAt0 m c t.val t.isLt).2.2.1 (ix2 y0 y1) = (Read.line (ins m c) (seq t) (pos t y0)).cotCat (Read.wts (ins m c)) ⟨512 + y1.val, by omega⟩ := by
    by_cases h : t.val % 8 = 0
    · rw [outsAt0_A m c t h]; dsimp only; frame_out
      exact h'
    · rw [outsAt0_B m c t h]; dsimp only; frame_out
      exact h'
  rw [hp, hz, Read.gradAo_at]
  have e := congrArg (fun q : Fin 2 × Fin 2048 => (Read.line (ins m c) q.1 q.2).cotCat (Read.wts (ins m c)) ⟨512 + y1.val, by omega⟩) (row_eq t y0 (by have := t_lt t; omega))
  dsimp only at e
  exact e.symm

end Cert.TailIdeal.Value

end
-- ==== Proof.Attn.Frame.lean ====
/- THE ATTENTION'S BACKWARD CALL RUNS. The grid has four points. At the first the call lays down the masked bias, clears the
   two carried gradients, the weights' and the sinks' gradients; at the last it also leaves the weights' gradient rounded to
   bfloat16; in between it only accumulates. This module says what each buffer holds after each point (`Out`, `outs`), and
   concludes that the launch terminates with every argument unchanged (`frame`) and with the outputs as `outs` says (`run_main`).
   Everything here holds at any float instance. -/
module

public import proofs.«01_k».proof.Proof.Gen.AttnIdeal.Frame.RunC
public import Idealize.ShloMosaic.Lib.Claim

@[expose] public section

set_option maxRecDepth 16384

noncomputable section

namespace Cert.AttnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the four outputs' staging buffers and the three scratch buffers hold after a point. -/
structure Out (F : FTy → Type) [FloatOps F] where
  /-- the rows of the projection's gradient -/
  dproj : Vec F S1024x2304 .bf16
  /-- the weights' gradient so far -/
  dw : Vec F S2304x512 .f32
  /-- the weights' gradient rounded -/
  dwb : Vec F S2304x512 .bf16
  /-- the sinks' gradient so far -/
  dsk : Vec F S1x8 .f32
  /-- the masked bias -/
  bias : Vec F S2x2x128x512 .f32
  /-- the keys' gradient handed to the block before -/
  dk : Vec F S2x128x64 .f32
  /-- the values' gradient handed to the block before -/
  dv : Vec F S2x128x64 .f32

/-- The body at the first point, run on that point's staging buffers. -/
def runA (c : Dev nD) (t : Fin cfg0.N) (h0 : t.val % 4 = 0) (h2 : ¬t.val % 4 = 3) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) ((hcond0_0 t).mpr h0) ((hcond0_1 t).mpr h0) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)

/-- The body at a middle point, run on that point's staging buffers over what the point before left. -/
def runB (c : Dev nD) (t : Fin cfg0.N) (h0 : ¬t.val % 4 = 0) (h2 : ¬t.val % 4 = 3) (p : Out F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) (fun h => h0 ((hcond0_0 t).mp h)) (fun h => h0 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) p.dw p.dsk p.bias p.dk p.dv

/-- The body at the last point, run on that point's staging buffers over what the point before left. -/
def runC (c : Dev nD) (t : Fin cfg0.N) (h0 : ¬t.val % 4 = 0) (h2 : t.val % 4 = 3) (p : Out F) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) (fun h => h0 ((hcond0_0 t).mp h)) (fun h => h0 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) p.dw p.dsk p.bias p.dk p.dv

/-- What case A leaves: its stores read back. -/
def outA (c : Dev nD) (t : Fin cfg0.N) (h0 : t.val % 4 = 0) (h2 : ¬t.val % 4 = 3) : Out F where
  dproj := VO0_16.read (Elt F) (VO0_16.writes (Elt F) VO0_16.junk (runA m c t h0 h2).1)
  dw := VO0_17.read (Elt F) (VO0_17.writes (Elt F) VO0_17.junk (runA m c t h0 h2).2.1)
  dwb := VO0_18.read (Elt F) (VO0_18.writes (Elt F) VO0_18.junk (runA m c t h0 h2).2.2.1)
  dsk := VO0_19.read (Elt F) (VO0_19.writes (Elt F) VO0_19.junk (runA m c t h0 h2).2.2.2.1)
  bias := VS0_0.read (Elt F) (VS0_0.writes (Elt F) VS0_0.junk (runA m c t h0 h2).2.2.2.2.1)
  dk := VS0_1.read (Elt F) (VS0_1.writes (Elt F) VS0_1.junk (runA m c t h0 h2).2.2.2.2.2.1)
  dv := VS0_2.read (Elt F) (VS0_2.writes (Elt F) VS0_2.junk (runA m c t h0 h2).2.2.2.2.2.2.1)

/-- What case B leaves: its stores read back. -/
def outB (c : Dev nD) (t : Fin cfg0.N) (h0 : ¬t.val % 4 = 0) (h2 : ¬t.val % 4 = 3) (p : Out F) : Out F where
  dproj := VO0_16.read (Elt F) (VO0_16.writes (Elt F) VO0_16.junk (runB m c t h0 h2 p).1)
  dw := VO0_17.read (Elt F) (VO0_17.writes (Elt F) VO0_17.junk (runB m c t h0 h2 p).2.1)
  dwb := VO0_18.read (Elt F) (VO0_18.writes (Elt F) VO0_18.junk (runB m c t h0 h2 p).2.2.1)
  dsk := VO0_19.read (Elt F) (VO0_19.writes (Elt F) VO0_19.junk (runB m c t h0 h2 p).2.2.2.1)
  bias := p.bias
  dk := VS0_1.read (Elt F) (VS0_1.writes (Elt F) VS0_1.junk (runB m c t h0 h2 p).2.2.2.2.2.1)
  dv := VS0_2.read (Elt F) (VS0_2.writes (Elt F) VS0_2.junk (runB m c t h0 h2 p).2.2.2.2.2.2.1)

/-- What case C leaves: its stores read back. -/
def outC (c : Dev nD) (t : Fin cfg0.N) (h0 : ¬t.val % 4 = 0) (h2 : t.val % 4 = 3) (p : Out F) : Out F where
  dproj := VO0_16.read (Elt F) (VO0_16.writes (Elt F) VO0_16.junk (runC m c t h0 h2 p).1)
  dw := VO0_17.read (Elt F) (VO0_17.writes (Elt F) VO0_17.junk (runC m c t h0 h2 p).2.1)
  dwb := VO0_18.read (Elt F) (VO0_18.writes (Elt F) VO0_18.junk (runC m c t h0 h2 p).2.2.1)
  dsk := VO0_19.read (Elt F) (VO0_19.writes (Elt F) VO0_19.junk (runC m c t h0 h2 p).2.2.2.1)
  bias := p.bias
  dk := VS0_1.read (Elt F) (VS0_1.writes (Elt F) VS0_1.junk (runC m c t h0 h2 p).2.2.2.2.2.1)
  dv := VS0_2.read (Elt F) (VS0_2.writes (Elt F) VS0_2.junk (runC m c t h0 h2 p).2.2.2.2.2.2.1)

theorem coverA_16 (c : Dev nD) (t : Fin cfg0.N) (h0 : t.val % 4 = 0) (h2 : ¬t.val % 4 = 3) :
    ∀ y, ∃ q ∈ (runA m c t h0 h2).1, y ∈ q.1.set := View.cover_of_tiledBy (runA m c t h0 h2).1 ![128, 64] (by sl_kernel_rfl)
theorem coverA_17 (c : Dev nD) (t : Fin cfg0.N) (h0 : t.val % 4 = 0) (h2 : ¬t.val % 4 = 3) :
    ∀ y, ∃ q ∈ (runA m c t h0 h2).2.1, y ∈ q.1.set := View.cover_of_tiledL (runA m c t h0 h2).2.1 S2304x512.size (by sl_kernel_rfl)
theorem coverA_19 (c : Dev nD) (t : Fin cfg0.N) (h0 : t.val % 4 = 0) (h2 : ¬t.val % 4 = 3) :
    ∀ y, ∃ q ∈ (runA m c t h0 h2).2.2.2.1, y ∈ q.1.set := View.cover_of_tiledBy (runA m c t h0 h2).2.2.2.1 ![1, 1] (by sl_kernel_rfl)
theorem coverA_s0 (c : Dev nD) (t : Fin cfg0.N) (h0 : t.val % 4 = 0) (h2 : ¬t.val % 4 = 3) :
    ∀ y, ∃ q ∈ (runA m c t h0 h2).2.2.2.2.1, y ∈ q.1.set := View.cover_of_tiledL (runA m c t h0 h2).2.2.2.2.1 S1x1x128x512.size (by sl_kernel_rfl)
theorem coverA_s1 (c : Dev nD) (t : Fin cfg0.N) (h0 : t.val % 4 = 0) (h2 : ¬t.val % 4 = 3) :
    ∀ y, ∃ q ∈ (runA m c t h0 h2).2.2.2.2.2.1, y ∈ q.1.set := View.cover_of_tiledL (runA m c t h0 h2).2.2.2.2.2.1 S1x128x64.size (by sl_kernel_rfl)
theorem coverA_s2 (c : Dev nD) (t : Fin cfg0.N) (h0 : t.val % 4 = 0) (h2 : ¬t.val % 4 = 3) :
    ∀ y, ∃ q ∈ (runA m c t h0 h2).2.2.2.2.2.2.1, y ∈ q.1.set := View.cover_of_tiledL (runA m c t h0 h2).2.2.2.2.2.2.1 S1x128x64.size (by sl_kernel_rfl)
theorem coverB_16 (c : Dev nD) (t : Fin cfg0.N) (h0 : ¬t.val % 4 = 0) (h2 : ¬t.val % 4 = 3) (p : Out F) :
    ∀ y, ∃ q ∈ (runB m c t h0 h2 p).1, y ∈ q.1.set := View.cover_of_tiledBy (runB m c t h0 h2 p).1 ![128, 64] (by sl_kernel_rfl)
theorem coverB_17 (c : Dev nD) (t : Fin cfg0.N) (h0 : ¬t.val % 4 = 0) (h2 : ¬t.val % 4 = 3) (p : Out F) :
    ∀ y, ∃ q ∈ (runB m c t h0 h2 p).2.1, y ∈ q.1.set := View.cover_of_tiledL (runB m c t h0 h2 p).2.1 S2304x512.size (by sl_kernel_rfl)
theorem coverB_19 (c : Dev nD) (t : Fin cfg0.N) (h0 : ¬t.val % 4 = 0) (h2 : ¬t.val % 4 = 3) (p : Out F) :
    ∀ y, ∃ q ∈ (runB m c t h0 h2 p).2.2.2.1, y ∈ q.1.set := View.cover_of_tiledBy (runB m c t h0 h2 p).2.2.2.1 ![1, 1] (by sl_kernel_rfl)
theorem coverB_s1 (c : Dev nD) (t : Fin cfg0.N) (h0 : ¬t.val % 4 = 0) (h2 : ¬t.val % 4 = 3) (p : Out F) :
    ∀ y, ∃ q ∈ (runB m c t h0 h2 p).2.2.2.2.2.1, y ∈ q.1.set := View.cover_of_tiledL (runB m c t h0 h2 p).2.2.2.2.2.1 S1x128x64.size (by sl_kernel_rfl)
theorem coverB_s2 (c : Dev nD) (t : Fin cfg0.N) (h0 : ¬t.val % 4 = 0) (h2 : ¬t.val % 4 = 3) (p : Out F) :
    ∀ y, ∃ q ∈ (runB m c t h0 h2 p).2.2.2.2.2.2.1, y ∈ q.1.set := View.cover_of_tiledL (runB m c t h0 h2 p).2.2.2.2.2.2.1 S1x128x64.size (by sl_kernel_rfl)
theorem coverC_16 (c : Dev nD) (t : Fin cfg0.N) (h0 : ¬t.val % 4 = 0) (h2 : t.val % 4 = 3) (p : Out F) :
    ∀ y, ∃ q ∈ (runC m c t h0 h2 p).1, y ∈ q.1.set := View.cover_of_tiledBy (runC m c t h0 h2 p).1 ![128, 64] (by sl_kernel_rfl)
theorem coverC_17 (c : Dev nD) (t : Fin cfg0.N) (h0 : ¬t.val % 4 = 0) (h2 : t.val % 4 = 3) (p : Out F) :
    ∀ y, ∃ q ∈ (runC m c t h0 h2 p).2.1, y ∈ q.1.set := View.cover_of_tiledL (runC m c t h0 h2 p).2.1 S2304x512.size (by sl_kernel_rfl)
theorem coverC_18 (c : Dev nD) (t : Fin cfg0.N) (h0 : ¬t.val % 4 = 0) (h2 : t.val % 4 = 3) (p : Out F) :
    ∀ y, ∃ q ∈ (runC m c t h0 h2 p).2.2.1, y ∈ q.1.set := View.cover_of_tiledL (runC m c t h0 h2 p).2.2.1 S2304x512.size (by sl_kernel_rfl)
theorem coverC_19 (c : Dev nD) (t : Fin cfg0.N) (h0 : ¬t.val % 4 = 0) (h2 : t.val % 4 = 3) (p : Out F) :
    ∀ y, ∃ q ∈ (runC m c t h0 h2 p).2.2.2.1, y ∈ q.1.set := View.cover_of_tiledBy (runC m c t h0 h2 p).2.2.2.1 ![1, 1] (by sl_kernel_rfl)
theorem coverC_s1 (c : Dev nD) (t : Fin cfg0.N) (h0 : ¬t.val % 4 = 0) (h2 : t.val % 4 = 3) (p : Out F) :
    ∀ y, ∃ q ∈ (runC m c t h0 h2 p).2.2.2.2.2.1, y ∈ q.1.set := View.cover_of_tiledL (runC m c t h0 h2 p).2.2.2.2.2.1 S1x128x64.size (by sl_kernel_rfl)
theorem coverC_s2 (c : Dev nD) (t : Fin cfg0.N) (h0 : ¬t.val % 4 = 0) (h2 : t.val % 4 = 3) (p : Out F) :
    ∀ y, ∃ q ∈ (runC m c t h0 h2 p).2.2.2.2.2.2.1, y ∈ q.1.set := View.cover_of_tiledL (runC m c t h0 h2 p).2.2.2.2.2.2.1 S1x128x64.size (by sl_kernel_rfl)

/-- What the buffers hold after point `n`, by recursion on the points. -/
def outs (c : Dev nD) : (n : ℕ) → n < cfg0.N → Out F
  | 0, hn => outA m c ⟨0, hn⟩ rfl (show ¬0 % 4 = 3 by decide)
  | n + 1, hn =>
    if h : (n + 1) % 4 = 3 then outC m c ⟨n + 1, hn⟩ (show ¬(n + 1) % 4 = 0 by omega) h (outs c n (Nat.lt_of_succ_lt hn))
    else outB m c ⟨n + 1, hn⟩ (show ¬(n + 1) % 4 = 0 by have : n + 1 < 4 := lt_of_lt_of_eq hn N_0; omega) h (outs c n (Nat.lt_of_succ_lt hn))

/-- What the point before `t` left. -/
def prev (c : Dev nD) (t : Fin cfg0.N) : Out F := outs m c (t.val - 1) (Nat.lt_of_le_of_lt (Nat.sub_le _ _) t.isLt)

theorem outs_A (c : Dev nD) (t : Fin cfg0.N) (h0 : t.val % 4 = 0) (h2 : ¬t.val % 4 = 3) : outs m c t.val t.isLt = outA m c t h0 h2 := by
  obtain ⟨n, hn⟩ := t
  have : n < 4 := lt_of_lt_of_eq hn N_0
  cases n with
  | zero => rw [outs]
  | succ n => exfalso; dsimp only at h0; omega

theorem outs_B (c : Dev nD) (t : Fin cfg0.N) (h0 : ¬t.val % 4 = 0) (h2 : ¬t.val % 4 = 3) :
    outs m c t.val t.isLt = outB m c t h0 h2 (prev m c t) := by
  obtain ⟨n, hn⟩ := t
  cases n with
  | zero => exact absurd (Nat.zero_mod _) h0
  | succ n => dsimp only at h0 h2; rw [outs, dif_neg h2]; rfl

theorem outs_C (c : Dev nD) (t : Fin cfg0.N) (h0 : ¬t.val % 4 = 0) (h2 : t.val % 4 = 3) :
    outs m c t.val t.isLt = outC m c t h0 h2 (prev m c t) := by
  obtain ⟨n, hn⟩ := t
  cases n with
  | zero => exact absurd (Nat.zero_mod _) h0
  | succ n => dsimp only at h0 h2; rw [outs, dif_pos h2]; rfl

/-- The three scratch buffers at given contents, the generator's register at any state. -/
def held (c : Dev nD) (p : Out F) : sProp 𝕄 :=
  iprop(iprop(owns (c : Thread nD τ) scM0_0 fullShare p.bias ∗ owns (c : Thread nD τ) scM0_1 fullShare p.dk ∗ owns (c : Thread nD τ) scM0_2 fullShare p.dv) ∗ (∃ r, prngReg c r))

/-- What is held before position `n`: the scratch at anything at first, afterwards at what the point before left. -/
def between (c : Dev nD) : (n : ℕ) → n ≤ cfg0.N → sProp 𝕄
  | 0, _ => Pipeline.ΦA spec0 c
  | n + 1, hn => held c (outs m c n hn)

theorem between_pos (c : Dev nD) (t : Fin cfg0.N) (hz : t.val ≠ 0) :
    between m c t.val (Nat.le_of_lt t.isLt) = held c (prev m c t) := by
  obtain ⟨n, hn⟩ := t
  cases n with
  | zero => exact absurd rfl hz
  | succ n => rfl

/-- The proof data: each input's buffer keeps its block, the outputs and the scratch are as `outs` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => (outs m c t.val t.isLt).dproj
    | ⟨17, _⟩ => (outs m c t.val t.isLt).dw
    | ⟨18, _⟩ => (outs m c t.val t.isLt).dwb
    | ⟨19, _⟩ => (outs m c t.val t.isLt).dsk
    | ⟨_ + 20, h⟩ => absurd h (Nat.not_lt.2 (Nat.le_add_left _ _))
  Φ t := between m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]

theorem Φ_castSucc (c : Dev nD) (t : Fin cfg0.N) : (dats m 0 c).Φ t.castSucc = between m c t.val (Nat.le_of_lt t.isLt) := by
  dsimp only [dats]; exact Pipeline.Dat.Φ_castSucc (between m c) t

theorem Φ_succ (c : Dev nD) (t : Fin cfg0.N) : (dats m 0 c).Φ t.succ = held c (outs m c t.val t.isLt) := rfl

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = (outs m c t.val t.isLt).dproj := by dsimp only [dats]
theorem after_17 (c : Dev nD) (t : Fin cfg0.N) : (dats m 0 c).after 17 t = (outs m c t.val t.isLt).dw := by dsimp only [dats]
theorem after_18 (c : Dev nD) (t : Fin cfg0.N) : (dats m 0 c).after 18 t = (outs m c t.val t.isLt).dwb := by dsimp only [dats]
theorem after_19 (c : Dev nD) (t : Fin cfg0.N) : (dats m 0 c).after 19 t = (outs m c t.val t.isLt).dsk := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d
theorem before_8 (c : Dev nD) (t : Fin cfg0.N) (d) : (dats m 0 c).before 8 t d = iblk m c 8 t := before0_8_of m (dats m 0 c) (A_eq m c 8) (after_8 m c) t d
theorem before_9 (c : Dev nD) (t : Fin cfg0.N) (d) : (dats m 0 c).before 9 t d = iblk m c 9 t := before0_9_of m (dats m 0 c) (A_eq m c 9) (after_9 m c) t d
theorem before_10 (c : Dev nD) (t : Fin cfg0.N) (d) : (dats m 0 c).before 10 t d = iblk m c 10 t := before0_10_of m (dats m 0 c) (A_eq m c 10) (after_10 m c) t d
theorem before_11 (c : Dev nD) (t : Fin cfg0.N) (d) : (dats m 0 c).before 11 t d = iblk m c 11 t := before0_11_of m (dats m 0 c) (A_eq m c 11) (after_11 m c) t d
theorem before_12 (c : Dev nD) (t : Fin cfg0.N) (d) : (dats m 0 c).before 12 t d = iblk m c 12 t := before0_12_of m (dats m 0 c) (A_eq m c 12) (after_12 m c) t d
theorem before_13 (c : Dev nD) (t : Fin cfg0.N) (d) : (dats m 0 c).before 13 t d = iblk m c 13 t := before0_13_of m (dats m 0 c) (A_eq m c 13) (after_13 m c) t d
theorem before_14 (c : Dev nD) (t : Fin cfg0.N) (d) : (dats m 0 c).before 14 t d = iblk m c 14 t := before0_14_of m (dats m 0 c) (A_eq m c 14) (after_14 m c) t d
theorem before_15 (c : Dev nD) (t : Fin cfg0.N) (d) : (dats m 0 c).before 15 t d = iblk m c 15 t := before0_15_of m (dats m 0 c) (A_eq m c 15) (after_15 m c) t d

/-- After the first point the weights' gradient's buffer still holds what the point before left. -/
theorem before_17 (c : Dev nD) (t : Fin cfg0.N) (h0 : ¬t.val % 4 = 0) (d) : (dats m 0 c).before 17 t d = (prev m c t).dw := by
  have hN : t.val < 4 := lt_of_lt_of_eq t.isLt (show cfg0.N = 4 from N_0)
  rw [Dat.before_out_kept _ 17 rfl t (by omega) (Bool.eq_false_iff.mpr fun h => by have := (flush0_17 _).mp h; dsimp only at this; omega)
    (fun _ => rfl) (fun _ _ => rfl)]
  dsimp only [dats, prev]

/-- After the first point the sinks' gradient's buffer still holds what the point before left. -/
theorem before_19 (c : Dev nD) (t : Fin cfg0.N) (h0 : ¬t.val % 4 = 0) (d) : (dats m 0 c).before 19 t d = (prev m c t).dsk := by
  have hN : t.val < 4 := lt_of_lt_of_eq t.isLt (show cfg0.N = 4 from N_0)
  rw [Dat.before_out_kept _ 19 rfl t (by omega) (Bool.eq_false_iff.mpr fun h => by have := (flush0_19 _).mp h; dsimp only at this; omega)
    (fun _ => rfl) (fun _ _ => rfl)]
  dsimp only [dats, prev]

/-- A window that is live at a point is left at what the proof data says. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t ∗ (dats m 0 c).leavesExact 14 t ∗ (dats m 0 c).leavesExact 15 t ∗ (dats m 0 c).leavesExact 16 t ∗ (dats m 0 c).leavesExact 17 t ∗ (dats m 0 c).leavesExact 18 t ∗ (dats m 0 c).leavesExact 19 t)

set_option maxHeartbeats 24000000 in
/-- The body at a point of case A. -/
theorem sound_A (c : Dev nD) (t : Fin cfg0.N) (h0 : t.val % 4 = 0) (h2 : ¬t.val % 4 = 3) :
    bodyPre m c t ⊢ wp frame (wpE (defs₀ (F := F)) Variants.none c none) Set.univ (bodyAt0 t) (fun _ => bodyPost m c t) := by
  have hN : t.val < 4 := lt_of_lt_of_eq t.isLt (show cfg0.N = 4 from N_0)
  unfold bodyPre bodyPost bodyAt0
  simp only [before_0, before_1, before_2, before_3, before_4, before_5, before_6, before_7, before_8, before_9, before_10, before_11, before_12, before_13, before_14, before_15]
  rw [show (dats m 0 c).owesAt () t.succ = (dats m 0 c).owesAt () t.castSucc from rfl, Φ_succ, Φ_castSucc]
  rw [show (dats m 0 c).leavesExact 0 t = owns (c : Thread nD τ) (ms0_0 t) fullShare ((dats m 0 c).after 0 t) from leaves_live m c 0 t (liveAt0_0 t), after_0, show (dats m 0 c).leavesExact 1 t = owns (c : Thread nD τ) (ms0_1 t) fullShare ((dats m 0 c).after 1 t) from leaves_live m c 1 t (liveAt0_1 t), after_1, show (dats m 0 c).leavesExact 2 t = owns (c : Thread nD τ) (ms0_2 t) fullShare ((dats m 0 c).after 2 t) from leaves_live m c 2 t (liveAt0_2 t), after_2, show (dats m 0 c).leavesExact 3 t = owns (c : Thread nD τ) (ms0_3 t) fullShare ((dats m 0 c).after 3 t) from leaves_live m c 3 t (liveAt0_3 t), after_3, show (dats m 0 c).leavesExact 4 t = owns (c : Thread nD τ) (ms0_4 t) fullShare ((dats m 0 c).after 4 t) from leaves_live m c 4 t (liveAt0_4 t), after_4, show (dats m 0 c).leavesExact 5 t = owns (c : Thread nD τ) (ms0_5 t) fullShare ((dats m 0 c).after 5 t) from leaves_live m c 5 t (liveAt0_5 t), after_5, show (dats m 0 c).leavesExact 6 t = owns (c : Thread nD τ) (ms0_6 t) fullShare ((dats m 0 c).after 6 t) from leaves_live m c 6 t (liveAt0_6 t), after_6, show (dats m 0 c).leavesExact 7 t = owns (c : Thread nD τ) (ms0_7 t) fullShare ((dats m 0 c).after 7 t) from leaves_live m c 7 t (liveAt0_7 t), after_7, show (dats m 0 c).leavesExact 8 t = owns (c : Thread nD τ) (ms0_8 t) fullShare ((dats m 0 c).after 8 t) from leaves_live m c 8 t (liveAt0_8 t), after_8, show (dats m 0 c).leavesExact 9 t = owns (c : Thread nD τ) (ms0_9 t) fullShare ((dats m 0 c).after 9 t) from leaves_live m c 9 t (liveAt0_9 t), after_9, show (dats m 0 c).leavesExact 10 t = owns (c : Thread nD τ) (ms0_10 t) fullShare ((dats m 0 c).after 10 t) from leaves_live m c 10 t (liveAt0_10 t), after_10, show (dats m 0 c).leavesExact 11 t = owns (c : Thread nD τ) (ms0_11 t) fullShare ((dats m 0 c).after 11 t) from leaves_live m c 11 t (liveAt0_11 t), after_11, show (dats m 0 c).leavesExact 12 t = owns (c : Thread nD τ) (ms0_12 t) fullShare ((dats m 0 c).after 12 t) from leaves_live m c 12 t (liveAt0_12 t), after_12, show (dats m 0 c).leavesExact 13 t = owns (c : Thread nD τ) (ms0_13 t) fullShare ((dats m 0 c).after 13 t) from leaves_live m c 13 t (liveAt0_13 t), after_13, show (dats m 0 c).leavesExact 14 t = owns (c : Thread nD τ) (ms0_14 t) fullShare ((dats m 0 c).after 14 t) from leaves_live m c 14 t (liveAt0_14 t), after_14, show (dats m 0 c).leavesExact 15 t = owns (c : Thread nD τ) (ms0_15 t) fullShare ((dats m 0 c).after 15 t) from leaves_live m c 15 t (liveAt0_15 t), after_15, show (dats m 0 c).leavesExact 16 t = owns (c : Thread nD τ) (ms0_16 t) fullShare ((dats m 0 c).after 16 t) from leaves_live m c 16 t (liveAt0_16 t), after_16, show (dats m 0 c).leavesExact 17 t = owns (c : Thread nD τ) (ms0_17 t) fullShare ((dats m 0 c).after 17 t) from leaves_live m c 17 t (liveAt0_17 t), after_17, show (dats m 0 c).leavesExact 19 t = owns (c : Thread nD τ) (ms0_19 t) fullShare ((dats m 0 c).after 19 t) from leaves_live m c 19 t (liveAt0_19 t), after_19]
  rw [Dat.leavesExact_idle (dats m 0 c) 18 t (idleAt0_18_A t ((hcond0_0 t).mpr h0) ((hcond0_1 t).mpr h0) (fun h => h2 ((hcond0_2 t).mp h))) (noFlush0_18_A t ((hcond0_0 t).mpr h0) ((hcond0_1 t).mpr h0) (fun h => h2 ((hcond0_2 t).mp h)))]
  rw [outs_A m c t h0 h2]
  rw [show between m c t.val (Nat.le_of_lt t.isLt) = Pipeline.ΦA spec0 c by obtain ⟨n, hn⟩ := t; have hz : n = 0 := (by dsimp only at h0 hN; omega); subst hz; rfl, PhiA0_eq]
  unfold held outA; dsimp only
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply ((runA m c t h0 h2).2.2.2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexact H18
  isplitl [H19]; · iexists _; iexact H19
  isplitl [HS0]; · iexact HS0
  isplitl [HS1]; · iexact HS1
  isplitl [HS2]; · iexact HS2
  iintro ⟨H0, H1, H2, H3, H4, H5, H6, H7, H8, H9, H10, H11, H12, H13, H14, H15, ⟨%e16, H16⟩, ⟨%e17, H17⟩, H18, ⟨%e19, H19⟩, ⟨%es0, HS0⟩, ⟨%es1, HS1⟩, ⟨%es2, HS2⟩⟩
  isplitl [HS0 HS1 HS2 Hg]
  · isplitl [HS0 HS1 HS2]
    · isplitl [HS0]
      · unfold owns; iexists _; isplitr
        swap; · iexact HS0
        ipureintro; exact View.read_writes_of_cover _ _ _ _ _ (coverA_s0 m c t h0 h2)
      isplitl [HS1]
      · unfold owns; iexists _; isplitr
        swap; · iexact HS1
        ipureintro; exact View.read_writes_of_cover _ _ _ _ _ (coverA_s1 m c t h0 h2)
      · unfold owns; iexists _; isplitr
        swap; · iexact HS2
        ipureintro; exact View.read_writes_of_cover _ _ _ _ _ (coverA_s2 m c t h0 h2)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · unfold owns; iexists _; isplitr
    swap; · iexact H16
    ipureintro; exact View.read_writes_of_cover _ _ _ _ _ (coverA_16 m c t h0 h2)
  isplitl [H17]
  · unfold owns; iexists _; isplitr
    swap; · iexact H17
    ipureintro; exact View.read_writes_of_cover _ _ _ _ _ (coverA_17 m c t h0 h2)
  isplitl [H18]
  · iexists _; iexact H18
  · unfold owns; iexists _; isplitr
    swap; · iexact H19
    ipureintro; exact View.read_writes_of_cover _ _ _ _ _ (coverA_19 m c t h0 h2)

set_option maxHeartbeats 24000000 in
/-- The body at a point of case B. -/
theorem sound_B (c : Dev nD) (t : Fin cfg0.N) (h0 : ¬t.val % 4 = 0) (h2 : ¬t.val % 4 = 3) :
    bodyPre m c t ⊢ wp frame (wpE (defs₀ (F := F)) Variants.none c none) Set.univ (bodyAt0 t) (fun _ => bodyPost m c t) := by
  have hN : t.val < 4 := lt_of_lt_of_eq t.isLt (show cfg0.N = 4 from N_0)
  unfold bodyPre bodyPost bodyAt0
  simp only [before_0, before_1, before_2, before_3, before_4, before_5, before_6, before_7, before_8, before_9, before_10, before_11, before_12, before_13, before_14, before_15]
  rw [show (dats m 0 c).owesAt () t.succ = (dats m 0 c).owesAt () t.castSucc from rfl, Φ_succ, Φ_castSucc]
  rw [show (dats m 0 c).leavesExact 0 t = owns (c : Thread nD τ) (ms0_0 t) fullShare ((dats m 0 c).after 0 t) from leaves_live m c 0 t (liveAt0_0 t), after_0, show (dats m 0 c).leavesExact 1 t = owns (c : Thread nD τ) (ms0_1 t) fullShare ((dats m 0 c).after 1 t) from leaves_live m c 1 t (liveAt0_1 t), after_1, show (dats m 0 c).leavesExact 2 t = owns (c : Thread nD τ) (ms0_2 t) fullShare ((dats m 0 c).after 2 t) from leaves_live m c 2 t (liveAt0_2 t), after_2, show (dats m 0 c).leavesExact 3 t = owns (c : Thread nD τ) (ms0_3 t) fullShare ((dats m 0 c).after 3 t) from leaves_live m c 3 t (liveAt0_3 t), after_3, show (dats m 0 c).leavesExact 4 t = owns (c : Thread nD τ) (ms0_4 t) fullShare ((dats m 0 c).after 4 t) from leaves_live m c 4 t (liveAt0_4 t), after_4, show (dats m 0 c).leavesExact 5 t = owns (c : Thread nD τ) (ms0_5 t) fullShare ((dats m 0 c).after 5 t) from leaves_live m c 5 t (liveAt0_5 t), after_5, show (dats m 0 c).leavesExact 6 t = owns (c : Thread nD τ) (ms0_6 t) fullShare ((dats m 0 c).after 6 t) from leaves_live m c 6 t (liveAt0_6 t), after_6, show (dats m 0 c).leavesExact 7 t = owns (c : Thread nD τ) (ms0_7 t) fullShare ((dats m 0 c).after 7 t) from leaves_live m c 7 t (liveAt0_7 t), after_7, show (dats m 0 c).leavesExact 8 t = owns (c : Thread nD τ) (ms0_8 t) fullShare ((dats m 0 c).after 8 t) from leaves_live m c 8 t (liveAt0_8 t), after_8, show (dats m 0 c).leavesExact 9 t = owns (c : Thread nD τ) (ms0_9 t) fullShare ((dats m 0 c).after 9 t) from leaves_live m c 9 t (liveAt0_9 t), after_9, show (dats m 0 c).leavesExact 10 t = owns (c : Thread nD τ) (ms0_10 t) fullShare ((dats m 0 c).after 10 t) from leaves_live m c 10 t (liveAt0_10 t), after_10, show (dats m 0 c).leavesExact 11 t = owns (c : Thread nD τ) (ms0_11 t) fullShare ((dats m 0 c).after 11 t) from leaves_live m c 11 t (liveAt0_11 t), after_11, show (dats m 0 c).leavesExact 12 t = owns (c : Thread nD τ) (ms0_12 t) fullShare ((dats m 0 c).after 12 t) from leaves_live m c 12 t (liveAt0_12 t), after_12, show (dats m 0 c).leavesExact 13 t = owns (c : Thread nD τ) (ms0_13 t) fullShare ((dats m 0 c).after 13 t) from leaves_live m c 13 t (liveAt0_13 t), after_13, show (dats m 0 c).leavesExact 14 t = owns (c : Thread nD τ) (ms0_14 t) fullShare ((dats m 0 c).after 14 t) from leaves_live m c 14 t (liveAt0_14 t), after_14, show (dats m 0 c).leavesExact 15 t = owns (c : Thread nD τ) (ms0_15 t) fullShare ((dats m 0 c).after 15 t) from leaves_live m c 15 t (liveAt0_15 t), after_15, show (dats m 0 c).leavesExact 16 t = owns (c : Thread nD τ) (ms0_16 t) fullShare ((dats m 0 c).after 16 t) from leaves_live m c 16 t (liveAt0_16 t), after_16, show (dats m 0 c).leavesExact 17 t = owns (c : Thread nD τ) (ms0_17 t) fullShare ((dats m 0 c).after 17 t) from leaves_live m c 17 t (liveAt0_17 t), after_17, show (dats m 0 c).leavesExact 19 t = owns (c : Thread nD τ) (ms0_19 t) fullShare ((dats m 0 c).after 19 t) from leaves_live m c 19 t (liveAt0_19 t), after_19]
  rw [Dat.leavesExact_idle (dats m 0 c) 18 t (idleAt0_18_B t (fun h => h0 ((hcond0_0 t).mp h)) (fun h => h0 ((hcond0_1 t).mp h)) (fun h => h2 ((hcond0_2 t).mp h))) (noFlush0_18_B t (fun h => h0 ((hcond0_0 t).mp h)) (fun h => h0 ((hcond0_1 t).mp h)) (fun h => h2 ((hcond0_2 t).mp h)))]
  rw [outs_B m c t h0 h2, between_pos m c t (by omega)]
  simp only [before_17 m c t h0, before_19 m c t h0]
  generalize prev m c t = p
  unfold held outB; dsimp only
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply ((runB m c t h0 h2 p).2.2.2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexact H17
  isplitl [H18]; · iexact H18
  isplitl [H19]; · iexact H19
  isplitl [HS0]; · iexact HS0
  isplitl [HS1]; · iexact HS1
  isplitl [HS2]; · iexact HS2
  iintro ⟨H0, H1, H2, H3, H4, H5, H6, H7, H8, H9, H10, H11, H12, H13, H14, H15, ⟨%e16, H16⟩, ⟨%e17, H17⟩, H18, ⟨%e19, H19⟩, HS0, ⟨%es1, HS1⟩, ⟨%es2, HS2⟩⟩
  isplitl [HS0 HS1 HS2 Hg]
  · isplitl [HS0 HS1 HS2]
    · isplitl [HS0]
      · iexact HS0
      isplitl [HS1]
      · unfold owns; iexists _; isplitr
        swap; · iexact HS1
        ipureintro; exact View.read_writes_of_cover _ _ _ _ _ (coverB_s1 m c t h0 h2 p)
      · unfold owns; iexists _; isplitr
        swap; · iexact HS2
        ipureintro; exact View.read_writes_of_cover _ _ _ _ _ (coverB_s2 m c t h0 h2 p)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · unfold owns; iexists _; isplitr
    swap; · iexact H16
    ipureintro; exact View.read_writes_of_cover _ _ _ _ _ (coverB_16 m c t h0 h2 p)
  isplitl [H17]
  · unfold owns; iexists _; isplitr
    swap; · iexact H17
    ipureintro; exact View.read_writes_of_cover _ _ _ _ _ (coverB_17 m c t h0 h2 p)
  isplitl [H18]
  · iexists _; iexact H18
  · unfold owns; iexists _; isplitr
    swap; · iexact H19
    ipureintro; exact View.read_writes_of_cover _ _ _ _ _ (coverB_19 m c t h0 h2 p)

set_option maxHeartbeats 24000000 in
/-- The body at a point of case C. -/
theorem sound_C (c : Dev nD) (t : Fin cfg0.N) (h0 : ¬t.val % 4 = 0) (h2 : t.val % 4 = 3) :
    bodyPre m c t ⊢ wp frame (wpE (defs₀ (F := F)) Variants.none c none) Set.univ (bodyAt0 t) (fun _ => bodyPost m c t) := by
  have hN : t.val < 4 := lt_of_lt_of_eq t.isLt (show cfg0.N = 4 from N_0)
  unfold bodyPre bodyPost bodyAt0
  simp only [before_0, before_1, before_2, before_3, before_4, before_5, before_6, before_7, before_8, before_9, before_10, before_11, before_12, before_13, before_14, before_15]
  rw [show (dats m 0 c).owesAt () t.succ = (dats m 0 c).owesAt () t.castSucc from rfl, Φ_succ, Φ_castSucc]
  rw [show (dats m 0 c).leavesExact 0 t = owns (c : Thread nD τ) (ms0_0 t) fullShare ((dats m 0 c).after 0 t) from leaves_live m c 0 t (liveAt0_0 t), after_0, show (dats m 0 c).leavesExact 1 t = owns (c : Thread nD τ) (ms0_1 t) fullShare ((dats m 0 c).after 1 t) from leaves_live m c 1 t (liveAt0_1 t), after_1, show (dats m 0 c).leavesExact 2 t = owns (c : Thread nD τ) (ms0_2 t) fullShare ((dats m 0 c).after 2 t) from leaves_live m c 2 t (liveAt0_2 t), after_2, show (dats m 0 c).leavesExact 3 t = owns (c : Thread nD τ) (ms0_3 t) fullShare ((dats m 0 c).after 3 t) from leaves_live m c 3 t (liveAt0_3 t), after_3, show (dats m 0 c).leavesExact 4 t = owns (c : Thread nD τ) (ms0_4 t) fullShare ((dats m 0 c).after 4 t) from leaves_live m c 4 t (liveAt0_4 t), after_4, show (dats m 0 c).leavesExact 5 t = owns (c : Thread nD τ) (ms0_5 t) fullShare ((dats m 0 c).after 5 t) from leaves_live m c 5 t (liveAt0_5 t), after_5, show (dats m 0 c).leavesExact 6 t = owns (c : Thread nD τ) (ms0_6 t) fullShare ((dats m 0 c).after 6 t) from leaves_live m c 6 t (liveAt0_6 t), after_6, show (dats m 0 c).leavesExact 7 t = owns (c : Thread nD τ) (ms0_7 t) fullShare ((dats m 0 c).after 7 t) from leaves_live m c 7 t (liveAt0_7 t), after_7, show (dats m 0 c).leavesExact 8 t = owns (c : Thread nD τ) (ms0_8 t) fullShare ((dats m 0 c).after 8 t) from leaves_live m c 8 t (liveAt0_8 t), after_8, show (dats m 0 c).leavesExact 9 t = owns (c : Thread nD τ) (ms0_9 t) fullShare ((dats m 0 c).after 9 t) from leaves_live m c 9 t (liveAt0_9 t), after_9, show (dats m 0 c).leavesExact 10 t = owns (c : Thread nD τ) (ms0_10 t) fullShare ((dats m 0 c).after 10 t) from leaves_live m c 10 t (liveAt0_10 t), after_10, show (dats m 0 c).leavesExact 11 t = owns (c : Thread nD τ) (ms0_11 t) fullShare ((dats m 0 c).after 11 t) from leaves_live m c 11 t (liveAt0_11 t), after_11, show (dats m 0 c).leavesExact 12 t = owns (c : Thread nD τ) (ms0_12 t) fullShare ((dats m 0 c).after 12 t) from leaves_live m c 12 t (liveAt0_12 t), after_12, show (dats m 0 c).leavesExact 13 t = owns (c : Thread nD τ) (ms0_13 t) fullShare ((dats m 0 c).after 13 t) from leaves_live m c 13 t (liveAt0_13 t), after_13, show (dats m 0 c).leavesExact 14 t = owns (c : Thread nD τ) (ms0_14 t) fullShare ((dats m 0 c).after 14 t) from leaves_live m c 14 t (liveAt0_14 t), after_14, show (dats m 0 c).leavesExact 15 t = owns (c : Thread nD τ) (ms0_15 t) fullShare ((dats m 0 c).after 15 t) from leaves_live m c 15 t (liveAt0_15 t), after_15, show (dats m 0 c).leavesExact 16 t = owns (c : Thread nD τ) (ms0_16 t) fullShare ((dats m 0 c).after 16 t) from leaves_live m c 16 t (liveAt0_16 t), after_16, show (dats m 0 c).leavesExact 17 t = owns (c : Thread nD τ) (ms0_17 t) fullShare ((dats m 0 c).after 17 t) from leaves_live m c 17 t (liveAt0_17 t), after_17, show (dats m 0 c).leavesExact 19 t = owns (c : Thread nD τ) (ms0_19 t) fullShare ((dats m 0 c).after 19 t) from leaves_live m c 19 t (liveAt0_19 t), after_19]
  rw [show (dats m 0 c).leavesExact 18 t = owns (c : Thread nD τ) (ms0_18 t) fullShare ((dats m 0 c).after 18 t) from leaves_live m c 18 t (liveAt0_18_C t (fun h => h0 ((hcond0_0 t).mp h)) (fun h => h0 ((hcond0_1 t).mp h)) ((hcond0_2 t).mpr h2)), after_18]
  rw [outs_C m c t h0 h2, between_pos m c t (by omega)]
  simp only [before_17 m c t h0, before_19 m c t h0]
  generalize prev m c t = p
  unfold held outC; dsimp only
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply ((runC m c t h0 h2 p).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexact H17
  isplitl [H18]; · iexists _; iexact H18
  isplitl [H19]; · iexact H19
  isplitl [HS0]; · iexact HS0
  isplitl [HS1]; · iexact HS1
  isplitl [HS2]; · iexact HS2
  iintro ⟨H0, H1, H2, H3, H4, H5, H6, H7, H8, H9, H10, H11, H12, H13, H14, H15, ⟨%e16, H16⟩, ⟨%e17, H17⟩, ⟨%e18, H18⟩, ⟨%e19, H19⟩, HS0, ⟨%es1, HS1⟩, ⟨%es2, HS2⟩⟩
  isplitl [HS0 HS1 HS2 Hg]
  · isplitl [HS0 HS1 HS2]
    · isplitl [HS0]
      · iexact HS0
      isplitl [HS1]
      · unfold owns; iexists _; isplitr
        swap; · iexact HS1
        ipureintro; exact View.read_writes_of_cover _ _ _ _ _ (coverC_s1 m c t h0 h2 p)
      · unfold owns; iexists _; isplitr
        swap; · iexact HS2
        ipureintro; exact View.read_writes_of_cover _ _ _ _ _ (coverC_s2 m c t h0 h2 p)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · unfold owns; iexists _; isplitr
    swap; · iexact H16
    ipureintro; exact View.read_writes_of_cover _ _ _ _ _ (coverC_16 m c t h0 h2 p)
  isplitl [H17]
  · unfold owns; iexists _; isplitr
    swap; · iexact H17
    ipureintro; exact View.read_writes_of_cover _ _ _ _ _ (coverC_17 m c t h0 h2 p)
  isplitl [H18]
  · unfold owns; iexists _; isplitr
    swap; · iexact H18
    ipureintro; exact View.read_writes_of_cover _ _ _ _ _ (coverC_18 m c t h0 h2 p)
  · unfold owns; iexists _; isplitr
    swap; · iexact H19
    ipureintro; exact View.read_writes_of_cover _ _ _ _ _ (coverC_19 m c t h0 h2 p)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · exact sound_A m c t h0 (by omega)
  · by_cases h2 : t.val % 4 = 3
    · exact sound_C m c t h0 h2
    · exact sound_B m c t h0 h2

theorem body_row (t : Fin cfg0.N) : defs₀ (F := F) .tc cfg0.body (cfg0.bodyArgs t (cfg0.slots t)) = bodyAt0 t := by
  unfold defs₀; rw [Defs.onTc_tc]

set_option maxHeartbeats 4000000 in
theorem obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem enter (c : Dev nD) : Pipeline.ΦA spec0 c ⊢ (dats m 0 c).Φ 0 := by
  rw [show (dats m 0 c).Φ 0 = Pipeline.ΦA spec0 c from rfl]

/-- After the last point the scratch's contents are forgotten. -/
theorem leave (c : Dev nD) : (dats m 0 c).Φ (Fin.last cfg0.N) ⊢ Pipeline.ΦA spec0 c := by
  have e : (dats m 0 c).Φ (Fin.last cfg0.N) = held c (outs m c 3 (by decide +kernel)) := rfl
  rw [e, PhiA0_eq]
  generalize outs m c 3 _ = p
  unfold held
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

set_option backward.isDefEq.respectTransparency.types false in
/-- The launch: the arrays end as the proof data says, every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (run_quiescent m ρ)

/-- The frame: the launch terminates, every argument unchanged, every semaphore at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_quiescent m ρ))

end Cert.AttnIdeal.Hand

end
-- ==== Proof.Attn.Row.lean ====
/- One row of scores with a sink: its softmax and the softmax's derivative, over the real numbers. A score may be −∞. -/
module

public import Idealize.ShloMosaic.Lib.Pointwise
public import Idealize.ShloMosaic.Lib.IdealHost

@[expose] public section

noncomputable section

open Idealize.ShloMosaic

namespace Cert.Attn.Row

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

variable {n : ℕ} (x : Fin n → EReal) (c : ℝ)

/-- The largest score, the sink's among them. -/
def top : EReal := max (Finset.univ.fold max ⊥ x) (c : EReal)
def M : ℝ := (top x c).toReal
def E (s : Fin n) : ℝ := (Ideal.exp (x s - (M x c : EReal))).toReal
def Es : ℝ := Real.exp (c - M x c)
def Den : ℝ := (∑ s, E x c s) + Es x c
/-- A score's probability, and the sink's. -/
def P (s : Fin n) : ℝ := E x c s / Den x c
def Ps : ℝ := Es x c / Den x c
/-- The logarithm of the row's sum. -/
def lse : ℝ := M x c + Real.log (Den x c)

variable (hx : ∀ s, x s ≠ ⊤)
include hx

theorem top_eq : top x c = (M x c : EReal) := by
  refine (EReal.coe_toReal ?_ ?_).symm
  · refine (max_lt ?_ (EReal.coe_lt_top c)).ne
    exact Finset.fold_max_lt _ |>.2 ⟨bot_lt_top, fun s _ => lt_top_iff_ne_top.2 (hx s)⟩
  · exact (lt_of_lt_of_le (EReal.bot_lt_coe c) (le_max_right _ _)).ne'

omit hx in
theorem exp_cases (y : EReal) (hy : y ≠ ⊤) (r : ℝ) : (y = ⊥ ∧ Ideal.exp (y - (r : EReal)) = ((0 : ℝ) : EReal)) ∨ ∃ a : ℝ, y = (a : EReal) ∧ Ideal.exp (y - (r : EReal)) = ((Real.exp (a - r) : ℝ) : EReal) := by
  induction y using EReal.rec with
  | bot => left; exact ⟨rfl, by rw [EReal.bot_sub, Ideal.exp_bot]; rfl⟩
  | top => exact absurd rfl hy
  | coe a => right; exact ⟨a, rfl, by rw [← EReal.coe_sub, Ideal.exp_coe]⟩

theorem E_eq (s : Fin n) : Ideal.exp (x s - (M x c : EReal)) = (E x c s : EReal) := by
  rcases exp_cases (x s) (hx s) (M x c) with ⟨_, h⟩ | ⟨a, _, h⟩ <;> rw [E, h] <;> rfl

theorem E_nonneg (s : Fin n) : 0 ≤ E x c s := by
  rcases exp_cases (x s) (hx s) (M x c) with ⟨_, h⟩ | ⟨a, _, h⟩ <;> rw [E, h, EReal.toReal_coe]
  positivity

omit hx in
theorem E_bot (s : Fin n) (h : x s = ⊥) : E x c s = 0 := by rw [E, h, EReal.bot_sub, Ideal.exp_bot, EReal.toReal_zero]

omit hx in
theorem P_bot (s : Fin n) (h : x s = ⊥) : P x c s = 0 := by rw [P, E_bot x c s h, zero_div]

omit hx in
theorem Es_eq : Ideal.exp ((c : EReal) - (M x c : EReal)) = (Es x c : EReal) := by rw [← EReal.coe_sub, Ideal.exp_coe, Es]

theorem Den_pos : 0 < Den x c := add_pos_of_nonneg_of_pos (Finset.sum_nonneg fun s _ => E_nonneg x c hx s) (Real.exp_pos _)

theorem lse_eq : (M x c : EReal) + Ideal.log (Den x c : EReal) = (lse x c : EReal) := by
  rw [Ideal.log_coe, if_neg (not_le.2 (Den_pos x c hx)), ← EReal.coe_add, lse]

theorem exp_lse (y : EReal) (hy : y ≠ ⊤) : Ideal.exp (y - (lse x c : EReal)) = (((Ideal.exp (y - (M x c : EReal))).toReal / Den x c : ℝ) : EReal) := by
  rcases exp_cases y hy (lse x c) with ⟨h, e⟩ | ⟨a, h, e⟩
  · subst h; rw [e, EReal.bot_sub, Ideal.exp_bot, EReal.toReal_zero, zero_div]
  · subst h; rw [e, ← EReal.coe_sub, Ideal.exp_coe, EReal.toReal_coe, lse, ← sub_sub, Real.exp_sub (a - _), Real.exp_log (Den_pos x c hx)]

theorem P_eq (s : Fin n) : Ideal.exp (x s - (lse x c : EReal)) = (P x c s : EReal) := exp_lse x c hx (x s) (hx s)

theorem Ps_eq : Ideal.exp ((c : EReal) - (lse x c : EReal)) = (Ps x c : EReal) := by
  rw [exp_lse x c hx _ (EReal.coe_ne_top c), Es_eq]; rfl

theorem sum_P : (∑ s, P x c s) + Ps x c = 1 := by
  have := (Den_pos x c hx).ne'
  simp only [P, Ps, ← Finset.sum_div]
  rw [← add_div]
  exact div_self this

theorem div_Den (y : ℝ) : Ideal.div (y : EReal) (Den x c : EReal) = ((y / Den x c : ℝ) : EReal) := by
  rw [Ideal.div_coe (Den_pos x c hx).ne', ← EReal.coe_mul, mul_one_div]

variable (dp : Fin n → ℝ)

/-- The sum of probability times gradient. -/
def Delta : ℝ := ∑ s, P x c s * dp s
/-- The gradient of a score. -/
def dS (s : Fin n) : ℝ := P x c s * (dp s - Delta x c dp)

/-- The gradient that reaches the row's sum. -/
theorem dDen_eq : -(0 + ∑ s, ((dp s : EReal) * Ideal.div 1 ((Den x c : EReal) * (Den x c : EReal))) * (E x c s : EReal)) = ((-(Delta x c dp / Den x c) : ℝ) : EReal) := by
  have hd := (Den_pos x c hx).ne'
  have h1 : Ideal.div 1 ((Den x c : EReal) * (Den x c : EReal)) = ((1 / (Den x c * Den x c) : ℝ) : EReal) := by
    rw [← EReal.coe_mul, Ideal.div_coe (mul_ne_zero hd hd), one_mul]
  simp only [h1]
  simp only [← EReal.coe_mul]
  rw [coe_sum, zero_add, ← EReal.coe_neg]
  congr 2
  rw [Delta, Finset.sum_div]
  refine Finset.sum_congr rfl fun s _ => ?_
  rw [P]; field_simp

/-- The gradient of the sink's exponential. -/
theorem dEs_eq : ((-(Delta x c dp / Den x c) : ℝ) : EReal) * (Es x c : EReal) = ((-(Ps x c * Delta x c dp) : ℝ) : EReal) := by
  rw [← EReal.coe_mul]; congr 1; rw [Ps]; ring

/-- The gradient of a score's difference from the largest. -/
theorem dx_eq (s : Fin n) : (Ideal.div (dp s : EReal) (Den x c : EReal) + (0 + ((-(Delta x c dp / Den x c) : ℝ) : EReal))) * (E x c s : EReal) = (dS x c dp s : EReal) := by
  rw [div_Den x c hx, zero_add, ← EReal.coe_add, ← EReal.coe_mul]
  congr 1; rw [dS, P]; ring

/-- Nothing reaches the largest score by itself. -/
theorem dM_eq : -((-(Ps x c * Delta x c dp) : ℝ) : EReal) + (0 + ∑ s, -(dS x c dp s : EReal)) = 0 := by
  have h := sum_P x c hx
  simp only [← EReal.coe_neg]
  rw [coe_sum, zero_add, ← EReal.coe_add]
  have : -(-(Ps x c * Delta x c dp)) + ∑ s, -dS x c dp s = 0 := by
    have e : ∑ s, dS x c dp s = Delta x c dp - (∑ s, P x c s) * Delta x c dp := by
      simp only [dS, mul_sub, Finset.sum_sub_distrib, Finset.sum_mul]; rfl
    rw [Finset.sum_neg_distrib, e]
    have : ∑ s, P x c s = 1 - Ps x c := by linarith
    rw [this]; ring
  rw [this]; rfl

omit hx in
/-- A tie's share of nothing is nothing. -/
theorem tie_eq (u : Fin n → EReal) (hu : ∀ s, u s = 0 ∨ u s = 1) (w : EReal) (s : Fin n) :
    Ideal.div (0 + 0 * w) (0 + ∑ s, u s) * u s = 0 := by
  rcases hu s with h | h
  · rw [h, mul_zero]
  · have h1 : (1 : EReal) ≤ ∑ s, u s := by
      rw [← h]
      exact Finset.single_le_sum (f := u) (fun i _ => by rcases hu i with h | h <;> rw [h]; exact zero_le_one) (Finset.mem_univ s)
    rw [zero_mul, zero_add, zero_add, Ideal.div, if_neg (fun e => by rw [e] at h1; exact absurd h1 (by norm_num)), zero_mul, zero_mul]

end Cert.Attn.Row

end
-- ==== Proof.Attn.Block.lean ====
/- ONE GRID POINT OF THE ATTENTION'S BACKWARD CALL, written once. The body repeats the same gradient of a block of 128 queries
   for 8 blocks, last to first, and two key heads; here it is one definition in the head `j` and the block `t`, over what the body
   loads (`Ld`). `pieces` are the stores into the projection's gradient, `sinkPieces` those into the sinks' gradient. That the
   printed body is this is in the module after it. -/
module

public import proofs.«01_k».proof.Proof.Attn.Frame

@[expose] public section

noncomputable section

namespace Cert.AttnIdeal.Spec

open Idealize.ShloMosaic Cert.AttnIdeal Cert.AttnIdeal.Gen

variable {F : FTy → Type} [FloatOps F]

/-- What one grid point loads. -/
structure Ld (F : FTy → Type) [FloatOps F] where
  /-- the place along the row of blocks, counted from its end -/
  step : BitVec 32
  /-- the point's first block of queries -/
  first : BitVec 32
  /-- the queries of block `t`, all heads -/
  q : Fin 8 → Vec F S128x512 .bf16
  /-- the keys of block `t`, head `j` -/
  kc : Fin 2 → Fin 8 → Vec F S128x64 .bf16
  /-- the keys of the block before the first -/
  kp : Fin 2 → Vec F S128x64 .bf16
  /-- the values of block `t`, head `j` -/
  vc : Fin 2 → Fin 8 → Vec F S128x64 .bf16
  /-- the values of the block before the first -/
  vp : Fin 2 → Vec F S128x64 .bf16
  /-- the gate's argument -/
  za : Vec F S1024x512 .f32
  /-- the attention's output -/
  o : Vec F S1024x512 .f32
  /-- the cotangent of the gated output -/
  d : Vec F S1024x512 .f32
  /-- the rows' log-sums of block `t`, one row per head -/
  lse : Fin 8 → Vec F S8x128 .f32
  /-- the sink of head `j`, `g` -/
  sk : Fin 2 → Fin 4 → Vec F S1x1 .f32
  /-- the masked bias of head `j`, against its own block and the block before -/
  bias : Fin 2 → Fin 2 → Vec F S1x1x128x512 .f32
  /-- the keys' gradient carried from the point before -/
  dk : Fin 2 → Vec F S1x128x64 .f32
  /-- the values' gradient carried from the point before -/
  dv : Fin 2 → Vec F S1x128x64 .f32

/-- Four heads' columns stacked as rows. -/
def heads {e : FTy} (x : FVec F S128x512 e) : Fin 2 → FVec F S512x64 e
  | ⟨0, _⟩ => concatenate S512x64 0 [⟨S128x64, extractStridedSlice S128x64 ![0, 0] x slices_S128x512_o0_0_S128x64⟩, ⟨S128x64, extractStridedSlice S128x64 ![0, 64] x slices_S128x512_o0_64_S128x64⟩, ⟨S128x64, extractStridedSlice S128x64 ![0, 128] x slices_S128x512_o0_128_S128x64⟩, ⟨S128x64, extractStridedSlice S128x64 ![0, 192] x slices_S128x512_o0_192_S128x64⟩] concatenates_S128x64_S128x64_S128x64_S128x64_S512x64_d0
  | ⟨_ + 1, _⟩ => concatenate S512x64 0 [⟨S128x64, extractStridedSlice S128x64 ![0, 256] x slices_S128x512_o0_256_S128x64⟩, ⟨S128x64, extractStridedSlice S128x64 ![0, 320] x slices_S128x512_o0_320_S128x64⟩, ⟨S128x64, extractStridedSlice S128x64 ![0, 384] x slices_S128x512_o0_384_S128x64⟩, ⟨S128x64, extractStridedSlice S128x64 ![0, 448] x slices_S128x512_o0_448_S128x64⟩] concatenates_S128x64_S128x64_S128x64_S128x64_S512x64_d0

/-- Four heads' rows side by side. -/
def rows (x : FVec F S8x128 .f32) : Fin 2 → FVec F S1x512 .f32
  | ⟨0, _⟩ => concatenate S1x512 1 [⟨S1x128, extractStridedSlice S1x128 ![0, 0] x slices_S8x128_o0_0_S1x128⟩, ⟨S1x128, extractStridedSlice S1x128 ![1, 0] x slices_S8x128_o1_0_S1x128⟩, ⟨S1x128, extractStridedSlice S1x128 ![2, 0] x slices_S8x128_o2_0_S1x128⟩, ⟨S1x128, extractStridedSlice S1x128 ![3, 0] x slices_S8x128_o3_0_S1x128⟩] concatenates_S1x128_S1x128_S1x128_S1x128_S1x512_d1
  | ⟨_ + 1, _⟩ => concatenate S1x512 1 [⟨S1x128, extractStridedSlice S1x128 ![4, 0] x slices_S8x128_o4_0_S1x128⟩, ⟨S1x128, extractStridedSlice S1x128 ![5, 0] x slices_S8x128_o5_0_S1x128⟩, ⟨S1x128, extractStridedSlice S1x128 ![6, 0] x slices_S8x128_o6_0_S1x128⟩, ⟨S1x128, extractStridedSlice S1x128 ![7, 0] x slices_S8x128_o7_0_S1x128⟩] concatenates_S1x128_S1x128_S1x128_S1x128_S1x512_d1

/-- The cotangent's block of 128 rows. -/
def rowsOf (x : FVec F S1024x512 .f32) : Fin 8 → FVec F S128x512 .f32
  | ⟨0, _⟩ => extractStridedSlice S128x512 ![0, 0] x slices_S1024x512_o0_0_S128x512
  | ⟨1, _⟩ => extractStridedSlice S128x512 ![128, 0] x slices_S1024x512_o128_0_S128x512
  | ⟨2, _⟩ => extractStridedSlice S128x512 ![256, 0] x slices_S1024x512_o256_0_S128x512
  | ⟨3, _⟩ => extractStridedSlice S128x512 ![384, 0] x slices_S1024x512_o384_0_S128x512
  | ⟨4, _⟩ => extractStridedSlice S128x512 ![512, 0] x slices_S1024x512_o512_0_S128x512
  | ⟨5, _⟩ => extractStridedSlice S128x512 ![640, 0] x slices_S1024x512_o640_0_S128x512
  | ⟨6, _⟩ => extractStridedSlice S128x512 ![768, 0] x slices_S1024x512_o768_0_S128x512
  | ⟨_ + 7, _⟩ => extractStridedSlice S128x512 ![896, 0] x slices_S1024x512_o896_0_S128x512

/-- The exponentials of a block's scores. -/
def probs (k : FVec F S128x64 .bf16) (q : FVec F S512x64 .bf16) (b : FVec F S128x512 .f32) (l : FVec F S1x512 .f32) : FVec F S128x512 .f32 :=
  exp (subf (addf (matmul dot_S128x64_S512x64_S128x512_1_1_0_0_n_n none k q (constant S128x512 .f32 0x00000000#32)) b)
    (broadcastTo S128x512 l broadcasts_S1x512_S128x512))

/-- Products of every key row with every query row. -/
def outer (k : FVec F S128x64 .bf16) (q : FVec F S512x64 .bf16) : FVec F S128x512 .f32 :=
  matmul dot_S128x64_S512x64_S128x512_1_1_0_0_n_n none k q (constant S128x512 .f32 0x00000000#32)

/-- A matrix over keys and queries applied to the queries' rows. -/
def ontoKeys (p : FVec F S128x512 .bf16) (q : FVec F S512x64 .bf16) : FVec F S128x64 .f32 :=
  matmul dot_S128x512_S512x64_S128x64_1_0_0_1_n_n none p q (constant S128x64 .f32 0x00000000#32)

/-- A matrix over keys and queries applied to the keys' rows. -/
def ontoQueries (p : FVec F S128x512 .bf16) (k : FVec F S128x64 .bf16) : FVec F S512x64 .f32 :=
  matmul dot_S128x512_S128x64_S512x64_0_0_1_1_n_n none p k (constant S512x64 .f32 0x00000000#32)

/-- Each query's sum of probability times its gradient. -/
def rowSum (pc pp dpc dpp : FVec F S128x512 .f32) : FVec F S1x512 .f32 :=
  shapeCast S1x512 (multiReduction .add [0] S512 (addf (mulf pc dpc) (mulf pp dpp)) 0x00000000#32 reduces_S128x512_S512 (.inl rfl) rfl) shapeCasts_S512_S1x512

/-- The gradient of the scores. -/
def dscore (p dp : FVec F S128x512 .f32) (delta : FVec F S1x512 .f32) : FVec F S128x512 .bf16 :=
  truncf .bf16 (mulf p (subf dp (broadcastTo S128x512 delta broadcasts_S1x512_S128x512))) bitsLt_bf16_f32

namespace Ld

variable (L : Ld F)

/-- The cotangent of the attention's output, through the gate. -/
def dO : FVec F S1024x512 .f32 :=
  mulf (shapeCast S1024x512 L.d shapeCasts_S1024x512_S1024x512)
    (mulf (shapeCast S1024x512 L.za shapeCasts_S1024x512_S1024x512) (logistic (shapeCast S1024x512 L.za shapeCasts_S1024x512_S1024x512)))

/-- The gate's gradient. -/
def dza : FVec F S1024x512 .bf16 := k0_pay24 L.o L.za L.d

def q4 (j : Fin 2) (t : Fin 8) : FVec F S512x64 .bf16 := heads (shapeCast S128x512 (L.q t) shapeCasts_S128x512_S128x512) j
def do4 (j : Fin 2) (t : Fin 8) : FVec F S512x64 .bf16 := truncf .bf16 (heads (rowsOf L.dO t) j) bitsLt_bf16_f32
def lse4 (j : Fin 2) (t : Fin 8) : FVec F S1x512 .f32 := rows (shapeCast S8x128 (L.lse t) shapeCasts_S8x128_S8x128) j
def kcur (j : Fin 2) (t : Fin 8) : FVec F S128x64 .bf16 := shapeCast S128x64 (L.kc j t) shapeCasts_S128x64_S128x64
def vcur (j : Fin 2) (t : Fin 8) : FVec F S128x64 .bf16 := shapeCast S128x64 (L.vc j t) shapeCasts_S128x64_S128x64
def bcur (j : Fin 2) : FVec F S128x512 .f32 := shapeCast S128x512 (L.bias j 0) shapeCasts_S1x1x128x512_S128x512
def bprev (j : Fin 2) : FVec F S128x512 .f32 := shapeCast S128x512 (L.bias j 1) shapeCasts_S1x1x128x512_S128x512

/-- The keys before block `t`. -/
def kbef (j : Fin 2) : Fin 8 → FVec F S128x64 .bf16
  | ⟨0, _⟩ => shapeCast S128x64 (L.kp j) shapeCasts_S128x64_S128x64
  | ⟨n + 1, h⟩ => shapeCast S128x64 (L.kc j ⟨n, Nat.lt_of_succ_lt h⟩) shapeCasts_S128x64_S128x64
/-- The values before block `t`. -/
def vbef (j : Fin 2) : Fin 8 → FVec F S128x64 .bf16
  | ⟨0, _⟩ => shapeCast S128x64 (L.vp j) shapeCasts_S128x64_S128x64
  | ⟨n + 1, h⟩ => shapeCast S128x64 (L.vc j ⟨n, Nat.lt_of_succ_lt h⟩) shapeCasts_S128x64_S128x64
/-- The bias against the block before: all −∞ where there is none. -/
def bbef (j : Fin 2) : Fin 8 → FVec F S128x512 .f32
  | ⟨0, _⟩ => Scalar.select (Scalar.cmpi .sgt L.first 0#32) (L.bprev j) (broadcast S128x512 (Scalar.ofBits .f32 0xFF800000#32))
  | ⟨_ + 1, _⟩ => L.bprev j

def pc (j : Fin 2) (t : Fin 8) := probs (L.kcur j t) (L.q4 j t) (L.bcur j) (L.lse4 j t)
def pp (j : Fin 2) (t : Fin 8) := probs (L.kbef j t) (L.q4 j t) (L.bbef j t) (L.lse4 j t)
def dpc (j : Fin 2) (t : Fin 8) := outer (L.vcur j t) (L.do4 j t)
def dpp (j : Fin 2) (t : Fin 8) := outer (L.vbef j t) (L.do4 j t)
def delta (j : Fin 2) (t : Fin 8) := rowSum (L.pc j t) (L.pp j t) (L.dpc j t) (L.dpp j t)
def dsc (j : Fin 2) (t : Fin 8) := dscore (L.pc j t) (L.dpc j t) (L.delta j t)
def dsp (j : Fin 2) (t : Fin 8) := dscore (L.pp j t) (L.dpp j t) (L.delta j t)

/-- The queries' gradient of block `t`. -/
def dq4 (j : Fin 2) (t : Fin 8) : FVec F S512x64 .bf16 :=
  truncf .bf16 (mulf (addf (ontoQueries (L.dsc j t) (L.kcur j t)) (ontoQueries (L.dsp j t) (L.kbef j t)))
    (broadcast S512x64 (Scalar.ofBits .f32 0x3E000000#32))) bitsLt_bf16_f32

/-- What block `t` hands the block before it. -/
def dkOut (j : Fin 2) (t : Fin 8) : FVec F S128x64 .f32 := ontoKeys (L.dsp j t) (L.q4 j t)
def dvOut (j : Fin 2) (t : Fin 8) : FVec F S128x64 .f32 := ontoKeys (truncf .bf16 (L.pp j t) bitsLt_bf16_f32) (L.do4 j t)

/-- What block `t` is handed: by the block after it, or by the point before where that is not the row's first. -/
def dkIn (j : Fin 2) (t : Fin 8) : FVec F S128x64 .f32 :=
  if h : t.val + 1 < 8 then L.dkOut j ⟨t.val + 1, h⟩
  else Scalar.select (Scalar.cmpi .sgt L.step 0#32) (shapeCast S128x64 (L.dk j) shapeCasts_S1x128x64_S128x64) (broadcast S128x64 (Scalar.ofBits .f32 0x00000000#32))
def dvIn (j : Fin 2) (t : Fin 8) : FVec F S128x64 .f32 :=
  if h : t.val + 1 < 8 then L.dvOut j ⟨t.val + 1, h⟩
  else Scalar.select (Scalar.cmpi .sgt L.step 0#32) (shapeCast S128x64 (L.dv j) shapeCasts_S1x128x64_S128x64) (broadcast S128x64 (Scalar.ofBits .f32 0x00000000#32))

def dkB (j : Fin 2) (t : Fin 8) : FVec F S128x64 .bf16 := truncf .bf16 (addf (ontoKeys (L.dsc j t) (L.q4 j t)) (L.dkIn j t)) bitsLt_bf16_f32
def dvB (j : Fin 2) (t : Fin 8) : FVec F S128x64 .bf16 :=
  truncf .bf16 (addf (ontoKeys (truncf .bf16 (L.pc j t) bitsLt_bf16_f32) (L.do4 j t)) (L.dvIn j t)) bitsLt_bf16_f32

/-- The sinks of the four heads, each over its 128 columns. -/
def sink (j : Fin 2) : FVec F S1x512 .f32 :=
  concatenate S1x512 1 [⟨S1x128, broadcastTo S1x128 (shapeCast S1x1 (L.sk j 0) shapeCasts_S1x1_S1x1) broadcasts_S1x1_S1x128⟩, ⟨S1x128, broadcastTo S1x128 (shapeCast S1x1 (L.sk j 1) shapeCasts_S1x1_S1x1) broadcasts_S1x1_S1x128⟩, ⟨S1x128, broadcastTo S1x128 (shapeCast S1x1 (L.sk j 2) shapeCasts_S1x1_S1x1) broadcasts_S1x1_S1x128⟩, ⟨S1x128, broadcastTo S1x128 (shapeCast S1x1 (L.sk j 3) shapeCasts_S1x1_S1x1) broadcasts_S1x1_S1x128⟩] concatenates_S1x128_S1x128_S1x128_S1x128_S1x512_d1

/-- The sinks' loss after the last `n` blocks. -/
def loss (j : Fin 2) : (n : ℕ) → n ≤ 8 → FVec F S1x512 .f32
  | 0, _ => broadcast S1x512 (Scalar.ofBits .f32 0x00000000#32)
  | n + 1, h => addf (loss j n (Nat.le_of_succ_le h)) (mulf (exp (subf (L.sink j) (L.lse4 j ⟨7 - n, by omega⟩))) (L.delta j ⟨7 - n, by omega⟩))

/-- The loss of one head summed over its columns. -/
def lossSum (j : Fin 2) : Fin 4 → FVec F S1x1 .f32
  | ⟨0, _⟩ => shapeCast S1x1 (multiReduction .add [1] S1 (extractStridedSlice S1x128 ![0, 0] (L.loss j 8 (le_refl 8)) slices_S1x512_o0_0_S1x128) 0x00000000#32 reduces_S1x128_S1 (.inl rfl) rfl) shapeCasts_S1_S1x1
  | ⟨1, _⟩ => shapeCast S1x1 (multiReduction .add [1] S1 (extractStridedSlice S1x128 ![0, 128] (L.loss j 8 (le_refl 8)) slices_S1x512_o0_128_S1x128) 0x00000000#32 reduces_S1x128_S1 (.inl rfl) rfl) shapeCasts_S1_S1x1
  | ⟨2, _⟩ => shapeCast S1x1 (multiReduction .add [1] S1 (extractStridedSlice S1x128 ![0, 256] (L.loss j 8 (le_refl 8)) slices_S1x512_o0_256_S1x128) 0x00000000#32 reduces_S1x128_S1 (.inl rfl) rfl) shapeCasts_S1_S1x1
  | ⟨_ + 3, _⟩ => shapeCast S1x1 (multiReduction .add [1] S1 (extractStridedSlice S1x128 ![0, 384] (L.loss j 8 (le_refl 8)) slices_S1x512_o0_384_S1x128) 0x00000000#32 reduces_S1x128_S1 (.inl rfl) rfl) shapeCasts_S1_S1x1

/-- The rows of the queries' gradient that belong to one head. -/
def dqHead (j : Fin 2) (t : Fin 8) : Fin 4 → FVec F S128x64 .bf16
  | ⟨0, _⟩ => extractStridedSlice S128x64 ![0, 0] (L.dq4 j t) slices_S512x64_o0_0_S128x64
  | ⟨1, _⟩ => extractStridedSlice S128x64 ![128, 0] (L.dq4 j t) slices_S512x64_o128_0_S128x64
  | ⟨2, _⟩ => extractStridedSlice S128x64 ![256, 0] (L.dq4 j t) slices_S512x64_o256_0_S128x64
  | ⟨_ + 3, _⟩ => extractStridedSlice S128x64 ![384, 0] (L.dq4 j t) slices_S512x64_o384_0_S128x64

end Ld

theorem inb_tile (t : Fin 8) (k : Fin 12) : ∀ a, (![128 * t.val, 1024 + 64 * k.val] : Fin 2 → ℕ) a + S128x64.size a ≤ S1024x2304.size a := by
  intro a; fin_cases a
  · show 128 * t.val + 128 ≤ 1024; omega
  · show 1024 + 64 * k.val + 64 ≤ 2304; omega

/-- A store of 128 rows by 64 columns: block `t`, the `k`-th group of 64 columns after the first 1024. -/
def tile (t : Fin 8) (k : Fin 12) (x : FVec F S128x64 .bf16) : View.Piece (Elt F) S1024x2304 .bf16 :=
  ⟨Rect.unit ![128 * t.val, 1024 + 64 * k.val] S128x64.size (inb_tile t k), shapeCast S128x64 x shapeCasts_S128x64_S128x64⟩

/-- What head `j` stores for block `t`, last first. -/
def tiles (L : Ld F) (j : Fin 2) (t : Fin 8) : List (View.Piece (Elt F) S1024x2304 .bf16) :=
  [tile t ⟨10 + j.val, by omega⟩ (L.dvB j t), tile t ⟨8 + j.val, by omega⟩ (L.dkB j t), tile t ⟨4 * j.val + 3, by omega⟩ (L.dqHead j t 3),
   tile t ⟨4 * j.val + 2, by omega⟩ (L.dqHead j t 2), tile t ⟨4 * j.val + 1, by omega⟩ (L.dqHead j t 1), tile t ⟨4 * j.val, by omega⟩ (L.dqHead j t 0)]

/-- All heads' and blocks' stores, last first, over what was stored before. -/
def allTiles (L : Ld F) (R : List (View.Piece (Elt F) S1024x2304 .bf16)) : List (View.Piece (Elt F) S1024x2304 .bf16) :=
  let row := fun j R => tiles L j 0 ++ (tiles L j 1 ++ (tiles L j 2 ++ (tiles L j 3 ++ (tiles L j 4 ++ (tiles L j 5 ++ (tiles L j 6 ++ (tiles L j 7 ++ R)))))))
  row 1 (row 0 R)

/-- The stores into the rows of the projection's gradient, last first. -/
def pieces (L : Ld F) (du dzs : Vec F S1024x512 .bf16) : List (View.Piece (Elt F) S1024x2304 .bf16) :=
  ⟨Rect.unit ![0, 512] S1024x512.size inb_S1024x2304_S1024x512_0_512, k0_pay470 dzs⟩ ::
  ⟨Rect.unit ![0, 0] S1024x512.size inb_S1024x2304_S1024x512_0_0, k0_pay469 du⟩ ::
  allTiles L [⟨Rect.unit ![0, 1792] S1024x512.size inb_S1024x2304_S1024x512_0_1792, L.dza⟩]

theorem inb_sk (h : Fin 8) : ∀ a, (![0, h.val] : Fin 2 → ℕ) a + S1x1.size a ≤ S1x8.size a := by
  intro a; fin_cases a
  · show 0 + 1 ≤ 1; omega
  · show h.val + 1 ≤ 8; omega

/-- The store of one sink's gradient: what was there less the loss. -/
def sinkPiece (L : Ld F) (prev : Fin 8 → Vec F S1x1 .f32) (h : Fin 8) : View.Piece (Elt F) S1x8 .f32 :=
  ⟨Rect.unit ![0, h.val] S1x1.size (inb_sk h),
    shapeCast S1x1 (subf (prev h) (L.lossSum ⟨h.val / 4, by omega⟩ ⟨h.val % 4, by omega⟩)) shapeCasts_S1x1_S1x1⟩

/-- The stores into the first `n` sinks, last first, over what was stored before. -/
def sinkPieces (L : Ld F) (prev : Fin 8 → Vec F S1x1 .f32) (R : List (View.Piece (Elt F) S1x8 .f32)) : (n : ℕ) → n ≤ 8 → List (View.Piece (Elt F) S1x8 .f32)
  | 0, _ => R
  | n + 1, h => sinkPiece L prev ⟨n, h⟩ :: sinkPieces L prev R n (Nat.le_of_succ_le h)

theorem inb_carry (j : Fin 2) : ∀ a, (![j.val, 0, 0] : Fin 3 → ℕ) a + S1x128x64.size a ≤ S2x128x64.size a := by
  intro a; fin_cases a
  · show j.val + 1 ≤ 2; omega
  · show 0 + 128 ≤ 128; omega
  · show 0 + 64 ≤ 64; omega

/-- The store of a carried gradient. -/
def carryPiece (x : FVec F S128x64 .f32) (j : Fin 2) : View.Piece (Elt F) S2x128x64 .f32 :=
  ⟨Rect.unit ![j.val, 0, 0] S1x128x64.size (inb_carry j), shapeCast S1x128x64 x shapeCasts_S128x64_S1x128x64⟩

/-- The rows of one quarter, four parts side by side. -/
def quarter (x : Fin 4 → Vec F S256x128 .f32) : FVec F S256x512 .f32 :=
  concatenate S256x512 1 [⟨S256x128, shapeCast S256x128 (x 0) shapeCasts_S256x128_S256x128⟩, ⟨S256x128, shapeCast S256x128 (x 1) shapeCasts_S256x128_S256x128⟩, ⟨S256x128, shapeCast S256x128 (x 2) shapeCasts_S256x128_S256x128⟩, ⟨S256x128, shapeCast S256x128 (x 3) shapeCasts_S256x128_S256x128⟩] concatenates_S256x128_S256x128_S256x128_S256x128_S256x512_d1

/-- The scan's cotangent, its strided rows put in order: quarter `r`, part `k`. -/
def du (x : Fin 4 → Fin 4 → Vec F S256x128 .f32) : FVec F S1024x512 .bf16 :=
  truncf .bf16 (concatenate S1024x512 0 [⟨S256x512, quarter (x 0)⟩, ⟨S256x512, quarter (x 1)⟩, ⟨S256x512, quarter (x 2)⟩, ⟨S256x512, quarter (x 3)⟩] concatenates_S256x512_S256x512_S256x512_S256x512_S1024x512_d0) bitsLt_bf16_f32

end Cert.AttnIdeal.Spec

end
-- ==== Proof.Attn.Pay.lean ====
/- What one grid point of the attention's backward call computes, at an index, over the extended reals. -/
module

public import proofs.«01_k».proof.Proof.Attn.Block
public import Idealize.ShloMosaic.Lib.Pointwise

@[expose] public section

set_option maxRecDepth 16384

noncomputable section

namespace Cert.AttnIdeal.Spec

open Idealize.ShloMosaic Idealize.ShloMosaic.TcCoe Idealize.SL.Sem Cert.AttnIdeal Cert.AttnIdeal.Gen

/-- Column `r` of four heads' side by side queries: its query. -/
def qOf (r : Fin 512) : Fin 128 := ⟨r.val % 128, Nat.mod_lt _ (by decide)⟩
/-- The column of a head's feature: head `4j + r / 128`, feature `d`. -/
def colOf (j : Fin 2) (r : Fin 512) (d : Fin 64) : Fin 512 := ⟨256 * j.val + 64 * (r.val / 128) + d.val, by omega⟩
/-- The head's row of log-sums. -/
def headOf (j : Fin 2) (r : Fin 512) : Fin 8 := ⟨4 * j.val + r.val / 128, by omega⟩
/-- Row `q` of block `t`. -/
def rowOf (t : Fin 8) (q : Fin 128) : Fin 1024 := ⟨128 * t.val + q.val, by omega⟩

theorem heads_at {e : FTy} (x : FVec Ideal S128x512 e) (j : Fin 2) (r : Fin 512) (d : Fin 64) :
    heads x j (ix2 r d) = x (ix2 (qOf r) (colOf j r d)) := by
  fin_cases j
  · pointwise [heads]
    split_ifs <;> congr 2 <;> (apply Fin.ext; first | (simp [qOf, colOf, headOf]; done) | (simp [qOf, colOf, headOf]; omega))
  · pointwise [heads]
    split_ifs <;> congr 2 <;> (apply Fin.ext; first | (simp [qOf, colOf, headOf]; done) | (simp [qOf, colOf, headOf]; omega))

theorem rows_at (x : FVec Ideal S8x128 .f32) (j : Fin 2) (r : Fin 512) : rows x j (ix2 0 r) = x (ix2 (headOf j r) (qOf r)) := by
  fin_cases j
  · pointwise [rows]
    split_ifs <;> congr 2 <;> (apply Fin.ext; first | (simp [qOf, colOf, headOf]; done) | (simp [qOf, colOf, headOf]; omega))
  · pointwise [rows]
    split_ifs <;> congr 2 <;> (apply Fin.ext; first | (simp [qOf, colOf, headOf]; done) | (simp [qOf, colOf, headOf]; omega))

theorem rowsOf_at (x : FVec Ideal S1024x512 .f32) (t : Fin 8) (q : Fin 128) (k : Fin 512) : rowsOf x t (ix2 q k) = x (ix2 (rowOf t q) k) := by
  fin_cases t <;> · pointwise [rowsOf, rowOf]

theorem probs_at (k : FVec Ideal S128x64 .bf16) (q : FVec Ideal S512x64 .bf16) (b : FVec Ideal S128x512 .f32) (l : FVec Ideal S1x512 .f32) (s : Fin 128) (r : Fin 512) :
    probs k q b l (ix2 s r) = Ideal.exp ((∑ d : Fin 64, k (ix2 s d) * q (ix2 r d)) + b (ix2 s r) - l (ix2 0 r)) := by
  pointwise [probs]

theorem outer_at (k : FVec Ideal S128x64 .bf16) (q : FVec Ideal S512x64 .bf16) (s : Fin 128) (r : Fin 512) :
    outer k q (ix2 s r) = ∑ d : Fin 64, k (ix2 s d) * q (ix2 r d) := by
  pointwise [outer]

theorem ontoKeys_at (p : FVec Ideal S128x512 .bf16) (q : FVec Ideal S512x64 .bf16) (s : Fin 128) (d : Fin 64) :
    ontoKeys p q (ix2 s d) = ∑ r : Fin 512, p (ix2 s r) * q (ix2 r d) := by
  pointwise [ontoKeys]

theorem ontoQueries_at (p : FVec Ideal S128x512 .bf16) (k : FVec Ideal S128x64 .bf16) (r : Fin 512) (d : Fin 64) :
    ontoQueries p k (ix2 r d) = ∑ s : Fin 128, p (ix2 s r) * k (ix2 s d) := by
  pointwise [ontoQueries]

theorem rowSum_at (pc pp dpc dpp : FVec Ideal S128x512 .f32) (r : Fin 512) :
    rowSum pc pp dpc dpp (ix2 0 r) = ∑ s : Fin 128, (pc (ix2 s r) * dpc (ix2 s r) + pp (ix2 s r) * dpp (ix2 s r)) := by
  pointwise [rowSum]

theorem dscore_at (p dp : FVec Ideal S128x512 .f32) (l : FVec Ideal S1x512 .f32) (s : Fin 128) (r : Fin 512) :
    dscore p dp l (ix2 s r) = p (ix2 s r) * (dp (ix2 s r) - l (ix2 0 r)) := by
  pointwise [dscore]

variable (L : Ld Ideal)

theorem dO_at (x : Fin 1024) (k : Fin 512) : L.dO (ix2 x k) = L.d (ix2 x k) * (L.za (ix2 x k) * Ideal.logistic (L.za (ix2 x k))) := by
  pointwise [Ld.dO]

theorem dza_at (x : Fin 1024) (k : Fin 512) : L.dza (ix2 x k) = L.o (ix2 x k) * L.d (ix2 x k) * Ideal.logistic (L.za (ix2 x k))
    + L.za (ix2 x k) * (L.o (ix2 x k) * L.d (ix2 x k)) * (Ideal.logistic (L.za (ix2 x k)) * (1 - Ideal.logistic (L.za (ix2 x k)))) := by
  pointwise [Ld.dza, k0_pay24, k0_pay20, k0_pay21, k0_pay22]

theorem sink_at (j : Fin 2) (r : Fin 512) : L.sink j (ix2 0 r) = L.sk j ⟨r.val / 128, by omega⟩ (ix2 0 0) := by
  pointwise [Ld.sink]
  split_ifs <;> congr 2 <;> (apply Fin.ext; first | (simp; done) | (simp; omega))

theorem lossSum_at (j : Fin 2) (g : Fin 4) : L.lossSum j g (ix2 0 0) = ∑ q : Fin 128, L.loss j 8 (le_refl 8) (ix2 0 ⟨128 * g.val + q.val, by omega⟩) := by
  fin_cases g <;> · pointwise [Ld.lossSum]

theorem dqHead_at (j : Fin 2) (t : Fin 8) (g : Fin 4) (q : Fin 128) (d : Fin 64) : L.dqHead j t g (ix2 q d) = L.dq4 j t (ix2 ⟨128 * g.val + q.val, by omega⟩ d) := by
  fin_cases g <;> · pointwise [Ld.dqHead]

end Cert.AttnIdeal.Spec

end
-- ==== Proof.Attn.Bias.lean ====
/- The masked bias of the scores. -/
module

public import proofs.«01_k».proof.Proof.Attn.Pay

@[expose] public section

set_option maxRecDepth 16384

noncomputable section

namespace Cert.AttnIdeal.Spec

open Idealize.ShloMosaic Idealize.ShloMosaic.TcCoe Idealize.SL.Sem Cert.AttnIdeal Cert.AttnIdeal.Gen

/-- The slope of column `r`'s head: a power of one half. -/
def slope (j : Fin 2) (r : Fin 512) : ℝ := (1 / 2) ^ (4 * j.val + r.val / 128 + 1)

theorem query_bits (r : Fin 512) : IntOp.andi (BitVec.ofNat 32 r.val) 127#32 = BitVec.ofNat 32 (qOf r).val := by
  revert r; decide +kernel
theorem head_bits (r : Fin 512) : IntOp.shrsi .vector (BitVec.ofNat 32 r.val) 7#32 = BitVec.ofNat 32 (r.val / 128) := by
  revert r; decide +kernel

/-- A difference of two small numbers as words. -/
theorem sub_toInt (a b : ℕ) (ha : a < 1024) (hb : b < 1024) : (IntOp.subi (BitVec.ofNat 32 a) (BitVec.ofNat 32 b)).toInt = (a : ℤ) - b := by
  have h1 : (BitVec.ofNat 32 a).toInt = a := by rw [BitVec.toInt_ofNat']; simp only [Int.bmod_def]; omega
  have h2 : (BitVec.ofNat 32 b).toInt = b := by rw [BitVec.toInt_ofNat']; simp only [Int.bmod_def]; omega
  show (BitVec.ofNat 32 a - BitVec.ofNat 32 b).toInt = _
  rw [BitVec.toInt_sub, h1, h2]
  simp only [Int.bmod_def]; omega

theorem add_sub_bits (a b : ℕ) : IntOp.addi (IntOp.subi (BitVec.ofNat 32 a) (BitVec.ofNat 32 b)) 128#32 = IntOp.subi (BitVec.ofNat 32 (a + 128)) (BitVec.ofNat 32 b) := by
  show BitVec.ofNat 32 a - BitVec.ofNat 32 b + 128#32 = BitVec.ofNat 32 (a + 128) - BitVec.ofNat 32 b
  bv_omega

theorem sitofp_sub (a b : ℕ) (ha : a < 1024) (hb : b < 1024) :
    (FloatOps.sitofp (F := Ideal) FTy.f32 (IntOp.subi (BitVec.ofNat 32 a) (BitVec.ofNat 32 b))) = (((a : ℝ) - b : ℝ) : EReal) := by
  show (((IntOp.subi (BitVec.ofNat 32 a) (BitVec.ofNat 32 b)).toInt : ℝ) : EReal) = _
  rw [sub_toInt a b ha hb]; push_cast; rfl

theorem select_of (p : Prop) [Decidable p] (c : BitVec 1) (h : c = BitVec.ofBool (decide p)) (x y : EReal) : Scalar.select c x y = if p then x else y := by
  subst h
  by_cases hp : p <;> simp [hp, Scalar.select]

theorem sge_zero (a b : ℕ) (ha : a < 1024) (hb : b < 1024) : IntOp.cmpi .sge (IntOp.subi (BitVec.ofNat 32 a) (BitVec.ofNat 32 b)) 0#32 = BitVec.ofBool (decide (b ≤ a)) := by
  show BitVec.ofBool (decide ((0#32).toInt ≤ _)) = _
  rw [sub_toInt a b ha hb]; congr 1; simp
theorem slt_band (a b : ℕ) (ha : a < 512) (hb : b < 1024) : IntOp.cmpi .slt (IntOp.subi (BitVec.ofNat 32 (a + 128)) (BitVec.ofNat 32 b)) 128#32 = BitVec.ofBool (decide (a < b)) := by
  show BitVec.ofBool (decide (_ < (128#32).toInt)) = _
  rw [sub_toInt (a + 128) b (by omega) hb]; congr 1
  have : (128#32).toInt = 128 := by decide
  rw [this]; simp only [decide_eq_decide]; push_cast; omega

/-- A table of four entries, read by comparisons. -/
theorem four (n : ℕ) (hn : n < 4) (f : ℕ → EReal) (z : EReal) :
    Scalar.select (IntOp.cmpi .eq (BitVec.ofNat 32 n) 3#32) (f 3) (Scalar.select (IntOp.cmpi .eq (BitVec.ofNat 32 n) 2#32) (f 2)
      (Scalar.select (IntOp.cmpi .eq (BitVec.ofNat 32 n) 1#32) (f 1) (Scalar.select (IntOp.cmpi .eq (BitVec.ofNat 32 n) 0#32) (f 0) z))) = f n := by
  have : n = 0 ∨ n = 1 ∨ n = 2 ∨ n = 3 := by omega
  rcases this with rfl | rfl | rfl | rfl <;> rfl

theorem c1 : Ideal.ofBits FTy.f32 1056964608#32 = (((1 / 2) ^ 1 : ℝ) : EReal) := by simp [Ideal.ofBits, Ideal.ieee]; rw [← EReal.coe_mul]; norm_num
theorem c2 : Ideal.ofBits FTy.f32 1048576000#32 = (((1 / 2) ^ 2 : ℝ) : EReal) := by simp [Ideal.ofBits, Ideal.ieee]; rw [← EReal.coe_mul]; norm_num
theorem c3 : Ideal.ofBits FTy.f32 1040187392#32 = (((1 / 2) ^ 3 : ℝ) : EReal) := by simp [Ideal.ofBits, Ideal.ieee]; rw [← EReal.coe_mul]; norm_num
theorem c4 : Ideal.ofBits FTy.f32 1031798784#32 = (((1 / 2) ^ 4 : ℝ) : EReal) := by simp [Ideal.ofBits, Ideal.ieee]; rw [← EReal.coe_mul]; norm_num
theorem c5 : Ideal.ofBits FTy.f32 1023410176#32 = (((1 / 2) ^ 5 : ℝ) : EReal) := by simp [Ideal.ofBits, Ideal.ieee]; rw [← EReal.coe_mul]; norm_num
theorem c6 : Ideal.ofBits FTy.f32 1015021568#32 = (((1 / 2) ^ 6 : ℝ) : EReal) := by simp [Ideal.ofBits, Ideal.ieee]; rw [← EReal.coe_mul]; norm_num
theorem c7 : Ideal.ofBits FTy.f32 1006632960#32 = (((1 / 2) ^ 7 : ℝ) : EReal) := by simp [Ideal.ofBits, Ideal.ieee]; rw [← EReal.coe_mul]; norm_num
theorem c8 : Ideal.ofBits FTy.f32 998244352#32 = (((1 / 2) ^ 8 : ℝ) : EReal) := by simp [Ideal.ofBits, Ideal.ieee]; rw [← EReal.coe_mul]; norm_num
theorem cbot : Ideal.ofBits FTy.f32 4286578688#32 = ⊥ := by simp [Ideal.ofBits, Ideal.ieee]

/-- The bias against the block's own keys: a key at or before the query. -/
def own (j : Fin 2) (s : Fin 128) (r : Fin 512) : EReal :=
  if s.val ≤ (qOf r).val then ((-slope j r * (((qOf r).val : ℝ) - s.val) : ℝ) : EReal) else ⊥
/-- The bias against the keys of the block before: a key after the query's place. -/
def before (j : Fin 2) (s : Fin 128) (r : Fin 512) : EReal :=
  if (qOf r).val < s.val then ((-slope j r * (((qOf r).val : ℝ) + 128 - s.val) : ℝ) : EReal) else ⊥

theorem mul_up (f : ℝ) (a b : ℝ) : (0 - (f : EReal)) * ((a - b : ℝ) : EReal) = ((-f * (a - b) : ℝ) : EReal) := by
  rw [zero_sub, ← EReal.coe_neg, ← EReal.coe_mul]

theorem own0 (s : Fin 128) (r : Fin 512) : k0_pay7 (F := Ideal) k0_pay5 (ix4 0 0 s r) = own 0 s r := by
  pointwise [k0_pay7, k0_pay5, k0_pay3, k0_pay4, k0_pay2]
  rw [query_bits, head_bits, c1, c2, c3, c4, four (r.val / 128) (by omega) (fun n => (((1 / 2) ^ (n + 1) : ℝ) : EReal)),
    sitofp_sub _ _ (by omega) (by omega), select_of _ _ (sge_zero _ _ (by omega) (by omega)), cbot, mul_up, own, slope]
  simp
theorem before0 (s : Fin 128) (r : Fin 512) : k0_pay8 (F := Ideal) k0_pay6 (ix4 0 0 s r) = before 0 s r := by
  pointwise [k0_pay8, k0_pay6, k0_pay3, k0_pay4, k0_pay2]
  rw [query_bits, head_bits, c1, c2, c3, c4, four (r.val / 128) (by omega) (fun n => (((1 / 2) ^ (n + 1) : ℝ) : EReal)), add_sub_bits,
    sitofp_sub _ _ (by omega) (by omega), select_of _ _ (slt_band _ _ (by omega) (by omega)), cbot, mul_up, before, slope]
  simp
theorem own1 (s : Fin 128) (r : Fin 512) : k0_pay14 (F := Ideal) k0_pay9 k0_pay12 k0_pay13 (ix4 0 0 s r) = own 1 s r := by
  pointwise [k0_pay14, k0_pay9, k0_pay12, k0_pay13, k0_pay11]
  rw [query_bits, head_bits, c5, c6, c7, c8, four (r.val / 128) (by omega) (fun n => (((1 / 2) ^ (n + 5) : ℝ) : EReal)),
    sitofp_sub _ _ (by omega) (by omega), select_of _ _ (sge_zero _ _ (by omega) (by omega)), cbot, mul_up, own, slope]
  have : 4 * (1 : Fin 2).val + r.val / 128 + 1 = r.val / 128 + 5 := by show 4 * 1 + _ + 1 = _; omega
  rw [this]
theorem before1 (s : Fin 128) (r : Fin 512) : k0_pay15 (F := Ideal) k0_pay10 k0_pay11 (ix4 0 0 s r) = before 1 s r := by
  pointwise [k0_pay15, k0_pay10, k0_pay11, k0_pay9]
  rw [query_bits, head_bits, c5, c6, c7, c8, four (r.val / 128) (by omega) (fun n => (((1 / 2) ^ (n + 5) : ℝ) : EReal)), add_sub_bits,
    sitofp_sub _ _ (by omega) (by omega), select_of _ _ (slt_band _ _ (by omega) (by omega)), cbot, mul_up, before, slope]
  have : 4 * (1 : Fin 2).val + r.val / 128 + 1 = r.val / 128 + 5 := by show 4 * 1 + _ + 1 = _; omega
  rw [this]; push_cast; rfl
end Cert.AttnIdeal.Spec

end
-- ==== Proof.Attn.Grad.lean ====
/- THE ATTENTION'S GRADIENT over the real numbers, and that one grid point computes it for its eight blocks. -/
module

public import proofs.«01_k».proof.Proof.Attn.Row
public import proofs.«01_k».proof.Proof.Attn.Bias

@[expose] public section

set_option maxRecDepth 16384

noncomputable section

namespace Cert.AttnIdeal.Spec

open Idealize.ShloMosaic Idealize.ShloMosaic.TcCoe Idealize.SL.Sem Cert.AttnIdeal Cert.AttnIdeal.Gen
open Cert.Attn (Row.P Row.Ps Row.lse Row.dS Row.Delta)

/-- A place of the band in the block before, and in the block itself. -/
def lo (s : Fin 128) : Fin 256 := ⟨s.val, by omega⟩
def hi (s : Fin 128) : Fin 256 := ⟨s.val + 128, by omega⟩

theorem sum_band {α : Type} [AddCommMonoid α] (f : Fin 256 → α) : ∑ s, f s = ∑ s, f (lo s) + ∑ s, f (hi s) := by
  refine (Fin.sum_univ_add (a := 128) (b := 128) f).trans ?_
  refine congrArg₂ (· + ·) rfl (Finset.sum_congr rfl fun s _ => congrArg f (Fin.ext ?_))
  show 128 + s.val = s.val + 128; omega

/-- The attention's arguments: queries, keys, values, the cotangent of the output, the sinks. Sequence, block, key head, then
    (query head, query) as one index, or the place in the block. -/
structure Data where
  q : Fin 2 → Fin 16 → Fin 2 → Fin 512 → Fin 64 → ℝ
  k : Fin 2 → Fin 16 → Fin 2 → Fin 128 → Fin 64 → ℝ
  v : Fin 2 → Fin 16 → Fin 2 → Fin 128 → Fin 64 → ℝ
  dO : Fin 2 → Fin 16 → Fin 2 → Fin 512 → Fin 64 → ℝ
  sink : Fin 2 → Fin 4 → ℝ

/-- The head of a column. -/
def gOf (r : Fin 512) : Fin 4 := ⟨r.val / 128, by omega⟩

/-- Keys (or values) of a block and the block before, zero before the first. -/
def band (x : Fin 16 → Fin 2 → Fin 128 → Fin 64 → ℝ) (n : Fin 16) (j : Fin 2) (s : Fin 256) (d : Fin 64) : ℝ :=
  if h : s.val < 128 then (if n.val = 0 then 0 else x ⟨n.val - 1, by omega⟩ j ⟨s.val, h⟩ d) else x n j ⟨s.val - 128, by omega⟩ d

/-- Which places a query sees: the 128 keys up to its own. -/
def sees (n : Fin 16) (r : Fin 512) (s : Fin 256) : Prop :=
  (qOf r).val < s.val ∧ s.val ≤ (qOf r).val + 128 ∧ (0 < n.val ∨ 128 ≤ s.val)
instance (n : Fin 16) (r : Fin 512) (s : Fin 256) : Decidable (sees n r s) := by unfold sees; infer_instance

namespace Data

variable (D : Data) (b : Fin 2) (n : Fin 16) (j : Fin 2) (r : Fin 512)

/-- A score, −∞ where the query does not see the key. -/
def score (s : Fin 256) : EReal :=
  if sees n r s then (((∑ d, D.q b n j r d * band (D.k b) n j s d) * (1 / 8) + -slope j r * (((qOf r).val : ℝ) + 128 - s.val) : ℝ) : EReal) else ⊥
def P (s : Fin 256) : ℝ := Row.P (D.score b n j r) (D.sink j (gOf r)) s
def Ps : ℝ := Row.Ps (D.score b n j r) (D.sink j (gOf r))
def lse : ℝ := Row.lse (D.score b n j r) (D.sink j (gOf r))
def dP (s : Fin 256) : ℝ := ∑ d, D.dO b n j r d * band (D.v b) n j s d
def Delta : ℝ := Row.Delta (D.score b n j r) (D.sink j (gOf r)) (D.dP b n j r)
def dS (s : Fin 256) : ℝ := Row.dS (D.score b n j r) (D.sink j (gOf r)) (D.dP b n j r) s

/-- The gradients of the queries, of the band's keys and values, of the keys and values, of the sinks. -/
def dQ (d : Fin 64) : ℝ := (∑ s, D.dS b n j r s * band (D.k b) n j s d) * (1 / 8)
def dKb (s : Fin 256) (d : Fin 64) : ℝ := ∑ r, D.dS b n j r s * (D.q b n j r d * (1 / 8))
def dVb (s : Fin 256) (d : Fin 64) : ℝ := ∑ r, D.P b n j r s * D.dO b n j r d
/-- What the block at place `n` of the row gets from the block after it. -/
def fromNext (x : Fin 16 → Fin 256 → Fin 64 → ℝ) (n : ℕ) (s : Fin 128) (d : Fin 64) : ℝ := if h : n < 16 then x ⟨n, h⟩ (lo s) d else 0
def dK (s : Fin 128) (d : Fin 64) : ℝ := D.dKb b n j (hi s) d + fromNext (fun n => D.dKb b n j) (n.val + 1) s d
def dV (s : Fin 128) (d : Fin 64) : ℝ := D.dVb b n j (hi s) d + fromNext (fun n => D.dVb b n j) (n.val + 1) s d

theorem score_ne_top (s : Fin 256) : D.score b n j r s ≠ ⊤ := by
  rw [score]; split_ifs
  · exact EReal.coe_ne_top _
  · exact bot_ne_top

/-- A query does not see what is not there. -/
theorem P_lo_first (s : Fin 128) (h : n.val = 0) : D.P b n j r (lo s) = 0 := by
  refine Cert.Attn.Row.P_bot _ _ _ ?_
  rw [score, if_neg]
  rintro ⟨_, _, h' | h'⟩
  · omega
  · have := s.isLt; have : (lo s).val = s.val := rfl; omega

end Data

/-- The block at place `t` of the eight from `n0`. -/
def blk (n0 : ℕ) (h : n0 + 8 ≤ 16) (t : Fin 8) : Fin 16 := ⟨n0 + t.val, by omega⟩

/-- A grid point has loaded the arguments of sequence `b`'s eight blocks from `n0`. -/
structure At (L : Ld Ideal) (D : Data) (b : Fin 2) (n0 : ℕ) (hn : n0 + 8 ≤ 16) : Prop where
  q : ∀ t j r d, L.q4 j t (ix2 r d) = ((D.q b (blk n0 hn t) j r d * (1 / 8) : ℝ) : EReal)
  k : ∀ t j s d, L.kcur j t (ix2 s d) = (D.k b (blk n0 hn t) j s d : EReal)
  v : ∀ t j s d, L.vcur j t (ix2 s d) = (D.v b (blk n0 hn t) j s d : EReal)
  kp : ∀ j s d, ∃ x : ℝ, L.kbef j 0 (ix2 s d) = (x : EReal) ∧ (n0 ≠ 0 → x = D.k b ⟨n0 - 1, by omega⟩ j s d)
  vp : ∀ j s d, ∃ x : ℝ, L.vbef j 0 (ix2 s d) = (x : EReal) ∧ (n0 ≠ 0 → x = D.v b ⟨n0 - 1, by omega⟩ j s d)
  dO : ∀ t j r d, L.do4 j t (ix2 r d) = (D.dO b (blk n0 hn t) j r d : EReal)
  lse : ∀ t j r, L.lse4 j t (ix2 0 r) = (D.lse b (blk n0 hn t) j r : EReal)
  sink : ∀ j r, L.sink j (ix2 0 r) = (D.sink j (gOf r) : EReal)
  own : ∀ j s r, L.bcur j (ix2 s r) = own j s r
  before : ∀ j t s r, L.bbef j t (ix2 s r) = if (blk n0 hn t).val = 0 then ⊥ else before j s r
  dk : ∀ j s d, L.dkIn j 7 (ix2 s d) = (Data.fromNext (fun n => D.dKb b n j) (n0 + 8) s d : EReal)
  dv : ∀ j s d, L.dvIn j 7 (ix2 s d) = (Data.fromNext (fun n => D.dVb b n j) (n0 + 8) s d : EReal)

namespace At

variable {L : Ld Ideal} {D : Data} {b : Fin 2} {n0 : ℕ} {hn : n0 + 8 ≤ 16} (A : At L D b n0 hn)
include A

theorem kbef (t : Fin 8) (j : Fin 2) (s : Fin 128) (d : Fin 64) :
    ∃ x : ℝ, L.kbef j t (ix2 s d) = (x : EReal) ∧ ((blk n0 hn t).val ≠ 0 → x = band (D.k b) (blk n0 hn t) j (lo s) d) := by
  obtain ⟨t, ht⟩ := t
  cases t with
  | zero =>
    obtain ⟨x, hx, h⟩ := A.kp j s d
    refine ⟨x, hx, fun h0 => ?_⟩
    have h0' : n0 ≠ 0 := h0
    rw [h h0', band, dif_pos (show (lo s).val < 128 from s.isLt), if_neg h0]; rfl
  | succ t =>
    refine ⟨_, A.k ⟨t, by omega⟩ j s d, fun h0 => ?_⟩
    rw [band, dif_pos (show (lo s).val < 128 from s.isLt), if_neg h0]
    congr 1

theorem vbef (t : Fin 8) (j : Fin 2) (s : Fin 128) (d : Fin 64) :
    ∃ x : ℝ, L.vbef j t (ix2 s d) = (x : EReal) ∧ ((blk n0 hn t).val ≠ 0 → x = band (D.v b) (blk n0 hn t) j (lo s) d) := by
  obtain ⟨t, ht⟩ := t
  cases t with
  | zero =>
    obtain ⟨x, hx, h⟩ := A.vp j s d
    refine ⟨x, hx, fun h0 => ?_⟩
    have h0' : n0 ≠ 0 := h0
    rw [h h0', band, dif_pos (show (lo s).val < 128 from s.isLt), if_neg h0]; rfl
  | succ t =>
    refine ⟨_, A.v ⟨t, by omega⟩ j s d, fun h0 => ?_⟩
    rw [band, dif_pos (show (lo s).val < 128 from s.isLt), if_neg h0]
    congr 1

omit A in
theorem band_hi (x : Fin 16 → Fin 2 → Fin 128 → Fin 64 → ℝ) (n : Fin 16) (j : Fin 2) (s : Fin 128) (d : Fin 64) : band x n j (hi s) d = x n j s d := by
  have h : ¬(hi s).val < 128 := by show ¬s.val + 128 < 128; omega
  rw [band, dif_neg h]; congr 1

variable (t : Fin 8) (j : Fin 2) (s : Fin 128) (r : Fin 512) (d : Fin 64)

theorem pc : L.pc j t (ix2 s r) = (D.P b (blk n0 hn t) j r (hi s) : EReal) := by
  rw [Data.P, ← Cert.Attn.Row.P_eq _ _ (D.score_ne_top b (blk n0 hn t) j r), Ld.pc, probs_at]
  simp only [A.q, A.k, A.lse, A.own, ← EReal.coe_mul, Cert.Attn.Row.coe_sum]
  refine congrArg (fun x => Ideal.exp (x - _)) ?_
  rw [Data.score, Spec.own]
  have hs : (hi s).val = s.val + 128 := rfl
  have hq : (qOf r).val < 128 := (qOf r).isLt
  by_cases h : s.val ≤ (qOf r).val
  · rw [if_pos h, if_pos ⟨by omega, by omega, Or.inr (by omega)⟩, ← EReal.coe_add]
    congr 1
    simp only [band_hi, Finset.sum_mul]
    refine congrArg₂ (· + ·) (Finset.sum_congr rfl fun d _ => by ring) ?_
    rw [hs]; push_cast; ring
  · rw [if_neg h, if_neg (fun h' => h (by have := h'.2.1; omega)), EReal.add_bot]

theorem pp : L.pp j t (ix2 s r) = (D.P b (blk n0 hn t) j r (lo s) : EReal) := by
  rw [Data.P, ← Cert.Attn.Row.P_eq _ _ (D.score_ne_top b (blk n0 hn t) j r), Ld.pp, probs_at]
  choose x hx hx' using fun d => A.kbef t j s d
  simp only [A.q, hx, A.lse, A.before, ← EReal.coe_mul, Cert.Attn.Row.coe_sum]
  refine congrArg (fun x => Ideal.exp (x - _)) ?_
  rw [Data.score, Spec.before]
  have hs : (lo s).val = s.val := rfl
  have hq : (qOf r).val < 128 := (qOf r).isLt
  by_cases h0 : (blk n0 hn t).val = 0
  · rw [if_pos h0, if_neg (fun h' => by rcases h'.2.2 with h | h <;> omega), EReal.add_bot]
  · rw [if_neg h0]
    by_cases h : (qOf r).val < s.val
    · rw [if_pos h, if_pos ⟨by omega, by omega, Or.inl (by omega)⟩, ← EReal.coe_add]
      congr 1
      simp only [hx' _ h0, Finset.sum_mul]
      refine congrArg₂ (· + ·) (Finset.sum_congr rfl fun d _ => by ring) ?_
      rw [hs]
    · rw [if_neg h, if_neg (fun h' => h (by have := h'.1; omega)), EReal.add_bot]

theorem dpc : L.dpc j t (ix2 s r) = (D.dP b (blk n0 hn t) j r (hi s) : EReal) := by
  rw [Ld.dpc, outer_at, Data.dP]
  simp only [A.v, A.dO, ← EReal.coe_mul, Cert.Attn.Row.coe_sum, band_hi]
  exact congrArg _ (Finset.sum_congr rfl fun d _ => mul_comm _ _)

theorem dpp : ∃ x : ℝ, L.dpp j t (ix2 s r) = (x : EReal) ∧ ((blk n0 hn t).val ≠ 0 → x = D.dP b (blk n0 hn t) j r (lo s)) := by
  choose x hx hx' using fun d => A.vbef t j s d
  refine ⟨∑ d, x d * D.dO b (blk n0 hn t) j r d, ?_, fun h0 => ?_⟩
  · rw [Ld.dpp, outer_at]
    simp only [hx, A.dO, ← EReal.coe_mul, Cert.Attn.Row.coe_sum]
  · rw [Data.dP]
    exact Finset.sum_congr rfl fun d _ => by rw [hx' _ h0, mul_comm]

theorem pp_dpp : L.pp j t (ix2 s r) * L.dpp j t (ix2 s r) = ((D.P b (blk n0 hn t) j r (lo s) * D.dP b (blk n0 hn t) j r (lo s) : ℝ) : EReal) := by
  obtain ⟨x, hx, h⟩ := A.dpp t j s r
  rw [A.pp, hx, ← EReal.coe_mul]
  by_cases h0 : (blk n0 hn t).val = 0
  · rw [D.P_lo_first _ _ _ _ _ h0, zero_mul, zero_mul]
  · rw [h h0]

theorem delta : L.delta j t (ix2 0 r) = (D.Delta b (blk n0 hn t) j r : EReal) := by
  rw [Ld.delta, rowSum_at]
  simp only [A.pp_dpp, A.pc, A.dpc, ← EReal.coe_mul, ← EReal.coe_add, Cert.Attn.Row.coe_sum]
  rw [Data.Delta, Row.Delta, sum_band, ← Finset.sum_add_distrib]
  exact congrArg _ (Finset.sum_congr rfl fun s _ => add_comm _ _)

theorem dsc : L.dsc j t (ix2 s r) = (D.dS b (blk n0 hn t) j r (hi s) : EReal) := by
  rw [Ld.dsc, dscore_at, A.pc, A.dpc, A.delta, ← EReal.coe_sub, ← EReal.coe_mul]; rfl

theorem dsp : L.dsp j t (ix2 s r) = (D.dS b (blk n0 hn t) j r (lo s) : EReal) := by
  obtain ⟨x, hx, h⟩ := A.dpp t j s r
  rw [Ld.dsp, dscore_at, A.pp, hx, A.delta, ← EReal.coe_sub, ← EReal.coe_mul, Data.dS, Row.dS]
  congr 1
  by_cases h0 : (blk n0 hn t).val = 0
  · rw [show Row.P (D.score b (blk n0 hn t) j r) (D.sink j (gOf r)) (lo s) = D.P b (blk n0 hn t) j r (lo s) from rfl,
      D.P_lo_first _ _ _ _ _ h0, zero_mul, zero_mul]
  · rw [h h0]; rfl

theorem dsp_k : L.dsp j t (ix2 s r) * L.kbef j t (ix2 s d) = ((D.dS b (blk n0 hn t) j r (lo s) * band (D.k b) (blk n0 hn t) j (lo s) d : ℝ) : EReal) := by
  obtain ⟨x, hx, h⟩ := A.kbef t j s d
  rw [A.dsp, hx, ← EReal.coe_mul]
  by_cases h0 : (blk n0 hn t).val = 0
  · rw [Data.dS, Row.dS, show Row.P (D.score b (blk n0 hn t) j r) (D.sink j (gOf r)) (lo s) = D.P b (blk n0 hn t) j r (lo s) from rfl,
      D.P_lo_first _ _ _ _ _ h0, zero_mul, zero_mul, zero_mul]
  · rw [h h0]

omit A in
theorem eighth : Ideal.ofBits FTy.f32 1040187392#32 = ((1 / 8 : ℝ) : EReal) := by simp [Ideal.ofBits, Ideal.ieee]; rw [← EReal.coe_mul]; norm_num

theorem dq4 : L.dq4 j t (ix2 r d) = (D.dQ b (blk n0 hn t) j r d : EReal) := by
  have h : L.dq4 j t (ix2 r d) = (ontoQueries (L.dsc j t) (L.kcur j t) (ix2 r d) + ontoQueries (L.dsp j t) (L.kbef j t) (ix2 r d)) * Ideal.ofBits FTy.f32 1040187392#32 := rfl
  rw [h, ontoQueries_at, ontoQueries_at, eighth]
  simp only [A.dsp_k, A.dsc, A.k, ← EReal.coe_mul, Cert.Attn.Row.coe_sum, ← EReal.coe_add]
  rw [Data.dQ, sum_band, add_comm]
  simp only [band_hi]

theorem dkOut : L.dkOut j t (ix2 s d) = (D.dKb b (blk n0 hn t) j (lo s) d : EReal) := by
  rw [Ld.dkOut, ontoKeys_at]
  simp only [A.dsp, A.q, ← EReal.coe_mul, Cert.Attn.Row.coe_sum]; rfl
theorem dvOut : L.dvOut j t (ix2 s d) = (D.dVb b (blk n0 hn t) j (lo s) d : EReal) := by
  have h : L.dvOut j t (ix2 s d) = ontoKeys (L.pp j t) (L.do4 j t) (ix2 s d) := rfl
  rw [h, ontoKeys_at]
  simp only [A.pp, A.dO, ← EReal.coe_mul, Cert.Attn.Row.coe_sum]; rfl

theorem dkIn : L.dkIn j t (ix2 s d) = (Data.fromNext (fun n => D.dKb b n j) ((blk n0 hn t).val + 1) s d : EReal) := by
  by_cases h : t.val + 1 < 8
  · rw [Ld.dkIn, dif_pos h, A.dkOut, Data.fromNext, dif_pos (show (blk n0 hn t).val + 1 < 16 by show n0 + t.val + 1 < 16; omega)]; rfl
  · have : t = 7 := Fin.ext (by show t.val = 7; omega)
    subst this; exact A.dk j s d
theorem dvIn : L.dvIn j t (ix2 s d) = (Data.fromNext (fun n => D.dVb b n j) ((blk n0 hn t).val + 1) s d : EReal) := by
  by_cases h : t.val + 1 < 8
  · rw [Ld.dvIn, dif_pos h, A.dvOut, Data.fromNext, dif_pos (show (blk n0 hn t).val + 1 < 16 by show n0 + t.val + 1 < 16; omega)]; rfl
  · have : t = 7 := Fin.ext (by show t.val = 7; omega)
    subst this; exact A.dv j s d

theorem dkB : L.dkB j t (ix2 s d) = (D.dK b (blk n0 hn t) j s d : EReal) := by
  have h : L.dkB j t (ix2 s d) = ontoKeys (L.dsc j t) (L.q4 j t) (ix2 s d) + L.dkIn j t (ix2 s d) := rfl
  rw [h, ontoKeys_at, A.dkIn]
  simp only [A.dsc, A.q, ← EReal.coe_mul, Cert.Attn.Row.coe_sum, ← EReal.coe_add]; rfl
theorem dvB : L.dvB j t (ix2 s d) = (D.dV b (blk n0 hn t) j s d : EReal) := by
  have h : L.dvB j t (ix2 s d) = ontoKeys (L.pc j t) (L.do4 j t) (ix2 s d) + L.dvIn j t (ix2 s d) := rfl
  rw [h, ontoKeys_at, A.dvIn]
  simp only [A.pc, A.dO, ← EReal.coe_mul, Cert.Attn.Row.coe_sum, ← EReal.coe_add]; rfl

/-- The sinks' loss of a point: over its eight blocks. -/
theorem loss (n : ℕ) (h : n ≤ 8) : L.loss j n h (ix2 0 r) =
    ((∑ i : Fin n, D.Ps b (blk n0 hn ⟨7 - i.val, by omega⟩) j r * D.Delta b (blk n0 hn ⟨7 - i.val, by omega⟩) j r : ℝ) : EReal) := by
  induction n with
  | zero =>
    have : L.loss j 0 h (ix2 0 r) = Ideal.ofBits FTy.f32 0x00000000#32 := rfl
    rw [this]; simp [Ideal.ofBits, Ideal.ieee]
  | succ n ih =>
    have : L.loss j (n + 1) h (ix2 0 r) = L.loss j n (Nat.le_of_succ_le h) (ix2 0 r)
      + Ideal.exp (L.sink j (ix2 0 r) - L.lse4 j ⟨7 - n, by omega⟩ (ix2 0 r)) * L.delta j ⟨7 - n, by omega⟩ (ix2 0 r) := rfl
    rw [this, ih, A.sink, A.lse, A.delta, Data.lse, Cert.Attn.Row.Ps_eq _ _ (D.score_ne_top b _ j r), ← EReal.coe_mul, ← EReal.coe_add, Fin.sum_univ_castSucc]
    rfl

/-- One head's loss over a point. -/
theorem lossSum (g : Fin 4) : L.lossSum j g (ix2 0 0) =
    ((∑ q : Fin 128, ∑ t : Fin 8, D.Ps b (blk n0 hn t) j ⟨128 * g.val + q.val, by omega⟩ * D.Delta b (blk n0 hn t) j ⟨128 * g.val + q.val, by omega⟩ : ℝ) : EReal) := by
  rw [lossSum_at]
  simp only [A.loss, Cert.Attn.Row.coe_sum]
  refine congrArg _ (Finset.sum_congr rfl fun q _ => ?_)
  refine Fintype.sum_equiv Fin.revPerm _ _ fun i => ?_
  have : (⟨7 - i.val, by omega⟩ : Fin 8) = Fin.rev i := Fin.ext (by simp [Fin.rev])
  rw [this]; rfl

end At

end Cert.AttnIdeal.Spec

end
-- ==== Proof.Attn.Given.lean ====
/- The attention's arguments read off the call's operands as real numbers, where the operands are finite. -/
module

public import proofs.«01_k».proof.Proof.Attn.Grad

@[expose] public section

noncomputable section

namespace Cert.AttnIdeal.Spec

open Idealize.ShloMosaic Cert.AttnIdeal

/-- Row `q` of block `n`, and the (query head, query) index of head `g`, query `q`. -/
def at128 (n : Fin 16) (q : Fin 128) : Fin 2048 := ⟨128 * n.val + q.val, by omega⟩
def rr (g : Fin 4) (q : Fin 128) : Fin 512 := ⟨128 * g.val + q.val, by omega⟩
/-- A column of head `j`, `g` among the queries', of head `j` among the keys' columns, from the column `o`. -/
def qc (o : Fin 1793) (j : Fin 2) (g : Fin 4) (d : Fin 64) : Fin 2304 := ⟨o.val + (256 * j.val + 64 * g.val + d.val), by omega⟩
def kc (o : Fin 1793) (j : Fin 2) (d : Fin 64) : Fin 2304 := ⟨o.val + (64 * j.val + d.val), by omega⟩
def oc (j : Fin 2) (g : Fin 4) (d : Fin 64) : Fin 512 := ⟨256 * j.val + 64 * g.val + d.val, by omega⟩

theorem qOf_rr (g : Fin 4) (q : Fin 128) : qOf (rr g q) = q := Fin.ext (by show (128 * g.val + q.val) % 128 = q.val; omega)
theorem gOf_rr (g : Fin 4) (q : Fin 128) : gOf (rr g q) = g := Fin.ext (by show (128 * g.val + q.val) / 128 = g.val; omega)
theorem rr_of (r : Fin 512) : rr (gOf r) (qOf r) = r := Fin.ext (by show 128 * (r.val / 128) + r.val % 128 = r.val; omega)

/-- A sum over heads and queries. -/
theorem sum_rr {α : Type} [AddCommMonoid α] (f : Fin 512 → α) : ∑ r, f r = ∑ g, ∑ q, f (rr g q) := by
  rw [← Fintype.sum_prod_type']
  refine Fintype.sum_equiv ⟨fun r => (gOf r, qOf r), fun x => rr x.1 x.2, rr_of, fun x => Prod.ext (gOf_rr _ _) (qOf_rr _ _)⟩ _ _ fun r => ?_
  exact congrArg f (rr_of r).symm

variable (p : S2x2048x2304.Idx → EReal) (s : S1x8.Idx → EReal) (ct : S2x2048x512.Idx → EReal)

/-- The gate's factor. -/
def gate (b : Fin 2) (x : Fin 2048) (k : Fin 512) : EReal :=
  p (ix3 b x ⟨1792 + k.val, by omega⟩) * Ideal.logistic (p (ix3 b x ⟨1792 + k.val, by omega⟩))

/-- The arguments as real numbers. -/
def given : Data where
  q b n j r d := (p (ix3 b (at128 n (qOf r)) (qc 1024 j (gOf r) d))).toReal
  k b n j x d := (p (ix3 b (at128 n x) (kc 1536 j d))).toReal
  v b n j x d := (p (ix3 b (at128 n x) (kc 1664 j d))).toReal
  dO b n j r d := (ct (ix3 b (at128 n (qOf r)) (oc j (gOf r) d)) * gate p b (at128 n (qOf r)) (oc j (gOf r) d)).toReal
  sink j g := (s (ix2 0 ⟨4 * j.val + g.val, by omega⟩)).toReal

/-- The operands the attention reads are finite. -/
structure Fine : Prop where
  p : ∀ b x c, 1024 ≤ c.val → ∃ r : ℝ, p (ix3 b x c) = (r : EReal)
  s : ∀ h, ∃ r : ℝ, s (ix2 0 h) = (r : EReal)
  ct : ∀ b x k, ∃ r : ℝ, ct (ix3 b x k) = (r : EReal)

theorem logistic_coe (r : ℝ) : ∃ x : ℝ, Ideal.logistic (r : EReal) = (x : EReal) := by
  refine ⟨1 / (1 + Real.exp (-r)), ?_⟩
  have h : (1 + Real.exp (-r)) ≠ 0 := by positivity
  rw [Ideal.logistic, ← EReal.coe_neg, Ideal.exp_coe, ← EReal.coe_one, ← EReal.coe_add, Ideal.div_coe h]
  norm_num [div_eq_mul_inv]

namespace Fine

variable {p s ct} (H : Fine p s ct) (b : Fin 2) (n : Fin 16) (j : Fin 2) (g : Fin 4) (q x : Fin 128) (d : Fin 64)
include H

theorem q_eq : p (ix3 b (at128 n q) (qc 1024 j g d)) = ((given p s ct).q b n j (rr g q) d : EReal) := by
  obtain ⟨r, h⟩ := H.p b (at128 n q) (qc 1024 j g d) (Nat.le_add_right _ _)
  simp only [given, qOf_rr, gOf_rr, h, EReal.toReal_coe]
theorem k_eq : p (ix3 b (at128 n x) (kc 1536 j d)) = ((given p s ct).k b n j x d : EReal) := by
  obtain ⟨r, h⟩ := H.p b (at128 n x) (kc 1536 j d) (by show 1024 ≤ 1536 + _; omega)
  simp only [given, h, EReal.toReal_coe]
theorem v_eq : p (ix3 b (at128 n x) (kc 1664 j d)) = ((given p s ct).v b n j x d : EReal) := by
  obtain ⟨r, h⟩ := H.p b (at128 n x) (kc 1664 j d) (by show 1024 ≤ 1664 + _; omega)
  simp only [given, h, EReal.toReal_coe]
theorem dO_eq : ct (ix3 b (at128 n q) (oc j g d)) * gate p b (at128 n q) (oc j g d) = ((given p s ct).dO b n j (rr g q) d : EReal) := by
  obtain ⟨c, hc⟩ := H.ct b (at128 n q) (oc j g d)
  obtain ⟨a, ha⟩ := H.p b (at128 n q) ⟨1792 + (oc j g d).val, by omega⟩ (by show 1024 ≤ 1792 + _; omega)
  obtain ⟨l, hl⟩ := logistic_coe a
  simp only [given, qOf_rr, gOf_rr, gate, hc, ha, hl, ← EReal.coe_mul, EReal.toReal_coe]
theorem s_eq : s (ix2 0 ⟨4 * j.val + g.val, by omega⟩) = ((given p s ct).sink j g : EReal) := by
  obtain ⟨r, h⟩ := H.s ⟨4 * j.val + g.val, by omega⟩
  simp only [given, h, EReal.toReal_coe]

end Fine

end Cert.AttnIdeal.Spec

end
-- ==== Proof.Attn.Fiber.lean ====
/- Reductions of a six-axis array: along its last axis, and along its first, second and fifth. -/
module

public import Idealize.ShloMosaic.Lib.Pointwise

@[expose] public section

noncomputable section

namespace Cert.Attn.Fiber

open Idealize.ShloMosaic

variable {n0 n1 n2 n3 n4 n5 : ℕ}

section last
variable (h : (⟨6, ![n0, n1, n2, n3, n4, n5]⟩ : Shape).ReducesTo [5] ⟨5, ![n0, n1, n2, n3, n4]⟩)
  (a : Fin n0) (b : Fin n1) (c : Fin n2) (d : Fin n3) (e : Fin n4)

theorem last_iff (i : (⟨6, ![n0, n1, n2, n3, n4, n5]⟩ : Shape).Idx) : h.drop i = ix5 a b c d e ↔ ∃ k : Fin n5, ix6 a b c d e k = i := by
  constructor
  · intro E
    refine ⟨i 5, ?_⟩
    funext x; apply Fin.ext
    match x with
    | ⟨0, _⟩ => exact (congrArg Fin.val (congrFun E 0)).symm
    | ⟨1, _⟩ => exact (congrArg Fin.val (congrFun E 1)).symm
    | ⟨2, _⟩ => exact (congrArg Fin.val (congrFun E 2)).symm
    | ⟨3, _⟩ => exact (congrArg Fin.val (congrFun E 3)).symm
    | ⟨4, _⟩ => exact (congrArg Fin.val (congrFun E 4)).symm
    | ⟨5, _⟩ => rfl
  · rintro ⟨k, rfl⟩
    funext x; apply Fin.ext
    match x with
    | ⟨0, _⟩ => rfl
    | ⟨1, _⟩ => rfl
    | ⟨2, _⟩ => rfl
    | ⟨3, _⟩ => rfl
    | ⟨4, _⟩ => rfl

theorem sum_last (v : (⟨6, ![n0, n1, n2, n3, n4, n5]⟩ : Shape).Idx → EReal) (init : EReal) :
    Ideal.hostReduceAdd h v init (ix5 a b c d e) = init + ∑ k, v (ix6 a b c d e k) :=
  congrArg (init + ·) (Finset.sum_filter_eq_sum_of_fiber _ (fun k : Fin n5 => ix6 a b c d e k) (fun _ _ E => congrFun E 5) (last_iff h a b c d e) v)

theorem fold_last (v : (⟨6, ![n0, n1, n2, n3, n4, n5]⟩ : Shape).Idx → EReal) (init : EReal) :
    (Finset.univ.filter (fun i => h.drop i = ix5 a b c d e)).fold max init v = Finset.univ.fold max init fun k => v (ix6 a b c d e k) :=
  Finset.fold_filter_eq_fold_of_fiber max _ (fun k : Fin n5 => ix6 a b c d e k) (fun _ _ E => congrFun E 5) (last_iff h a b c d e) init v
end last

section rows
variable (h : (⟨6, ![n0, n1, n2, n3, n4, n5]⟩ : Shape).ReducesTo [0, 1, 4] ⟨3, ![n2, n3, n5]⟩) (c : Fin n2) (d : Fin n3) (f : Fin n5)

theorem rows_iff (i : (⟨6, ![n0, n1, n2, n3, n4, n5]⟩ : Shape).Idx) : h.drop i = ix3 c d f ↔ ∃ k : Fin n0 × Fin n1 × Fin n4, ix6 k.1 k.2.1 c d k.2.2 f = i := by
  constructor
  · intro E
    refine ⟨(i 0, i 1, i 4), ?_⟩
    funext x; apply Fin.ext
    match x with
    | ⟨0, _⟩ => rfl
    | ⟨1, _⟩ => rfl
    | ⟨2, _⟩ => exact (congrArg Fin.val (congrFun E 0)).symm
    | ⟨3, _⟩ => exact (congrArg Fin.val (congrFun E 1)).symm
    | ⟨4, _⟩ => rfl
    | ⟨5, _⟩ => exact (congrArg Fin.val (congrFun E 2)).symm
  · rintro ⟨k, rfl⟩
    funext x; apply Fin.ext
    match x with
    | ⟨0, _⟩ => rfl
    | ⟨1, _⟩ => rfl
    | ⟨2, _⟩ => rfl

theorem sum_rows (v : (⟨6, ![n0, n1, n2, n3, n4, n5]⟩ : Shape).Idx → EReal) (init : EReal) :
    Ideal.hostReduceAdd h v init (ix3 c d f) = init + ∑ a, ∑ b, ∑ e, v (ix6 a b c d e f) := by
  refine congrArg (init + ·) ((Finset.sum_filter_eq_sum_of_fiber _ (fun k : Fin n0 × Fin n1 × Fin n4 => ix6 k.1 k.2.1 c d k.2.2 f)
    (fun _ _ E => Prod.ext (congrFun E 0) (Prod.ext (congrFun E 1) (congrFun E 4))) (rows_iff h c d f) v).trans ?_)
  simp only [Fintype.sum_prod_type]
end rows

end Cert.Attn.Fiber

end
-- ==== Proof.Attn.RefScore.lean ====
/- THE REFERENCE'S SCORES, entry by entry, over the real numbers: queries, keys, values of a block's band, the mask, the scores, their maximum. -/
module

public import proofs.«01_k».proof.Proof.Attn.Given
public import proofs.«01_k».proof.Proof.Attn.Fiber
public import proofs.«01_k».proof.Proof.Gen.AttnRefIdeal.Run

@[expose] public section

set_option maxRecDepth 16384

noncomputable section

namespace Cert.AttnRefIdeal.Value

open Idealize.ShloMosaic Idealize.SL.Sem Cert.AttnRefIdeal Cert.AttnRefIdeal.Gen
open Cert.AttnIdeal.Spec (Data Fine given gate at128 rr qc kc oc qOf gOf lo hi band sees slope qOf_rr gOf_rr)

variable (V0 : Valuation τ sig (Elt Ideal))

/-- The operands the attention reads, and its arguments as real numbers. -/
abbrev P0 : S2x2048x2304.Idx → EReal := V0 (Proc.devRef .tc main_arg0)
abbrev S0 : S1x8.Idx → EReal := V0 (Proc.devRef .tc main_arg2)
abbrev C0 : S2x2048x512.Idx → EReal := V0 (Proc.devRef .tc main_arg5)
abbrev D0 : Data := given (P0 V0) (S0 V0) (C0 V0)

theorem ix3_val {a b c : ℕ} {i i' : Fin a} {j j' : Fin b} {k k' : Fin c} (hi : i.val = i'.val) (hj : j.val = j'.val) (hk : k.val = k'.val) :
    ix3 i j k = ix3 i' j' k' := by
  obtain rfl := Fin.ext hi; obtain rfl := Fin.ext hj; obtain rfl := Fin.ext hk; rfl

theorem andi_bool (a b : Bool) : IntOp.andi (BitVec.ofBool a) (BitVec.ofBool b) = BitVec.ofBool (a && b) := by cases a <;> cases b <;> rfl
theorem ori_bool (a b : Bool) : IntOp.ori (BitVec.ofBool a) (BitVec.ofBool b) = BitVec.ofBool (a || b) := by cases a <;> cases b <;> rfl
theorem add_bits (a : ℕ) : IntOp.addi (BitVec.ofNat 32 a) 128#32 = BitVec.ofNat 32 (a + 128) := by
  show BitVec.ofNat 32 a + 128#32 = _; rw [BitVec.ofNat_add]
theorem toInt_small (a : ℕ) (h : a < 1024) : (BitVec.ofNat 32 a).toInt = a := by
  rw [BitVec.toInt_eq_toNat_of_lt] <;> rw [BitVec.toNat_ofNat] <;> omega
theorem sgt_zero (a : ℕ) (h : a < 1024) : IntOp.cmpi .sgt (BitVec.ofNat 32 a) 0#32 = BitVec.ofBool (decide (0 < a)) := by
  show BitVec.ofBool (decide ((0#32).toInt < _)) = _
  rw [toInt_small a h]; congr 1; simp
theorem sge_128 (a : ℕ) (h : a < 1024) : IntOp.cmpi .sge (BitVec.ofNat 32 a) 128#32 = BitVec.ofBool (decide (128 ≤ a)) := by
  show BitVec.ofBool (decide ((128#32).toInt ≤ _)) = _
  have e : (128#32).toInt = 128 := by decide
  rw [toInt_small a h, e]; congr 1; simp only [decide_eq_decide]; omega

theorem slope_at (k : Fin 8) : Ideal.ofBits .f32 (lit0 (S8.rowMajor (ix1 k))) = (((1 / 2) ^ (k.val + 1) : ℝ) : EReal) := by
  fin_cases k
  · exact Cert.AttnIdeal.Spec.c1
  · exact Cert.AttnIdeal.Spec.c2
  · exact Cert.AttnIdeal.Spec.c3
  · exact Cert.AttnIdeal.Spec.c4
  · exact Cert.AttnIdeal.Spec.c5
  · exact Cert.AttnIdeal.Spec.c6
  · exact Cert.AttnIdeal.Spec.c7
  · exact Cert.AttnIdeal.Spec.c8

variable (b : Fin 2) (n : Fin 16) (j : Fin 2) (g : Fin 4) (q x : Fin 128) (s : Fin 256) (d : Fin 64)

theorem v48_at : (res_main_v48 V0 : IVec S2x16x2x4x128x256 1) (ix6 b n j g q s) = BitVec.ofBool (decide (sees n (rr g q) s)) := by
  pointwise [res_main_v48, res_main_v27, res_main_v24]
  rw [add_bits, Cert.AttnIdeal.Spec.sge_zero _ _ (by omega) (by omega), Cert.AttnIdeal.Spec.slt_band _ _ (by omega) (by omega),
    sgt_zero _ (by omega), sge_128 _ (by omega), andi_bool, ori_bool, andi_bool]
  congr 1
  rw [← Bool.decide_and, ← Bool.decide_or, ← Bool.decide_and, decide_eq_decide, sees, qOf_rr]
  tauto

variable (H : Fine (P0 V0) (S0 V0) (C0 V0))
include H

theorem v10_at : (res_main_v10 V0 : S2x16x128x2x4x64.Idx → EReal) (ix6 b n q j g d) = ((D0 V0).q b n j (rr g q) d : EReal) := by
  rw [← H.q_eq]
  pointwise [res_main_v10]
  refine congrArg (P0 V0) (ix3_val rfl ?_ ?_)
  · show n.val * 128 + q.val = 128 * n.val + q.val; omega
  · show 1024 + (j.val * 256 + g.val * 64 + d.val) = 1024 + (256 * j.val + 64 * g.val + d.val); omega
theorem v11_at : (res_main_v11 V0 : S2x16x128x2x64.Idx → EReal) (ix5 b n x j d) = ((D0 V0).k b n j x d : EReal) := by
  rw [← H.k_eq]
  pointwise [res_main_v11]
  refine congrArg (P0 V0) (ix3_val rfl ?_ ?_)
  · show n.val * 128 + x.val = 128 * n.val + x.val; omega
  · show 1536 + (j.val * 64 + d.val) = 1536 + (64 * j.val + d.val); omega
theorem v97_at : (res_main_v97 V0 : S2x16x128x2x64.Idx → EReal) (ix5 b n x j d) = ((D0 V0).v b n j x d : EReal) := by
  rw [← H.v_eq]
  pointwise [res_main_v97]
  refine congrArg (P0 V0) (ix3_val rfl ?_ ?_)
  · show n.val * 128 + x.val = 128 * n.val + x.val; omega
  · show 1664 + (j.val * 64 + d.val) = 1664 + (64 * j.val + d.val); omega

theorem v17_at : (res_main_v17 V0 : S2x16x256x2x64.Idx → EReal) (ix5 b n s j d) = (band ((D0 V0).k b) n j s d : EReal) := by
  pointwise [res_main_v17]
  rw [band]
  by_cases h1 : s.val < 128
  · rw [dif_pos h1, dif_pos h1]
    by_cases h2 : n.val = 0
    · rw [dif_pos (show n.val < 1 by omega), if_pos h2]; rfl
    · rw [dif_neg (show ¬ n.val < 1 by omega), if_neg h2]
      exact v11_at V0 b _ j _ d H
  · rw [dif_neg h1, dif_neg h1]
    exact v11_at V0 b n j _ d H
theorem v103_at : (res_main_v103 V0 : S2x16x256x2x64.Idx → EReal) (ix5 b n s j d) = (band ((D0 V0).v b) n j s d : EReal) := by
  pointwise [res_main_v103]
  rw [band]
  by_cases h1 : s.val < 128
  · rw [dif_pos h1, dif_pos h1]
    by_cases h2 : n.val = 0
    · rw [dif_pos (show n.val < 1 by omega), if_pos h2]; rfl
    · rw [dif_neg (show ¬ n.val < 1 by omega), if_neg h2]
      exact v97_at V0 b _ j _ d H
  · rw [dif_neg h1, dif_neg h1]
    exact v97_at V0 b n j _ d H

theorem v53_at : (res_main_v53 V0 : S2x16x2x4x128x256.Idx → EReal) (ix6 b n j g q s) = (D0 V0).score b n j (rr g q) s := by
  have h24 : res_main_v24 V0 (ix3 n q s) = BitVec.ofNat 32 s.val := rfl
  pointwise [res_main_v53, res_main_v27]
  rw [h24, add_bits, Cert.AttnIdeal.Spec.sitofp_sub _ _ (by omega) (by omega), slope_at, Cert.AttnIdeal.Spec.At.eighth, Cert.AttnIdeal.Spec.cbot,
    Cert.AttnIdeal.Spec.select_of _ _ (v48_at V0 b n j g q s), Data.score]
  refine if_congr Iff.rfl ?_ rfl
  simp only [v17_at V0 _ _ _ _ _ H, v10_at V0 _ _ _ _ _ _ H, ← EReal.coe_mul, ← EReal.coe_neg, ← EReal.coe_add, Cert.Attn.Row.coe_sum]
  congr 1
  refine congrArg₂ (· + ·) (congrArg (· * _) (Finset.sum_congr rfl fun d _ => mul_comm _ _)) ?_
  rw [Cert.AttnIdeal.Spec.slope, qOf_rr, show j.val * 4 + g.val + 1 = 4 * j.val + (rr g q).val / 128 + 1 by show _ = 4 * j.val + (128 * g.val + q.val) / 128 + 1; omega]
  push_cast; ring

theorem v55_at : (res_main_v55 V0 : S1x1x2x4x1x1.Idx → EReal) (ix6 0 0 j g 0 0) = ((D0 V0).sink j (gOf (rr g q)) : EReal) := by
  rw [gOf_rr, ← H.s_eq]
  pointwise [res_main_v55]
  refine congrArg (S0 V0) (congrArg (ix2 0) (Fin.ext ?_))
  show j.val * 4 + g.val = 4 * j.val + g.val; omega

theorem v56_at : (res_main_v56 V0 : S2x16x2x4x128.Idx → EReal) (ix5 b n j g q) = Finset.univ.fold max ⊥ ((D0 V0).score b n j (rr g q)) := by
  pointwise [res_main_v56]
  rw [Cert.AttnIdeal.Spec.cbot]
  refine (Cert.Attn.Fiber.fold_last (n0 := 2) (n1 := 16) (n2 := 2) (n3 := 4) (n4 := 128) (n5 := 256) reducesTo_S2x16x2x4x128x256_S2x16x2x4x128_d5 b n j g q (res_main_v53 V0) ⊥).trans ?_
  exact congrArg (Finset.univ.fold max ⊥) (funext fun k => v53_at V0 b n j g q k H)

omit H in
theorem v62_at : (res_main_v62 V0 : S2x16x2x4x128x1.Idx → EReal) (ix6 b n j g q 0) = (res_main_v56 V0 : S2x16x2x4x128.Idx → EReal) (ix5 b n j g q) := by
  pointwise [res_main_v62]

end Cert.AttnRefIdeal.Value

end
-- ==== Proof.Attn.RefFwd.lean ====
/- THE REFERENCE'S FORWARD, entry by entry: exponentials, their sum, probabilities, over the real numbers. -/
module

public import proofs.«01_k».proof.Proof.Attn.RefScore

@[expose] public section

set_option maxRecDepth 16384

noncomputable section

namespace Cert.AttnRefIdeal.Value

open Idealize.ShloMosaic Idealize.SL.Sem Cert.AttnRefIdeal Cert.AttnRefIdeal.Gen
open Cert.AttnIdeal.Spec (Data Fine given gate at128 rr qc kc oc qOf gOf lo hi band sees slope qOf_rr gOf_rr)

variable (V0 : Valuation τ sig (Elt Ideal))
variable (b : Fin 2) (n : Fin 16) (j : Fin 2) (g : Fin 4) (q x : Fin 128) (s : Fin 256) (d : Fin 64)

omit V0 in
theorem max_at {t : Shape} (x y : FVec Ideal t .f32) (i : t.Idx) : maximumf x y i = @max EReal _ (x i) (y i) := rfl
omit V0 in
theorem sink_at (x : S1x1x2x4x1x1.Idx → EReal) :
    broadcastInDim S2x16x2x4x128x1 ![0, 1, 2, 3, 4, 5] bcast_S1x1x2x4x1x1_S2x16x2x4x128x1_0_1_2_3_4_5 x (ix6 b n j g q 0) = x (ix6 0 0 j g 0 0) := by
  pointwise

theorem v64_eq : (res_main_v64 V0 : S2x16x2x4x128x1.Idx → EReal) (ix6 b n j g q 0) =
    @max EReal _ ((res_main_v62 V0 : S2x16x2x4x128x1.Idx → EReal) (ix6 b n j g q 0)) ((res_main_v55 V0 : S1x1x2x4x1x1.Idx → EReal) (ix6 0 0 j g 0 0)) := by
  rw [res_main_v64]
  exact (max_at _ _ _).trans (congrArg (@max EReal _ _) (sink_at b n j g q (res_main_v55 V0)))

variable (H : Fine (P0 V0) (S0 V0) (C0 V0))
include H

theorem v64_at : (res_main_v64 V0 : S2x16x2x4x128x1.Idx → EReal) (ix6 b n j g q 0) = (Cert.Attn.Row.M ((D0 V0).score b n j (rr g q)) ((D0 V0).sink j (gOf (rr g q))) : EReal) := by
  have h := v64_eq V0 b n j g q
  rw [v62_at, v56_at V0 b n j g q H, v55_at V0 j g q H] at h
  exact h.trans (Cert.Attn.Row.top_eq _ _ ((D0 V0).score_ne_top b n j (rr g q)))

theorem v85_at : (res_main_v85 V0 : S2x16x2x4x128x256.Idx → EReal) (ix6 b n j g q s) = (Cert.Attn.Row.E ((D0 V0).score b n j (rr g q)) ((D0 V0).sink j (gOf (rr g q))) s : EReal) := by
  rw [← Cert.Attn.Row.E_eq _ _ ((D0 V0).score_ne_top b n j (rr g q)), ← v64_at V0 b n j g q H, ← v53_at V0 b n j g q s H]
  pointwise [res_main_v85]

theorem v90_at : (res_main_v90 V0 : S2x16x2x4x128x1.Idx → EReal) (ix6 b n j g q 0) = (Cert.Attn.Row.Es ((D0 V0).score b n j (rr g q)) ((D0 V0).sink j (gOf (rr g q))) : EReal) := by
  rw [← Cert.Attn.Row.Es_eq, ← v64_at V0 b n j g q H, ← v55_at V0 j g q H]
  pointwise [res_main_v90]

theorem v91_at : (res_main_v91 V0 : S2x16x2x4x128x1.Idx → EReal) (ix6 b n j g q 0) = (Cert.Attn.Row.Den ((D0 V0).score b n j (rr g q)) ((D0 V0).sink j (gOf (rr g q))) : EReal) := by
  pointwise [res_main_v91]
  rw [v90_at V0 b n j g q H]
  refine (congrArg (· + _) (Cert.Attn.Fiber.sum_last (n0 := 2) (n1 := 16) (n2 := 2) (n3 := 4) (n4 := 128) (n5 := 256) reducesTo_S2x16x2x4x128x256_S2x16x2x4x128_d5 b n j g q (res_main_v85 V0) 0)).trans ?_
  simp only [v85_at V0 b n j g q _ H, Cert.Attn.Row.coe_sum, zero_add, ← EReal.coe_add]
  rfl

theorem v93_at : (res_main_v93 V0 : S2x16x2x4x128x256.Idx → EReal) (ix6 b n j g q s) = ((D0 V0).P b n j (rr g q) s : EReal) := by
  pointwise [res_main_v93]
  rw [v85_at V0 b n j g q s H, v91_at V0 b n j g q H, Cert.Attn.Row.div_Den _ _ ((D0 V0).score_ne_top b n j (rr g q))]
  rfl

end Cert.AttnRefIdeal.Value

end
-- ==== Proof.Attn.RefBwd.lean ====
/- THE REFERENCE'S DERIVATIVE, entry by entry: the cotangents of probabilities, sums, scores, keys and values. -/
module

public import proofs.«01_k».proof.Proof.Attn.RefFwd

@[expose] public section

set_option maxRecDepth 16384

noncomputable section

namespace Cert.AttnRefIdeal.Value

open Idealize.ShloMosaic Idealize.SL.Sem Cert.AttnRefIdeal Cert.AttnRefIdeal.Gen
open Cert.AttnIdeal.Spec (Data Fine given gate at128 rr qc kc oc qOf gOf lo hi band sees slope qOf_rr gOf_rr sum_rr)

variable (V0 : Valuation τ sig (Elt Ideal))
variable (b : Fin 2) (n : Fin 16) (j : Fin 2) (g : Fin 4) (q x : Fin 128) (s : Fin 256) (d : Fin 64)

theorem v60_at : (res_main_v60 V0 : S2x16x2x4x128x256.Idx → EReal) (ix6 b n j g q s) = (0 : EReal) ∨ (res_main_v60 V0 : S2x16x2x4x128x256.Idx → EReal) (ix6 b n j g q s) = (1 : EReal) := by
  have h : (res_main_v60 V0 : S2x16x2x4x128x256.Idx → EReal) (ix6 b n j g q s)
      = FloatOps.uitofp (F := Ideal) .f32 (BitVec.ofBool (decide ((res_main_v53 V0 : S2x16x2x4x128x256.Idx → EReal) (ix6 b n j g q s) = (res_main_v56 V0 : S2x16x2x4x128.Idx → EReal) (ix5 b n j g q)))) := by
    pointwise [res_main_v60]
  have hc (c : Bool) : FloatOps.uitofp (F := Ideal) .f32 (BitVec.ofBool c) = (0 : EReal) ∨ FloatOps.uitofp (F := Ideal) .f32 (BitVec.ofBool c) = (1 : EReal) := by
    cases c
    · left; show (((0#1 : BitVec 1).toNat : ℝ) : EReal) = 0; simp
    · right; show (((1#1 : BitVec 1).toNat : ℝ) : EReal) = 1; simp
  rw [h]
  exact hc _

omit V0 in
/-- Nothing comes back through a maximum nothing reaches. -/
theorem tie_at (a w : FVec Ideal S2x16x2x4x128x1 .f32) (u : S2x16x2x4x128x256.Idx → EReal) (ha : a (ix6 b n j g q 0) = (0 : EReal))
    (hu : ∀ k, u (ix6 b n j g q k) = 0 ∨ u (ix6 b n j g q k) = 1) :
    Ideal.div (Ideal.hostReduceAdd reducesTo_S2x16x2x4x128x1_S2x16x2x4x128_d5 (mulf a w) 0 (ix5 b n j g q))
      (Ideal.hostReduceAdd reducesTo_S2x16x2x4x128x256_S2x16x2x4x128_d5 u 0 (ix5 b n j g q)) * u (ix6 b n j g q s) = 0 := by
  rw [Cert.Attn.Fiber.sum_last (n0 := 2) (n1 := 16) (n2 := 2) (n3 := 4) (n4 := 128) (n5 := 1) reducesTo_S2x16x2x4x128x1_S2x16x2x4x128_d5 b n j g q (mulf a w) 0,
    Cert.Attn.Fiber.sum_last (n0 := 2) (n1 := 16) (n2 := 2) (n3 := 4) (n4 := 128) (n5 := 256) reducesTo_S2x16x2x4x128x256_S2x16x2x4x128_d5 b n j g q u 0, Fin.sum_univ_one]
  have h : mulf a w (ix6 b n j g q 0) = (0 : EReal) * w (ix6 b n j g q 0) := congrArg (fun y : EReal => y * w (ix6 b n j g q 0)) ha
  rw [h]
  exact Cert.Attn.Row.tie_eq (fun k => u (ix6 b n j g q k)) hu _ s

variable (H : Fine (P0 V0) (S0 V0) (C0 V0))
include H

theorem v113_at : (res_main_v113 V0 : S2x16x2x64x4x128.Idx → EReal) (ix6 b n j d g q) = ((D0 V0).dO b n j (rr g q) d : EReal) := by
  rw [← H.dO_eq]
  pointwise [res_main_v113, res_main_v107_0, res_main_v107_2, res_main_v5]
  rw [gate, Ideal.logistic]
  have e1 : n.val * 128 + q.val = (at128 n q).val := by show _ = 128 * n.val + q.val; omega
  have e2 : j.val * 256 + g.val * 64 + d.val = (oc j g d).val := by show _ = 256 * j.val + 64 * g.val + d.val; omega
  simp only [e1, e2]

theorem v114_at : (res_main_v114 V0 : S2x16x2x4x128x256.Idx → EReal) (ix6 b n j g q s) = ((D0 V0).dP b n j (rr g q) s : EReal) := by
  pointwise [res_main_v114]
  simp only [v113_at V0 _ _ _ _ _ _ H, v103_at V0 _ _ _ _ _ H, ← EReal.coe_mul, Cert.Attn.Row.coe_sum]
  rfl

theorem v116_at : (res_main_v116 V0 : S2x16x256x2x64.Idx → EReal) (ix5 b n s j d) = ((D0 V0).dVb b n j s d : EReal) := by
  pointwise [res_main_v116]
  simp only [v113_at V0 _ _ _ _ _ _ H, v93_at V0 _ _ _ _ _ _ H, ← EReal.coe_mul, Cert.Attn.Row.coe_sum]
  rw [Data.dVb, sum_rr]
  simp only [mul_comm]

theorem v129_at : (res_main_v129 V0 : S2x16x2x4x128x1.Idx → EReal) (ix6 b n j g q 0) =
    ((-((D0 V0).Delta b n j (rr g q) / Cert.Attn.Row.Den ((D0 V0).score b n j (rr g q)) ((D0 V0).sink j (gOf (rr g q)))) : ℝ) : EReal) := by
  refine Eq.trans ?_ (Cert.Attn.Row.dDen_eq _ _ ((D0 V0).score_ne_top b n j (rr g q)) ((D0 V0).dP b n j (rr g q)))
  pointwise [res_main_v129]
  refine (congrArg (- ·) (Cert.Attn.Fiber.sum_last (n0 := 2) (n1 := 16) (n2 := 2) (n3 := 4) (n4 := 128) (n5 := 256) reducesTo_S2x16x2x4x128x256_S2x16x2x4x128_d5 b n j g q _ 0)).trans ?_
  rw [zero_add]
  refine congrArg (fun y : EReal => -y) (Finset.sum_congr rfl fun k _ => ?_)
  pointwise
  rw [v114_at V0 b n j g q k H, v91_at V0 b n j g q H, v85_at V0 b n j g q k H]

theorem v132_at : (res_main_v132 V0 : S2x16x2x4x128x1.Idx → EReal) (ix6 b n j g q 0) = ((-((D0 V0).Ps b n j (rr g q) * (D0 V0).Delta b n j (rr g q)) : ℝ) : EReal) := by
  pointwise [res_main_v132]
  rw [v129_at V0 b n j g q H, v90_at V0 b n j g q H]
  exact Cert.Attn.Row.dEs_eq _ _ ((D0 V0).score_ne_top b n j (rr g q)) _

theorem v139_at : (res_main_v139 V0 : S2x16x2x4x128x256.Idx → EReal) (ix6 b n j g q s) = ((D0 V0).dS b n j (rr g q) s : EReal) := by
  refine Eq.trans ?_ (Cert.Attn.Row.dx_eq _ _ ((D0 V0).score_ne_top b n j (rr g q)) ((D0 V0).dP b n j (rr g q)) s)
  pointwise [res_main_v139]
  rw [v114_at V0 b n j g q s H, v91_at V0 b n j g q H, v85_at V0 b n j g q s H]
  refine congrArg (fun y => (_ + y) * _) ((Cert.Attn.Fiber.sum_last (n0 := 2) (n1 := 16) (n2 := 2) (n3 := 4) (n4 := 128) (n5 := 1) reducesTo_S2x16x2x4x128x1_S2x16x2x4x128_d5 b n j g q (res_main_v129 V0) 0).trans ?_)
  rw [Fin.sum_univ_one, v129_at V0 b n j g q H, zero_add]; rfl

theorem v143_at : (res_main_v143 V0 : S2x16x2x4x128x1.Idx → EReal) (ix6 b n j g q 0) = (0 : EReal) := by
  refine Eq.trans ?_ (Cert.Attn.Row.dM_eq _ ((D0 V0).sink j (gOf (rr g q))) ((D0 V0).score_ne_top b n j (rr g q)) ((D0 V0).dP b n j (rr g q)))
  pointwise [res_main_v143]
  rw [v132_at V0 b n j g q H]
  refine congrArg (fun y => _ + y) ((Cert.Attn.Fiber.sum_last (n0 := 2) (n1 := 16) (n2 := 2) (n3 := 4) (n4 := 128) (n5 := 256) reducesTo_S2x16x2x4x128x256_S2x16x2x4x128_d5 b n j g q _ 0).trans ?_)
  rw [zero_add]
  exact Finset.sum_congr rfl fun k _ => congrArg (fun y : EReal => -y) (v139_at V0 b n j g q k H)

/-- The scores' gradient times the scale; nothing comes through the maximum. -/
theorem v159_at : (res_main_v159 V0 : S2x16x2x256x128x4.Idx → EReal) (ix6 b n j s q g) = (((D0 V0).dS b n j (rr g q) s * (1 / 8) : ℝ) : EReal) := by
  pointwise [res_main_v159]
  rw [Cert.AttnIdeal.Spec.select_of _ _ (v48_at V0 b n j g q s)]
  split_ifs with h
  · rw [v139_at V0 b n j g q s H, Cert.AttnIdeal.Spec.At.eighth, EReal.coe_mul]
    have key (a t c : EReal) (ht : t = 0) : (a + t) * c = a * c := by rw [ht, add_zero]
    refine key _ _ _ ?_
    exact tie_at b n j g q s (res_main_v143 V0) _ (res_main_v60 V0) (v143_at V0 b n j g q H) (fun k => v60_at V0 b n j g q k)
  · rw [Data.dS, Cert.Attn.Row.dS, Cert.Attn.Row.P_bot _ _ _ (by rw [Data.score, if_neg h]), zero_mul, zero_mul]; rfl

theorem v163_at : (res_main_v163 V0 : S2x16x256x2x64.Idx → EReal) (ix5 b n s j d) = ((D0 V0).dKb b n j s d : EReal) := by
  pointwise [res_main_v163]
  simp only [v159_at V0 _ _ _ _ _ _ H, v10_at V0 _ _ _ _ _ _ H, ← EReal.coe_mul, Cert.Attn.Row.coe_sum]
  rw [Data.dKb, sum_rr, Finset.sum_comm]
  congr 1
  exact Finset.sum_congr rfl fun g _ => Finset.sum_congr rfl fun q _ => by ring

end Cert.AttnRefIdeal.Value

end
-- ==== Proof.Attn.RefParts.lean ====
/- THE REFERENCE'S RESULTS, entry by entry, up to the joining of columns: the gradients of queries, keys, values and gate. -/
module

public import proofs.«01_k».proof.Proof.Attn.RefBwd

@[expose] public section

set_option maxRecDepth 16384

noncomputable section

namespace Cert.AttnRefIdeal.Value

open Idealize.ShloMosaic Idealize.SL.Sem Cert.AttnRefIdeal Cert.AttnRefIdeal.Gen
open Cert.AttnIdeal.Spec (Data Fine given gate at128 rr qc kc oc qOf gOf lo hi band)

variable {V0 : Valuation τ sig (Elt Ideal)}

variable (V0) in
/-- The queries' part of the projection's gradient. -/
def qPart : FVec Ideal S2x2048x512 .f32 := (shapeCast _ (shapeCast _ (transpose S2x16x128x2x4x64 [0, 1, 3, 2, 4, 5] (Host.dotGeneral dot_S2x16x2x256x128x4_S2x16x256x2x64_S2x16x2x128x4x64_3_2_45_4_012_013 none (φ₁ := .f32) (φ₂ := .f32) (res_main_v159 V0) (res_main_v17 V0)) transposes_S2x16x2x128x4x64_S2x16x128x2x4x64_0_1_3_2_4_5) shapeCasts_S2x16x128x2x4x64_S2x2048x8x64) shapeCasts_S2x2048x8x64_S2x2048x512)

variable (V0) in
/-- The keys' part. -/
def kPart : FVec Ideal S2x2048x128 .f32 := (shapeCast _ (shapeCast _ (addf (extractStridedSlice S2x16x128x2x64 ![0, 0, 128, 0, 0] (res_main_v163 V0) slices_S2x16x256x2x64_S2x16x128x2x64_0_0_128_0_0) (pad S2x16x128x2x64 ![0, 0, 0, 0, 0] ![0, 1, 0, 0, 0] ![0, 0, 0, 0, 0] (extractStridedSlice S2x15x128x2x64 ![0, 1, 0, 0, 0] (res_main_v164 V0) slices_S2x16x128x2x64_S2x15x128x2x64_0_1_0_0_0) (constant S_ .f32 0x00000000#32) pads_S2x15x128x2x64_S2x16x128x2x64_000_010_000_000_000 h_S_)) shapeCasts_S2x16x128x2x64_S2x2048x2x64) shapeCasts_S2x2048x2x64_S2x2048x128)

variable (V0) in
/-- The values' part. -/
def vPart : FVec Ideal S2x2048x128 .f32 := (shapeCast _ (shapeCast _ (addf (extractStridedSlice S2x16x128x2x64 ![0, 0, 128, 0, 0] (res_main_v116 V0) slices_S2x16x256x2x64_S2x16x128x2x64_0_0_128_0_0) (pad S2x16x128x2x64 ![0, 0, 0, 0, 0] ![0, 1, 0, 0, 0] ![0, 0, 0, 0, 0] (extractStridedSlice S2x15x128x2x64 ![0, 1, 0, 0, 0] (res_main_v117 V0) slices_S2x16x128x2x64_S2x15x128x2x64_0_1_0_0_0) (constant S_ .f32 0x00000000#32) pads_S2x15x128x2x64_S2x16x128x2x64_000_010_000_000_000 h_S_)) shapeCasts_S2x16x128x2x64_S2x2048x2x64) shapeCasts_S2x2048x2x64_S2x2048x128)

variable (V0) in
/-- The gate's part. -/
def zPart : FVec Ideal S2x2048x512 .f32 := (addf (mulf (res_main_v109 V0) (res_main_v107_2 V0)) (mulf (mulf (res_main_v5 V0) (res_main_v109 V0)) (mulf (res_main_v107_2 V0) (subf (broadcastInDim S2x2048x512 ![] bcast_S_S2x2048x512 (constant S_ .f32 0x3F800000#32)) (res_main_v107_2 V0)))))

/-- Six groups of columns side by side. -/
def joined {α : Type} (a b q : Fin 512 → α) (k v : Fin 128 → α) (z : Fin 512 → α) (C : Fin 2304) : α :=
  if h : C.val < 512 then a ⟨C.val, h⟩ else if h : C.val < 1024 then b ⟨C.val - 512, by omega⟩ else if h : C.val < 1536 then q ⟨C.val - 1024, by omega⟩
  else if h : C.val < 1664 then k ⟨C.val - 1536, by omega⟩ else if h : C.val < 1792 then v ⟨C.val - 1664, by omega⟩ else z ⟨C.val - 1792, by omega⟩

theorem cat_at (a b q z : FVec Ideal S2x2048x512 .f32) (k v : FVec Ideal S2x2048x128 .f32) (s : Fin 2) (x : Fin 2048) (C : Fin 2304) :
    (concatenate S2x2048x2304 2 [⟨S2x2048x512, a⟩, ⟨S2x2048x512, b⟩, ⟨S2x2048x512, q⟩, ⟨S2x2048x128, k⟩, ⟨S2x2048x128, v⟩, ⟨S2x2048x512, z⟩] concatenates_S2x2048x512_S2x2048x512_S2x2048x512_S2x2048x128_S2x2048x128_S2x2048x512_S2x2048x2304_d2 : FVec Ideal S2x2048x2304 .f32) (ix3 s x C)
      = joined (fun c => a (ix3 s x c)) (fun c => b (ix3 s x c)) (fun c => q (ix3 s x c)) (fun c => k (ix3 s x c)) (fun c => v (ix3 s x c)) (fun c => z (ix3 s x c)) C := by
  rw [joined]
  pointwise []
  (repeat' split) <;> first | rfl | (exfalso; omega) | exact congrArg _ (ix3_val rfl rfl (by simp only []; omega))

theorem v176_at (s : Fin 2) (x : Fin 2048) (C : Fin 2304) : (res_main_v176 V0 : S2x2048x2304.Idx → EReal) (ix3 s x C)
    = joined (fun c => (V0 (Proc.devRef .tc main_arg3) : S2x2048x512.Idx → EReal) (ix3 s x c)) (fun c => (V0 (Proc.devRef .tc main_arg4) : S2x2048x512.Idx → EReal) (ix3 s x c))
      (fun c => qPart V0 (ix3 s x c)) (fun c => kPart V0 (ix3 s x c)) (fun c => vPart V0 (ix3 s x c)) (fun c => zPart V0 (ix3 s x c)) C :=
  cat_at (V0 (Proc.devRef .tc main_arg3)) (V0 (Proc.devRef .tc main_arg4)) (qPart V0) (zPart V0) (kPart V0) (vPart V0) s x C

variable (b : Fin 2) (n : Fin 16) (j : Fin 2) (g : Fin 4) (q s : Fin 128) (d : Fin 64)

/-- The gate's part from the attention's output. -/
theorem zPart_at (x : Fin 2048) (o : Fin 512) : zPart V0 (ix3 b x o) =
    (fun o d z : EReal => o * d * Ideal.logistic z + z * (o * d) * (Ideal.logistic z * (1 - Ideal.logistic z)))
      ((res_main_v106 V0 : S2x2048x512.Idx → EReal) (ix3 b x o)) (C0 V0 (ix3 b x o)) (P0 V0 (ix3 b x ⟨1792 + o.val, by omega⟩)) := by
  pointwise [zPart, res_main_v109, res_main_v107_2, res_main_v5]
  rfl

theorem v106_at : (res_main_v106 V0 : S2x2048x512.Idx → EReal) (ix3 b (at128 n q) (oc j g d)) =
    ∑ x, @HMul.hMul EReal EReal EReal _ ((res_main_v103 V0 : S2x16x256x2x64.Idx → EReal) (ix5 b n x j d)) ((res_main_v93 V0 : S2x16x2x4x128x256.Idx → EReal) (ix6 b n j g q x)) := by
  pointwise [res_main_v106, at128, oc]

variable (H : Fine (P0 V0) (S0 V0) (C0 V0))
include H

theorem qPart_at : qPart V0 (ix3 b (at128 n q) (oc j g d)) = ((D0 V0).dQ b n j (rr g q) d : EReal) := by
  pointwise [qPart, at128, oc]
  simp only [v159_at V0 _ _ _ _ _ _ H, v17_at V0 _ _ _ _ _ H, ← EReal.coe_mul, Cert.Attn.Row.coe_sum]
  rw [Data.dQ, Finset.sum_mul]
  refine congrArg _ (Finset.sum_congr rfl fun s _ => ?_)
  ring

theorem kPart_at : kPart V0 (ix3 b (at128 n q) ⟨64 * j.val + d.val, by omega⟩) = ((D0 V0).dK b n j q d : EReal) := by
  pointwise [kPart, at128, res_main_v164]
  have e : (⟨128 + q.val, by omega⟩ : Fin 256) = hi q := Fin.ext (Nat.add_comm _ _)
  rw [Data.dK, Cert.AttnIdeal.Spec.Data.fromNext, EReal.coe_add, e, v163_at V0 b n j (hi q) d H]
  refine congrArg (fun y : EReal => _ + y) ?_
  by_cases h : n.val < 15
  · have e' : (⟨1 + n.val, by omega⟩ : Fin 16) = ⟨n.val + 1, by omega⟩ := Fin.ext (Nat.add_comm _ _)
    rw [dif_pos h, dif_pos (by omega), e']
    exact v163_at V0 b ⟨n.val + 1, by omega⟩ j (lo q) d H
  · rw [dif_neg h, dif_neg (by omega)]; rfl

theorem vPart_at : vPart V0 (ix3 b (at128 n q) ⟨64 * j.val + d.val, by omega⟩) = ((D0 V0).dV b n j q d : EReal) := by
  pointwise [vPart, at128, res_main_v117]
  have e : (⟨128 + q.val, by omega⟩ : Fin 256) = hi q := Fin.ext (Nat.add_comm _ _)
  rw [Data.dV, Cert.AttnIdeal.Spec.Data.fromNext, EReal.coe_add, e, v116_at V0 b n j (hi q) d H]
  refine congrArg (fun y : EReal => _ + y) ?_
  by_cases h : n.val < 15
  · have e' : (⟨1 + n.val, by omega⟩ : Fin 16) = ⟨n.val + 1, by omega⟩ := Fin.ext (Nat.add_comm _ _)
    rw [dif_pos h, dif_pos (by omega), e']
    exact v116_at V0 b ⟨n.val + 1, by omega⟩ j (lo q) d H
  · rw [dif_neg h, dif_neg (by omega)]; rfl

end Cert.AttnRefIdeal.Value

end
-- ==== Proof.Attn.Match.lean ====
/- THE PRINTED BODY IS THE POINT WRITTEN ONCE. -/
module

public import proofs.«01_k».proof.Proof.Attn.Block

@[expose] public section

set_option maxRecDepth 16384

noncomputable section

namespace Cert.AttnIdeal.Hand

open Idealize.ShloMosaic Idealize.ShloMosaic.TcCoe Idealize.ShloMosaic.Tactic Cert.AttnIdeal Cert.AttnIdeal.Gen Cert.AttnIdeal.Spec

variable {F : FTy → Type} [FloatOps F]
variable (m : (ℓ : Loc nD τ sig) → Buf (Elt F) ℓ)

theorem inb_q (t : Fin 8) : ∀ a, (![128 * t.val, 0] : Fin 2 → ℕ) a + S128x512.size a ≤ S1024x512.size a := by
  intro a; fin_cases a
  · show 128 * t.val + 128 ≤ 1024; omega
  · show 0 + 512 ≤ 512; omega
theorem inb_k (j : Fin 2) (t : Fin 8) : ∀ a, (![128 * t.val, 64 * j.val] : Fin 2 → ℕ) a + S128x64.size a ≤ S1024x128.size a := by
  intro a; fin_cases a
  · show 128 * t.val + 128 ≤ 1024; omega
  · show 64 * j.val + 64 ≤ 128; omega
theorem inb_kp (j : Fin 2) : ∀ a, (![0, 64 * j.val] : Fin 2 → ℕ) a + S128x64.size a ≤ S128x128.size a := by
  intro a; fin_cases a
  · show 0 + 128 ≤ 128; omega
  · show 64 * j.val + 64 ≤ 128; omega
theorem inb_lse (t : Fin 8) : ∀ a, (![8 * t.val, 0] : Fin 2 → ℕ) a + S8x128.size a ≤ S64x128.size a := by
  intro a; fin_cases a
  · show 8 * t.val + 8 ≤ 64; omega
  · show 0 + 128 ≤ 128; omega
theorem inb_sink (j : Fin 2) (g : Fin 4) : ∀ a, (![0, 4 * j.val + g.val] : Fin 2 → ℕ) a + S1x1.size a ≤ S1x8.size a := by
  intro a; fin_cases a
  · show 0 + 1 ≤ 1; omega
  · show 4 * j.val + g.val + 1 ≤ 8; omega
theorem inb_bias (j k : Fin 2) : ∀ a, (![j.val, k.val, 0, 0] : Fin 4 → ℕ) a + S1x1x128x512.size a ≤ S2x2x128x512.size a := by
  intro a; fin_cases a
  · show j.val + 1 ≤ 2; omega
  · show k.val + 1 ≤ 2; omega
  · show 0 + 128 ≤ 128; omega
  · show 0 + 512 ≤ 512; omega

/-- What a point loads of its inputs' staging buffers, given the bias and the two carried gradients. -/
def loads (c : Dev nD) (t : Fin cfg0.N) (bias : Fin 2 → Fin 2 → Vec F S1x1x128x512 .f32) (dk dv : Fin 2 → Vec F S1x128x64 .f32) : Ld F where
  step := BitVec.ofNat 32 (grid0.coords t 1).val
  first := Scalar.subi 16#32 (Scalar.muli 8#32 (Scalar.addi (BitVec.ofNat 32 (grid0.coords t 1).val) 1#32))
  q b := View.readAt (Elt F) (ms0_0 t).view (Rect.unit (s := S1024x512) ![128 * b.val, 0] S128x512.size (inb_q b)).toLoadRect ((hs0_0 t).unread (iblk m c 0 t))
  kc j b := View.readAt (Elt F) (ms0_1 t).view (Rect.unit (s := S1024x128) ![128 * b.val, 64 * j.val] S128x64.size (inb_k j b)).toLoadRect ((hs0_1 t).unread (iblk m c 1 t))
  kp j := View.readAt (Elt F) (ms0_2 t).view (Rect.unit (s := S128x128) ![0, 64 * j.val] S128x64.size (inb_kp j)).toLoadRect ((hs0_2 t).unread (iblk m c 2 t))
  vc j b := View.readAt (Elt F) (ms0_3 t).view (Rect.unit (s := S1024x128) ![128 * b.val, 64 * j.val] S128x64.size (inb_k j b)).toLoadRect ((hs0_3 t).unread (iblk m c 3 t))
  vp j := View.readAt (Elt F) (ms0_4 t).view (Rect.unit (s := S128x128) ![0, 64 * j.val] S128x64.size (inb_kp j)).toLoadRect ((hs0_4 t).unread (iblk m c 4 t))
  za := View.readAt (Elt F) (ms0_5 t).view (Rect.unit (s := S1024x512) ![0, 0] S1024x512.size inb_S1024x512_S1024x512_0_0).toLoadRect ((hs0_5 t).unread (iblk m c 5 t))
  o := View.readAt (Elt F) (ms0_6 t).view (Rect.unit (s := S1024x512) ![0, 0] S1024x512.size inb_S1024x512_S1024x512_0_0).toLoadRect ((hs0_6 t).unread (iblk m c 6 t))
  lse b := View.readAt (Elt F) (ms0_7 t).view (Rect.unit (s := S64x128) ![8 * b.val, 0] S8x128.size (inb_lse b)).toLoadRect ((hs0_7 t).unread (iblk m c 7 t))
  d := View.readAt (Elt F) (ms0_8 t).view (Rect.unit (s := S1024x512) ![0, 0] S1024x512.size inb_S1024x512_S1024x512_0_0).toLoadRect ((hs0_8 t).unread (iblk m c 8 t))
  sk j g := View.readAt (Elt F) (ms0_9 t).view (Rect.unit (s := S1x8) ![0, 4 * j.val + g.val] S1x1.size (inb_sink j g)).toLoadRect ((hs0_9 t).unread (iblk m c 9 t))
  bias := bias
  dk := dk
  dv := dv

/-- The strided rows of the scan's cotangent a point loads. -/
def duLoads (c : Dev nD) (t : Fin cfg0.N) : Fin 4 → Fin 4 → Vec F S256x128 .f32 := fun r k =>
  match k with
  | ⟨0, _⟩ => View.readAt (Elt F) (ms0_11 t).view (⟨k0_off1 (grid0.coords t) (BitVec.ofNat 32 r.val), S256x128.size, ![16, 1], k0_off1_inb (grid0.coords t) r⟩ : LoadRect S4096x128) ((hs0_11 t).unread (iblk m c 11 t))
  | ⟨1, _⟩ => View.readAt (Elt F) (ms0_12 t).view (⟨k0_off1 (grid0.coords t) (BitVec.ofNat 32 r.val), S256x128.size, ![16, 1], k0_off1_inb (grid0.coords t) r⟩ : LoadRect S4096x128) ((hs0_12 t).unread (iblk m c 12 t))
  | ⟨2, _⟩ => View.readAt (Elt F) (ms0_13 t).view (⟨k0_off1 (grid0.coords t) (BitVec.ofNat 32 r.val), S256x128.size, ![16, 1], k0_off1_inb (grid0.coords t) r⟩ : LoadRect S4096x128) ((hs0_13 t).unread (iblk m c 13 t))
  | ⟨_ + 3, _⟩ => View.readAt (Elt F) (ms0_14 t).view (⟨k0_off1 (grid0.coords t) (BitVec.ofNat 32 r.val), S256x128.size, ![16, 1], k0_off1_inb (grid0.coords t) r⟩ : LoadRect S4096x128) ((hs0_14 t).unread (iblk m c 14 t))

def dzsLoad (c : Dev nD) (t : Fin cfg0.N) : Vec F S1024x512 .bf16 :=
  View.readAt (Elt F) (ms0_15 t).view (Rect.unit (s := S1024x512) ![0, 0] S1024x512.size inb_S1024x512_S1024x512_0_0).toLoadRect ((hs0_15 t).unread (iblk m c 15 t))
def hnLoad (c : Dev nD) (t : Fin cfg0.N) : Vec F S1024x512 .bf16 :=
  View.readAt (Elt F) (ms0_10 t).view (Rect.unit (s := S1024x512) ![0, 0] S1024x512.size inb_S1024x512_S1024x512_0_0).toLoadRect ((hs0_10 t).unread (iblk m c 10 t))

/-- What a point after the first loads. -/
def loadsOver (c : Dev nD) (t : Fin cfg0.N) (p : Out F) : Ld F :=
  loads m c t (fun j k => View.readAt (Elt F) scM0_0.view (Rect.unit (s := S2x2x128x512) ![j.val, k.val, 0, 0] S1x1x128x512.size (inb_bias j k)).toLoadRect ((Memref.isWhole_whole _).unread p.bias))
    (fun j => View.readAt (Elt F) scM0_1.view (Rect.unit (s := S2x128x64) ![j.val, 0, 0] S1x128x64.size (inb_carry j)).toLoadRect ((Memref.isWhole_whole _).unread p.dk))
    (fun j => View.readAt (Elt F) scM0_2.view (Rect.unit (s := S2x128x64) ![j.val, 0, 0] S1x128x64.size (inb_carry j)).toLoadRect ((Memref.isWhole_whole _).unread p.dv))

/-- The sinks' gradient so far, loaded. -/
def sinkLoads (t : Fin cfg0.N) (p : Out F) : Fin 8 → Vec F S1x1 .f32 := fun h =>
  View.readAt (Elt F) (ms0_19 t).view (Rect.unit (s := S1x8) ![0, h.val] S1x1.size (inb_sk h)).toLoadRect ((hs0_19 t).unread p.dsk)

def dwPiece (L : Ld F) (x : FVec F S1024x512 .bf16) (z h : Vec F S1024x512 .bf16) (w : Vec F S2304x512 .f32) (t : Fin cfg0.N) : View.Piece (Elt F) S2304x512 .f32 :=
  ⟨Rect.unit ![0, 0] S2304x512.size inb_S2304x512_S2304x512_0_0,
    k0_pay1 w ((ms0_16 t).view.readCov (pieces L x z) (Rect.unit (s := S1024x2304) ![0, 0] S1024x2304.size inb_S1024x2304_S1024x2304_0_0).toLoadRect) h⟩

def dwLoad (t : Fin cfg0.N) (p : Out F) : Vec F S2304x512 .f32 :=
  View.readAt (Elt F) (ms0_17 t).view (Rect.unit (s := S2304x512) ![0, 0] S2304x512.size inb_S2304x512_S2304x512_0_0).toLoadRect ((hs0_17 t).unread p.dw)

section B
variable (c : Dev nD) (t : Fin cfg0.N) (h0 : ¬t.val % 4 = 0) (h2 : ¬t.val % 4 = 3) (p : Out F)

theorem runB_dproj : (runB m c t h0 h2 p).1 = pieces (loadsOver m c t p) (du (duLoads m c t)) (dzsLoad m c t) := by sl_kernel_rfl
theorem runB_dw : (runB m c t h0 h2 p).2.1 = [dwPiece (loadsOver m c t p) (du (duLoads m c t)) (dzsLoad m c t) (hnLoad m c t) (dwLoad t p) t] := by sl_kernel_rfl
theorem runB_dsk : (runB m c t h0 h2 p).2.2.2.1 = sinkPieces (loadsOver m c t p) (sinkLoads t p) [] 8 (le_refl 8) := by sl_kernel_rfl
theorem runB_dk : (runB m c t h0 h2 p).2.2.2.2.2.1 = [carryPiece ((loadsOver m c t p).dkOut 1 0) 1, carryPiece ((loadsOver m c t p).dkOut 0 0) 0] := by sl_kernel_rfl
theorem runB_dv : (runB m c t h0 h2 p).2.2.2.2.2.2.1 = [carryPiece ((loadsOver m c t p).dvOut 1 0) 1, carryPiece ((loadsOver m c t p).dvOut 0 0) 0] := by sl_kernel_rfl
end B

section C
variable (c : Dev nD) (t : Fin cfg0.N) (h0 : ¬t.val % 4 = 0) (h2 : t.val % 4 = 3) (p : Out F)

theorem runC_dproj : (runC m c t h0 h2 p).1 = pieces (loadsOver m c t p) (du (duLoads m c t)) (dzsLoad m c t) := by sl_kernel_rfl
theorem runC_dw : (runC m c t h0 h2 p).2.1 = [dwPiece (loadsOver m c t p) (du (duLoads m c t)) (dzsLoad m c t) (hnLoad m c t) (dwLoad t p) t] := by sl_kernel_rfl
theorem runC_dwb : (runC m c t h0 h2 p).2.2.1 = [⟨Rect.unit ![0, 0] S2304x512.size inb_S2304x512_S2304x512_0_0, shapeCast S2304x512 (truncf .bf16 ((ms0_17 t).view.readCov [dwPiece (loadsOver m c t p) (du (duLoads m c t)) (dzsLoad m c t) (hnLoad m c t) (dwLoad t p) t] (Rect.unit (s := S2304x512) ![0, 0] S2304x512.size inb_S2304x512_S2304x512_0_0).toLoadRect) bitsLt_bf16_f32) shapeCasts_S2304x512_S2304x512⟩] := by sl_kernel_rfl
theorem runC_dk : (runC m c t h0 h2 p).2.2.2.2.2.1 = [carryPiece ((loadsOver m c t p).dkOut 1 0) 1, carryPiece ((loadsOver m c t p).dkOut 0 0) 0] := by sl_kernel_rfl
theorem runC_dv : (runC m c t h0 h2 p).2.2.2.2.2.2.1 = [carryPiece ((loadsOver m c t p).dvOut 1 0) 1, carryPiece ((loadsOver m c t p).dvOut 0 0) 0] := by sl_kernel_rfl
theorem runC_dsk : (runC m c t h0 h2 p).2.2.2.1 = sinkPieces (loadsOver m c t p) (sinkLoads t p) [] 8 (le_refl 8) := by sl_kernel_rfl
end C

section A
variable (c : Dev nD) (t : Fin cfg0.N) (h0 : t.val % 4 = 0) (h2 : ¬t.val % 4 = 3)

/-- The whole-array stores of zeroes the first point begins with. -/
def zeroCarry : List (View.Piece (Elt F) S2x128x64 .f32) := [⟨Rect.unit ![0, 0, 0] S2x128x64.size inb_S2x128x64_S2x128x64_0_0_0, k0_pay17⟩]
def zeroSink : List (View.Piece (Elt F) S1x8 .f32) := [⟨Rect.unit ![0, 0] S1x8.size inb_S1x8_S1x8_0_0, k0_pay16⟩]
def zeroDw : List (View.Piece (Elt F) S2304x512 .f32) := [⟨Rect.unit ![0, 0] S2304x512.size inb_S2304x512_S2304x512_0_0, k0_pay19⟩]

def loadsFirst (dk dv : Fin 2 → Vec F S1x128x64 .f32) : Ld F :=
  loads m c t (fun j k => scM0_0.view.readCov (runA m c t h0 h2).2.2.2.2.1 (Rect.unit (s := S2x2x128x512) ![j.val, k.val, 0, 0] S1x1x128x512.size (inb_bias j k)).toLoadRect) dk dv

/-- The carried gradients as the first point loads them: the second head's after the first head's store. -/
def firstCarry (M : Memref sig .tc .vmem S2x128x64 .f32) (x : FVec F S128x64 .f32) : Fin 2 → Vec F S1x128x64 .f32
  | ⟨0, _⟩ => M.view.readCov zeroCarry (Rect.unit (s := S2x128x64) ![0, 0, 0] S1x128x64.size (inb_carry 0)).toLoadRect
  | ⟨_ + 1, _⟩ => M.view.readCov (carryPiece x 0 :: zeroCarry) (Rect.unit (s := S2x128x64) ![1, 0, 0] S1x128x64.size (inb_carry 1)).toLoadRect

def zeroLd : Ld F := loadsFirst m c t h0 h2 (fun _ => broadcast _ (Scalar.ofBits .f32 0x00000000#32)) (fun _ => broadcast _ (Scalar.ofBits .f32 0x00000000#32))
def firstLd : Ld F := loadsFirst m c t h0 h2 (firstCarry scM0_1 ((zeroLd m c t h0 h2).dkOut 0 0)) (firstCarry scM0_2 ((zeroLd m c t h0 h2).dvOut 0 0))

theorem runA_dproj : (runA m c t h0 h2).1 = pieces (firstLd m c t h0 h2) (du (duLoads m c t)) (dzsLoad m c t) := by sl_kernel_rfl
theorem runA_dk : (runA m c t h0 h2).2.2.2.2.2.1 = carryPiece ((firstLd m c t h0 h2).dkOut 1 0) 1 :: carryPiece ((firstLd m c t h0 h2).dkOut 0 0) 0 :: zeroCarry := by sl_kernel_rfl
theorem runA_dv : (runA m c t h0 h2).2.2.2.2.2.2.1 = carryPiece ((firstLd m c t h0 h2).dvOut 1 0) 1 :: carryPiece ((firstLd m c t h0 h2).dvOut 0 0) 0 :: zeroCarry := by sl_kernel_rfl

/-- The sinks' stores of the first point: each loads what the stores before it left. -/
def firstSinks (L : Ld F) (M : Memref sig .tc .vmem S1x8 .f32) : (n : ℕ) → n ≤ 8 → List (View.Piece (Elt F) S1x8 .f32)
  | 0, _ => zeroSink
  | n + 1, h => sinkPiece L (fun k => M.view.readCov (firstSinks L M n (Nat.le_of_succ_le h)) (Rect.unit (s := S1x8) ![0, k.val] S1x1.size (inb_sk k)).toLoadRect) ⟨n, h⟩
      :: firstSinks L M n (Nat.le_of_succ_le h)

theorem runA_dsk : (runA m c t h0 h2).2.2.2.1 = firstSinks (firstLd m c t h0 h2) (ms0_19 t) 8 (le_refl 8) := by sl_kernel_rfl
theorem runA_dw : (runA m c t h0 h2).2.1 = dwPiece (firstLd m c t h0 h2) (du (duLoads m c t)) (dzsLoad m c t) (hnLoad m c t)
    ((ms0_17 t).view.readCov zeroDw (Rect.unit (s := S2304x512) ![0, 0] S2304x512.size inb_S2304x512_S2304x512_0_0).toLoadRect) t :: zeroDw := by sl_kernel_rfl

/-- The masked bias. -/
def biasPieces : List (View.Piece (Elt F) S2x2x128x512 .f32) :=
  [⟨Rect.unit ![1, 1, 0, 0] S1x1x128x512.size inb_S2x2x128x512_S1x1x128x512_1_1_0_0, k0_pay15 k0_pay10 k0_pay11⟩,
  ⟨Rect.unit ![1, 0, 0, 0] S1x1x128x512.size inb_S2x2x128x512_S1x1x128x512_1_0_0_0, k0_pay14 k0_pay9 k0_pay12 k0_pay13⟩,
  ⟨Rect.unit ![0, 1, 0, 0] S1x1x128x512.size inb_S2x2x128x512_S1x1x128x512_0_1_0_0, k0_pay8 k0_pay6⟩,
  ⟨Rect.unit ![0, 0, 0, 0] S1x1x128x512.size inb_S2x2x128x512_S1x1x128x512_0_0_0_0, k0_pay7 k0_pay5⟩]
theorem runA_bias : (runA m c t h0 h2).2.2.2.2.1 = biasPieces := by sl_kernel_rfl
end A

end Cert.AttnIdeal.Hand

end
-- ==== Proof.Attn.Canon.lean ====
/- A POINT'S STORES READ BACK: the rows of the projection's gradient, the gradients handed on, the sinks' gradient, the bias. -/
module

public import proofs.«01_k».proof.Proof.Attn.Grad
public import proofs.«01_k».proof.Proof.Attn.Match
public import Idealize.ShloMosaic.Lib.Pipeline.ValueKit

@[expose] public section

set_option maxRecDepth 16384

noncomputable section

namespace Cert.AttnIdeal.Spec

open Idealize.ShloMosaic Idealize.ShloMosaic.TcCoe Cert.AttnIdeal Cert.AttnIdeal.Gen

variable (D : Data) (b : Fin 2)

/-- The gradient of a block's row in one of twelve groups of 64 columns: eight heads' queries, two heads' keys, two heads' values. -/
def headGrad (n : Fin 16) (q : Fin 128) (k : Fin 12) (d : Fin 64) : ℝ :=
  if h : k.val < 8 then D.dQ b n ⟨k.val / 4, by omega⟩ ⟨128 * (k.val % 4) + q.val, by omega⟩ d
  else if h' : k.val < 10 then D.dK b n ⟨k.val - 8, by omega⟩ q d
  else D.dV b n ⟨k.val - 10, by omega⟩ q d

theorem headGrad_q (n : Fin 16) (q : Fin 128) (j : Fin 2) (g : Fin 4) (k : Fin 12) (hk : k.val = 4 * j.val + g.val) (d : Fin 64) :
    headGrad D b n q k d = D.dQ b n j ⟨128 * g.val + q.val, by omega⟩ d := by
  rw [headGrad, dif_pos (by omega)]
  congr 1
  · exact Fin.ext (show k.val / 4 = j.val by omega)
  · exact Fin.ext (show 128 * (k.val % 4) + q.val = 128 * g.val + q.val by omega)
theorem headGrad_k (n : Fin 16) (q : Fin 128) (j : Fin 2) (k : Fin 12) (hk : k.val = 8 + j.val) (d : Fin 64) : headGrad D b n q k d = D.dK b n j q d := by
  rw [headGrad, dif_neg (by omega), dif_pos (by omega)]
  congr 1
  exact Fin.ext (show k.val - 8 = j.val by omega)
theorem headGrad_v (n : Fin 16) (q : Fin 128) (j : Fin 2) (k : Fin 12) (hk : k.val = 10 + j.val) (d : Fin 64) : headGrad D b n q k d = D.dV b n j q d := by
  rw [headGrad, dif_neg (by omega), dif_neg (by omega)]
  congr 1
  exact Fin.ext (show k.val - 10 = j.val by omega)

section Rows

variable (n0 : ℕ) (hn : n0 + 8 ≤ 16) (du dz dza : Fin 1024 → Fin 512 → EReal)

/-- The projection's gradient at row `x` of a point, column `c`. -/
def rowsGrad (x : Fin 1024) (c : Fin 2304) : EReal :=
  if h : c.val < 512 then du x ⟨c.val, h⟩
  else if h' : c.val < 1024 then dz x ⟨c.val - 512, by omega⟩
  else if h'' : c.val < 1792 then (headGrad D b (blk n0 hn ⟨x.val / 128, by omega⟩) ⟨x.val % 128, by omega⟩ ⟨(c.val - 1024) / 64, by omega⟩ ⟨(c.val - 1024) % 64, by omega⟩ : ℝ)
  else dza x ⟨c.val - 1792, by omega⟩

variable {D b n0 hn du dz dza}

theorem eq_ix2 {a b : ℕ} (f : (⟨2, ![a, b]⟩ : Shape).Idx) : f = ix2 (f 0) (f 1) := by funext i; fin_cases i <;> rfl

theorem tileAt_of (a c : ℕ) (w : S1024x512.Idx → EReal) (v : EReal) (X : Fin 1024) (C : Fin 2304)
    (h : ∀ (p : Fin 1024) (q : Fin 512), X.val = a + p.val → C.val = c + q.val → w (ix2 p q) = v) :
    View.TileAt (Val := Elt Ideal) (e := .bf16) (ix2 X C) ![a, c] S1024x512.size w v := by
  intro x hx
  refine (congrArg w (?_ : x = ix2 (⟨(x 0).val, (x 0).isLt⟩ : Fin 1024) (⟨(x 1).val, (x 1).isLt⟩ : Fin 512))).trans (h _ _ (hx 0) (hx 1))
  funext i; fin_cases i <;> rfl

/-- A block's store holds the gradient where it stores. -/
theorem tile_at (t : Fin 8) (k : Fin 12) (w : FVec Ideal S128x64 .bf16) (h : ∀ q d, w (ix2 q d) = (headGrad D b (blk n0 hn t) q k d : EReal)) (X : Fin 1024) (C : Fin 2304) :
    ∀ z : (tile t k w).1.shape.Idx, (tile t k w).1.emb z = ix2 X C → (tile t k w).2 z = rowsGrad D b n0 hn du dz dza X C := by
  intro z hz
  have h0 : X.val = 128 * t.val + (z 0).val := by
    show ((ix2 X C : S1024x2304.Idx) 0).val = _
    rw [← hz]; exact (Rect.idx_unit_val _ _ (inb_tile t k) z 0)
  have h1 : C.val = 1024 + 64 * k.val + (z 1).val := by
    show ((ix2 X C : S1024x2304.Idx) 1).val = _
    rw [← hz]; exact (Rect.idx_unit_val _ _ (inb_tile t k) z 1)
  have hz0 : (z 0).val < 128 := (z 0).isLt
  have hz1 : (z 1).val < 64 := (z 1).isLt
  have hk := k.isLt
  obtain ⟨q, hq⟩ : ∃ q : Fin 128, (z 0).val = q.val := ⟨⟨_, hz0⟩, rfl⟩
  obtain ⟨d, hd⟩ : ∃ d : Fin 64, (z 1).val = d.val := ⟨⟨_, hz1⟩, rfl⟩
  have e : (tile t k w).2 z = w (ix2 q d) := by
    show shapeCast S128x64 w shapeCasts_S128x64_S128x64 z = _
    rw [shapeCast_self]; refine congrArg w ?_
    funext i; refine Fin.ext ?_; fin_cases i
    · exact hq
    · exact hd
  rw [e, h, rowsGrad, dif_neg (by omega), dif_neg (by omega), dif_pos (by omega)]
  congr 2
  · exact congrArg (blk n0 hn) (Fin.ext (show t.val = X.val / 128 by omega))
  · exact Fin.ext (show q.val = X.val % 128 by omega)
  · exact Fin.ext (show k.val = (C.val - 1024) / 64 by omega)
  · exact Fin.ext (show d.val = (C.val - 1024) % 64 by omega)

variable {L : Ld Ideal} (A : At L D b n0 hn)
include A

theorem tiles_at (j : Fin 2) (t : Fin 8) (X : Fin 1024) (C : Fin 2304) : View.AllAt (tiles L j t) (ix2 X C) (rowsGrad D b n0 hn du dz dza X C) := by
  intro p hp
  simp only [tiles, List.mem_cons, List.not_mem_nil, or_false] at hp
  rcases hp with rfl | rfl | rfl | rfl | rfl | rfl
  · exact tile_at t _ _ (fun q d => by rw [headGrad_v D b _ q j _ rfl]; exact A.dvB t j q d) X C
  · exact tile_at t _ _ (fun q d => by rw [headGrad_k D b _ q j _ rfl]; exact A.dkB t j q d) X C
  · exact tile_at t _ _ (fun q d => by rw [dqHead_at, headGrad_q D b _ q j 3 _ rfl]; exact A.dq4 t j _ d) X C
  · exact tile_at t _ _ (fun q d => by rw [dqHead_at, headGrad_q D b _ q j 2 _ rfl]; exact A.dq4 t j _ d) X C
  · exact tile_at t _ _ (fun q d => by rw [dqHead_at, headGrad_q D b _ q j 1 _ rfl]; exact A.dq4 t j _ d) X C
  · exact tile_at t _ _ (fun q d => by rw [dqHead_at, headGrad_q D b _ q j 0 _ rfl]; exact A.dq4 t j _ d) X C

omit A in
theorem allAt_append {L₁ L₂ : List (View.Piece (Elt Ideal) S1024x2304 .bf16)} {y : S1024x2304.Idx} {v : EReal} (h₁ : View.AllAt L₁ y v) (h₂ : View.AllAt L₂ y v) :
    View.AllAt (L₁ ++ L₂) y v := by
  intro p hp
  rcases List.mem_append.mp hp with h | h
  · exact h₁ p h
  · exact h₂ p h

theorem allTiles_at (R : List (View.Piece (Elt Ideal) S1024x2304 .bf16)) (X : Fin 1024) (C : Fin 2304)
    (hR : View.AllAt R (ix2 X C) (rowsGrad D b n0 hn du dz dza X C)) : View.AllAt (allTiles L R) (ix2 X C) (rowsGrad D b n0 hn du dz dza X C) := by
  unfold allTiles
  repeat' first | exact hR | refine allAt_append (tiles_at A _ _ X C) ?_

/-- All of a point's stores into the projection's gradient hold it where they store. -/
theorem pieces_at (u z : Vec Ideal S1024x512 .bf16) (hu : ∀ x c, u (ix2 x c) = du x c) (hz : ∀ x c, z (ix2 x c) = dz x c)
    (ha : ∀ x c, L.dza (ix2 x c) = dza x c) (X : Fin 1024) (C : Fin 2304) :
    View.AllAt (pieces L u z) (ix2 X C) (rowsGrad D b n0 hn du dz dza X C) := by
  unfold pieces
  refine View.allAt_cons_unit _ _ _ _ _ (tileAt_of 0 512 _ _ X C fun p q h0 h1 => ?_) (View.allAt_cons_unit _ _ _ _ _ (tileAt_of 0 0 _ _ X C fun p q h0 h1 => ?_)
    (allTiles_at A _ _ _ (View.allAt_cons_unit _ _ _ _ _ (tileAt_of 0 1792 _ _ X C fun p q h0 h1 => ?_) (View.allAt_nil _ _))))
  · rw [show k0_pay470 z (ix2 p q) = z (ix2 p q) by unfold k0_pay470; rw [shapeCast_self, shapeCast_self], hz, rowsGrad, dif_neg (by omega), dif_pos (by omega)]
    congr 1
    · exact Fin.ext (show p.val = X.val by omega)
    · exact Fin.ext (show q.val = C.val - 512 by omega)
  · rw [show k0_pay469 (F := Ideal) u (ix2 p q) = u (ix2 p q) by unfold k0_pay469; rw [shapeCast_self], hu, rowsGrad, dif_pos (by omega)]
    congr 1
    · exact Fin.ext (show p.val = X.val by omega)
    · exact Fin.ext (show q.val = C.val by omega)
  · rw [ha, rowsGrad, dif_neg (by omega), dif_neg (by omega), dif_neg (by omega)]
    congr 1
    · exact Fin.ext (show p.val = X.val by omega)
    · exact Fin.ext (show q.val = C.val - 1792 by omega)

theorem canon_pieces (u z : Vec Ideal S1024x512 .bf16) (hu : ∀ x c, u (ix2 x c) = du x c) (hz : ∀ x c, z (ix2 x c) = dz x c)
    (ha : ∀ x c, L.dza (ix2 x c) = dza x c) (X : Fin 1024) (C : Fin 2304) (hy : ∃ p ∈ pieces L u z, (ix2 X C : S1024x2304.Idx) ∈ p.1.set) :
    View.canon (pieces L u z) (ix2 X C) = rowsGrad D b n0 hn du dz dza X C :=
  View.canon_eq_of_allAt _ _ _ hy (pieces_at A u z hu hz ha X C)

end Rows

/-- A carried gradient, stored head by head over anything. -/
theorem canon_carry (x : Fin 2 → FVec Ideal S128x64 .f32) (R : List (View.Piece (Elt Ideal) S2x128x64 .f32)) (j : Fin 2) (s : Fin 128) (d : Fin 64) :
    View.canon (carryPiece (x 1) 1 :: carryPiece (x 0) 0 :: R) (ix3 j s d) = x j (ix2 s d) := by
  have e (k : Fin 2) : (ix3 k s d : S2x128x64.Idx) = (carryPiece (x k) k).1.emb (ix3 0 s d : S1x128x64.Idx) := by
    funext a; refine Fin.ext ?_
    refine Eq.trans ?_ (Rect.idx_unit_val _ _ (inb_carry k) (ix3 0 s d : S1x128x64.Idx) a).symm
    fin_cases a <;> simp [ix3]
  have p (k : Fin 2) : (carryPiece (x k) k).2 (ix3 0 s d : S1x128x64.Idx) = x k (ix2 s d) := by
    show shapeCast S1x128x64 (x k) shapeCasts_S128x64_S1x128x64 (ix3 0 s d) = _
    pointwise
  have c (k : Fin 2) (R' : List (View.Piece (Elt Ideal) S2x128x64 .f32)) : View.canon (carryPiece (x k) k :: R') (ix3 k s d) = x k (ix2 s d) := by
    rw [e k]; exact Eq.trans (View.canon_cons_emb (carryPiece (x k) k).1 (carryPiece (x k) k).2 R' (ix3 0 s d : S1x128x64.Idx)) (p k)
  have hj : j = 0 ∨ j = 1 := by revert j; decide
  rcases hj with rfl | rfl
  · rw [View.canon_cons_of_not_mem, c]
    intro h
    exact absurd (Rect.mem_set_unit (inb := inb_carry 1) |>.mp h 0).1 (by show ¬(1 : ℕ) ≤ 0; omega)
  · exact c 1 _

/-- The sink of number `h`: its key head and its place among the head's four. -/
def hj (h : Fin 8) : Fin 2 := ⟨h.val / 4, by omega⟩
def hg (h : Fin 8) : Fin 4 := ⟨h.val % 4, by omega⟩

theorem sinkPiece_emb (L : Ld Ideal) (prev : Fin 8 → Vec Ideal S1x1 .f32) (h : Fin 8) :
    (ix2 0 h : S1x8.Idx) = (sinkPiece L prev h).1.emb (ix2 0 0 : S1x1.Idx) := by
  funext a; refine Fin.ext ?_
  refine Eq.trans ?_ (Rect.idx_unit_val _ _ (inb_sk h) (ix2 0 0 : S1x1.Idx) a).symm
  fin_cases a <;> simp [ix2]

theorem canon_sink_here (L : Ld Ideal) (prev : Fin 8 → Vec Ideal S1x1 .f32) (h : Fin 8) (R : List (View.Piece (Elt Ideal) S1x8 .f32)) :
    View.canon (sinkPiece L prev h :: R) (ix2 0 h) = prev h (ix2 0 0) - L.lossSum (hj h) (hg h) (ix2 0 0) := by
  rw [sinkPiece_emb L prev h]
  refine Eq.trans (View.canon_cons_emb (sinkPiece L prev h).1 (sinkPiece L prev h).2 R (ix2 0 0 : S1x1.Idx)) ?_
  show shapeCast S1x1 (subf (prev h) (L.lossSum (hj h) (hg h))) shapeCasts_S1x1_S1x1 (ix2 0 0) = _
  rw [shapeCast_self]; rfl

theorem canon_sink_else (L : Ld Ideal) (prev : Fin 8 → Vec Ideal S1x1 .f32) (h k : Fin 8) (hk : h ≠ k) (R : List (View.Piece (Elt Ideal) S1x8 .f32)) :
    View.canon (sinkPiece L prev h :: R) (ix2 0 k) = View.canon R (ix2 0 k) := by
  refine View.canon_cons_of_not_mem _ _ fun hm => ?_
  have := (Rect.mem_set_unit (inb := inb_sk h)).mp hm 1
  have h1 : h.val ≤ k.val := this.1
  have h2 : k.val < h.val + 1 := this.2
  exact hk (Fin.ext (by omega))

/-- The sinks' gradient after a point's stores over anything. -/
theorem canon_sinks (L : Ld Ideal) (prev : Fin 8 → Vec Ideal S1x1 .f32) (R : List (View.Piece (Elt Ideal) S1x8 .f32)) (n : ℕ) (hn : n ≤ 8) (h : Fin 8) (hh : h.val < n) :
    View.canon (sinkPieces L prev R n hn) (ix2 0 h) = prev h (ix2 0 0) - L.lossSum (hj h) (hg h) (ix2 0 0) := by
  induction n with
  | zero => omega
  | succ n ih =>
    rw [sinkPieces]
    by_cases e : h.val = n
    · obtain rfl : (⟨n, hn⟩ : Fin 8) = h := Fin.ext e.symm
      exact canon_sink_here _ _ _ _
    · rw [canon_sink_else _ _ _ _ (fun e' => e (congrArg Fin.val e').symm)]
      exact ih _ (by omega)

theorem canon_zeroSink (h : Fin 8) : View.canon (Hand.zeroSink (F := Ideal)) (ix2 0 h) = 0 := by
  have e : (ix2 0 h : S1x8.Idx) = (Rect.unit (s := S1x8) ![0, 0] S1x8.size inb_S1x8_S1x8_0_0).emb (ix2 0 h : S1x8.Idx) := by
    funext a; refine Fin.ext ?_
    refine Eq.trans ?_ (Rect.idx_unit_val _ _ inb_S1x8_S1x8_0_0 (ix2 0 h : S1x8.Idx) a).symm
    fin_cases a <;> simp [ix2]
  rw [Hand.zeroSink, e]
  refine Eq.trans (View.canon_cons_emb _ _ _ _) ?_
  pointwise [k0_pay16]

/-- The sinks' gradient after the first point's stores. -/
theorem canon_firstSinks (L : Ld Ideal) (M : Memref sig .tc .vmem S1x8 .f32) (n : ℕ) (hn : n ≤ 8) (h : Fin 8) :
    View.canon (Hand.firstSinks L M n hn) (ix2 0 h) = if h.val < n then 0 - L.lossSum (hj h) (hg h) (ix2 0 0) else 0 := by
  induction n generalizing h with
  | zero => rw [Hand.firstSinks, canon_zeroSink, if_neg (by omega)]
  | succ n ih =>
    rw [Hand.firstSinks]
    by_cases e : h.val = n
    · obtain rfl : (⟨n, hn⟩ : Fin 8) = h := Fin.ext e.symm
      rw [canon_sink_here, if_pos (Nat.lt_succ_self n)]
      congr 1
      rw [View.readCov_eq_canon']
      show View.canon _ ((Rect.unit (s := S1x8) ![0, n] S1x1.size (inb_sk ⟨n, hn⟩)).idx (ix2 0 0)) = 0
      rw [show (Rect.unit (s := S1x8) ![0, n] S1x1.size (inb_sk ⟨n, hn⟩)).idx (ix2 0 0) = (ix2 0 (⟨n, hn⟩ : Fin 8) : S1x8.Idx) from (sinkPiece_emb L (fun _ => broadcast _ 0) ⟨n, hn⟩).symm,
        ih, if_neg (Nat.lt_irrefl n)]
    · rw [canon_sink_else _ _ _ _ (fun e' => e (congrArg Fin.val e').symm), ih]
      by_cases e' : h.val < n
      · rw [if_pos e', if_pos (by omega)]
      · rw [if_neg e', if_neg (by omega)]

/-- The masked bias, stored block by block. -/
theorem canon_bias (j k : Fin 2) (s : Fin 128) (r : Fin 512) :
    View.canon (Hand.biasPieces (F := Ideal)) (ix4 j k s r) = if k.val = 0 then own j s r else before j s r := by
  have e (j k : Fin 2) : (ix4 j k s r : S2x2x128x512.Idx) = (Rect.unit (s := S2x2x128x512) ![j.val, k.val, 0, 0] S1x1x128x512.size (Hand.inb_bias j k)).emb (ix4 0 0 s r : S1x1x128x512.Idx) := by
    funext a; refine Fin.ext ?_
    refine Eq.trans ?_ (Rect.idx_unit_val _ _ (Hand.inb_bias j k) (ix4 0 0 s r : S1x1x128x512.Idx) a).symm
    fin_cases a <;> simp [ix4]
  have here (j k : Fin 2) (w : FVec Ideal S1x1x128x512 .f32) (R : List (View.Piece (Elt Ideal) S2x2x128x512 .f32)) :
      View.canon (⟨Rect.unit (s := S2x2x128x512) ![j.val, k.val, 0, 0] S1x1x128x512.size (Hand.inb_bias j k), w⟩ :: R) (ix4 j k s r) = w (ix4 0 0 s r) := by
    rw [e j k]; exact View.canon_cons_emb _ _ _ _
  have other (j k j' k' : Fin 2) (h : ¬(j = j' ∧ k = k')) (w : FVec Ideal S1x1x128x512 .f32) (R : List (View.Piece (Elt Ideal) S2x2x128x512 .f32)) :
      View.canon (⟨Rect.unit (s := S2x2x128x512) ![j.val, k.val, 0, 0] S1x1x128x512.size (Hand.inb_bias j k), w⟩ :: R) (ix4 j' k' s r) = View.canon R (ix4 j' k' s r) := by
    refine View.canon_cons_of_not_mem _ _ fun hm => ?_
    have hm := (Rect.mem_set_unit (inb := Hand.inb_bias j k)).mp hm
    have a1 : j.val ≤ j'.val := (hm 0).1
    have a2 : j'.val < j.val + 1 := (hm 0).2
    have a3 : k.val ≤ k'.val := (hm 1).1
    have a4 : k'.val < k.val + 1 := (hm 1).2
    exact h ⟨Fin.ext (by omega), Fin.ext (by omega)⟩
  have hc : (j = 1 ∧ k = 1) ∨ (j = 1 ∧ k = 0) ∨ (j = 0 ∧ k = 1) ∨ (j = 0 ∧ k = 0) := by revert j k; decide
  unfold Hand.biasPieces
  rcases hc with ⟨rfl, rfl⟩ | ⟨rfl, rfl⟩ | ⟨rfl, rfl⟩ | ⟨rfl, rfl⟩
  · rw [if_neg (by decide)]; exact (here 1 1 _ _).trans (before1 s r)
  · rw [if_pos (show ((0 : Fin 2) : ℕ) = 0 from rfl)]; exact (other 1 1 1 0 (by decide) _ _).trans ((here 1 0 _ _).trans (own1 s r))
  · rw [if_neg (by decide)]; exact (other 1 1 0 1 (by decide) _ _).trans ((other 1 0 0 1 (by decide) _ _).trans ((here 0 1 _ _).trans (before0 s r)))
  · rw [if_pos (show ((0 : Fin 2) : ℕ) = 0 from rfl)]; exact (other 1 1 0 0 (by decide) _ _).trans ((other 1 0 0 0 (by decide) _ _).trans ((other 0 1 0 0 (by decide) _ _).trans ((here 0 0 _ _).trans (own0 s r))))

end Cert.AttnIdeal.Spec

end
-- ==== Proof.Attn.Blocks.lean ====
/- What the attention's windows hold at a grid point, in the call's operands. -/
module

public import proofs.«01_k».proof.Proof.Attn.Canon
public import Idealize.ShloMosaic.Lib.Pipeline.ValueKit
public import Idealize.ShloMosaic.Lib.Pipeline.ReadBack
public import Idealize.ShloMosaic.Lib.Claim

@[expose] public section

set_option maxRecDepth 16384

noncomputable section

namespace Cert.AttnIdeal.Hand

open Idealize.ShloMosaic Idealize.ShloMosaic.TcCoe Idealize.SL.Sem Cert.AttnIdeal Cert.AttnIdeal.Gen Cert.AttnIdeal.Spec

variable (m : (ℓ : Loc nD τ sig) → Buf (Elt Ideal) ℓ)

theorem t_lt (t : Fin cfg0.N) : t.val < 4 := by exact lt_of_lt_of_eq t.isLt (show cfg0.N = 4 from N_0)

/-- Which block of its array every window holds at a grid point: sequences in order, each from its end. -/
theorem idx_val : ∀ t : Fin cfg0.N, win0_0.index t = ![2 * (t.val / 2) + 1 - t.val % 2, 0]
    ∧ win0_1.index t = ![2 * (t.val / 2) + 1 - t.val % 2, 0]
    ∧ win0_2.index t = ![16 * (t.val / 2) + 7 * (1 - t.val % 2), 0]
    ∧ win0_3.index t = ![2 * (t.val / 2) + 1 - t.val % 2, 0]
    ∧ win0_4.index t = ![16 * (t.val / 2) + 7 * (1 - t.val % 2), 0]
    ∧ win0_5.index t = ![2 * (t.val / 2) + 1 - t.val % 2, 0]
    ∧ win0_6.index t = ![2 * (t.val / 2) + 1 - t.val % 2, 0]
    ∧ win0_7.index t = ![2 * (t.val / 2) + 1 - t.val % 2, 0]
    ∧ win0_8.index t = ![2 * (t.val / 2) + 1 - t.val % 2, 0]
    ∧ win0_9.index t = ![0, 0]
    ∧ win0_10.index t = ![2 * (t.val / 2) + 1 - t.val % 2, 0]
    ∧ win0_11.index t = ![0, 0]
    ∧ win0_12.index t = ![0, 0]
    ∧ win0_13.index t = ![0, 0]
    ∧ win0_14.index t = ![0, 0]
    ∧ win0_15.index t = ![2 * (t.val / 2) + 1 - t.val % 2, 0]
    ∧ win0_16.index t = ![2 * (t.val / 2) + 1 - t.val % 2, 0]
    ∧ win0_17.index t = ![0, 0]
    ∧ win0_18.index t = ![0, 0]
    ∧ win0_19.index t = ![0, 0] :=
  (by decide +kernel : ∀ t : Fin grid0.N, _)

/-- A point's sequence, and its rows there. -/
def seq (t : Fin cfg0.N) : Fin 2 := ⟨t.val / 2, by have := t_lt t; omega⟩
def pos (t : Fin cfg0.N) (x : Fin 1024) : Fin 2048 := ⟨1024 * (1 - t.val % 2) + x.val, by omega⟩
/-- A point's first block of 128 queries in its sequence. -/
def n0 (t : Fin cfg0.N) : ℕ := 8 * (1 - t.val % 2)
theorem n0_le (t : Fin cfg0.N) : n0 t + 8 ≤ 16 := by unfold n0; omega

/-- The operands as a device's memory holds them. -/
abbrev proj (c : Dev nD) : S2x2048x2304.Idx → EReal := m ((c : Thread nD τ).loc main_arg0)
abbrev hn (c : Dev nD) : S2x2048x1024.Idx → EReal := m ((c : Thread nD τ).loc main_arg1)
abbrev sinks (c : Dev nD) : S1x8.Idx → EReal := m ((c : Thread nD τ).loc main_arg2)
abbrev ctU (c : Dev nD) : S2x2048x512.Idx → EReal := m ((c : Thread nD τ).loc main_arg3)
abbrev ctZ (c : Dev nD) : S2x2048x512.Idx → EReal := m ((c : Thread nD τ).loc main_arg4)
abbrev ctO (c : Dev nD) : S2x2048x512.Idx → EReal := m ((c : Thread nD τ).loc main_arg5)

variable (c : Dev nD) (t : Fin cfg0.N)

set_option maxHeartbeats 2000000 in
theorem blk_q (x : Fin 1024) (k : Fin 512) : iblk m c 0 t (ix2 x k) = proj m c (ix3 (seq t) (pos t x) ⟨1024 + k.val, by omega⟩) * Ideal.ofBits .f32 0x3E000000#32 := by
  unfold seq pos; blk_simp [iblk, idx_val t]; entry_read; pointwise
  refine congrArg (· * _) ?_; blk_ext [idx_val t]
set_option maxHeartbeats 2000000 in
theorem blk_k (x : Fin 1024) (k : Fin 128) : iblk m c 1 t (ix2 x k) = proj m c (ix3 (seq t) (pos t x) ⟨1536 + k.val, by omega⟩) := by
  unfold seq pos; blk_simp [iblk, idx_val t]; entry_read; pointwise; blk_ext [idx_val t]
set_option maxHeartbeats 2000000 in
theorem blk_kp (x : Fin 128) (k : Fin 128) : iblk m c 2 t (ix2 x k) = proj m c (ix3 (seq t) ⟨896 * (1 - t.val % 2) + x.val, by omega⟩ ⟨1536 + k.val, by omega⟩) := by
  unfold seq; blk_simp [iblk, idx_val t]; entry_read; pointwise; blk_ext [idx_val t]
set_option maxHeartbeats 2000000 in
theorem blk_v (x : Fin 1024) (k : Fin 128) : iblk m c 3 t (ix2 x k) = proj m c (ix3 (seq t) (pos t x) ⟨1664 + k.val, by omega⟩) := by
  unfold seq pos; blk_simp [iblk, idx_val t]; entry_read; pointwise; blk_ext [idx_val t]
set_option maxHeartbeats 2000000 in
theorem blk_vp (x : Fin 128) (k : Fin 128) : iblk m c 4 t (ix2 x k) = proj m c (ix3 (seq t) ⟨896 * (1 - t.val % 2) + x.val, by omega⟩ ⟨1664 + k.val, by omega⟩) := by
  unfold seq; blk_simp [iblk, idx_val t]; entry_read; pointwise; blk_ext [idx_val t]
set_option maxHeartbeats 2000000 in
theorem blk_za (x : Fin 1024) (k : Fin 512) : iblk m c 5 t (ix2 x k) = proj m c (ix3 (seq t) (pos t x) ⟨1792 + k.val, by omega⟩) := by
  unfold seq pos; blk_simp [iblk, idx_val t]; entry_read; pointwise; blk_ext [idx_val t]
set_option maxHeartbeats 2000000 in
theorem blk_d (x : Fin 1024) (k : Fin 512) : iblk m c 8 t (ix2 x k) = ctO m c (ix3 (seq t) (pos t x) k) := by
  unfold seq pos; blk_simp [iblk, idx_val t]; entry_read; pointwise; blk_ext [idx_val t]
set_option maxHeartbeats 2000000 in
theorem blk_sink (h : Fin 8) : iblk m c 9 t (ix2 0 h) = sinks m c (ix2 0 h) := by
  blk_simp [iblk, idx_val t]; entry_read; blk_ext [idx_val t]
set_option maxHeartbeats 2000000 in
theorem blk_hn (x : Fin 1024) (k : Fin 512) : iblk m c 10 t (ix2 x k) = hn m c (ix3 (seq t) (pos t x) ⟨k.val, by omega⟩) := by
  unfold seq pos; blk_simp [iblk, idx_val t]; entry_read; pointwise; blk_ext [idx_val t]
set_option maxHeartbeats 2000000 in
theorem blk_dz (x : Fin 1024) (k : Fin 512) : iblk m c 15 t (ix2 x k) = ctZ m c (ix3 (seq t) (pos t x) k) := by
  unfold seq pos; blk_simp [iblk, idx_val t]; entry_read; pointwise; blk_ext [idx_val t]
set_option maxHeartbeats 2000000 in
theorem blk_u0 (y : Fin 4096) (k : Fin 128) : iblk m c 11 t (ix2 y k)
    = ctU m c (ix3 ⟨y.val % 16 / 8, by omega⟩ ⟨y.val % 8 * 256 + y.val / 16, by omega⟩ ⟨0 + k.val, by omega⟩) := by
  blk_simp [iblk, idx_val t]; entry_read; pointwise; blk_ext [idx_val t]
set_option maxHeartbeats 2000000 in
theorem blk_u1 (y : Fin 4096) (k : Fin 128) : iblk m c 12 t (ix2 y k)
    = ctU m c (ix3 ⟨y.val % 16 / 8, by omega⟩ ⟨y.val % 8 * 256 + y.val / 16, by omega⟩ ⟨128 + k.val, by omega⟩) := by
  blk_simp [iblk, idx_val t]; entry_read; pointwise; blk_ext [idx_val t]
set_option maxHeartbeats 2000000 in
theorem blk_u2 (y : Fin 4096) (k : Fin 128) : iblk m c 13 t (ix2 y k)
    = ctU m c (ix3 ⟨y.val % 16 / 8, by omega⟩ ⟨y.val % 8 * 256 + y.val / 16, by omega⟩ ⟨256 + k.val, by omega⟩) := by
  blk_simp [iblk, idx_val t]; entry_read; pointwise; blk_ext [idx_val t]
set_option maxHeartbeats 2000000 in
theorem blk_u3 (y : Fin 4096) (k : Fin 128) : iblk m c 14 t (ix2 y k)
    = ctU m c (ix3 ⟨y.val % 16 / 8, by omega⟩ ⟨y.val % 8 * 256 + y.val / 16, by omega⟩ ⟨384 + k.val, by omega⟩) := by
  blk_simp [iblk, idx_val t]; entry_read; pointwise; blk_ext [idx_val t]

/-- The saved output and log-sums, as the host computed them. -/
abbrev hostO (c : Dev nD) : S2x16x128x2x4x64.Idx → EReal := V m c main_v83
abbrev hostL (c : Dev nD) : S2x16x2x4x128x1.Idx → EReal := V m c main_v85

end Cert.AttnIdeal.Hand

end
-- ==== Proof.Attn.Host.lean ====
/- The saved values the attention's windows hold — the forward's output and the log of its row sums — are the reference's own
   forward lines: what the host computes before the call, operation by operation, stretch by stretch. -/
module

public import proofs.«01_k».proof.Proof.Attn.Blocks
public import proofs.«01_k».proof.Proof.Gen.AttnRefIdeal.Run

@[expose] public section

set_option maxRecDepth 16384

noncomputable section

namespace Cert.AttnIdeal.Hand

open Idealize.ShloMosaic Idealize.ShloMosaic.TcCoe Idealize.SL.Sem Cert.AttnIdeal Cert.AttnIdeal.Gen Cert.AttnIdeal.Spec

/-- Running two stretches one after the other. -/
theorem after_two (A B : List (HloOp τ sig (Elt Ideal))) (V : Valuation τ sig (Elt Ideal)) :
    StableHlo.after (A ++ B) V = StableHlo.after B (StableHlo.after A V) := by
  induction A generalizing V with
  | nil => rfl
  | cons op A ih => exact ih _

/-- The host operations up to the masked scores, the next up to the row sums, and the rest. -/
def stretch1 : List (HloOp τ sig (Elt Ideal)) := hostOps0.take 70
def stretch2 : List (HloOp τ sig (Elt Ideal)) := (hostOps0.drop 70).take 16
def stretch3 : List (HloOp τ sig (Elt Ideal)) := (hostOps0.drop 86).take 13
def stretch4 : List (HloOp τ sig (Elt Ideal)) := hostOps0.drop 99

theorem stretches : (hostOps0 : List (HloOp τ sig (Elt Ideal))) = stretch1 ++ (stretch2 ++ (stretch3 ++ stretch4)) := by
  rfl

/-- The two programs spell one table of slopes. -/
theorem slopes_eq : AttnRefIdeal.lit0 = lit0 := by funext k; fin_cases k <;> rfl

/-- Two pieces end to end. -/
def cat2 {α : Type} (t : Shape) (a : Fin t.rank) (s1 s2 : Shape) (x : s1.Idx → α) (y : s2.Idx → α) (h : Shape.Concatenates [s1, s2] t a) : t.Idx → α :=
  concatenate t a [⟨s1, x⟩, ⟨s2, y⟩] h

theorem cat2_eq {α : Type} (t : Shape) (a : Fin t.rank) (s1 s2 : Shape) (x : s1.Idx → α) (y : s2.Idx → α) (h : Shape.Concatenates [s1, s2] t a) :
    concatenate t a [⟨s1, x⟩, ⟨s2, y⟩] h = cat2 t a s1 s2 x y h := rfl

variable (W : Valuation τ sig (Elt Ideal)) (V0 : Valuation AttnRefIdeal.τ AttnRefIdeal.sig (Elt Ideal))

set_option maxHeartbeats 4000000 in
theorem s1_v59 (h0 : V0 (Proc.devRef .tc AttnRefIdeal.main_arg0) = W (Proc.devRef .tc main_arg0)) :
    StableHlo.after stretch1 W (Proc.devRef .tc main_v59) = AttnRefIdeal.Value.res_main_v53 V0 := by
  simp only [stretch1, hostOps0, List.take_succ_cons, List.take_zero]
  after_results_simp
  simp only [cat2_eq]
  after_results_simp
  simp only [AttnRefIdeal.Value.res_main_v53, AttnRefIdeal.Value.res_main_v48, AttnRefIdeal.Value.res_main_v27, AttnRefIdeal.Value.res_main_v24, AttnRefIdeal.Value.res_main_v17, AttnRefIdeal.Value.res_main_v11, AttnRefIdeal.Value.res_main_v10, slopes_eq, cat2_eq, h0]
  rfl

set_option maxHeartbeats 4000000 in
theorem s1_v15 : StableHlo.after stretch1 W (Proc.devRef .tc main_v15) =
    shapeCast S2x2048x2x64 (extractStridedSlice S2x2048x128 ![0, 0, 1664] (W (Proc.devRef .tc main_arg0)) slices_S2x2048x2304_S2x2048x128_0_0_1664) shapeCasts_S2x2048x128_S2x2048x2x64 := by
  simp only [stretch1, hostOps0, List.take_succ_cons, List.take_zero]
  after_results_simp
  rfl

set_option maxHeartbeats 4000000 in
theorem s1_v16 : StableHlo.after stretch1 W (Proc.devRef .tc main_v16) = shapeCast S8 (W (Proc.devRef .tc main_arg2)) shapeCasts_S1x8_S8 := by
  simp only [stretch1, hostOps0, List.take_succ_cons, List.take_zero]
  after_results_simp
  rfl

set_option maxHeartbeats 4000000 in
theorem s2_v15 : StableHlo.after stretch2 W (Proc.devRef .tc main_v15) = W (Proc.devRef .tc main_v15) := by
  simp only [stretch2, hostOps0, List.drop_succ_cons, List.drop_zero, List.take_succ_cons, List.take_zero]
  after_results_simp

set_option maxHeartbeats 4000000 in
theorem s2_v64 (h59 : W (Proc.devRef .tc main_v59) = AttnRefIdeal.Value.res_main_v53 V0)
    (h16 : W (Proc.devRef .tc main_v16) = shapeCast S8 (V0 (Proc.devRef .tc AttnRefIdeal.main_arg2)) shapeCasts_S1x8_S8) :
    StableHlo.after stretch2 W (Proc.devRef .tc main_v64) = AttnRefIdeal.Value.res_main_v64 V0 := by
  simp only [stretch2, hostOps0, List.drop_succ_cons, List.drop_zero, List.take_succ_cons, List.take_zero]
  after_results_simp
  simp only [AttnRefIdeal.Value.res_main_v64, AttnRefIdeal.Value.res_main_v62, AttnRefIdeal.Value.res_main_v56, AttnRefIdeal.Value.res_main_v55, h59, h16]
  rfl

set_option maxHeartbeats 4000000 in
theorem s2_v67 (h59 : W (Proc.devRef .tc main_v59) = AttnRefIdeal.Value.res_main_v53 V0)
    (h16 : W (Proc.devRef .tc main_v16) = shapeCast S8 (V0 (Proc.devRef .tc AttnRefIdeal.main_arg2)) shapeCasts_S1x8_S8) :
    StableHlo.after stretch2 W (Proc.devRef .tc main_v67) = AttnRefIdeal.Value.res_main_v85 V0 := by
  simp only [stretch2, hostOps0, List.drop_succ_cons, List.drop_zero, List.take_succ_cons, List.take_zero]
  after_results_simp
  simp only [AttnRefIdeal.Value.res_main_v85, AttnRefIdeal.Value.res_main_v64, AttnRefIdeal.Value.res_main_v62, AttnRefIdeal.Value.res_main_v56, AttnRefIdeal.Value.res_main_v55, h59, h16]
  rfl

set_option maxHeartbeats 4000000 in
theorem s2_v73 (h59 : W (Proc.devRef .tc main_v59) = AttnRefIdeal.Value.res_main_v53 V0)
    (h16 : W (Proc.devRef .tc main_v16) = shapeCast S8 (V0 (Proc.devRef .tc AttnRefIdeal.main_arg2)) shapeCasts_S1x8_S8) :
    StableHlo.after stretch2 W (Proc.devRef .tc main_v73) = AttnRefIdeal.Value.res_main_v91 V0 := by
  simp only [stretch2, hostOps0, List.drop_succ_cons, List.drop_zero, List.take_succ_cons, List.take_zero]
  after_results_simp
  simp only [AttnRefIdeal.Value.res_main_v91, AttnRefIdeal.Value.res_main_v90, AttnRefIdeal.Value.res_main_v85, AttnRefIdeal.Value.res_main_v64, AttnRefIdeal.Value.res_main_v62, AttnRefIdeal.Value.res_main_v56, AttnRefIdeal.Value.res_main_v55, h59, h16]
  rfl

/-- The forward's output, before its rows are laid out. -/
def refOut : S2x16x128x2x4x64.Idx → EReal :=
  transpose AttnRefIdeal.S2x16x128x2x4x64 [0, 1, 5, 2, 4, 3] (Host.dotGeneral AttnRefIdeal.dot_S2x16x256x2x64_S2x16x2x4x128x256_S2x16x2x64x4x128_2_5_4_34_013_012 none (φ₁ := .f32) (φ₂ := .f32) (AttnRefIdeal.Value.res_main_v103 V0) (AttnRefIdeal.Value.res_main_v93 V0)) transposes_S2x16x2x64x4x128_S2x16x128x2x4x64_0_1_5_2_4_3

/-- The log of the row sums. -/
def refLse : S2x16x2x4x128x1.Idx → EReal :=
  addf (F := Ideal) (φ := .f32) (AttnRefIdeal.Value.res_main_v64 V0) (Host.log (AttnRefIdeal.Value.res_main_v91 V0))

set_option maxHeartbeats 4000000 in
theorem s3_v83 (h67 : W (Proc.devRef .tc main_v67) = AttnRefIdeal.Value.res_main_v85 V0)
    (h73 : W (Proc.devRef .tc main_v73) = AttnRefIdeal.Value.res_main_v91 V0)
    (h15 : W (Proc.devRef .tc main_v15) = shapeCast S2x2048x2x64 (extractStridedSlice S2x2048x128 ![0, 0, 1664] (V0 (Proc.devRef .tc AttnRefIdeal.main_arg0)) slices_S2x2048x2304_S2x2048x128_0_0_1664) shapeCasts_S2x2048x128_S2x2048x2x64) :
    StableHlo.after stretch3 W (Proc.devRef .tc main_v83) = refOut V0 := by
  simp only [stretch3, hostOps0, List.drop_succ_cons, List.drop_zero, List.take_succ_cons, List.take_zero]
  after_results_simp
  simp only [cat2_eq]
  after_results_simp
  simp only [refOut, AttnRefIdeal.Value.res_main_v93, AttnRefIdeal.Value.res_main_v103, AttnRefIdeal.Value.res_main_v97, cat2_eq, h67, h73, h15]
  rfl

set_option maxHeartbeats 4000000 in
theorem s3_v85 (h64 : W (Proc.devRef .tc main_v64) = AttnRefIdeal.Value.res_main_v64 V0)
    (h73 : W (Proc.devRef .tc main_v73) = AttnRefIdeal.Value.res_main_v91 V0) :
    StableHlo.after stretch3 W (Proc.devRef .tc main_v85) = refLse V0 := by
  simp only [stretch3, hostOps0, List.drop_succ_cons, List.drop_zero, List.take_succ_cons, List.take_zero]
  after_results_simp
  simp only [refLse, h64, h73]

set_option maxHeartbeats 4000000 in
theorem s4_v89 : StableHlo.after stretch4 W (Proc.devRef .tc main_v89) = shapeCast S4096x512 (W (Proc.devRef .tc main_v83)) shapeCasts_S2x16x128x2x4x64_S4096x512 := by
  simp only [stretch4, hostOps0, List.drop_succ_cons, List.drop_zero]
  after_results_simp
  rfl

set_option maxHeartbeats 4000000 in
theorem s4_v90 : StableHlo.after stretch4 W (Proc.devRef .tc main_v90) = shapeCast S256x128 (W (Proc.devRef .tc main_v85)) shapeCasts_S2x16x2x4x128x1_S256x128 := by
  simp only [stretch4, hostOps0, List.drop_succ_cons, List.drop_zero]
  after_results_simp
  rfl

variable (m : (ℓ : Loc nD τ sig) → Buf (Elt Ideal) ℓ) (c : Dev nD)

/-- The saved output's array is the reference's forward output. -/
theorem V_o (h0 : V0 (Proc.devRef .tc AttnRefIdeal.main_arg0) = m (c, Proc.devRef .tc main_arg0))
    (h2 : V0 (Proc.devRef .tc AttnRefIdeal.main_arg2) = m (c, Proc.devRef .tc main_arg2)) :
    V m c main_v89 = shapeCast S4096x512 (refOut V0) shapeCasts_S2x16x128x2x4x64_S4096x512 := by
  show StableHlo.after hostOps0 _ _ = _
  rw [stretches, after_two, after_two, after_two, s4_v89]
  have h59 := s1_v59 (fun b => m (c, b)) V0 h0
  have h16 := (s1_v16 (fun b => m (c, b))).trans (by rw [← h2])
  rw [s3_v83 _ V0 (s2_v67 _ V0 h59 h16) (s2_v73 _ V0 h59 h16) ((s2_v15 _).trans ((s1_v15 _).trans (by rw [← h0])))]

theorem V_lse (h0 : V0 (Proc.devRef .tc AttnRefIdeal.main_arg0) = m (c, Proc.devRef .tc main_arg0))
    (h2 : V0 (Proc.devRef .tc AttnRefIdeal.main_arg2) = m (c, Proc.devRef .tc main_arg2)) :
    V m c main_v90 = shapeCast S256x128 (refLse V0) shapeCasts_S2x16x2x4x128x1_S256x128 := by
  show StableHlo.after hostOps0 _ _ = _
  rw [stretches, after_two, after_two, after_two, s4_v90]
  have h59 := s1_v59 (fun b => m (c, b)) V0 h0
  have h16 := (s1_v16 (fun b => m (c, b))).trans (by rw [← h2])
  rw [s3_v85 _ V0 (s2_v64 _ V0 h59 h16) (s2_v73 _ V0 h59 h16)]

end Cert.AttnIdeal.Hand
-- ==== Proof.Attn.SavedRow.lean ====
/- WHAT THE FORWARD SAVED, as a grid point reads it: the attention's output and the rows' log-sums. -/
module

public import proofs.«01_k».proof.Proof.Attn.Host
public import proofs.«01_k».proof.Proof.Attn.RefFwd

@[expose] public section

set_option maxRecDepth 16384

noncomputable section

namespace Cert.AttnIdeal.Hand

open Idealize.ShloMosaic Idealize.ShloMosaic.TcCoe Idealize.SL.Sem Cert.AttnIdeal Cert.AttnIdeal.Gen Cert.AttnIdeal.Spec
open Cert.AttnRefIdeal.Value (P0 S0 C0 D0)

theorem cast_lse (f : S2x16x2x4x128x1.Idx → EReal) (b : Fin 2) (n : Fin 16) (j : Fin 2) (g : Fin 4) (q : Fin 128) :
    shapeCast S256x128 f shapeCasts_S2x16x2x4x128x1_S256x128 (ix2 ⟨128 * b.val + 8 * n.val + 4 * j.val + g.val, by omega⟩ q) = f (ix6 b n j g q 0) := by
  pointwise

theorem cast_o (f : S2x16x128x2x4x64.Idx → EReal) (b : Fin 2) (n : Fin 16) (q : Fin 128) (j : Fin 2) (g : Fin 4) (d : Fin 64) :
    shapeCast S4096x512 f shapeCasts_S2x16x128x2x4x64_S4096x512 (ix2 ⟨2048 * b.val + 128 * n.val + q.val, by omega⟩ (oc j g d)) = f (ix6 b n q j g d) := by
  unfold oc
  pointwise

section Read
variable (m : (ℓ : Loc nD τ sig) → Buf (Elt Ideal) ℓ) (c : Dev nD) (t : Fin cfg0.N)

omit m c in
set_option maxHeartbeats 2000000 in
theorem read_lse (W : Valuation τ sig (Elt Ideal)) (f : S256x128.Idx → EReal) (hV : W (Proc.devRef .tc main_v90) = f) (x : Fin 64) (q : Fin 128) :
    ((cfg0.win 7).blk t).view.read (Elt Ideal) (W (Proc.devRef .tc (Pipeline.arrRef spec0 7))) (ix2 x q) = f (ix2 ⟨64 * (2 * (t.val / 2) + 1 - t.val % 2) + x.val, by have := t_lt t; omega⟩ q) := by
  show (W (Proc.devRef .tc main_v90) : S256x128.Idx → EReal) ((win0_7.blk t).view.emb (ix2 x q)) = _
  rw [hV]
  blk_ext [idx_val t]
omit m c in
set_option maxHeartbeats 2000000 in
theorem read_o (W : Valuation τ sig (Elt Ideal)) (f : S4096x512.Idx → EReal) (hV : W (Proc.devRef .tc main_v89) = f) (x : Fin 1024) (k : Fin 512) :
    ((cfg0.win 6).blk t).view.read (Elt Ideal) (W (Proc.devRef .tc (Pipeline.arrRef spec0 6))) (ix2 x k) = f (ix2 ⟨1024 * (2 * (t.val / 2) + 1 - t.val % 2) + x.val, by have := t_lt t; omega⟩ k) := by
  show (W (Proc.devRef .tc main_v89) : S4096x512.Idx → EReal) ((win0_6.blk t).view.emb (ix2 x k)) = _
  rw [hV]
  blk_ext [idx_val t]

theorem row_lse (f : S256x128.Idx → EReal) (hV : V m c main_v90 = f) (x : Fin 64) (q : Fin 128) :
    iblk m c 7 t (ix2 x q) = f (ix2 ⟨64 * (2 * (t.val / 2) + 1 - t.val % 2) + x.val, by have := t_lt t; omega⟩ q) := by
  unfold iblk
  exact read_lse t _ f hV x q
theorem row_o (f : S4096x512.Idx → EReal) (hV : V m c main_v89 = f) (x : Fin 1024) (k : Fin 512) :
    iblk m c 6 t (ix2 x k) = f (ix2 ⟨1024 * (2 * (t.val / 2) + 1 - t.val % 2) + x.val, by have := t_lt t; omega⟩ k) := by
  unfold iblk
  exact read_o t _ f hV x k
end Read

end Cert.AttnIdeal.Hand

end
-- ==== Proof.Attn.Saved.lean ====
/- WHAT THE FORWARD SAVED, as a grid point reads it: the attention's output and the rows' log-sums. -/
module

public import proofs.«01_k».proof.Proof.Attn.SavedRow
public import proofs.«01_k».proof.Proof.Attn.RefFwd

@[expose] public section

set_option maxRecDepth 16384

noncomputable section

namespace Cert.AttnIdeal.Hand

open Idealize.ShloMosaic Idealize.ShloMosaic.TcCoe Idealize.SL.Sem Cert.AttnIdeal Cert.AttnIdeal.Gen Cert.AttnIdeal.Spec
open Cert.AttnRefIdeal.Value (P0 S0 C0 D0)

variable (m : (ℓ : Loc nD τ sig) → Buf (Elt Ideal) ℓ) (V0 : Valuation AttnRefIdeal.τ AttnRefIdeal.sig (Elt Ideal)) (c : Dev nD)

/-- The two programs' arguments are the same. -/
structure Same : Prop where
  p : V0 (Proc.devRef .tc AttnRefIdeal.main_arg0) = m (c, Proc.devRef .tc main_arg0)
  hn : V0 (Proc.devRef .tc AttnRefIdeal.main_arg1) = m (c, Proc.devRef .tc main_arg1)
  s : V0 (Proc.devRef .tc AttnRefIdeal.main_arg2) = m (c, Proc.devRef .tc main_arg2)
  u : V0 (Proc.devRef .tc AttnRefIdeal.main_arg3) = m (c, Proc.devRef .tc main_arg3)
  z : V0 (Proc.devRef .tc AttnRefIdeal.main_arg4) = m (c, Proc.devRef .tc main_arg4)
  ct : V0 (Proc.devRef .tc AttnRefIdeal.main_arg5) = m (c, Proc.devRef .tc main_arg5)

variable {m V0 c}

variable (S : Same m V0 c) (t : Fin cfg0.N)
include S

theorem blk_lse (i : Fin 8) (j : Fin 2) (g : Fin 4) (q : Fin 128) :
    iblk m c 7 t (ix2 ⟨8 * i.val + 4 * j.val + g.val, by omega⟩ q) = refLse V0 (ix6 (seq t) (blk (n0 t) (n0_le t) i) j g q 0) := by
  rw [row_lse m c t _ (V_lse V0 m c S.p S.s), ← cast_lse (refLse V0)]
  refine congrArg (fun y => shapeCast S256x128 (refLse V0) shapeCasts_S2x16x2x4x128x1_S256x128 (ix2 y q)) (Fin.ext ?_)
  show 64 * (2 * (t.val / 2) + 1 - t.val % 2) + (8 * i.val + 4 * j.val + g.val) = 128 * (t.val / 2) + 8 * (8 * (1 - t.val % 2) + i.val) + 4 * j.val + g.val
  omega

theorem blk_o (i : Fin 8) (q : Fin 128) (j : Fin 2) (g : Fin 4) (d : Fin 64) :
    iblk m c 6 t (ix2 ⟨128 * i.val + q.val, by omega⟩ (oc j g d)) = refOut V0 (ix6 (seq t) (blk (n0 t) (n0_le t) i) q j g d) := by
  rw [row_o m c t _ (V_o V0 m c S.p S.s), ← cast_o (refOut V0)]
  refine congrArg (fun y => shapeCast S4096x512 (refOut V0) shapeCasts_S2x16x128x2x4x64_S4096x512 (ix2 y (oc j g d))) (Fin.ext ?_)
  show 1024 * (2 * (t.val / 2) + 1 - t.val % 2) + (128 * i.val + q.val) = 2048 * (t.val / 2) + 128 * (8 * (1 - t.val % 2) + i.val) + q.val
  omega

end Cert.AttnIdeal.Hand

end
-- ==== Proof.Attn.SavedLse.lean ====
/- THE SAVED LOG-SUMS, over the real numbers. -/
module

public import proofs.«01_k».proof.Proof.Attn.Host
public import proofs.«01_k».proof.Proof.Attn.RefFwd

@[expose] public section

set_option maxRecDepth 16384

noncomputable section

namespace Cert.AttnIdeal.Hand

open Idealize.ShloMosaic Idealize.ShloMosaic.TcCoe Idealize.SL.Sem Cert.AttnIdeal Cert.AttnIdeal.Gen Cert.AttnIdeal.Spec
open Cert.AttnRefIdeal.Value (P0 S0 C0 D0)

variable {V0 : Valuation AttnRefIdeal.τ AttnRefIdeal.sig (Elt Ideal)}

theorem addlog_at {t : Shape} (x y : FVec Ideal t .f32) (i : t.Idx) : addf x (Host.log y) i = @HAdd.hAdd EReal EReal EReal _ (x i) (Ideal.log (y i)) := rfl

theorem refLse_at (H : Fine (P0 V0) (S0 V0) (C0 V0)) (b : Fin 2) (n : Fin 16) (j : Fin 2) (g : Fin 4) (q : Fin 128) :
    refLse V0 (ix6 b n j g q 0) = ((D0 V0).lse b n j (rr g q) : EReal) := by
  rw [refLse]
  exact (addlog_at _ _ _).trans ((congrArg₂ (fun x y : EReal => x + Ideal.log y) (AttnRefIdeal.Value.v64_at V0 b n j g q H) (AttnRefIdeal.Value.v91_at V0 b n j g q H)).trans
    (Cert.Attn.Row.lse_eq _ _ ((D0 V0).score_ne_top b n j (rr g q))))

end Cert.AttnIdeal.Hand

end
-- ==== Proof.Attn.Loads.lean ====
/- A GRID POINT'S LOADS ARE THE ARGUMENTS: queries, keys, values, cotangent, log-sums, sinks, bias. -/
module

public import proofs.«01_k».proof.Proof.Attn.Saved
public import proofs.«01_k».proof.Proof.Attn.SavedLse
public import Idealize.ShloMosaic.Lib.WholeRead

@[expose] public section

set_option maxRecDepth 16384

noncomputable section

namespace Cert.AttnIdeal.Hand

open Idealize.ShloMosaic Idealize.ShloMosaic.TcCoe Idealize.SL.Sem Cert.AttnIdeal Cert.AttnIdeal.Gen Cert.AttnIdeal.Spec
open Cert.AttnRefIdeal.Value (P0 S0 C0 D0)

/-- A rectangle's entry, in the array. -/
theorem unit_idx {A B a b : ℕ} (o0 o1 : ℕ) (inb : ∀ i, (![o0, o1] : Fin 2 → ℕ) i + (![a, b] : Fin 2 → ℕ) i ≤ (⟨2, ![A, B]⟩ : Shape).size i)
    (x : Fin a) (k : Fin b) (X : Fin A) (K : Fin B) (hX : X.val = o0 + x.val) (hK : K.val = o1 + k.val) :
    (Rect.unit (s := ⟨2, ![A, B]⟩) ![o0, o1] ![a, b] inb).toLoadRect.idx (ix2 x k) = ix2 X K := by
  funext i
  refine Fin.ext ?_
  refine Eq.trans (Rect.idx_unit_val (s := ⟨2, ![A, B]⟩) ![o0, o1] ![a, b] inb (ix2 x k) i) ?_
  fin_cases i
  · exact hX.symm
  · exact hK.symm

variable {m : (ℓ : Loc nD τ sig) → Buf (Elt Ideal) ℓ} {V0 : Valuation AttnRefIdeal.τ AttnRefIdeal.sig (Elt Ideal)} {c : Dev nD}
variable (S : Same m V0 c) (t : Fin cfg0.N)

theorem Same.proj (S : Same m V0 c) : proj m c = P0 V0 := S.p.symm
theorem Same.sinks (S : Same m V0 c) : sinks m c = S0 V0 := S.s.symm
theorem Same.ctO (S : Same m V0 c) : ctO m c = C0 V0 := S.ct.symm

theorem pos_at (i : Fin 8) (q : Fin 128) (x : Fin 1024) (hx : x.val = 128 * i.val + q.val) : pos t x = at128 (blk (n0 t) (n0_le t) i) q := by
  refine Fin.ext ?_
  show 1024 * (1 - t.val % 2) + x.val = 128 * (8 * (1 - t.val % 2) + i.val) + q.val
  omega

variable (bias : Fin 2 → Fin 2 → Vec Ideal S1x1x128x512 .f32) (dk dv : Fin 2 → Vec Ideal S1x128x64 .f32)

theorem load_q (i : Fin 8) (q : Fin 128) (k : Fin 512) :
    (loads m c t bias dk dv).q i (ix2 q k) = iblk m c 0 t (ix2 ⟨128 * i.val + q.val, by omega⟩ k) := by
  refine (Memref.IsWhole.readAt_unread (hs0_0 t) _ _ _).trans (congrArg (iblk m c 0 t) ?_)
  exact unit_idx _ _ _ _ _ _ _ rfl (Nat.zero_add _).symm
theorem load_kc (j : Fin 2) (i : Fin 8) (q : Fin 128) (d : Fin 64) :
    (loads m c t bias dk dv).kc j i (ix2 q d) = iblk m c 1 t (ix2 ⟨128 * i.val + q.val, by omega⟩ ⟨64 * j.val + d.val, by omega⟩) := by
  refine (Memref.IsWhole.readAt_unread (hs0_1 t) _ _ _).trans (congrArg (iblk m c 1 t) ?_)
  exact unit_idx _ _ _ _ _ _ _ rfl rfl
theorem load_kp (j : Fin 2) (q : Fin 128) (d : Fin 64) :
    (loads m c t bias dk dv).kp j (ix2 q d) = iblk m c 2 t (ix2 q ⟨64 * j.val + d.val, by omega⟩) := by
  refine (Memref.IsWhole.readAt_unread (hs0_2 t) _ _ _).trans (congrArg (iblk m c 2 t) ?_)
  exact unit_idx _ _ _ _ _ _ _ (Nat.zero_add _).symm rfl
theorem load_vc (j : Fin 2) (i : Fin 8) (q : Fin 128) (d : Fin 64) :
    (loads m c t bias dk dv).vc j i (ix2 q d) = iblk m c 3 t (ix2 ⟨128 * i.val + q.val, by omega⟩ ⟨64 * j.val + d.val, by omega⟩) := by
  refine (Memref.IsWhole.readAt_unread (hs0_3 t) _ _ _).trans (congrArg (iblk m c 3 t) ?_)
  exact unit_idx _ _ _ _ _ _ _ rfl rfl
theorem load_vp (j : Fin 2) (q : Fin 128) (d : Fin 64) :
    (loads m c t bias dk dv).vp j (ix2 q d) = iblk m c 4 t (ix2 q ⟨64 * j.val + d.val, by omega⟩) := by
  refine (Memref.IsWhole.readAt_unread (hs0_4 t) _ _ _).trans (congrArg (iblk m c 4 t) ?_)
  exact unit_idx _ _ _ _ _ _ _ (Nat.zero_add _).symm rfl
theorem load_za (x : Fin 1024) (k : Fin 512) : (loads m c t bias dk dv).za (ix2 x k) = iblk m c 5 t (ix2 x k) := by
  refine (Memref.IsWhole.readAt_unread (hs0_5 t) _ _ _).trans (congrArg (iblk m c 5 t) ?_)
  exact unit_idx _ _ _ _ _ _ _ (Nat.zero_add _).symm (Nat.zero_add _).symm
theorem load_o (x : Fin 1024) (k : Fin 512) : (loads m c t bias dk dv).o (ix2 x k) = iblk m c 6 t (ix2 x k) := by
  refine (Memref.IsWhole.readAt_unread (hs0_6 t) _ _ _).trans (congrArg (iblk m c 6 t) ?_)
  exact unit_idx _ _ _ _ _ _ _ (Nat.zero_add _).symm (Nat.zero_add _).symm
theorem load_lse (i : Fin 8) (h : Fin 8) (q : Fin 128) :
    (loads m c t bias dk dv).lse i (ix2 h q) = iblk m c 7 t (ix2 ⟨8 * i.val + h.val, by omega⟩ q) := by
  refine (Memref.IsWhole.readAt_unread (hs0_7 t) _ _ _).trans (congrArg (iblk m c 7 t) ?_)
  exact unit_idx _ _ _ _ _ _ _ rfl (Nat.zero_add _).symm
theorem load_d (x : Fin 1024) (k : Fin 512) : (loads m c t bias dk dv).d (ix2 x k) = iblk m c 8 t (ix2 x k) := by
  refine (Memref.IsWhole.readAt_unread (hs0_8 t) _ _ _).trans (congrArg (iblk m c 8 t) ?_)
  exact unit_idx _ _ _ _ _ _ _ (Nat.zero_add _).symm (Nat.zero_add _).symm
theorem load_sk (j : Fin 2) (g : Fin 4) : (loads m c t bias dk dv).sk j g (ix2 0 0) = iblk m c 9 t (ix2 0 ⟨4 * j.val + g.val, by omega⟩) := by
  refine (Memref.IsWhole.readAt_unread (hs0_9 t) _ _ _).trans (congrArg (iblk m c 9 t) ?_)
  exact unit_idx _ _ _ _ _ _ _ rfl rfl

theorem oc_eq (j : Fin 2) (g : Fin 4) (q : Fin 128) (d : Fin 64) : colOf j (rr g q) d = oc j g d := by
  refine Fin.ext ?_
  show 256 * j.val + 64 * ((128 * g.val + q.val) / 128) + d.val = 256 * j.val + 64 * g.val + d.val
  omega

/-- The gate's argument and the cotangent at a point's row. -/
theorem za_at (i : Fin 8) (q : Fin 128) (k : Fin 512) (x : Fin 1024) (hx : x.val = 128 * i.val + q.val) (S : Same m V0 c) :
    (loads m c t bias dk dv).za (ix2 x k) = P0 V0 (ix3 (seq t) (at128 (blk (n0 t) (n0_le t) i) q) ⟨1792 + k.val, by omega⟩) := by
  rw [load_za, blk_za, pos_at t i q x hx, S.proj]
theorem d_at (i : Fin 8) (q : Fin 128) (k : Fin 512) (x : Fin 1024) (hx : x.val = 128 * i.val + q.val) (S : Same m V0 c) :
    (loads m c t bias dk dv).d (ix2 x k) = C0 V0 (ix3 (seq t) (at128 (blk (n0 t) (n0_le t) i) q) k) := by
  rw [load_d, blk_d, pos_at t i q x hx, S.ctO]

variable (H : Fine (P0 V0) (S0 V0) (C0 V0))
include S H

theorem at_q (i : Fin 8) (j : Fin 2) (r : Fin 512) (d : Fin 64) :
    (loads m c t bias dk dv).q4 j i (ix2 r d) = (((D0 V0).q (seq t) (blk (n0 t) (n0_le t) i) j r d * (1 / 8) : ℝ) : EReal) := by
  rw [← rr_of r, Ld.q4, heads_at, shapeCast_self, load_q, blk_q, At.eighth, qOf_rr, oc_eq, pos_at t i (qOf r) _ rfl, S.proj, EReal.coe_mul, ← H.q_eq]
  refine congrArg (fun k => P0 V0 (ix3 _ _ k) * _) (Fin.ext ?_)
  rfl

theorem at_k (i : Fin 8) (j : Fin 2) (s : Fin 128) (d : Fin 64) :
    (loads m c t bias dk dv).kcur j i (ix2 s d) = ((D0 V0).k (seq t) (blk (n0 t) (n0_le t) i) j s d : EReal) := by
  rw [Ld.kcur, shapeCast_self, load_kc, blk_k, pos_at t i s _ rfl, S.proj, ← H.k_eq]
  rfl
theorem at_v (i : Fin 8) (j : Fin 2) (s : Fin 128) (d : Fin 64) :
    (loads m c t bias dk dv).vcur j i (ix2 s d) = ((D0 V0).v (seq t) (blk (n0 t) (n0_le t) i) j s d : EReal) := by
  rw [Ld.vcur, shapeCast_self, load_vc, blk_v, pos_at t i s _ rfl, S.proj, ← H.v_eq]
  rfl

theorem at_kp (j : Fin 2) (s : Fin 128) (d : Fin 64) :
    ∃ x : ℝ, (loads m c t bias dk dv).kbef j 0 (ix2 s d) = (x : EReal) ∧ (n0 t ≠ 0 → x = (D0 V0).k (seq t) ⟨n0 t - 1, by have := n0_le t; omega⟩ j s d) := by
  have e : (loads m c t bias dk dv).kbef j 0 (ix2 s d) = P0 V0 (ix3 (seq t) ⟨896 * (1 - t.val % 2) + s.val, by omega⟩ ⟨1536 + (64 * j.val + d.val), by omega⟩) := by
    show shapeCast S128x64 ((loads m c t bias dk dv).kp j) shapeCasts_S128x64_S128x64 (ix2 s d) = _
    rw [shapeCast_self, load_kp, blk_kp, S.proj]
  obtain ⟨x, hx⟩ := H.p (seq t) ⟨896 * (1 - t.val % 2) + s.val, by omega⟩ ⟨1536 + (64 * j.val + d.val), by omega⟩ (by show 1024 ≤ 1536 + _; omega)
  refine ⟨x, e.trans hx, fun h0 => EReal.coe_injective ?_⟩
  rw [← hx, ← H.k_eq]
  refine congrArg (P0 V0) ?_
  have h1 : t.val % 2 = 0 := by unfold n0 at h0; omega
  refine AttnRefIdeal.Value.ix3_val rfl ?_ rfl
  show 896 * (1 - t.val % 2) + s.val = 128 * (8 * (1 - t.val % 2) - 1) + s.val
  omega
theorem at_vp (j : Fin 2) (s : Fin 128) (d : Fin 64) :
    ∃ x : ℝ, (loads m c t bias dk dv).vbef j 0 (ix2 s d) = (x : EReal) ∧ (n0 t ≠ 0 → x = (D0 V0).v (seq t) ⟨n0 t - 1, by have := n0_le t; omega⟩ j s d) := by
  have e : (loads m c t bias dk dv).vbef j 0 (ix2 s d) = P0 V0 (ix3 (seq t) ⟨896 * (1 - t.val % 2) + s.val, by omega⟩ ⟨1664 + (64 * j.val + d.val), by omega⟩) := by
    show shapeCast S128x64 ((loads m c t bias dk dv).vp j) shapeCasts_S128x64_S128x64 (ix2 s d) = _
    rw [shapeCast_self, load_vp, blk_vp, S.proj]
  obtain ⟨x, hx⟩ := H.p (seq t) ⟨896 * (1 - t.val % 2) + s.val, by omega⟩ ⟨1664 + (64 * j.val + d.val), by omega⟩ (by show 1024 ≤ 1664 + _; omega)
  refine ⟨x, e.trans hx, fun h0 => EReal.coe_injective ?_⟩
  rw [← hx, ← H.v_eq]
  refine congrArg (P0 V0) ?_
  have h1 : t.val % 2 = 0 := by unfold n0 at h0; omega
  refine AttnRefIdeal.Value.ix3_val rfl ?_ rfl
  show 896 * (1 - t.val % 2) + s.val = 128 * (8 * (1 - t.val % 2) - 1) + s.val
  omega

theorem at_dO (i : Fin 8) (j : Fin 2) (r : Fin 512) (d : Fin 64) :
    (loads m c t bias dk dv).do4 j i (ix2 r d) = ((D0 V0).dO (seq t) (blk (n0 t) (n0_le t) i) j r d : EReal) := by
  rw [← rr_of r]
  have e : (loads m c t bias dk dv).do4 j i (ix2 (rr (gOf r) (qOf r)) d) = heads (rowsOf (loads m c t bias dk dv).dO i) j (ix2 (rr (gOf r) (qOf r)) d) := rfl
  rw [e, heads_at, rowsOf_at, dO_at, qOf_rr, oc_eq, d_at t bias dk dv i (qOf r) _ _ rfl S, za_at t bias dk dv i (qOf r) _ _ rfl S, ← H.dO_eq, gate]

theorem at_lse (i : Fin 8) (j : Fin 2) (r : Fin 512) :
    (loads m c t bias dk dv).lse4 j i (ix2 0 r) = ((D0 V0).lse (seq t) (blk (n0 t) (n0_le t) i) j r : EReal) := by
  rw [← rr_of r, ← refLse_at H, ← blk_lse S, Ld.lse4, rows_at, shapeCast_self, load_lse, qOf_rr]
  refine congrArg (fun y => iblk m c 7 t (ix2 y (qOf r))) (Fin.ext ?_)
  show 8 * i.val + (4 * j.val + (128 * (r.val / 128) + r.val % 128) / 128) = 8 * i.val + 4 * j.val + r.val / 128
  omega

theorem at_sink (j : Fin 2) (r : Fin 512) : (loads m c t bias dk dv).sink j (ix2 0 r) = ((D0 V0).sink j (gOf r) : EReal) := by
  rw [sink_at, load_sk, blk_sink, S.sinks, ← H.s_eq]
  rfl

omit S H in
theorem step_val : ∀ t : Fin grid0.N, (grid0.coords t 1).val = t.val % 2 := by decide +kernel

/-- A point whose bias and carried gradients are right has loaded the arguments. -/
theorem at_of (hb : ∀ j k s r, bias j k (ix4 0 0 s r) = if k.val = 0 then own j s r else before j s r)
    (hk : t.val % 2 = 1 → ∀ j s d, dk j (ix3 0 s d) = ((D0 V0).dKb (seq t) 8 j (lo s) d : EReal))
    (hv : t.val % 2 = 1 → ∀ j s d, dv j (ix3 0 s d) = ((D0 V0).dVb (seq t) 8 j (lo s) d : EReal)) :
    At (loads m c t bias dk dv) (D0 V0) (seq t) (n0 t) (n0_le t) where
  q i j r d := at_q S t bias dk dv H i j r d
  k i j s d := at_k S t bias dk dv H i j s d
  v i j s d := at_v S t bias dk dv H i j s d
  kp := at_kp S t bias dk dv H
  vp := at_vp S t bias dk dv H
  dO i j r d := at_dO S t bias dk dv H i j r d
  lse i j r := at_lse S t bias dk dv H i j r
  sink := at_sink S t bias dk dv H
  own j s r := by
    have e : (loads m c t bias dk dv).bcur j (ix2 s r) = bias j 0 (ix4 0 0 s r) := by
      show shapeCast S128x512 (bias j 0) shapeCasts_S1x1x128x512_S128x512 (ix2 s r) = _
      pointwise
    rw [e, hb, if_pos (show ((0 : Fin 2) : ℕ) = 0 from rfl)]
  before j i s r := by
    have e : (loads m c t bias dk dv).bprev j (ix2 s r) = bias j 1 (ix4 0 0 s r) := by
      show shapeCast S128x512 (bias j 1) shapeCasts_S1x1x128x512_S128x512 (ix2 s r) = _
      pointwise
    rw [hb, if_neg (by decide)] at e
    obtain ⟨i, hi⟩ := i
    cases i with
    | zero =>
      have hf : Scalar.cmpi .sgt (loads m c t bias dk dv).first 0#32 = BitVec.ofBool (decide (¬n0 t = 0)) := by
        show Scalar.cmpi .sgt (Scalar.subi 16#32 (Scalar.muli 8#32 (Scalar.addi (BitVec.ofNat 32 (grid0.coords t 1).val) 1#32))) 0#32 = _
        rw [step_val]; unfold n0
        have h2 : t.val % 2 = 0 ∨ t.val % 2 = 1 := by omega
        rcases h2 with h2 | h2 <;> rw [h2] <;> decide
      have e1 : (loads m c t bias dk dv).bbef j ⟨0, hi⟩ (ix2 s r) = Scalar.select (Scalar.cmpi .sgt (loads m c t bias dk dv).first 0#32) ((loads m c t bias dk dv).bprev j (ix2 s r)) (Ideal.ofBits .f32 0xFF800000#32) := by
        show Scalar.select (Scalar.cmpi .sgt (loads m c t bias dk dv).first 0#32) ((loads m c t bias dk dv).bprev j) (broadcast S128x512 (Scalar.ofBits .f32 0xFF800000#32)) (ix2 s r) = _
        unfold Scalar.select; split <;> rfl
      rw [e1, select_of _ _ hf, e, cbot]
      show (if ¬n0 t = 0 then _ else _) = if n0 t + 0 = 0 then _ else _
      split_ifs <;> first | rfl | omega
    | succ i =>
      have e1 : (loads m c t bias dk dv).bbef j ⟨i + 1, hi⟩ (ix2 s r) = (loads m c t bias dk dv).bprev j (ix2 s r) := rfl
      rw [e1, e, if_neg (show ¬ (blk (n0 t) (n0_le t) ⟨i + 1, hi⟩).val = 0 by show ¬ n0 t + (i + 1) = 0; omega)]
  dk j s d := by
    have hs : Scalar.cmpi .sgt (loads m c t bias dk dv).step 0#32 = BitVec.ofBool (decide (t.val % 2 = 1)) := by
      show Scalar.cmpi .sgt (BitVec.ofNat 32 (grid0.coords t 1).val) 0#32 = _
      rw [step_val]
      have h2 : t.val % 2 = 0 ∨ t.val % 2 = 1 := by omega
      rcases h2 with h2 | h2 <;> rw [h2] <;> decide
    have e : (loads m c t bias dk dv).dkIn j 7 (ix2 s d) = Scalar.select (Scalar.cmpi .sgt (loads m c t bias dk dv).step 0#32) (dk j (ix3 0 s d)) (Ideal.ofBits .f32 0x00000000#32) := by
      have e1 : shapeCast S128x64 (dk j) shapeCasts_S1x128x64_S128x64 (ix2 s d) = dk j (ix3 0 s d) := by pointwise
      rw [← e1, Ld.dkIn, dif_neg (by decide)]
      unfold Scalar.select; split <;> rfl
    rw [e, select_of _ _ hs]
    by_cases h : t.val % 2 = 1
    · rw [if_pos h, hk h, Data.fromNext, dif_pos (show n0 t + 8 < 16 by unfold n0; omega)]
      congr 2
      exact Fin.ext (show 8 = n0 t + 8 by unfold n0; omega)
    · rw [if_neg h, Data.fromNext, dif_neg (show ¬ n0 t + 8 < 16 by unfold n0; omega)]
      simp [Ideal.ofBits, Ideal.ieee]
  dv j s d := by
    have hs : Scalar.cmpi .sgt (loads m c t bias dk dv).step 0#32 = BitVec.ofBool (decide (t.val % 2 = 1)) := by
      show Scalar.cmpi .sgt (BitVec.ofNat 32 (grid0.coords t 1).val) 0#32 = _
      rw [step_val]
      have h2 : t.val % 2 = 0 ∨ t.val % 2 = 1 := by omega
      rcases h2 with h2 | h2 <;> rw [h2] <;> decide
    have e : (loads m c t bias dk dv).dvIn j 7 (ix2 s d) = Scalar.select (Scalar.cmpi .sgt (loads m c t bias dk dv).step 0#32) (dv j (ix3 0 s d)) (Ideal.ofBits .f32 0x00000000#32) := by
      have e1 : shapeCast S128x64 (dv j) shapeCasts_S1x128x64_S128x64 (ix2 s d) = dv j (ix3 0 s d) := by pointwise
      rw [← e1, Ld.dvIn, dif_neg (by decide)]
      unfold Scalar.select; split <;> rfl
    rw [e, select_of _ _ hs]
    by_cases h : t.val % 2 = 1
    · rw [if_pos h, hv h, Data.fromNext, dif_pos (show n0 t + 8 < 16 by unfold n0; omega)]
      congr 2
      exact Fin.ext (show 8 = n0 t + 8 by unfold n0; omega)
    · rw [if_neg h, Data.fromNext, dif_neg (show ¬ n0 t + 8 < 16 by unfold n0; omega)]
      simp [Ideal.ofBits, Ideal.ieee]

end Cert.AttnIdeal.Hand

end
-- ==== Proof.Attn.Step.lean ====
/- WHAT ONE GRID POINT LEAVES, in the arguments: its rows of the projection's gradient, what it adds to the weights' and sinks'
gradients, what it hands on. -/
module

public import proofs.«01_k».proof.Proof.Attn.Loads

@[expose] public section

set_option maxRecDepth 16384

noncomputable section

namespace Cert.AttnIdeal.Hand

open Idealize.ShloMosaic Idealize.ShloMosaic.TcCoe Idealize.SL.Sem Cert.AttnIdeal Cert.AttnIdeal.Gen Cert.AttnIdeal.Spec
open Cert.AttnRefIdeal.Value (P0 S0 C0 D0)

/-- A store of a whole matrix, read back. -/
theorem canon_whole {a b : ℕ} {e : EltTy} (inb : ∀ i, (![0, 0] : Fin 2 → ℕ) i + (![a, b] : Fin 2 → ℕ) i ≤ (⟨2, ![a, b]⟩ : Shape).size i)
    (w : (⟨2, ![a, b]⟩ : Shape).Idx → Elt Ideal e) (R : List (View.Piece (Elt Ideal) ⟨2, ![a, b]⟩ e)) (x : Fin a) (y : Fin b) :
    View.canon (⟨Rect.unit (s := ⟨2, ![a, b]⟩) ![0, 0] ![a, b] inb, w⟩ :: R) (ix2 x y) = w (ix2 x y) := by
  have h : (ix2 x y : (⟨2, ![a, b]⟩ : Shape).Idx) = (Rect.unit (s := ⟨2, ![a, b]⟩) ![0, 0] ![a, b] inb).emb (ix2 x y : (⟨2, ![a, b]⟩ : Shape).Idx) := by
    funext i; refine Fin.ext ?_
    refine Eq.trans ?_ (Rect.idx_unit_val _ _ inb (ix2 x y : (⟨2, ![a, b]⟩ : Shape).Idx) i).symm
    fin_cases i <;> simp [ix2]
  exact (congrArg _ h).trans (View.canon_cons_emb _ _ _ _)

variable {m : (ℓ : Loc nD τ sig) → Buf (Elt Ideal) ℓ} {V0 : Valuation AttnRefIdeal.τ AttnRefIdeal.sig (Elt Ideal)} {c : Dev nD}

/-- The gate's gradient from the attention's output, its cotangent and the gate's argument. -/
def gateGrad (o d z : EReal) : EReal := o * d * Ideal.logistic z + z * (o * d) * (Ideal.logistic z * (1 - Ideal.logistic z))

variable (m V0 c) in
/-- The gradient of the projection at a point's rows. -/
def row (t : Fin cfg0.N) (X : Fin 1024) (C : Fin 2304) : EReal :=
  rowsGrad (D0 V0) (seq t) (n0 t) (n0_le t) (fun X k => ctU m c (ix3 (seq t) (pos t X) k)) (fun X k => ctZ m c (ix3 (seq t) (pos t X) k))
    (fun X k => gateGrad (iblk m c 6 t (ix2 X k)) (ctO m c (ix3 (seq t) (pos t X) k)) (proj m c (ix3 (seq t) (pos t X) ⟨1792 + k.val, by omega⟩))) X C

variable (V0) in
/-- A point's loss of one sink. -/
def lossOf (t : Fin cfg0.N) (h : Fin 8) : ℝ :=
  ∑ q : Fin 128, ∑ i : Fin 8, (D0 V0).Ps (seq t) (blk (n0 t) (n0_le t) i) (hj h) (rr (hg h) q) * (D0 V0).Delta (seq t) (blk (n0 t) (n0_le t) i) (hj h) (rr (hg h) q)

variable (m V0 c) in
/-- What a point adds to the weights' gradient. -/
def prod (t : Fin cfg0.N) (C : Fin 2304) (M : Fin 512) : EReal :=
  ∑ X : Fin 1024, row m V0 c t X C * hn m c (ix3 (seq t) (pos t X) ⟨M.val, by omega⟩)

theorem ix2_val {A B : ℕ} {x x' : Fin A} {y y' : Fin B} (h : x.val = x'.val) (h' : y.val = y'.val) : (ix2 x y : (⟨2, ![A, B]⟩ : Shape).Idx) = ix2 x' y' := by
  rw [Fin.ext h, Fin.ext h']

theorem quarter_at (x : Fin 4 → Vec Ideal S256x128 .f32) (k : Fin 4) (i : Fin 256) (cc : Fin 128) :
    quarter x (ix2 i ⟨128 * k.val + cc.val, by omega⟩) = x k (ix2 i cc) := by
  fin_cases k <;> pointwise [quarter] <;> (repeat' split) <;>
    first
    | (exfalso; omega)
    | exact congrArg _ (ix2_val rfl (by first | rfl | (show _ = cc.val; simp only []; omega)))

theorem rows_at (x : Fin 4 → FVec Ideal S256x512 .f32) (r : Fin 4) (i : Fin 256) (C : Fin 512) :
    (truncf .bf16 (concatenate S1024x512 0 [⟨S256x512, x 0⟩, ⟨S256x512, x 1⟩, ⟨S256x512, x 2⟩, ⟨S256x512, x 3⟩] concatenates_S256x512_S256x512_S256x512_S256x512_S1024x512_d0) bitsLt_bf16_f32 : FVec Ideal S1024x512 .bf16)
      (ix2 ⟨256 * r.val + i.val, by omega⟩ C) = x r (ix2 i C) := by
  fin_cases r <;> pointwise [] <;> (repeat' split) <;>
    first
    | (exfalso; omega)
    | exact congrArg _ (ix2_val (by first | rfl | (show _ = i.val; simp only []; omega)) rfl)

theorem du_concat (x : Fin 4 → Fin 4 → Vec Ideal S256x128 .f32) (r k : Fin 4) (i : Fin 256) (cc : Fin 128) :
    du x (ix2 ⟨256 * r.val + i.val, by omega⟩ ⟨128 * k.val + cc.val, by omega⟩) = x r k (ix2 i cc) :=
  (rows_at (fun r => quarter (x r)) r i _).trans (quarter_at (x r) k i cc)

theorem off_val : ∀ t : Fin grid0.N, ∀ r : Fin 4, k0_off1 (grid0.coords t) (BitVec.ofNat 32 r.val) = ![4 * (2 * (t.val / 2) + 1 - t.val % 2) + r.val, 0] := by decide +kernel

variable (t : Fin cfg0.N)

theorem strided_idx (r : Fin 4) (i : Fin 256) (cc : Fin 128) :
    (⟨k0_off1 (grid0.coords t) (BitVec.ofNat 32 r.val), S256x128.size, ![16, 1], k0_off1_inb (grid0.coords t) r⟩ : LoadRect S4096x128).idx (ix2 i cc)
      = (ix2 ⟨4 * (2 * (t.val / 2) + 1 - t.val % 2) + r.val + 16 * i.val, by have := t_lt t; omega⟩ cc : S4096x128.Idx) := by
  funext a
  refine Fin.ext ?_
  show k0_off1 (grid0.coords t) (BitVec.ofNat 32 r.val) a + (![16, 1] : Fin 2 → ℕ) a * (ix2 i cc a).val = _
  rw [off_val]
  fin_cases a
  · show 4 * (2 * (t.val / 2) + 1 - t.val % 2) + r.val + 16 * i.val = 4 * (2 * (t.val / 2) + 1 - t.val % 2) + r.val + 16 * i.val
    rfl
  · show 0 + 1 * cc.val = cc.val
    omega

theorem u_row (r : Fin 4) (i : Fin 256) (k : Fin 4) (cc : Fin 128) (y : Fin 4096) (hy : y.val = 4 * (2 * (t.val / 2) + 1 - t.val % 2) + r.val + 16 * i.val) (o : Fin 512) (ho : o.val = 128 * k.val + cc.val) :
    ctU m c (ix3 ⟨y.val % 16 / 8, by omega⟩ ⟨y.val % 8 * 256 + y.val / 16, by omega⟩ o) = ctU m c (ix3 (seq t) (pos t ⟨256 * r.val + i.val, by omega⟩) ⟨128 * k.val + cc.val, by omega⟩) := by
  have ht := t_lt t
  have h2 : t.val / 2 = 0 ∨ t.val / 2 = 1 := by omega
  have h3 : t.val % 2 = 0 ∨ t.val % 2 = 1 := by omega
  refine congrArg (ctU m c) (AttnRefIdeal.Value.ix3_val ?_ ?_ ho)
  · show y.val % 16 / 8 = t.val / 2
    rcases h2 with h2 | h2 <;> rcases h3 with h3 | h3 <;> rw [h2, h3] at hy <;> omega
  · show y.val % 8 * 256 + y.val / 16 = 1024 * (1 - t.val % 2) + (256 * r.val + i.val)
    rcases h2 with h2 | h2 <;> rcases h3 with h3 | h3 <;> rw [h2, h3] at hy <;> omega

theorem duLoads_at (r k : Fin 4) (i : Fin 256) (cc : Fin 128) :
    duLoads m c t r k (ix2 i cc) = ctU m c (ix3 (seq t) (pos t ⟨256 * r.val + i.val, by omega⟩) ⟨128 * k.val + cc.val, by omega⟩) := by
  fin_cases k
  · refine (Memref.IsWhole.readAt_unread (hs0_11 t) _ _ _).trans ((congrArg (iblk m c 11 t) (strided_idx t r i cc)).trans ((blk_u0 m c t _ cc).trans ?_))
    exact u_row t r i 0 cc _ rfl _ rfl
  · refine (Memref.IsWhole.readAt_unread (hs0_12 t) _ _ _).trans ((congrArg (iblk m c 12 t) (strided_idx t r i cc)).trans ((blk_u1 m c t _ cc).trans ?_))
    exact u_row t r i 1 cc _ rfl _ rfl
  · refine (Memref.IsWhole.readAt_unread (hs0_13 t) _ _ _).trans ((congrArg (iblk m c 13 t) (strided_idx t r i cc)).trans ((blk_u2 m c t _ cc).trans ?_))
    exact u_row t r i 2 cc _ rfl _ rfl
  · refine (Memref.IsWhole.readAt_unread (hs0_14 t) _ _ _).trans ((congrArg (iblk m c 14 t) (strided_idx t r i cc)).trans ((blk_u3 m c t _ cc).trans ?_))
    exact u_row t r i 3 cc _ rfl _ rfl

theorem du_at (X : Fin 1024) (C : Fin 512) : du (duLoads m c t) (ix2 X C) = ctU m c (ix3 (seq t) (pos t X) C) := by
  have hX : X = ⟨256 * (⟨X.val / 256, by omega⟩ : Fin 4).val + (⟨X.val % 256, by omega⟩ : Fin 256).val, by show 256 * (X.val / 256) + X.val % 256 < 1024; omega⟩ :=
    Fin.ext (by show X.val = 256 * (X.val / 256) + X.val % 256; omega)
  have hC : C = ⟨128 * (⟨C.val / 128, by omega⟩ : Fin 4).val + (⟨C.val % 128, by omega⟩ : Fin 128).val, by show 128 * (C.val / 128) + C.val % 128 < 512; omega⟩ :=
    Fin.ext (by show C.val = 128 * (C.val / 128) + C.val % 128; omega)
  rw [hX, hC, du_concat, duLoads_at]

theorem dz_at (X : Fin 1024) (C : Fin 512) : dzsLoad m c t (ix2 X C) = ctZ m c (ix3 (seq t) (pos t X) C) := by
  rw [← blk_dz]
  refine (Memref.IsWhole.readAt_unread (hs0_15 t) _ _ _).trans (congrArg (iblk m c 15 t) ?_)
  exact unit_idx _ _ _ _ _ _ _ (Nat.zero_add _).symm (Nat.zero_add _).symm
theorem hn_at (X : Fin 1024) (C : Fin 512) : hnLoad m c t (ix2 X C) = hn m c (ix3 (seq t) (pos t X) ⟨C.val, by omega⟩) := by
  rw [← blk_hn]
  refine (Memref.IsWhole.readAt_unread (hs0_10 t) _ _ _).trans (congrArg (iblk m c 10 t) ?_)
  exact unit_idx _ _ _ _ _ _ _ (Nat.zero_add _).symm (Nat.zero_add _).symm

section Any
variable (bias : Fin 2 → Fin 2 → Vec Ideal S1x1x128x512 .f32) (dk dv : Fin 2 → Vec Ideal S1x128x64 .f32)

theorem loads_dza (X : Fin 1024) (k : Fin 512) : (loads m c t bias dk dv).dza (ix2 X k) =
    gateGrad (iblk m c 6 t (ix2 X k)) (ctO m c (ix3 (seq t) (pos t X) k)) (proj m c (ix3 (seq t) (pos t X) ⟨1792 + k.val, by omega⟩)) := by
  rw [dza_at, load_o, load_d, load_za, blk_d, blk_za]; rfl

variable (A : At (loads m c t bias dk dv) (D0 V0) (seq t) (n0 t) (n0_le t))
include A

theorem canon_row (X : Fin 1024) (C : Fin 2304) (hy : ∃ p ∈ pieces (loads m c t bias dk dv) (du (duLoads m c t)) (dzsLoad m c t), (ix2 X C : S1024x2304.Idx) ∈ p.1.set) :
    View.canon (pieces (loads m c t bias dk dv) (du (duLoads m c t)) (dzsLoad m c t)) (ix2 X C) = row m V0 c t X C :=
  canon_pieces A _ _ (du_at t) (dz_at t) (loads_dza t bias dk dv) X C hy

theorem loads_loss (h : Fin 8) : (loads m c t bias dk dv).lossSum (hj h) (hg h) (ix2 0 0) = (lossOf V0 t h : EReal) := A.lossSum (hj h) (hg h)

omit A in
theorem pay1_at (w : Vec Ideal S2304x512 .f32) (y : Vec Ideal S1024x2304 .bf16) (h : Vec Ideal S1024x512 .bf16) (C : Fin 2304) (M : Fin 512) :
    k0_pay1 w y h (ix2 C M) = @HAdd.hAdd EReal EReal EReal _ (w (ix2 C M)) (∑ X : Fin 1024, @HMul.hMul EReal EReal EReal _ (y (ix2 X C)) (h (ix2 X M))) := by
  pointwise [k0_pay1]

theorem canon_dw (w : Vec Ideal S2304x512 .f32) (R : List (View.Piece (Elt Ideal) S2304x512 .f32)) (C : Fin 2304) (M : Fin 512)
    (hy : ∀ X C, ∃ p ∈ pieces (loads m c t bias dk dv) (du (duLoads m c t)) (dzsLoad m c t), (ix2 X C : S1024x2304.Idx) ∈ p.1.set) :
    View.canon (dwPiece (loads m c t bias dk dv) (du (duLoads m c t)) (dzsLoad m c t) (hnLoad m c t) w t :: R) (ix2 C M)
      = @HAdd.hAdd EReal EReal EReal _ (w (ix2 C M)) (prod m V0 c t C M) := by
  refine (canon_whole (a := 2304) (b := 512) inb_S2304x512_S2304x512_0_0 _ R C M).trans ((pay1_at w _ _ C M).trans ?_)
  refine congrArg (@HAdd.hAdd EReal EReal EReal _ (w (ix2 C M))) (Finset.sum_congr rfl fun X _ => ?_)
  rw [View.readCov_eq_canon', hn_at]
  have e : (Rect.unit (s := S1024x2304) ![0, 0] S1024x2304.size inb_S1024x2304_S1024x2304_0_0).toLoadRect.idx (ix2 X C) = (ix2 X C : S1024x2304.Idx) :=
    unit_idx (A := 1024) (B := 2304) _ _ _ _ _ _ _ (Nat.zero_add _).symm (Nat.zero_add _).symm
  exact congrArg (fun y : EReal => y * _) ((congrArg (View.canon _) e).trans (canon_row t bias dk dv A X C (hy X C)))

end Any

end Cert.AttnIdeal.Hand

end
-- ==== Proof.Attn.Chain.lean ====
/- THE GRID POINTS IN A ROW: what each leaves given what the point before left, and what the four leave together. -/
module

public import proofs.«01_k».proof.Proof.Attn.Step

@[expose] public section

set_option maxRecDepth 16384

noncomputable section

namespace Cert.AttnIdeal.Hand

open Idealize.ShloMosaic Idealize.ShloMosaic.TcCoe Idealize.SL.Sem Cert.AttnIdeal Cert.AttnIdeal.Gen Cert.AttnIdeal.Spec
open Cert.AttnRefIdeal.Value (P0 S0 C0 D0)

variable {m : (ℓ : Loc nD τ sig) → Buf (Elt Ideal) ℓ} {V0 : Valuation AttnRefIdeal.τ AttnRefIdeal.sig (Elt Ideal)} {c : Dev nD}

variable (m V0 c) in
/-- What a point leaves for good and hands on. -/
structure Left (t : Fin cfg0.N) (p : Out Ideal) : Prop where
  dproj X C : p.dproj (ix2 X C) = row m V0 c t X C
  bias j k s r : p.bias (ix4 j k s r) = if k.val = 0 then own j s r else before j s r
  dk j s d : p.dk (ix3 j s d) = ((D0 V0).dKb (seq t) (blk (n0 t) (n0_le t) 0) j (lo s) d : EReal)
  dv j s d : p.dv (ix3 j s d) = ((D0 V0).dVb (seq t) (blk (n0 t) (n0_le t) 0) j (lo s) d : EReal)

variable (m V0 c) in
/-- What a point adds to the gradients it holds. -/
structure Adds (t : Fin cfg0.N) (dw : Fin 2304 → Fin 512 → EReal) (dsk : Fin 8 → EReal) (p : Out Ideal) : Prop where
  dw C M : p.dw (ix2 C M) = @HAdd.hAdd EReal EReal EReal _ (dw C M) (prod m V0 c t C M)
  dsk h : p.dsk (ix2 0 h) = @HSub.hSub EReal EReal EReal _ (dsk h) ((lossOf V0 t h : ℝ) : EReal)

theorem bias_idx (j k : Fin 2) (s : Fin 128) (r : Fin 512) :
    (Rect.unit (s := S2x2x128x512) ![j.val, k.val, 0, 0] S1x1x128x512.size (inb_bias j k)).toLoadRect.idx (ix4 0 0 s r : S1x1x128x512.Idx) = (ix4 j k s r : S2x2x128x512.Idx) := by
  funext a; refine Fin.ext ?_
  refine (Rect.idx_unit_val _ _ (inb_bias j k) (ix4 0 0 s r : S1x1x128x512.Idx) a).trans ?_
  fin_cases a <;> simp [ix4]
theorem carry_idx (j : Fin 2) (s : Fin 128) (d : Fin 64) :
    (Rect.unit (s := S2x128x64) ![j.val, 0, 0] S1x128x64.size (inb_carry j)).toLoadRect.idx (ix3 0 s d : S1x128x64.Idx) = (ix3 j s d : S2x128x64.Idx) := by
  funext a; refine Fin.ext ?_
  refine (Rect.idx_unit_val _ _ (inb_carry j) (ix3 0 s d : S1x128x64.Idx) a).trans ?_
  fin_cases a <;> simp [ix3]

variable (S : Same m V0 c) (H : Fine (P0 V0) (S0 V0) (C0 V0)) (t : Fin cfg0.N)
include S H

/-- The second point of a sequence finds what the first left; the first needs nothing. -/
theorem at_over (p : Out Ideal) (t' : Fin cfg0.N) (ht : t.val = t'.val + 1) (P : Left m V0 c t' p) :
    At (loadsOver m c t p) (D0 V0) (seq t) (n0 t) (n0_le t) := by
  have h8 (h : t.val % 2 = 1) : seq t' = seq t ∧ blk (n0 t') (n0_le t') 0 = 8 := by
    refine ⟨Fin.ext ?_, Fin.ext ?_⟩
    · show t'.val / 2 = t.val / 2; omega
    · show 8 * (1 - t'.val % 2) + 0 = 8; omega
  refine at_of S t _ _ _ H (fun j k s r => ?_) (fun h j s d => ?_) (fun h j s d => ?_)
  · exact (Memref.IsWhole.readAt_unread (Memref.isWhole_whole _) _ _ _).trans ((congrArg p.bias (bias_idx j k s r)).trans (P.bias j k s r))
  · refine (Memref.IsWhole.readAt_unread (Memref.isWhole_whole _) _ _ _).trans ((congrArg p.dk (carry_idx j s d)).trans ((P.dk j s d).trans ?_))
    rw [(h8 h).1, (h8 h).2]
  · refine (Memref.IsWhole.readAt_unread (Memref.isWhole_whole _) _ _ _).trans ((congrArg p.dv (carry_idx j s d)).trans ((P.dv j s d).trans ?_))
    rw [(h8 h).1, (h8 h).2]

theorem at_first (h0 : t.val % 4 = 0) (h2 : ¬t.val % 4 = 3) : At (firstLd m c t h0 h2) (D0 V0) (seq t) (n0 t) (n0_le t) := by
  refine at_of S t _ _ _ H (fun j k s r => ?_) (fun h => absurd h (by omega)) (fun h => absurd h (by omega))
  refine (congrFun (View.readCov_eq_canon' _ _ _) _).trans ?_
  rw [runA_bias]
  exact (congrArg (View.canon _) (bias_idx j k s r)).trans (canon_bias j k s r)

omit S H in
/-- Stores read back whole. -/
theorem out_canon {sp : Space} {s : Shape} {e : EltTy} (v : View sig .tc sp s e) {L L' : List (View.Piece (Elt Ideal) s e)} (h : L = L') (y : s.Idx) :
    v.read (Elt Ideal) (v.writes (Elt Ideal) v.junk L) y = View.canon L' y := by
  rw [h]; exact View.read_writes_junk_apply_eq_canon v y L'

omit S H in
theorem outA_dproj (h0 : t.val % 4 = 0) (h2 : ¬t.val % 4 = 3) : (outA m c t h0 h2).dproj = VO0_16.read (Elt Ideal) (VO0_16.writes (Elt Ideal) VO0_16.junk (runA m c t h0 h2).1) := by sl_kernel_rfl
omit S H in
theorem outA_dw (h0 : t.val % 4 = 0) (h2 : ¬t.val % 4 = 3) : (outA m c t h0 h2).dw = VO0_17.read (Elt Ideal) (VO0_17.writes (Elt Ideal) VO0_17.junk (runA m c t h0 h2).2.1) := by sl_kernel_rfl
omit S H in
theorem outA_dsk (h0 : t.val % 4 = 0) (h2 : ¬t.val % 4 = 3) : (outA m c t h0 h2).dsk = VO0_19.read (Elt Ideal) (VO0_19.writes (Elt Ideal) VO0_19.junk (runA m c t h0 h2).2.2.2.1) := by sl_kernel_rfl
omit S H in
theorem outA_bias (h0 : t.val % 4 = 0) (h2 : ¬t.val % 4 = 3) : (outA m c t h0 h2).bias = VS0_0.read (Elt Ideal) (VS0_0.writes (Elt Ideal) VS0_0.junk (runA m c t h0 h2).2.2.2.2.1) := by sl_kernel_rfl
omit S H in
theorem outA_dk (h0 : t.val % 4 = 0) (h2 : ¬t.val % 4 = 3) : (outA m c t h0 h2).dk = VS0_1.read (Elt Ideal) (VS0_1.writes (Elt Ideal) VS0_1.junk (runA m c t h0 h2).2.2.2.2.2.1) := by sl_kernel_rfl
omit S H in
theorem outA_dv (h0 : t.val % 4 = 0) (h2 : ¬t.val % 4 = 3) : (outA m c t h0 h2).dv = VS0_2.read (Elt Ideal) (VS0_2.writes (Elt Ideal) VS0_2.junk (runA m c t h0 h2).2.2.2.2.2.2.1) := by sl_kernel_rfl
omit S H in
theorem outB_dproj (h0 : ¬t.val % 4 = 0) (h2 : ¬t.val % 4 = 3) (p : Out Ideal) : (outB m c t h0 h2 p).dproj = VO0_16.read (Elt Ideal) (VO0_16.writes (Elt Ideal) VO0_16.junk (runB m c t h0 h2 p).1) := by sl_kernel_rfl
omit S H in
theorem outB_dw (h0 : ¬t.val % 4 = 0) (h2 : ¬t.val % 4 = 3) (p : Out Ideal) : (outB m c t h0 h2 p).dw = VO0_17.read (Elt Ideal) (VO0_17.writes (Elt Ideal) VO0_17.junk (runB m c t h0 h2 p).2.1) := by sl_kernel_rfl
omit S H in
theorem outB_dsk (h0 : ¬t.val % 4 = 0) (h2 : ¬t.val % 4 = 3) (p : Out Ideal) : (outB m c t h0 h2 p).dsk = VO0_19.read (Elt Ideal) (VO0_19.writes (Elt Ideal) VO0_19.junk (runB m c t h0 h2 p).2.2.2.1) := by sl_kernel_rfl
omit S H in
theorem outB_dk (h0 : ¬t.val % 4 = 0) (h2 : ¬t.val % 4 = 3) (p : Out Ideal) : (outB m c t h0 h2 p).dk = VS0_1.read (Elt Ideal) (VS0_1.writes (Elt Ideal) VS0_1.junk (runB m c t h0 h2 p).2.2.2.2.2.1) := by sl_kernel_rfl
omit S H in
theorem outB_dv (h0 : ¬t.val % 4 = 0) (h2 : ¬t.val % 4 = 3) (p : Out Ideal) : (outB m c t h0 h2 p).dv = VS0_2.read (Elt Ideal) (VS0_2.writes (Elt Ideal) VS0_2.junk (runB m c t h0 h2 p).2.2.2.2.2.2.1) := by sl_kernel_rfl
omit S H in
theorem outC_dproj (h0 : ¬t.val % 4 = 0) (h2 : t.val % 4 = 3) (p : Out Ideal) : (outC m c t h0 h2 p).dproj = VO0_16.read (Elt Ideal) (VO0_16.writes (Elt Ideal) VO0_16.junk (runC m c t h0 h2 p).1) := by sl_kernel_rfl
omit S H in
theorem outC_dw (h0 : ¬t.val % 4 = 0) (h2 : t.val % 4 = 3) (p : Out Ideal) : (outC m c t h0 h2 p).dw = VO0_17.read (Elt Ideal) (VO0_17.writes (Elt Ideal) VO0_17.junk (runC m c t h0 h2 p).2.1) := by sl_kernel_rfl
omit S H in
theorem outC_dwb (h0 : ¬t.val % 4 = 0) (h2 : t.val % 4 = 3) (p : Out Ideal) : (outC m c t h0 h2 p).dwb = VO0_18.read (Elt Ideal) (VO0_18.writes (Elt Ideal) VO0_18.junk (runC m c t h0 h2 p).2.2.1) := by sl_kernel_rfl
omit S H in
theorem outC_dsk (h0 : ¬t.val % 4 = 0) (h2 : t.val % 4 = 3) (p : Out Ideal) : (outC m c t h0 h2 p).dsk = VO0_19.read (Elt Ideal) (VO0_19.writes (Elt Ideal) VO0_19.junk (runC m c t h0 h2 p).2.2.2.1) := by sl_kernel_rfl
omit S H in
theorem outC_dk (h0 : ¬t.val % 4 = 0) (h2 : t.val % 4 = 3) (p : Out Ideal) : (outC m c t h0 h2 p).dk = VS0_1.read (Elt Ideal) (VS0_1.writes (Elt Ideal) VS0_1.junk (runC m c t h0 h2 p).2.2.2.2.2.1) := by sl_kernel_rfl
omit S H in
theorem outC_dv (h0 : ¬t.val % 4 = 0) (h2 : t.val % 4 = 3) (p : Out Ideal) : (outC m c t h0 h2 p).dv = VS0_2.read (Elt Ideal) (VS0_2.writes (Elt Ideal) VS0_2.junk (runC m c t h0 h2 p).2.2.2.2.2.2.1) := by sl_kernel_rfl

omit S H in
theorem dw_idx (C : Fin 2304) (M : Fin 512) :
    (Rect.unit (s := S2304x512) ![0, 0] S2304x512.size inb_S2304x512_S2304x512_0_0).toLoadRect.idx (ix2 C M) = (ix2 C M : S2304x512.Idx) :=
  unit_idx (A := 2304) (B := 512) _ _ _ _ _ _ _ (Nat.zero_add _).symm (Nat.zero_add _).symm

omit S H in
theorem dwLoad_at (p : Out Ideal) (C : Fin 2304) (M : Fin 512) : dwLoad t p (ix2 C M) = p.dw (ix2 C M) :=
  (Memref.IsWhole.readAt_unread (hs0_17 t) _ _ _).trans (congrArg p.dw (dw_idx C M))

omit S H in
theorem sinkLoads_at (p : Out Ideal) (h : Fin 8) : sinkLoads t p h (ix2 0 0) = p.dsk (ix2 0 h) :=
  (Memref.IsWhole.readAt_unread (hs0_19 t) _ _ _).trans (congrArg p.dsk (unit_idx (A := 1) (B := 8) _ _ _ _ _ _ _ rfl rfl))

omit S H in
theorem zeroDw_at (C : Fin 2304) (M : Fin 512) :
    (ms0_17 t).view.readCov (Val := Elt Ideal) zeroDw (Rect.unit (s := S2304x512) ![0, 0] S2304x512.size inb_S2304x512_S2304x512_0_0).toLoadRect (ix2 C M) = (0 : EReal) := by
  refine (congrFun (View.readCov_eq_canon' _ _ _) _).trans ((congrArg (View.canon _) (dw_idx C M)).trans ?_)
  refine (canon_whole (a := 2304) (b := 512) inb_S2304x512_S2304x512_0_0 _ [] C M).trans ?_
  pointwise [k0_pay19]

set_option maxHeartbeats 2000000 in
theorem step_A (h0 : t.val % 4 = 0) (h2 : ¬t.val % 4 = 3) :
    Left m V0 c t (outA m c t h0 h2) ∧ Adds m V0 c t (fun _ _ => 0) (fun _ => 0) (outA m c t h0 h2) := by
  have A := at_first S H t h0 h2
  have hy (X : Fin 1024) (C : Fin 2304) : ∃ p ∈ pieces (firstLd m c t h0 h2) (du (duLoads m c t)) (dzsLoad m c t), (ix2 X C : S1024x2304.Idx) ∈ p.1.set := by
    rw [← runA_dproj]; exact coverA_16 m c t h0 h2 _
  refine ⟨⟨fun X C => ?_, fun j k s r => ?_, fun j s d => ?_, fun j s d => ?_⟩, ⟨fun C M => ?_, fun h => ?_⟩⟩
  · rw [outA_dproj]; refine (out_canon VO0_16 (runA_dproj m c t h0 h2) _).trans ?_
    exact canon_row t _ _ _ A X C (hy X C)
  · rw [outA_bias]; refine (out_canon VS0_0 (runA_bias m c t h0 h2) _).trans ?_
    exact canon_bias j k s r
  · rw [outA_dk]; refine (out_canon VS0_1 (runA_dk m c t h0 h2) _).trans ?_
    exact (canon_carry (fun j => (firstLd m c t h0 h2).dkOut j 0) _ j s d).trans (A.dkOut 0 j s d)
  · rw [outA_dv]; refine (out_canon VS0_2 (runA_dv m c t h0 h2) _).trans ?_
    exact (canon_carry (fun j => (firstLd m c t h0 h2).dvOut j 0) _ j s d).trans (A.dvOut 0 j s d)
  · rw [outA_dw]; refine (out_canon VO0_17 (runA_dw m c t h0 h2) _).trans ?_
    exact (canon_dw t _ _ _ A _ _ C M hy).trans (congrArg (fun y : EReal => y + prod m V0 c t C M) (zeroDw_at t C M))
  · rw [outA_dsk]; refine (out_canon VO0_19 (runA_dsk m c t h0 h2) _).trans ?_
    refine (canon_firstSinks _ _ 8 (le_refl 8) h).trans ((if_pos h.isLt).trans ?_)
    exact congrArg (fun y : EReal => 0 - y) (loads_loss t _ _ _ A h)

variable (p : Out Ideal) (t' : Fin cfg0.N) (ht : t.val = t'.val + 1) (P : Left m V0 c t' p)
include ht P

set_option maxHeartbeats 2000000 in
theorem step_B (h0 : ¬t.val % 4 = 0) (h2 : ¬t.val % 4 = 3) :
    Left m V0 c t (outB m c t h0 h2 p) ∧ Adds m V0 c t (fun C M => p.dw (ix2 C M)) (fun h => p.dsk (ix2 0 h)) (outB m c t h0 h2 p) := by
  have A := at_over S H t p t' ht P
  have hy (X : Fin 1024) (C : Fin 2304) : ∃ q ∈ pieces (loadsOver m c t p) (du (duLoads m c t)) (dzsLoad m c t), (ix2 X C : S1024x2304.Idx) ∈ q.1.set := by
    rw [← runB_dproj m c t h0 h2 p]; exact coverB_16 m c t h0 h2 p _
  refine ⟨⟨fun X C => ?_, P.bias, fun j s d => ?_, fun j s d => ?_⟩, ⟨fun C M => ?_, fun h => ?_⟩⟩
  · rw [outB_dproj]; refine (out_canon VO0_16 (runB_dproj m c t h0 h2 p) _).trans ?_
    exact canon_row t _ _ _ A X C (hy X C)
  · rw [outB_dk]; refine (out_canon VS0_1 (runB_dk m c t h0 h2 p) _).trans ?_
    exact (canon_carry (fun j => (loadsOver m c t p).dkOut j 0) _ j s d).trans (A.dkOut 0 j s d)
  · rw [outB_dv]; refine (out_canon VS0_2 (runB_dv m c t h0 h2 p) _).trans ?_
    exact (canon_carry (fun j => (loadsOver m c t p).dvOut j 0) _ j s d).trans (A.dvOut 0 j s d)
  · rw [outB_dw]; refine (out_canon VO0_17 (runB_dw m c t h0 h2 p) _).trans ?_
    exact (canon_dw t _ _ _ A _ _ C M hy).trans (congrArg (fun y : EReal => y + prod m V0 c t C M) (dwLoad_at t p C M))
  · rw [outB_dsk]; refine (out_canon VO0_19 (runB_dsk m c t h0 h2 p) _).trans ?_
    refine (canon_sinks _ _ _ 8 (le_refl 8) h h.isLt).trans ?_
    exact congrArg₂ (fun y z : EReal => y - z) (sinkLoads_at t p h) (loads_loss t _ _ _ A h)

set_option maxHeartbeats 2000000 in
theorem step_C (h0 : ¬t.val % 4 = 0) (h2 : t.val % 4 = 3) :
    Left m V0 c t (outC m c t h0 h2 p) ∧ Adds m V0 c t (fun C M => p.dw (ix2 C M)) (fun h => p.dsk (ix2 0 h)) (outC m c t h0 h2 p)
      ∧ ∀ C M, (outC m c t h0 h2 p).dwb (ix2 C M) = @HAdd.hAdd EReal EReal EReal _ (p.dw (ix2 C M)) (prod m V0 c t C M) := by
  have A := at_over S H t p t' ht P
  have hy (X : Fin 1024) (C : Fin 2304) : ∃ q ∈ pieces (loadsOver m c t p) (du (duLoads m c t)) (dzsLoad m c t), (ix2 X C : S1024x2304.Idx) ∈ q.1.set := by
    rw [← runC_dproj m c t h0 h2 p]; exact coverC_16 m c t h0 h2 p _
  have hd (C : Fin 2304) (M : Fin 512) := (canon_dw t _ _ _ A (dwLoad t p) [] C M hy).trans (congrArg (fun y : EReal => y + prod m V0 c t C M) (dwLoad_at t p C M))
  refine ⟨⟨fun X C => ?_, P.bias, fun j s d => ?_, fun j s d => ?_⟩, ⟨fun C M => ?_, fun h => ?_⟩, fun C M => ?_⟩
  · rw [outC_dproj]; refine (out_canon VO0_16 (runC_dproj m c t h0 h2 p) _).trans ?_
    exact canon_row t _ _ _ A X C (hy X C)
  · rw [outC_dk]; refine (out_canon VS0_1 (runC_dk m c t h0 h2 p) _).trans ?_
    exact (canon_carry (fun j => (loadsOver m c t p).dkOut j 0) _ j s d).trans (A.dkOut 0 j s d)
  · rw [outC_dv]; refine (out_canon VS0_2 (runC_dv m c t h0 h2 p) _).trans ?_
    exact (canon_carry (fun j => (loadsOver m c t p).dvOut j 0) _ j s d).trans (A.dvOut 0 j s d)
  · rw [outC_dw]; refine (out_canon VO0_17 (runC_dw m c t h0 h2 p) _).trans ?_
    exact hd C M
  · rw [outC_dsk]; refine (out_canon VO0_19 (runC_dsk m c t h0 h2 p) _).trans ?_
    refine (canon_sinks _ _ _ 8 (le_refl 8) h h.isLt).trans ?_
    exact congrArg₂ (fun y z : EReal => y - z) (sinkLoads_at t p h) (loads_loss t _ _ _ A h)
  · rw [outC_dwb]; refine (out_canon VO0_18 (runC_dwb m c t h0 h2 p) _).trans ?_
    refine (canon_whole (a := 2304) (b := 512) inb_S2304x512_S2304x512_0_0 _ [] C M).trans ?_
    refine (congrFun (shapeCast_self _ _) _).trans ?_
    exact (congrFun (View.readCov_eq_canon' _ _ _) _).trans ((congrArg (View.canon _) (dw_idx C M)).trans (hd C M))

end Cert.AttnIdeal.Hand

end
-- ==== Proof.Attn.RefRow.lean ====
/- THE TWO PROJECTION GRADIENTS AGREE: the reference's row of every position is the row its grid point writes. -/
module

public import proofs.«01_k».proof.Proof.Attn.RefParts
public import proofs.«01_k».proof.Proof.Attn.Chain

@[expose] public section

set_option maxRecDepth 16384

noncomputable section

namespace Cert.AttnIdeal.Hand

open Idealize.ShloMosaic Idealize.ShloMosaic.TcCoe Idealize.SL.Sem Cert.AttnIdeal Cert.AttnIdeal.Gen Cert.AttnIdeal.Spec
open Cert.AttnRefIdeal.Value (P0 S0 C0 D0 ix3_val joined res_main_v106 res_main_v176)

variable {m : (ℓ : Loc nD τ sig) → Buf (Elt Ideal) ℓ} {V0 : Valuation AttnRefIdeal.τ AttnRefIdeal.sig (Elt Ideal)} {c : Dev nD}

theorem pos_eq (t : Fin cfg0.N) (X : Fin 1024) : pos t X = at128 (blk (n0 t) (n0_le t) ⟨X.val / 128, by omega⟩) ⟨X.val % 128, by omega⟩ := by
  refine Fin.ext ?_
  show 1024 * (1 - t.val % 2) + X.val = 128 * (8 * (1 - t.val % 2) + X.val / 128) + X.val % 128
  omega

theorem oc_of (k : Fin 512) : k = oc ⟨k.val / 256, by omega⟩ ⟨k.val / 64 % 4, by omega⟩ ⟨k.val % 64, by omega⟩ := by
  refine Fin.ext ?_
  show k.val = 256 * (k.val / 256) + 64 * (k.val / 64 % 4) + k.val % 64
  omega

theorem refOut_at (b : Fin 2) (n : Fin 16) (q : Fin 128) (j : Fin 2) (g : Fin 4) (d : Fin 64) :
    (res_main_v106 V0 : S2x2048x512.Idx → EReal) (ix3 b (at128 n q) (oc j g d)) = refOut V0 (ix6 b n q j g d) := by
  rw [Cert.AttnRefIdeal.Value.v106_at]
  pointwise [refOut]

variable (S : Same m V0 c) (t : Fin cfg0.N) (X : Fin 1024)
include S

theorem out_row (o : Fin 512) : (res_main_v106 V0 : S2x2048x512.Idx → EReal) (ix3 (seq t) (pos t X) o) = iblk m c 6 t (ix2 X o) := by
  rw [pos_eq, oc_of o, refOut_at, ← blk_o S]
  exact congrArg (iblk m c 6 t) (congrArg (fun x => ix2 x _) (Fin.ext (by show 128 * (X.val / 128) + X.val % 128 = X.val; omega)))

variable (H : Fine (P0 V0) (S0 V0) (C0 V0))
include H

theorem ref_row (C : Fin 2304) : (res_main_v176 V0 : S2x2048x2304.Idx → EReal) (ix3 (seq t) (pos t X) C) = row m V0 c t X C := by
  rw [Cert.AttnRefIdeal.Value.v176_at, row, rowsGrad, joined]
  by_cases h1 : C.val < 512
  · rw [dif_pos h1, dif_pos h1]; exact congrFun S.u _
  rw [dif_neg h1, dif_neg h1]
  by_cases h2 : C.val < 1024
  · rw [dif_pos h2, dif_pos h2]; exact congrFun S.z _
  rw [dif_neg h2, dif_neg h2]
  by_cases h3 : C.val < 1536
  · rw [dif_pos h3, dif_pos (by omega : C.val < 1792), pos_eq, oc_of ⟨C.val - 1024, by omega⟩, Cert.AttnRefIdeal.Value.qPart_at _ _ _ _ _ _ H]
    refine congrArg _ ((headGrad_q _ _ _ _ ⟨(C.val - 1024) / 256, by omega⟩ ⟨(C.val - 1024) / 64 % 4, by omega⟩ _ ?_ _).symm)
    show (C.val - 1024) / 64 = 4 * ((C.val - 1024) / 256) + (C.val - 1024) / 64 % 4
    omega
  rw [dif_neg h3]
  by_cases h4 : C.val < 1664
  · have e : (⟨C.val - 1536, by omega⟩ : Fin 128) = ⟨64 * (⟨(C.val - 1536) / 64, by omega⟩ : Fin 2).val + (⟨(C.val - 1536) % 64, by omega⟩ : Fin 64).val, by show 64 * ((C.val - 1536) / 64) + (C.val - 1536) % 64 < 128; omega⟩ :=
      Fin.ext (by show C.val - 1536 = 64 * ((C.val - 1536) / 64) + (C.val - 1536) % 64; omega)
    have ed : (⟨(C.val - 1024) % 64, by omega⟩ : Fin 64) = ⟨(C.val - 1536) % 64, by omega⟩ := Fin.ext (by show (C.val - 1024) % 64 = (C.val - 1536) % 64; omega)
    rw [dif_pos h4, dif_pos (by omega : C.val < 1792), pos_eq, e, Cert.AttnRefIdeal.Value.kPart_at _ _ _ _ _ H, ed]
    refine congrArg _ ((headGrad_k _ _ _ _ ⟨(C.val - 1536) / 64, by omega⟩ _ ?_ _).symm)
    show (C.val - 1024) / 64 = 8 + (C.val - 1536) / 64
    omega
  rw [dif_neg h4]
  by_cases h5 : C.val < 1792
  · have e : (⟨C.val - 1664, by omega⟩ : Fin 128) = ⟨64 * (⟨(C.val - 1664) / 64, by omega⟩ : Fin 2).val + (⟨(C.val - 1664) % 64, by omega⟩ : Fin 64).val, by show 64 * ((C.val - 1664) / 64) + (C.val - 1664) % 64 < 128; omega⟩ :=
      Fin.ext (by show C.val - 1664 = 64 * ((C.val - 1664) / 64) + (C.val - 1664) % 64; omega)
    have ed : (⟨(C.val - 1024) % 64, by omega⟩ : Fin 64) = ⟨(C.val - 1664) % 64, by omega⟩ := Fin.ext (by show (C.val - 1024) % 64 = (C.val - 1664) % 64; omega)
    rw [dif_pos h5, dif_pos h5, pos_eq, e, Cert.AttnRefIdeal.Value.vPart_at _ _ _ _ _ H, ed]
    refine congrArg _ ((headGrad_v _ _ _ _ ⟨(C.val - 1664) / 64, by omega⟩ _ ?_ _).symm)
    show (C.val - 1024) / 64 = 10 + (C.val - 1664) / 64
    omega
  · rw [dif_neg h5, dif_neg h5, Cert.AttnRefIdeal.Value.zPart_at, out_row S]
    have e1 : C0 V0 = ctO m c := S.ct
    have e2 : P0 V0 = proj m c := S.p
    rw [e1, e2]; rfl

end Cert.AttnIdeal.Hand

end
-- ==== Proof.Attn.Final.lean ====
/- WHAT THE LAUNCH LEAVES, as the reference's terms: the projection's gradient, the weights' (twice), the sinks'. -/
module

public import proofs.«01_k».proof.Proof.Attn.RefRow

@[expose] public section

set_option maxRecDepth 16384

noncomputable section

namespace Cert.AttnIdeal.Hand

open Idealize.ShloMosaic Idealize.ShloMosaic.TcCoe Idealize.SL.Sem Cert.AttnIdeal Cert.AttnIdeal.Gen
open Cert.AttnIdeal.Spec hiding eq_ix2
open Cert.AttnRefIdeal.Value (P0 S0 C0 D0 ix3_val joined res_main_v106 res_main_v176 res_main_v132 res_main_v143 res_main_v55 res_main_v62)

section Shapes

theorem resProj_at (v : FVec Ideal AttnRefIdeal.S2x2048x2304 .f32) (R : Fin 4096) (C : Fin 2304) :
    (truncf .bf16 (shapeCast AttnRefIdeal.S4096x2304 v AttnRefIdeal.Gen.shapeCasts_S2x2048x2304_S4096x2304) AttnRefIdeal.Gen.bitsLt_bf16_f32 : FVec Ideal AttnRefIdeal.S4096x2304 .bf16) (ix2 R C)
      = v (ix3 ⟨R.val / 2048, by omega⟩ ⟨R.val % 2048, by omega⟩ C) := by
  pointwise []

/-- The weights' gradient from the projection's. -/
def resW (v : FVec Ideal AttnRefIdeal.S2x2048x2304 .f32) (h : FVec Ideal AttnRefIdeal.S2x2048x1024 .f32) : FVec Ideal AttnRefIdeal.S2304x512 .f32 :=
  extractStridedSlice AttnRefIdeal.S2304x512 ![0, 0] (transpose AttnRefIdeal.S2304x1024 [1, 0] (transpose AttnRefIdeal.S1024x2304 [1, 0] (Host.dotGeneral AttnRefIdeal.dot_S2x2048x2304_S2x2048x1024_S2304x1024_01_01_2_2_n_n none (φ₁ := .f32) (φ₂ := .f32) v h) AttnRefIdeal.Gen.transposes_S2304x1024_S1024x2304_1_0) AttnRefIdeal.Gen.transposes_S1024x2304_S2304x1024_1_0) AttnRefIdeal.Gen.slices_S2304x1024_S2304x512_0_0

theorem resW_at (v : FVec Ideal AttnRefIdeal.S2x2048x2304 .f32) (h : FVec Ideal AttnRefIdeal.S2x2048x1024 .f32) (C : Fin 2304) (M : Fin 512) :
    resW v h (ix2 C M) = ∑ b : Fin 2, ∑ x : Fin 2048, @HMul.hMul EReal EReal EReal _ (v (ix3 b x C)) (h (ix3 b x ⟨M.val, by omega⟩)) := by
  pointwise [resW]

theorem sink_shape (A B : FVec Ideal AttnRefIdeal.S2x4x1 .f32) (h : Fin 8) :
    (broadcastInDim AttnRefIdeal.S1x8 ![1] AttnRefIdeal.Gen.bcast_S8_S1x8_1 (shapeCast AttnRefIdeal.S8 (addf (shapeCast AttnRefIdeal.S1x1x2x4x1x1 A AttnRefIdeal.Gen.shapeCasts_S2x4x1_S1x1x2x4x1x1) (shapeCast AttnRefIdeal.S1x1x2x4x1x1 B AttnRefIdeal.Gen.shapeCasts_S2x4x1_S1x1x2x4x1x1)) AttnRefIdeal.Gen.shapeCasts_S1x1x2x4x1x1_S8) : FVec Ideal AttnRefIdeal.S1x8 .f32) (ix2 0 h)
      = @HAdd.hAdd EReal EReal EReal _ (A (ix3 (hj h) (hg h) 0)) (B (ix3 (hj h) (hg h) 0)) := by
  unfold hj hg
  pointwise []

theorem sink_sum (v : FVec Ideal AttnRefIdeal.S2x16x2x4x128x1 .f32) (j : Fin 2) (g : Fin 4) :
    (Host.reduceAdd v (constant AttnRefIdeal.S_ .f32 0x00000000#32) AttnRefIdeal.Gen.reducesTo_S2x16x2x4x128x1_S2x4x1_d0_1_4 AttnRefIdeal.Gen.h_S_ : FVec Ideal AttnRefIdeal.S2x4x1 .f32) (ix3 j g 0)
      = ∑ a : Fin 2, ∑ b : Fin 16, ∑ e : Fin 128, (v (ix6 a b j g e 0) : EReal) := by
  refine Eq.trans ?_ ((Cert.Attn.Fiber.sum_rows (n0 := 2) (n1 := 16) (n2 := 2) (n3 := 4) (n4 := 128) (n5 := 1) AttnRefIdeal.Gen.reducesTo_S2x16x2x4x128x1_S2x4x1_d0_1_4 j g 0 v 0).trans (zero_add _))
  pointwise []

end Shapes

section Sums

abbrev t0 : Fin cfg0.N := ⟨0, by decide⟩
abbrev t1 : Fin cfg0.N := ⟨1, by decide⟩
abbrev t2 : Fin cfg0.N := ⟨2, by decide⟩
abbrev t3 : Fin cfg0.N := ⟨3, by decide⟩

theorem sum_halves {α : Type} [AddCommMonoid α] {n : ℕ} (f : Fin (n + n) → α) : ∑ x, f x = ∑ x : Fin n, f ⟨x.val, by omega⟩ + ∑ x : Fin n, f ⟨n + x.val, by omega⟩ := by
  refine (Fin.sum_univ_add f).trans (congrArg₂ (· + ·) (Finset.sum_congr rfl fun x _ => congrArg f (Fin.ext rfl)) (Finset.sum_congr rfl fun x _ => congrArg f (Fin.ext ?_)))
  simp [Nat.add_comm]

theorem sum_points (f : Fin 2 → Fin 2048 → EReal) :
    ∑ b, ∑ x, f b x = 0 + ∑ X, f (seq t0) (pos t0 X) + ∑ X, f (seq t1) (pos t1 X) + ∑ X, f (seq t2) (pos t2 X) + ∑ X, f (seq t3) (pos t3 X) := by
  rw [Fin.sum_univ_two, sum_halves (n := 1024) (f 0), sum_halves (n := 1024) (f 1)]
  have e0 (X : Fin 1024) : f (seq t0) (pos t0 X) = f 0 ⟨1024 + X.val, by omega⟩ := congrArg₂ f rfl (Fin.ext rfl)
  have e1 (X : Fin 1024) : f (seq t1) (pos t1 X) = f 0 ⟨X.val, by omega⟩ := congrArg₂ f rfl (Fin.ext (Nat.zero_add _))
  have e2 (X : Fin 1024) : f (seq t2) (pos t2 X) = f 1 ⟨1024 + X.val, by omega⟩ := congrArg₂ f rfl (Fin.ext rfl)
  have e3 (X : Fin 1024) : f (seq t3) (pos t3 X) = f 1 ⟨X.val, by omega⟩ := congrArg₂ f rfl (Fin.ext (Nat.zero_add _))
  simp only [e0, e1, e2, e3]
  abel

theorem sum_blocks (f : Fin 2 → Fin 16 → Fin 128 → ℝ) : ∑ a, ∑ b, ∑ e, f a b e =
    (∑ q, ∑ i, f (seq t0) (blk (n0 t0) (n0_le t0) i) q) + (∑ q, ∑ i, f (seq t1) (blk (n0 t1) (n0_le t1) i) q)
      + (∑ q, ∑ i, f (seq t2) (blk (n0 t2) (n0_le t2) i) q) + (∑ q, ∑ i, f (seq t3) (blk (n0 t3) (n0_le t3) i) q) := by
  rw [Fin.sum_univ_two, sum_halves (n := 8) (fun b => ∑ e, f 0 b e), sum_halves (n := 8) (fun b => ∑ e, f 1 b e)]
  have e0 (i : Fin 8) (q) : f (seq t0) (blk (n0 t0) (n0_le t0) i) q = f 0 ⟨8 + i.val, by omega⟩ q := congrArg (fun y => f 0 y q) (Fin.ext rfl)
  have e1 (i : Fin 8) (q) : f (seq t1) (blk (n0 t1) (n0_le t1) i) q = f 0 ⟨i.val, by omega⟩ q := congrArg (fun y => f 0 y q) (Fin.ext (Nat.zero_add _))
  have e2 (i : Fin 8) (q) : f (seq t2) (blk (n0 t2) (n0_le t2) i) q = f 1 ⟨8 + i.val, by omega⟩ q := congrArg (fun y => f 1 y q) (Fin.ext rfl)
  have e3 (i : Fin 8) (q) : f (seq t3) (blk (n0 t3) (n0_le t3) i) q = f 1 ⟨i.val, by omega⟩ q := congrArg (fun y => f 1 y q) (Fin.ext (Nat.zero_add _))
  simp only [e0, e1, e2, e3, Finset.sum_comm (s := (Finset.univ : Finset (Fin 128)))]
  ring

end Sums

variable {m : (ℓ : Loc nD τ sig) → Buf (Elt Ideal) ℓ} {V0 : Valuation AttnRefIdeal.τ AttnRefIdeal.sig (Elt Ideal)} {c : Dev nD}
variable (S : Same m V0 c) (H : Fine (P0 V0) (S0 V0) (C0 V0))
include S H

theorem left_all (n : ℕ) : ∀ hn : n < cfg0.N, Left m V0 c ⟨n, hn⟩ (outs m c n hn) := by
  induction n with
  | zero => intro hn; rw [outs_A m c ⟨0, hn⟩ rfl (by show ¬0 % 4 = 3; omega)]; exact (step_A S H _ _ _).1
  | succ n ih =>
    intro hn
    have h4 := t_lt ⟨n + 1, hn⟩
    have hp : n < cfg0.N := Nat.lt_of_succ_lt hn
    have h0 : ¬(n + 1) % 4 = 0 := by simp only at h4; omega
    by_cases h2 : (n + 1) % 4 = 3
    · rw [outs_C m c ⟨n + 1, hn⟩ h0 h2]; exact (step_C S H _ _ ⟨n, hp⟩ rfl (ih hp) _ _).1
    · rw [outs_B m c ⟨n + 1, hn⟩ h0 h2]; exact (step_B S H _ _ ⟨n, hp⟩ rfl (ih hp) _ _).1

theorem adds_first : Adds m V0 c t0 (fun _ _ => 0) (fun _ => 0) (outs m c 0 t0.isLt) := by
  rw [outs_A m c t0 rfl (by decide)]; exact (step_A S H _ _ _).2

theorem adds_next (n : ℕ) (hn : n + 1 < cfg0.N) (hp : n < cfg0.N) :
    Adds m V0 c ⟨n + 1, hn⟩ (fun C M => (outs m c n hp).dw (ix2 C M)) (fun h => (outs m c n hp).dsk (ix2 0 h)) (outs m c (n + 1) hn) := by
  have h4 := t_lt ⟨n + 1, hn⟩
  have h0 : ¬(n + 1) % 4 = 0 := by simp only at h4; omega
  by_cases h2 : (n + 1) % 4 = 3
  · rw [outs_C m c ⟨n + 1, hn⟩ h0 h2]; exact (step_C S H _ _ ⟨n, hp⟩ rfl (left_all S H n hp) _ _).2.1
  · rw [outs_B m c ⟨n + 1, hn⟩ h0 h2]; exact (step_B S H _ _ ⟨n, hp⟩ rfl (left_all S H n hp) _ _).2

theorem dw_last (C : Fin 2304) (M : Fin 512) : (outs m c 3 t3.isLt).dw (ix2 C M) = resW (res_main_v176 V0) (V0 (Proc.devRef .tc AttnRefIdeal.main_arg1)) (ix2 C M) := by
  rw [(adds_next S H 2 t3.isLt t2.isLt).dw, (adds_next S H 1 t2.isLt t1.isLt).dw, (adds_next S H 0 t1.isLt t0.isLt).dw, (adds_first S H).dw, resW_at,
    sum_points (fun b x => @HMul.hMul EReal EReal EReal _ ((res_main_v176 V0 : S2x2048x2304.Idx → EReal) (ix3 b x C)) ((V0 (Proc.devRef .tc AttnRefIdeal.main_arg1) : S2x2048x1024.Idx → EReal) (ix3 b x ⟨M.val, by omega⟩)))]
  simp only [ref_row S _ _ H, S.hn]
  rfl

theorem dwb_last (C : Fin 2304) (M : Fin 512) : (outs m c 3 t3.isLt).dwb (ix2 C M) = (outs m c 3 t3.isLt).dw (ix2 C M) := by
  have h := step_C S H t3 (prev m c t3) t2 rfl (left_all S H 2 t2.isLt) (by decide) (by decide)
  rw [outs_C m c t3 (by decide) (by decide)]
  exact (h.2.2 C M).trans (h.2.1.dw C M).symm

theorem dsk_last (h : Fin 8) : (outs m c 3 t3.isLt).dsk (ix2 0 h) = ((∑ a : Fin 2, ∑ b : Fin 16, ∑ q : Fin 128, -((D0 V0).Ps a b (hj h) (rr (hg h) q) * (D0 V0).Delta a b (hj h) (rr (hg h) q)) : ℝ) : EReal) := by
  rw [(adds_next S H 2 t3.isLt t2.isLt).dsk, (adds_next S H 1 t2.isLt t1.isLt).dsk, (adds_next S H 0 t1.isLt t0.isLt).dsk, (adds_first S H).dsk]
  simp only [← EReal.coe_zero, ← EReal.coe_sub]
  refine congrArg _ ?_
  simp only [Finset.sum_neg_distrib]
  rw [sum_blocks (fun a b q => (D0 V0).Ps a b (hj h) (rr (hg h) q) * (D0 V0).Delta a b (hj h) (rr (hg h) q))]
  simp only [lossOf]
  ring

omit S in
theorem sums_sum (j : Fin 2) (g : Fin 4) :
    (Host.reduceAdd (res_main_v132 V0) (constant AttnRefIdeal.S_ .f32 0x00000000#32) AttnRefIdeal.Gen.reducesTo_S2x16x2x4x128x1_S2x4x1_d0_1_4 AttnRefIdeal.Gen.h_S_ : FVec Ideal AttnRefIdeal.S2x4x1 .f32) (ix3 j g 0)
      = ((∑ a : Fin 2, ∑ b : Fin 16, ∑ q : Fin 128, -((D0 V0).Ps a b j (rr g q) * (D0 V0).Delta a b j (rr g q)) : ℝ) : EReal) := by
  refine (sink_sum (res_main_v132 V0) j g).trans ?_
  simp only [← Cert.Attn.Row.coe_sum]
  exact Finset.sum_congr rfl fun a _ => Finset.sum_congr rfl fun b _ => Finset.sum_congr rfl fun q _ => Cert.AttnRefIdeal.Value.v132_at V0 a b j g q H

omit S in
/-- Nothing reaches the sinks through the maximum. -/
theorem tie_sum (w : FVec Ideal AttnRefIdeal.S2x16x2x4x128x1 .f32) (j : Fin 2) (g : Fin 4) :
    ∑ a : Fin 2, ∑ b : Fin 16, ∑ e : Fin 128, (mulf (res_main_v143 V0) w (ix6 a b j g e 0) : EReal) = 0 := by
  refine Finset.sum_eq_zero fun a _ => Finset.sum_eq_zero fun b _ => Finset.sum_eq_zero fun e _ => ?_
  refine (congrArg (fun y : EReal => y * w (ix6 a b j g e 0)) (Cert.AttnRefIdeal.Value.v143_at V0 a b j g e H)).trans (zero_mul _)

variable (V0) in
/-- The sinks' gradient as the reference computes it. -/
def resS : FVec Ideal AttnRefIdeal.S1x8 .f32 := broadcastInDim AttnRefIdeal.S1x8 ![1] AttnRefIdeal.Gen.bcast_S8_S1x8_1 (shapeCast _ (addf (shapeCast _ (Host.reduceAdd (res_main_v132 V0) (constant AttnRefIdeal.S_ .f32 0x00000000#32) AttnRefIdeal.Gen.reducesTo_S2x16x2x4x128x1_S2x4x1_d0_1_4 AttnRefIdeal.Gen.h_S_) AttnRefIdeal.Gen.shapeCasts_S2x4x1_S1x1x2x4x1x1) (shapeCast _ (Host.reduceAdd (mulf (res_main_v143 V0) (select (cmpf .ogt (broadcastInDim AttnRefIdeal.S2x16x2x4x128x1 ![0, 1, 2, 3, 4, 5] AttnRefIdeal.Gen.bcast_S1x1x2x4x1x1_S2x16x2x4x128x1_0_1_2_3_4_5 (res_main_v55 V0)) (res_main_v62 V0)) (broadcastInDim AttnRefIdeal.S2x16x2x4x128x1 ![] AttnRefIdeal.Gen.bcast_S_S2x16x2x4x128x1 (constant AttnRefIdeal.S_ .f32 0x3F800000#32)) (select (cmpf .oeq (broadcastInDim AttnRefIdeal.S2x16x2x4x128x1 ![0, 1, 2, 3, 4, 5] AttnRefIdeal.Gen.bcast_S1x1x2x4x1x1_S2x16x2x4x128x1_0_1_2_3_4_5 (res_main_v55 V0)) (res_main_v62 V0)) (broadcastInDim AttnRefIdeal.S2x16x2x4x128x1 ![] AttnRefIdeal.Gen.bcast_S_S2x16x2x4x128x1 (constant AttnRefIdeal.S_ .f32 0x3F000000#32)) (broadcastInDim AttnRefIdeal.S2x16x2x4x128x1 ![] AttnRefIdeal.Gen.bcast_S_S2x16x2x4x128x1 (constant AttnRefIdeal.S_ .f32 0x00000000#32))))) (constant AttnRefIdeal.S_ .f32 0x00000000#32) AttnRefIdeal.Gen.reducesTo_S2x16x2x4x128x1_S2x4x1_d0_1_4 AttnRefIdeal.Gen.h_S_) AttnRefIdeal.Gen.shapeCasts_S2x4x1_S1x1x2x4x1x1)) AttnRefIdeal.Gen.shapeCasts_S1x1x2x4x1x1_S8)

theorem resS_at (h : Fin 8) : resS V0 (ix2 0 h) = (outs m c 3 t3.isLt).dsk (ix2 0 h) := by
  rw [dsk_last S H]
  refine (sink_shape _ _ h).trans ?_
  refine (congrArg₂ (fun y z : EReal => y + z) (sums_sum H _ _) ((sink_sum _ _ _).trans (tie_sum H _ _ _))).trans (add_zero _)

variable (V0) in
/-- The projection's gradient, rows through both sequences. -/
def resProj : FVec Ideal AttnRefIdeal.S4096x2304 .bf16 :=
  truncf .bf16 (shapeCast AttnRefIdeal.S4096x2304 (res_main_v176 V0) AttnRefIdeal.Gen.shapeCasts_S2x2048x2304_S4096x2304) AttnRefIdeal.Gen.bitsLt_bf16_f32

theorem final_16 : (dats m 0 c).arrAt 16 (cfgs 0).N = resProj V0 := by
  refine (dats m 0 c).arrAt_eq_of_covers 16 _ (by decide +kernel) fun t hf y => ?_
  blk_simp; rw [after_16]
  idx_vars y
  have ht := t_lt t
  have hz : (((cfg0.win 16).blk t).view.emb (ix2 y0 y1) : S4096x2304.Idx) = ix2 ⟨(2 * (t.val / 2) + 1 - t.val % 2) * 1024 + y0.val, by omega⟩ y1 := by
    blk_ext [idx_val t]
  rw [hz]
  refine ((left_all S H t.val t.isLt).dproj y0 y1).trans ((ref_row S t y0 H y1).symm.trans ?_)
  refine Eq.trans ?_ (resProj_at (res_main_v176 V0) _ y1).symm
  refine congrArg (res_main_v176 V0) (ix3_val ?_ ?_ rfl)
  · show t.val / 2 = ((2 * (t.val / 2) + 1 - t.val % 2) * 1024 + y0.val) / 2048
    omega
  · show 1024 * (1 - t.val % 2) + y0.val = ((2 * (t.val / 2) + 1 - t.val % 2) * 1024 + y0.val) % 2048
    omega

theorem final_17 : (dats m 0 c).arrAt 17 (cfgs 0).N = resW (res_main_v176 V0) (V0 (Proc.devRef .tc AttnRefIdeal.main_arg1)) := by
  refine (dats m 0 c).arrAt_eq_of_after_last 17 t3 (by decide +kernel) _ fun j => ?_
  blk_simp; rw [after_17]
  idx_vars j
  exact dw_last S H j0 j1

theorem final_18 : (dats m 0 c).arrAt 18 (cfgs 0).N = (truncf .bf16 (resW (res_main_v176 V0) (V0 (Proc.devRef .tc AttnRefIdeal.main_arg1))) AttnRefIdeal.Gen.bitsLt_bf16_f32 : FVec Ideal AttnRefIdeal.S2304x512 .bf16) := by
  refine (dats m 0 c).arrAt_eq_of_after_last 18 t3 (by decide +kernel) _ fun j => ?_
  blk_simp; rw [after_18]
  idx_vars j
  exact (dwb_last S H j0 j1).trans (dw_last S H j0 j1)

theorem final_19 : (dats m 0 c).arrAt 19 (cfgs 0).N = resS V0 := by
  refine (dats m 0 c).arrAt_eq_of_after_last 19 t3 (by decide +kernel) _ fun j => ?_
  blk_simp; rw [after_19]
  idx_vars j
  obtain rfl : j0 = 0 := Subsingleton.elim _ _
  exact (resS_at S H j1).symm

end Cert.AttnIdeal.Hand

end
-- ==== Proof.Attn.Pair.lean ====
/- THE PAIR: the precondition says the operands are real numbers; the launch's run leaves the arrays' contents; and those are the
   derivative's results (`Final`). -/
module

public import proofs.«01_k».proof.Pre_finite
public import proofs.«01_k».proof.Proof.Attn.Final
public import Idealize.ShloMosaic.Lib.ReduceAll
public import Idealize.ShloMosaic.Lib.KernelVsHost

@[expose] public section

set_option maxRecDepth 16384

noncomputable section

namespace Cert.AttnIdeal.Hand

open Idealize.ShloMosaic Idealize.ShloMosaic.TcCoe Idealize.SL.Sem Cert.AttnIdeal Cert.AttnIdeal.Gen
open Cert.AttnRefIdeal.Value (P0 S0 C0)
open Cert.AttnIdeal.Spec (Fine)

/-- Only a real number has an absolute value below the infinity. -/
theorem real_of_below (x : Ideal .f32)
    (h : FloatOps.cmpf .olt (FloatOps.hostAbsf x) (FloatOps.ofBits (F := Ideal) .f32 0x7F800000#32) = 1#1) : ∃ r : ℝ, (x : EReal) = r := by
  have htop : Ideal.ofBits .f32 0x7F800000#32 = ⊤ := by simp [Ideal.ofBits, Ideal.ieee]
  have h' : max (x : EReal) (-(x : EReal)) < ⊤ := by
    have := (Ideal.cmp_olt_eq_one _ _).1 (show Ideal.cmp .olt (max (x : EReal) (-(x : EReal))) (Ideal.ofBits .f32 0x7F800000#32) = 1 from h)
    rwa [htop] at this
  have h1 := (max_lt_iff.1 h').1.ne
  have h2 := (max_lt_iff.1 h').2.ne
  induction x using EReal.rec with
  | bot => exact absurd (by simp) h2
  | coe r => exact ⟨r, rfl⟩
  | top => exact absurd rfl h1

instance : Subsingleton Cert.Pre_finite.S_.Idx := ⟨fun a b => funext fun i => i.elim0⟩

variable [Cert.Pre_finite.Facts]

/-- The precondition read back. -/
theorem fine_of_pre (p : FVec Ideal Cert.Pre_finite.S2x2048x2304 .f32) (hn : FVec Ideal Cert.Pre_finite.S2x2048x1024 .f32)
    (s : FVec Ideal Cert.Pre_finite.S1x8 .f32) (u z ct : FVec Ideal Cert.Pre_finite.S2x2048x512 .f32) (a : FVec Ideal Cert.Pre_finite.S512x256 .bf16)
    (h : Cert.Pre_finite.fn p hn s u z ct a = fun _ => 1#1) : Fine p s ct := by
  have h0 := congrFun h (fun i => i.elim0 : Cert.Pre_finite.S_.Idx)
  obtain ⟨h1, h2⟩ := IntOp.andi_eq_one.1 h0
  obtain ⟨h3, h4⟩ := IntOp.andi_eq_one.1 h1
  refine ⟨fun b x c hc => ?_, fun k => ?_, fun b x k => ?_⟩
  · have e := Host.reduce_andi_all _ _ _ _ _ h3 (ix3 (n0 := 2) (n1 := 2048) (n2 := 1280) b x ⟨c.val - 1024, by omega⟩)
    obtain ⟨r, hr⟩ := real_of_below _ e
    refine ⟨r, Eq.trans (congrArg p ?_) hr⟩
    funext i
    refine Fin.ext ?_
    fin_cases i
    · show b.val = 0 + b.val; omega
    · show x.val = 0 + x.val; omega
    · show c.val = 1024 + (c.val - 1024); omega
  · exact real_of_below _ (Host.reduce_andi_all _ _ _ _ _ h4 (ix2 0 k))
  · exact real_of_below _ (Host.reduce_andi_all _ _ _ _ _ h2 (ix3 b x k))

variable (m : (ℓ : Loc nD τ sig) → Buf (Elt Ideal) ℓ) (ρ : Dev nD → PrngReg)

/-- The launch's run: the results' arrays after the grid, and the arguments unchanged. -/
theorem run_blocks : θ_run defs (onTc (τ := τ) (main (F := Ideal))) ⟨m, fun _ => 0, ρ⟩ (fun r => ∀ c : Dev nD,
      r.2.mem ((c.tc : Thread nD τ).loc main_v104_0) = (dats m 0 c).arrAt 16 (cfgs 0).N
      ∧ r.2.mem ((c.tc : Thread nD τ).loc main_v104_1) = (dats m 0 c).arrAt 17 (cfgs 0).N
      ∧ r.2.mem ((c.tc : Thread nD τ).loc main_v104_2) = (dats m 0 c).arrAt 18 (cfgs 0).N
      ∧ r.2.mem ((c.tc : Thread nD τ).loc main_v104_3) = (dats m 0 c).arrAt 19 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run _ _ _).mono (fun r h c => ?_) (θ_run_and (run_main m ρ) (frame_main m ρ))
  exact ⟨(h.1 c).1 16, (h.1 c).1 17, (h.1 c).1 18, (h.1 c).1 19, h.2.1 c⟩

end Cert.AttnIdeal.Hand

end
-- ==== Proof.Glu.Run.lean ====
/- The body of the gated unit's gradient, run once in each of its two cases (first point, later point). -/
module

public import proofs.«01_k».proof.Proof.Gen.GluIdeal.Frame
public import proofs.«01_k».proof.Proof.Gen.GluIdeal.Skeleton

@[expose] public section

set_option maxRecDepth 16384

noncomputable section

namespace Cert.GluIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.GluIdeal.Gen

variable {F : FTy → Type} [FloatOps F]

local notation "𝕄" => MT nD τ sig Unit (Elt F) ℕ (UR sig nD τ) ℕ

/-- The point is the first: the two accumulated outputs are set to zero there. -/
abbrev first (i : grid0.Coords) : Prop := (Scalar.cmpi .ne (Scalar.extui (Scalar.cmpi .eq (BitVec.ofNat 32 (i 0).val) 0#32)) 0#32) = 1#1

theorem first_iff : ∀ t : Fin cfg0.N, first (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [first, e0]
    word_cmp
   : ∀ t : Fin grid0.N, first (grid0.coords t) ↔ t.val % 8 = 0)

set_option maxHeartbeats 4000000 in
/-- What the body's stores leave in each output's buffer at the first point, as pieces, with the proof that it runs so over any contents of
    those buffers. Only the last two depend on what they held. -/
noncomputable def runA (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .bf16) (harg7 : arg7.IsWhole) (arg8 : Memref sig .tc .vmem S1x512 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S512x512 .bf16) (harg13 : arg13.IsWhole) (arg14 : Memref sig .tc .vmem S512x512 .f32) (harg14 : arg14.IsWhole) (arg15 : Memref sig .tc .vmem S1x512 .f32) (harg15 : arg15.IsWhole) (hc0 : first i)
    (x0 : Vec F S4096x128 .f32) (x1 : Vec F S4096x128 .f32) (x2 : Vec F S4096x128 .f32) (x3 : Vec F S4096x128 .f32) (x4 : Vec F S512x512 .f32) (x5 : Vec F S512x512 .f32) (x6 : Vec F S512x512 .bf16) (x7 : Vec F S1x512 .f32) :
    Σ' (L8 : List (View.Piece (Elt F) S4096x128 .f32)), Σ' (L9 : List (View.Piece (Elt F) S4096x128 .f32)), Σ' (L10 : List (View.Piece (Elt F) S4096x128 .f32)), Σ' (L11 : List (View.Piece (Elt F) S4096x128 .f32)), Σ' (L12 : List (View.Piece (Elt F) S512x512 .bf16)), Σ' (L13 : Vec F S512x512 .f32 → List (View.Piece (Elt F) S512x512 .f32)), { L14 : Vec F S1x512 .f32 → List (View.Piece (Elt F) S1x512 .f32) //
      ∀ (y8 : Vec F S4096x128 .f32) (y9 : Vec F S4096x128 .f32) (y10 : Vec F S4096x128 .f32) (y11 : Vec F S4096x128 .f32) (y12 : Vec F S512x512 .bf16) (y13 : Vec F S512x512 .f32) (y14 : Vec F S1x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare y8 ∗ owns (c : Thread nD τ) arg10 fullShare y9 ∗ owns (c : Thread nD τ) arg11 fullShare y10 ∗ owns (c : Thread nD τ) arg12 fullShare y11 ∗ owns (c : Thread nD τ) arg13 fullShare y12 ∗ owns (c : Thread nD τ) arg14 fullShare y13 ∗ owns (c : Thread nD τ) arg15 fullShare y14
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (arg9.view.loc (c : Thread nD τ) ↦[arg9.view.set]{fullShare} arg9.view.writes (Elt F) (harg9.unread y8) L8) ∗ (arg10.view.loc (c : Thread nD τ) ↦[arg10.view.set]{fullShare} arg10.view.writes (Elt F) (harg10.unread y9) L9) ∗ (arg11.view.loc (c : Thread nD τ) ↦[arg11.view.set]{fullShare} arg11.view.writes (Elt F) (harg11.unread y10) L10) ∗ (arg12.view.loc (c : Thread nD τ) ↦[arg12.view.set]{fullShare} arg12.view.writes (Elt F) (harg12.unread y11) L11) ∗ (arg13.view.loc (c : Thread nD τ) ↦[arg13.view.set]{fullShare} arg13.view.writes (Elt F) (harg13.unread y12) L12) ∗ (arg14.view.loc (c : Thread nD τ) ↦[arg14.view.set]{fullShare} arg14.view.writes (Elt F) (harg14.unread y13) (L13 y13)) ∗ (arg15.view.loc (c : Thread nD τ) ↦[arg15.view.set]{fullShare} arg15.view.writes (Elt F) (harg15.unread y14) (L14 y14))) -∗ K ⟨⟩))
          ⊢ wp frame (wpE (defs₀ (F := F)) Variants.none c none) E (cc0_glu_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, fun y8 y9 y10 y11 y12 y13 y14 E K => ?run⟩
  case run =>
    simp only [cc0_glu_bwd_eq_skeleton]; unfold cc0_glu_bwd_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexact H8
    isplitl [H9]; · iexact H9
    isplitl [H10]; · iexact H10
    isplitl [H11]; · iexact H11
    isplitl [H12]; · iexact H12
    isplitl [H13]; · iexact H13
    iexact H14

set_option maxHeartbeats 4000000 in
/-- The same at a later point. -/
noncomputable def runB (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .bf16) (harg7 : arg7.IsWhole) (arg8 : Memref sig .tc .vmem S1x512 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S512x512 .bf16) (harg13 : arg13.IsWhole) (arg14 : Memref sig .tc .vmem S512x512 .f32) (harg14 : arg14.IsWhole) (arg15 : Memref sig .tc .vmem S1x512 .f32) (harg15 : arg15.IsWhole) (hc0 : ¬first i)
    (x0 : Vec F S4096x128 .f32) (x1 : Vec F S4096x128 .f32) (x2 : Vec F S4096x128 .f32) (x3 : Vec F S4096x128 .f32) (x4 : Vec F S512x512 .f32) (x5 : Vec F S512x512 .f32) (x6 : Vec F S512x512 .bf16) (x7 : Vec F S1x512 .f32) :
    Σ' (L8 : List (View.Piece (Elt F) S4096x128 .f32)), Σ' (L9 : List (View.Piece (Elt F) S4096x128 .f32)), Σ' (L10 : List (View.Piece (Elt F) S4096x128 .f32)), Σ' (L11 : List (View.Piece (Elt F) S4096x128 .f32)), Σ' (L12 : List (View.Piece (Elt F) S512x512 .bf16)), Σ' (L13 : Vec F S512x512 .f32 → List (View.Piece (Elt F) S512x512 .f32)), { L14 : Vec F S1x512 .f32 → List (View.Piece (Elt F) S1x512 .f32) //
      ∀ (y8 : Vec F S4096x128 .f32) (y9 : Vec F S4096x128 .f32) (y10 : Vec F S4096x128 .f32) (y11 : Vec F S4096x128 .f32) (y12 : Vec F S512x512 .bf16) (y13 : Vec F S512x512 .f32) (y14 : Vec F S1x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare y8 ∗ owns (c : Thread nD τ) arg10 fullShare y9 ∗ owns (c : Thread nD τ) arg11 fullShare y10 ∗ owns (c : Thread nD τ) arg12 fullShare y11 ∗ owns (c : Thread nD τ) arg13 fullShare y12 ∗ owns (c : Thread nD τ) arg14 fullShare y13 ∗ owns (c : Thread nD τ) arg15 fullShare y14
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (arg9.view.loc (c : Thread nD τ) ↦[arg9.view.set]{fullShare} arg9.view.writes (Elt F) (harg9.unread y8) L8) ∗ (arg10.view.loc (c : Thread nD τ) ↦[arg10.view.set]{fullShare} arg10.view.writes (Elt F) (harg10.unread y9) L9) ∗ (arg11.view.loc (c : Thread nD τ) ↦[arg11.view.set]{fullShare} arg11.view.writes (Elt F) (harg11.unread y10) L10) ∗ (arg12.view.loc (c : Thread nD τ) ↦[arg12.view.set]{fullShare} arg12.view.writes (Elt F) (harg12.unread y11) L11) ∗ (arg13.view.loc (c : Thread nD τ) ↦[arg13.view.set]{fullShare} arg13.view.writes (Elt F) (harg13.unread y12) L12) ∗ (arg14.view.loc (c : Thread nD τ) ↦[arg14.view.set]{fullShare} arg14.view.writes (Elt F) (harg14.unread y13) (L13 y13)) ∗ (arg15.view.loc (c : Thread nD τ) ↦[arg15.view.set]{fullShare} arg15.view.writes (Elt F) (harg15.unread y14) (L14 y14))) -∗ K ⟨⟩))
          ⊢ wp frame (wpE (defs₀ (F := F)) Variants.none c none) E (cc0_glu_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, fun y8 y9 y10 y11 y12 y13 y14 E K => ?run⟩
  case run =>
    simp only [cc0_glu_bwd_eq_skeleton]; unfold cc0_glu_bwd_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexact H8
    isplitl [H9]; · iexact H9
    isplitl [H10]; · iexact H10
    isplitl [H11]; · iexact H11
    isplitl [H12]; · iexact H12
    isplitl [H13]; · iexact H13
    iexact H14

end Cert.GluIdeal.Hand

end
-- ==== Proof.Glu.Frame.lean ====
/- The frame of the gated unit's gradient. Four of its outputs stay in their buffers over all points and each point writes sixteenths of
   their rows, so what such a buffer holds is known only relative to what it held before: the proof data says, of each output's buffer,
   that the body leaves the stores of the point over what it found. -/
module

public import proofs.«01_k».proof.Proof.Glu.Run
public import Idealize.ShloMosaic.Lib.Pipeline.ArrRel

@[expose] public section

set_option maxRecDepth 16384

noncomputable section

namespace Cert.GluIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.GluIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms_0 (t : Fin cfg0.N) : Memref sig .tc .vmem S4096x128 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S4096x128 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S4096x128 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S4096x128 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S512x512 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S512x512 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S512x512 .bf16 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S1x512 .f32 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S4096x128 .f32 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S4096x128 .f32 := win0_9.stage (cfg0.slots t 9)
abbrev hs_9 (t : Fin cfg0.N) : (ms_9 t).IsWhole := hstage0_9 ((cfg0.slots t 9).cast nbuf0_9)
abbrev ms_10 (t : Fin cfg0.N) : Memref sig .tc .vmem S4096x128 .f32 := win0_10.stage (cfg0.slots t 10)
abbrev hs_10 (t : Fin cfg0.N) : (ms_10 t).IsWhole := hstage0_10 ((cfg0.slots t 10).cast nbuf0_10)
abbrev ms_11 (t : Fin cfg0.N) : Memref sig .tc .vmem S4096x128 .f32 := win0_11.stage (cfg0.slots t 11)
abbrev hs_11 (t : Fin cfg0.N) : (ms_11 t).IsWhole := hstage0_11 ((cfg0.slots t 11).cast nbuf0_11)
abbrev ms_12 (t : Fin cfg0.N) : Memref sig .tc .vmem S512x512 .bf16 := win0_12.stage (cfg0.slots t 12)
abbrev hs_12 (t : Fin cfg0.N) : (ms_12 t).IsWhole := hstage0_12 ((cfg0.slots t 12).cast nbuf0_12)
abbrev ms_13 (t : Fin cfg0.N) : Memref sig .tc .vmem S512x512 .f32 := win0_13.stage (cfg0.slots t 13)
abbrev hs_13 (t : Fin cfg0.N) : (ms_13 t).IsWhole := hstage0_13 ((cfg0.slots t 13).cast nbuf0_13)
abbrev ms_14 (t : Fin cfg0.N) : Memref sig .tc .vmem S1x512 .f32 := win0_14.stage (cfg0.slots t 14)
abbrev hs_14 (t : Fin cfg0.N) : (ms_14 t).IsWhole := hstage0_14 ((cfg0.slots t 14).cast nbuf0_14)

/-- The body at the first point, on that point's buffers. -/
def atA (c : Dev nD) (t : Fin cfg0.N) (h : t.val % 8 = 0) :=
  runA (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) ((first_iff t).mpr h) (iblk m c 0 t) (iblk m c 1 t) (iblk m c 2 t) (iblk m c 3 t) (iblk m c 4 t) (iblk m c 5 t) (iblk m c 6 t) (iblk m c 7 t)

/-- The body at a later point, on that point's buffers. -/
def atB (c : Dev nD) (t : Fin cfg0.N) (h : ¬t.val % 8 = 0) :=
  runB (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (fun q => h ((first_iff t).mp q)) (iblk m c 0 t) (iblk m c 1 t) (iblk m c 2 t) (iblk m c 3 t) (iblk m c 4 t) (iblk m c 5 t) (iblk m c 6 t) (iblk m c 7 t)

/-- What the body leaves in output 0's buffer at point `t` if it found `Y` there. -/
def left_8 (c : Dev nD) (t : Fin cfg0.N) (Y : Vec F S4096x128 .f32) : Vec F S4096x128 .f32 :=
  (ms_8 t).view.read (Elt F) ((ms_8 t).view.writes (Elt F) ((hs_8 t).unread Y)
    (if h : t.val % 8 = 0 then (atA m c t h).1 else (atB m c t h).1))

/-- What the body leaves in output 1's buffer at point `t` if it found `Y` there. -/
def left_9 (c : Dev nD) (t : Fin cfg0.N) (Y : Vec F S4096x128 .f32) : Vec F S4096x128 .f32 :=
  (ms_9 t).view.read (Elt F) ((ms_9 t).view.writes (Elt F) ((hs_9 t).unread Y)
    (if h : t.val % 8 = 0 then (atA m c t h).2.1 else (atB m c t h).2.1))

/-- What the body leaves in output 2's buffer at point `t` if it found `Y` there. -/
def left_10 (c : Dev nD) (t : Fin cfg0.N) (Y : Vec F S4096x128 .f32) : Vec F S4096x128 .f32 :=
  (ms_10 t).view.read (Elt F) ((ms_10 t).view.writes (Elt F) ((hs_10 t).unread Y)
    (if h : t.val % 8 = 0 then (atA m c t h).2.2.1 else (atB m c t h).2.2.1))

/-- What the body leaves in output 3's buffer at point `t` if it found `Y` there. -/
def left_11 (c : Dev nD) (t : Fin cfg0.N) (Y : Vec F S4096x128 .f32) : Vec F S4096x128 .f32 :=
  (ms_11 t).view.read (Elt F) ((ms_11 t).view.writes (Elt F) ((hs_11 t).unread Y)
    (if h : t.val % 8 = 0 then (atA m c t h).2.2.2.1 else (atB m c t h).2.2.2.1))

/-- What the body leaves in output 4's buffer at point `t` if it found `Y` there. -/
def left_12 (c : Dev nD) (t : Fin cfg0.N) (Y : Vec F S512x512 .bf16) : Vec F S512x512 .bf16 :=
  (ms_12 t).view.read (Elt F) ((ms_12 t).view.writes (Elt F) ((hs_12 t).unread Y)
    (if h : t.val % 8 = 0 then (atA m c t h).2.2.2.2.1 else (atB m c t h).2.2.2.2.1))

/-- What the body leaves in output 5's buffer at point `t` if it found `Y` there. -/
def left_13 (c : Dev nD) (t : Fin cfg0.N) (Y : Vec F S512x512 .f32) : Vec F S512x512 .f32 :=
  (ms_13 t).view.read (Elt F) ((ms_13 t).view.writes (Elt F) ((hs_13 t).unread Y)
    (if h : t.val % 8 = 0 then (atA m c t h).2.2.2.2.2.1 Y else (atB m c t h).2.2.2.2.2.1 Y))

/-- What the body leaves in output 6's buffer at point `t` if it found `Y` there. -/
def left_14 (c : Dev nD) (t : Fin cfg0.N) (Y : Vec F S1x512 .f32) : Vec F S1x512 .f32 :=
  (ms_14 t).view.read (Elt F) ((ms_14 t).view.writes (Elt F) ((hs_14 t).unread Y)
    (if h : t.val % 8 = 0 then (atA m c t h).2.2.2.2.2.2.1 Y else (atB m c t h).2.2.2.2.2.2.1 Y))

/-- The proof data of the inputs: each buffer keeps its block. Nothing is said of the outputs. -/
def kept (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨n + 8, h⟩ => Dat.unnamed (cfg := cfg0) ⟨n + 8, h⟩ t
  Φ _ := Pipeline.ΦA spec0 c
  q w := Pipeline.shareOf spec0 w
  owed _ := 0

theorem kept_before_0 (c : Dev nD) (t : Fin cfg0.N) (d) : (kept m c).before 0 t d = iblk m c 0 t := before0_0_of m (kept m c) (by dsimp only [kept]) (fun _ => by dsimp only [kept]) t d
theorem kept_before_1 (c : Dev nD) (t : Fin cfg0.N) (d) : (kept m c).before 1 t d = iblk m c 1 t := before0_1_of m (kept m c) (by dsimp only [kept]) (fun _ => by dsimp only [kept]) t d
theorem kept_before_2 (c : Dev nD) (t : Fin cfg0.N) (d) : (kept m c).before 2 t d = iblk m c 2 t := before0_2_of m (kept m c) (by dsimp only [kept]) (fun _ => by dsimp only [kept]) t d
theorem kept_before_3 (c : Dev nD) (t : Fin cfg0.N) (d) : (kept m c).before 3 t d = iblk m c 3 t := before0_3_of m (kept m c) (by dsimp only [kept]) (fun _ => by dsimp only [kept]) t d
theorem kept_before_4 (c : Dev nD) (t : Fin cfg0.N) (d) : (kept m c).before 4 t d = iblk m c 4 t := before0_4_of m (kept m c) (by dsimp only [kept]) (fun _ => by dsimp only [kept]) t d
theorem kept_before_5 (c : Dev nD) (t : Fin cfg0.N) (d) : (kept m c).before 5 t d = iblk m c 5 t := before0_5_of m (kept m c) (by dsimp only [kept]) (fun _ => by dsimp only [kept]) t d
theorem kept_before_6 (c : Dev nD) (t : Fin cfg0.N) (d) : (kept m c).before 6 t d = iblk m c 6 t := before0_6_of m (kept m c) (by dsimp only [kept]) (fun _ => by dsimp only [kept]) t d
theorem kept_before_7 (c : Dev nD) (t : Fin cfg0.N) (d) : (kept m c).before 7 t d = iblk m c 7 t := before0_7_of m (kept m c) (by dsimp only [kept]) (fun _ => by dsimp only [kept]) t d

/-- What is known of the outputs' buffers: each holds the point's stores over what was found. -/
def over (c : Dev nD) : (w : Fin cfg0.W) → Option (Fin cfg0.N → (Y X : (cfg0.win w).block.Idx → Elt F (cfg0.win w).elt) → Prop)
  | ⟨0, _⟩ => none
  | ⟨1, _⟩ => none
  | ⟨2, _⟩ => none
  | ⟨3, _⟩ => none
  | ⟨4, _⟩ => none
  | ⟨5, _⟩ => none
  | ⟨6, _⟩ => none
  | ⟨7, _⟩ => none
  | ⟨8, _⟩ => some fun t Y X => X = left_8 m c t Y
  | ⟨9, _⟩ => some fun t Y X => X = left_9 m c t Y
  | ⟨10, _⟩ => some fun t Y X => X = left_10 m c t Y
  | ⟨11, _⟩ => some fun t Y X => X = left_11 m c t Y
  | ⟨12, _⟩ => some fun t Y X => X = left_12 m c t Y
  | ⟨13, _⟩ => some fun t Y X => X = left_13 m c t Y
  | ⟨14, _⟩ => some fun t Y X => X = left_14 m c t Y
  | ⟨_ + 15, h⟩ => absurd h (Nat.not_lt.2 (Nat.le_add_left _ _))

/-- The proof data. -/
def rdat (c : Dev nD) : RDat τ (Elt F) Unit ℕ (UR sig nD τ) ℕ cfg0 c := (kept m c).toR.override (over m c)

theorem finds_0 (c : Dev nD) (t : Fin cfg0.N) {Y} (h : (rdat m c).Finds 0 t Y) : Y = iblk m c 0 t := by
  obtain ⟨d, hd⟩ := (kept m c).toR_finds 0 t Y (((kept m c).toR.override_finds (ovr := over m c) (w := 0) rfl t Y).mp h)
  exact hd.trans (kept_before_0 m c t d)
theorem after_0 (c : Dev nD) (t : Fin cfg0.N) (Y) : (rdat m c).after 0 t Y (iblk m c 0 t) := by
  show (kept m c).Leaves 0 t _
  exact (Dat.Leaves.live_iff _ (w := 0) (t := t) (.inl rfl)).mpr rfl
theorem finds_1 (c : Dev nD) (t : Fin cfg0.N) {Y} (h : (rdat m c).Finds 1 t Y) : Y = iblk m c 1 t := by
  obtain ⟨d, hd⟩ := (kept m c).toR_finds 1 t Y (((kept m c).toR.override_finds (ovr := over m c) (w := 1) rfl t Y).mp h)
  exact hd.trans (kept_before_1 m c t d)
theorem after_1 (c : Dev nD) (t : Fin cfg0.N) (Y) : (rdat m c).after 1 t Y (iblk m c 1 t) := by
  show (kept m c).Leaves 1 t _
  exact (Dat.Leaves.live_iff _ (w := 1) (t := t) (.inl rfl)).mpr rfl
theorem finds_2 (c : Dev nD) (t : Fin cfg0.N) {Y} (h : (rdat m c).Finds 2 t Y) : Y = iblk m c 2 t := by
  obtain ⟨d, hd⟩ := (kept m c).toR_finds 2 t Y (((kept m c).toR.override_finds (ovr := over m c) (w := 2) rfl t Y).mp h)
  exact hd.trans (kept_before_2 m c t d)
theorem after_2 (c : Dev nD) (t : Fin cfg0.N) (Y) : (rdat m c).after 2 t Y (iblk m c 2 t) := by
  show (kept m c).Leaves 2 t _
  exact (Dat.Leaves.live_iff _ (w := 2) (t := t) (.inl rfl)).mpr rfl
theorem finds_3 (c : Dev nD) (t : Fin cfg0.N) {Y} (h : (rdat m c).Finds 3 t Y) : Y = iblk m c 3 t := by
  obtain ⟨d, hd⟩ := (kept m c).toR_finds 3 t Y (((kept m c).toR.override_finds (ovr := over m c) (w := 3) rfl t Y).mp h)
  exact hd.trans (kept_before_3 m c t d)
theorem after_3 (c : Dev nD) (t : Fin cfg0.N) (Y) : (rdat m c).after 3 t Y (iblk m c 3 t) := by
  show (kept m c).Leaves 3 t _
  exact (Dat.Leaves.live_iff _ (w := 3) (t := t) (.inl rfl)).mpr rfl
theorem finds_4 (c : Dev nD) (t : Fin cfg0.N) {Y} (h : (rdat m c).Finds 4 t Y) : Y = iblk m c 4 t := by
  obtain ⟨d, hd⟩ := (kept m c).toR_finds 4 t Y (((kept m c).toR.override_finds (ovr := over m c) (w := 4) rfl t Y).mp h)
  exact hd.trans (kept_before_4 m c t d)
theorem after_4 (c : Dev nD) (t : Fin cfg0.N) (Y) : (rdat m c).after 4 t Y (iblk m c 4 t) := by
  show (kept m c).Leaves 4 t _
  exact (Dat.Leaves.live_iff _ (w := 4) (t := t) (.inl rfl)).mpr rfl
theorem finds_5 (c : Dev nD) (t : Fin cfg0.N) {Y} (h : (rdat m c).Finds 5 t Y) : Y = iblk m c 5 t := by
  obtain ⟨d, hd⟩ := (kept m c).toR_finds 5 t Y (((kept m c).toR.override_finds (ovr := over m c) (w := 5) rfl t Y).mp h)
  exact hd.trans (kept_before_5 m c t d)
theorem after_5 (c : Dev nD) (t : Fin cfg0.N) (Y) : (rdat m c).after 5 t Y (iblk m c 5 t) := by
  show (kept m c).Leaves 5 t _
  exact (Dat.Leaves.live_iff _ (w := 5) (t := t) (.inl rfl)).mpr rfl
theorem finds_6 (c : Dev nD) (t : Fin cfg0.N) {Y} (h : (rdat m c).Finds 6 t Y) : Y = iblk m c 6 t := by
  obtain ⟨d, hd⟩ := (kept m c).toR_finds 6 t Y (((kept m c).toR.override_finds (ovr := over m c) (w := 6) rfl t Y).mp h)
  exact hd.trans (kept_before_6 m c t d)
theorem after_6 (c : Dev nD) (t : Fin cfg0.N) (Y) : (rdat m c).after 6 t Y (iblk m c 6 t) := by
  show (kept m c).Leaves 6 t _
  exact (Dat.Leaves.live_iff _ (w := 6) (t := t) (.inl rfl)).mpr rfl
theorem finds_7 (c : Dev nD) (t : Fin cfg0.N) {Y} (h : (rdat m c).Finds 7 t Y) : Y = iblk m c 7 t := by
  obtain ⟨d, hd⟩ := (kept m c).toR_finds 7 t Y (((kept m c).toR.override_finds (ovr := over m c) (w := 7) rfl t Y).mp h)
  exact hd.trans (kept_before_7 m c t d)
theorem after_7 (c : Dev nD) (t : Fin cfg0.N) (Y) : (rdat m c).after 7 t Y (iblk m c 7 t) := by
  show (kept m c).Leaves 7 t _
  exact (Dat.Leaves.live_iff _ (w := 7) (t := t) (.inl rfl)).mpr rfl
theorem after_8 (c : Dev nD) (t : Fin cfg0.N) (Y) : (rdat m c).after 8 t Y (left_8 m c t Y) := rfl
theorem after_9 (c : Dev nD) (t : Fin cfg0.N) (Y) : (rdat m c).after 9 t Y (left_9 m c t Y) := rfl
theorem after_10 (c : Dev nD) (t : Fin cfg0.N) (Y) : (rdat m c).after 10 t Y (left_10 m c t Y) := rfl
theorem after_11 (c : Dev nD) (t : Fin cfg0.N) (Y) : (rdat m c).after 11 t Y (left_11 m c t Y) := rfl
theorem after_12 (c : Dev nD) (t : Fin cfg0.N) (Y) : (rdat m c).after 12 t Y (left_12 m c t Y) := rfl
theorem after_13 (c : Dev nD) (t : Fin cfg0.N) (Y) : (rdat m c).after 13 t Y (left_13 m c t Y) := rfl
theorem after_14 (c : Dev nD) (t : Fin cfg0.N) (Y) : (rdat m c).after 14 t Y (left_14 m c t Y) := rfl

theorem body_row (t : Fin cfg0.N) : defs₀ (F := F) .tc cfg0.body (cfg0.bodyArgs t (cfg0.slots t)) = bodyAt0 t := by
  unfold defs₀; rw [Defs.onTc_tc]

set_option maxHeartbeats 4000000 in
/-- The body at a point of case A. -/
theorem sound_A (c : Dev nD) (t : Fin cfg0.N) (h : t.val % 8 = 0) (y8 : Vec F S4096x128 .f32) (y9 : Vec F S4096x128 .f32) (y10 : Vec F S4096x128 .f32) (y11 : Vec F S4096x128 .f32) (y12 : Vec F S512x512 .bf16) (y13 : Vec F S512x512 .f32) (y14 : Vec F S1x512 .f32) :
    iprop(owns (c : Thread nD τ) (ms_0 t) fullShare (iblk m c 0 t) ∗ owns (c : Thread nD τ) (ms_1 t) fullShare (iblk m c 1 t) ∗ owns (c : Thread nD τ) (ms_2 t) fullShare (iblk m c 2 t) ∗ owns (c : Thread nD τ) (ms_3 t) fullShare (iblk m c 3 t) ∗ owns (c : Thread nD τ) (ms_4 t) fullShare (iblk m c 4 t) ∗ owns (c : Thread nD τ) (ms_5 t) fullShare (iblk m c 5 t) ∗ owns (c : Thread nD τ) (ms_6 t) fullShare (iblk m c 6 t) ∗ owns (c : Thread nD τ) (ms_7 t) fullShare (iblk m c 7 t) ∗ owns (c : Thread nD τ) (ms_8 t) fullShare y8 ∗ owns (c : Thread nD τ) (ms_9 t) fullShare y9 ∗ owns (c : Thread nD τ) (ms_10 t) fullShare y10 ∗ owns (c : Thread nD τ) (ms_11 t) fullShare y11 ∗ owns (c : Thread nD τ) (ms_12 t) fullShare y12 ∗ owns (c : Thread nD τ) (ms_13 t) fullShare y13 ∗ owns (c : Thread nD τ) (ms_14 t) fullShare y14)
      ⊢ (wp frame (wpE (defs₀ (F := F)) Variants.none c none) Set.univ (bodyAt0 t) (fun _ => iprop(owns (c : Thread nD τ) (ms_0 t) fullShare (iblk m c 0 t) ∗ owns (c : Thread nD τ) (ms_1 t) fullShare (iblk m c 1 t) ∗ owns (c : Thread nD τ) (ms_2 t) fullShare (iblk m c 2 t) ∗ owns (c : Thread nD τ) (ms_3 t) fullShare (iblk m c 3 t) ∗ owns (c : Thread nD τ) (ms_4 t) fullShare (iblk m c 4 t) ∗ owns (c : Thread nD τ) (ms_5 t) fullShare (iblk m c 5 t) ∗ owns (c : Thread nD τ) (ms_6 t) fullShare (iblk m c 6 t) ∗ owns (c : Thread nD τ) (ms_7 t) fullShare (iblk m c 7 t) ∗ owns (c : Thread nD τ) (ms_8 t) fullShare (left_8 m c t y8) ∗ owns (c : Thread nD τ) (ms_9 t) fullShare (left_9 m c t y9) ∗ owns (c : Thread nD τ) (ms_10 t) fullShare (left_10 m c t y10) ∗ owns (c : Thread nD τ) (ms_11 t) fullShare (left_11 m c t y11) ∗ owns (c : Thread nD τ) (ms_12 t) fullShare (left_12 m c t y12) ∗ owns (c : Thread nD τ) (ms_13 t) fullShare (left_13 m c t y13) ∗ owns (c : Thread nD τ) (ms_14 t) fullShare (left_14 m c t y14))) : sProp 𝕄) := by
  have e8 : left_8 m c t y8 = (ms_8 t).view.read (Elt F) ((ms_8 t).view.writes (Elt F) ((hs_8 t).unread y8) ((atA m c t h).1)) := by
    unfold left_8; rw [dif_pos h]
  have e9 : left_9 m c t y9 = (ms_9 t).view.read (Elt F) ((ms_9 t).view.writes (Elt F) ((hs_9 t).unread y9) ((atA m c t h).2.1)) := by
    unfold left_9; rw [dif_pos h]
  have e10 : left_10 m c t y10 = (ms_10 t).view.read (Elt F) ((ms_10 t).view.writes (Elt F) ((hs_10 t).unread y10) ((atA m c t h).2.2.1)) := by
    unfold left_10; rw [dif_pos h]
  have e11 : left_11 m c t y11 = (ms_11 t).view.read (Elt F) ((ms_11 t).view.writes (Elt F) ((hs_11 t).unread y11) ((atA m c t h).2.2.2.1)) := by
    unfold left_11; rw [dif_pos h]
  have e12 : left_12 m c t y12 = (ms_12 t).view.read (Elt F) ((ms_12 t).view.writes (Elt F) ((hs_12 t).unread y12) ((atA m c t h).2.2.2.2.1)) := by
    unfold left_12; rw [dif_pos h]
  have e13 : left_13 m c t y13 = (ms_13 t).view.read (Elt F) ((ms_13 t).view.writes (Elt F) ((hs_13 t).unread y13) ((atA m c t h).2.2.2.2.2.1 y13)) := by
    unfold left_13; rw [dif_pos h]
  have e14 : left_14 m c t y14 = (ms_14 t).view.read (Elt F) ((ms_14 t).view.writes (Elt F) ((hs_14 t).unread y14) ((atA m c t h).2.2.2.2.2.2.1 y14)) := by
    unfold left_14; rw [dif_pos h]
  rw [e8, e9, e10, e11, e12, e13, e14]
  unfold bodyAt0
  iintro ⟨H0, H1, H2, H3, H4, H5, H6, H7, H8, H9, H10, H11, H12, H13, H14⟩
  iapply ((atA m c t h).2.2.2.2.2.2.2 y8 y9 y10 y11 y12 y13 y14 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H0, H1, H2, H3, H4, H5, H6, H7, H8, H9, H10, H11, H12, H13, H14⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; rfl
  isplitl [H9]
  · unfold owns; iexists _; isplitr
    swap; · iexact H9
    ipureintro; rfl
  isplitl [H10]
  · unfold owns; iexists _; isplitr
    swap; · iexact H10
    ipureintro; rfl
  isplitl [H11]
  · unfold owns; iexists _; isplitr
    swap; · iexact H11
    ipureintro; rfl
  isplitl [H12]
  · unfold owns; iexists _; isplitr
    swap; · iexact H12
    ipureintro; rfl
  isplitl [H13]
  · unfold owns; iexists _; isplitr
    swap; · iexact H13
    ipureintro; rfl
  · unfold owns; iexists _; isplitr
    swap; · iexact H14
    ipureintro; rfl

set_option maxHeartbeats 4000000 in
/-- The body at a point of case B. -/
theorem sound_B (c : Dev nD) (t : Fin cfg0.N) (h : ¬t.val % 8 = 0) (y8 : Vec F S4096x128 .f32) (y9 : Vec F S4096x128 .f32) (y10 : Vec F S4096x128 .f32) (y11 : Vec F S4096x128 .f32) (y12 : Vec F S512x512 .bf16) (y13 : Vec F S512x512 .f32) (y14 : Vec F S1x512 .f32) :
    iprop(owns (c : Thread nD τ) (ms_0 t) fullShare (iblk m c 0 t) ∗ owns (c : Thread nD τ) (ms_1 t) fullShare (iblk m c 1 t) ∗ owns (c : Thread nD τ) (ms_2 t) fullShare (iblk m c 2 t) ∗ owns (c : Thread nD τ) (ms_3 t) fullShare (iblk m c 3 t) ∗ owns (c : Thread nD τ) (ms_4 t) fullShare (iblk m c 4 t) ∗ owns (c : Thread nD τ) (ms_5 t) fullShare (iblk m c 5 t) ∗ owns (c : Thread nD τ) (ms_6 t) fullShare (iblk m c 6 t) ∗ owns (c : Thread nD τ) (ms_7 t) fullShare (iblk m c 7 t) ∗ owns (c : Thread nD τ) (ms_8 t) fullShare y8 ∗ owns (c : Thread nD τ) (ms_9 t) fullShare y9 ∗ owns (c : Thread nD τ) (ms_10 t) fullShare y10 ∗ owns (c : Thread nD τ) (ms_11 t) fullShare y11 ∗ owns (c : Thread nD τ) (ms_12 t) fullShare y12 ∗ owns (c : Thread nD τ) (ms_13 t) fullShare y13 ∗ owns (c : Thread nD τ) (ms_14 t) fullShare y14)
      ⊢ (wp frame (wpE (defs₀ (F := F)) Variants.none c none) Set.univ (bodyAt0 t) (fun _ => iprop(owns (c : Thread nD τ) (ms_0 t) fullShare (iblk m c 0 t) ∗ owns (c : Thread nD τ) (ms_1 t) fullShare (iblk m c 1 t) ∗ owns (c : Thread nD τ) (ms_2 t) fullShare (iblk m c 2 t) ∗ owns (c : Thread nD τ) (ms_3 t) fullShare (iblk m c 3 t) ∗ owns (c : Thread nD τ) (ms_4 t) fullShare (iblk m c 4 t) ∗ owns (c : Thread nD τ) (ms_5 t) fullShare (iblk m c 5 t) ∗ owns (c : Thread nD τ) (ms_6 t) fullShare (iblk m c 6 t) ∗ owns (c : Thread nD τ) (ms_7 t) fullShare (iblk m c 7 t) ∗ owns (c : Thread nD τ) (ms_8 t) fullShare (left_8 m c t y8) ∗ owns (c : Thread nD τ) (ms_9 t) fullShare (left_9 m c t y9) ∗ owns (c : Thread nD τ) (ms_10 t) fullShare (left_10 m c t y10) ∗ owns (c : Thread nD τ) (ms_11 t) fullShare (left_11 m c t y11) ∗ owns (c : Thread nD τ) (ms_12 t) fullShare (left_12 m c t y12) ∗ owns (c : Thread nD τ) (ms_13 t) fullShare (left_13 m c t y13) ∗ owns (c : Thread nD τ) (ms_14 t) fullShare (left_14 m c t y14))) : sProp 𝕄) := by
  have e8 : left_8 m c t y8 = (ms_8 t).view.read (Elt F) ((ms_8 t).view.writes (Elt F) ((hs_8 t).unread y8) ((atB m c t h).1)) := by
    unfold left_8; rw [dif_neg h]
  have e9 : left_9 m c t y9 = (ms_9 t).view.read (Elt F) ((ms_9 t).view.writes (Elt F) ((hs_9 t).unread y9) ((atB m c t h).2.1)) := by
    unfold left_9; rw [dif_neg h]
  have e10 : left_10 m c t y10 = (ms_10 t).view.read (Elt F) ((ms_10 t).view.writes (Elt F) ((hs_10 t).unread y10) ((atB m c t h).2.2.1)) := by
    unfold left_10; rw [dif_neg h]
  have e11 : left_11 m c t y11 = (ms_11 t).view.read (Elt F) ((ms_11 t).view.writes (Elt F) ((hs_11 t).unread y11) ((atB m c t h).2.2.2.1)) := by
    unfold left_11; rw [dif_neg h]
  have e12 : left_12 m c t y12 = (ms_12 t).view.read (Elt F) ((ms_12 t).view.writes (Elt F) ((hs_12 t).unread y12) ((atB m c t h).2.2.2.2.1)) := by
    unfold left_12; rw [dif_neg h]
  have e13 : left_13 m c t y13 = (ms_13 t).view.read (Elt F) ((ms_13 t).view.writes (Elt F) ((hs_13 t).unread y13) ((atB m c t h).2.2.2.2.2.1 y13)) := by
    unfold left_13; rw [dif_neg h]
  have e14 : left_14 m c t y14 = (ms_14 t).view.read (Elt F) ((ms_14 t).view.writes (Elt F) ((hs_14 t).unread y14) ((atB m c t h).2.2.2.2.2.2.1 y14)) := by
    unfold left_14; rw [dif_neg h]
  rw [e8, e9, e10, e11, e12, e13, e14]
  unfold bodyAt0
  iintro ⟨H0, H1, H2, H3, H4, H5, H6, H7, H8, H9, H10, H11, H12, H13, H14⟩
  iapply ((atB m c t h).2.2.2.2.2.2.2 y8 y9 y10 y11 y12 y13 y14 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H0, H1, H2, H3, H4, H5, H6, H7, H8, H9, H10, H11, H12, H13, H14⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; rfl
  isplitl [H9]
  · unfold owns; iexists _; isplitr
    swap; · iexact H9
    ipureintro; rfl
  isplitl [H10]
  · unfold owns; iexists _; isplitr
    swap; · iexact H10
    ipureintro; rfl
  isplitl [H11]
  · unfold owns; iexists _; isplitr
    swap; · iexact H11
    ipureintro; rfl
  isplitl [H12]
  · unfold owns; iexists _; isplitr
    swap; · iexact H12
    ipureintro; rfl
  isplitl [H13]
  · unfold owns; iexists _; isplitr
    swap; · iexact H13
    ipureintro; rfl
  · unfold owns; iexists _; isplitr
    swap; · iexact H14
    ipureintro; rfl

end Cert.GluIdeal.Hand

end
-- ==== Proof.Glu.Launch.lean ====
/- The launch of the gated unit's gradient. -/
module

public import proofs.«01_k».proof.Proof.Glu.Frame

@[expose] public section

set_option maxRecDepth 16384

noncomputable section

namespace Cert.GluIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.GluIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point. -/
theorem sound (c : Dev nD) (t : Fin cfg0.N) (y8 : Vec F S4096x128 .f32) (y9 : Vec F S4096x128 .f32) (y10 : Vec F S4096x128 .f32) (y11 : Vec F S4096x128 .f32) (y12 : Vec F S512x512 .bf16) (y13 : Vec F S512x512 .f32) (y14 : Vec F S1x512 .f32) :
    iprop(owns (c : Thread nD τ) (ms_0 t) fullShare (iblk m c 0 t) ∗ owns (c : Thread nD τ) (ms_1 t) fullShare (iblk m c 1 t) ∗ owns (c : Thread nD τ) (ms_2 t) fullShare (iblk m c 2 t) ∗ owns (c : Thread nD τ) (ms_3 t) fullShare (iblk m c 3 t) ∗ owns (c : Thread nD τ) (ms_4 t) fullShare (iblk m c 4 t) ∗ owns (c : Thread nD τ) (ms_5 t) fullShare (iblk m c 5 t) ∗ owns (c : Thread nD τ) (ms_6 t) fullShare (iblk m c 6 t) ∗ owns (c : Thread nD τ) (ms_7 t) fullShare (iblk m c 7 t) ∗ owns (c : Thread nD τ) (ms_8 t) fullShare y8 ∗ owns (c : Thread nD τ) (ms_9 t) fullShare y9 ∗ owns (c : Thread nD τ) (ms_10 t) fullShare y10 ∗ owns (c : Thread nD τ) (ms_11 t) fullShare y11 ∗ owns (c : Thread nD τ) (ms_12 t) fullShare y12 ∗ owns (c : Thread nD τ) (ms_13 t) fullShare y13 ∗ owns (c : Thread nD τ) (ms_14 t) fullShare y14)
      ⊢ (wp frame (wpE (defs₀ (F := F)) Variants.none c none) Set.univ (bodyAt0 t) (fun _ => iprop(owns (c : Thread nD τ) (ms_0 t) fullShare (iblk m c 0 t) ∗ owns (c : Thread nD τ) (ms_1 t) fullShare (iblk m c 1 t) ∗ owns (c : Thread nD τ) (ms_2 t) fullShare (iblk m c 2 t) ∗ owns (c : Thread nD τ) (ms_3 t) fullShare (iblk m c 3 t) ∗ owns (c : Thread nD τ) (ms_4 t) fullShare (iblk m c 4 t) ∗ owns (c : Thread nD τ) (ms_5 t) fullShare (iblk m c 5 t) ∗ owns (c : Thread nD τ) (ms_6 t) fullShare (iblk m c 6 t) ∗ owns (c : Thread nD τ) (ms_7 t) fullShare (iblk m c 7 t) ∗ owns (c : Thread nD τ) (ms_8 t) fullShare (left_8 m c t y8) ∗ owns (c : Thread nD τ) (ms_9 t) fullShare (left_9 m c t y9) ∗ owns (c : Thread nD τ) (ms_10 t) fullShare (left_10 m c t y10) ∗ owns (c : Thread nD τ) (ms_11 t) fullShare (left_11 m c t y11) ∗ owns (c : Thread nD τ) (ms_12 t) fullShare (left_12 m c t y12) ∗ owns (c : Thread nD τ) (ms_13 t) fullShare (left_13 m c t y13) ∗ owns (c : Thread nD τ) (ms_14 t) fullShare (left_14 m c t y14))) : sProp 𝕄) := by
  by_cases h : t.val % 8 = 0
  · exact sound_A m c t h y8 y9 y10 y11 y12 y13 y14
  · exact sound_B m c t h y8 y9 y10 y11 y12 y13 y14

set_option maxHeartbeats 4000000 in
/-- The body's obligation at every point. -/
theorem obligation (c : Dev nD) : (rdat (F := F) m c).BodyObligation (defs₀ (F := F)) Variants.none () Set.univ := fun t Y hY => by
  rw [bigSep_W0, body_row]
  have q0 := finds_0 m c t (hY 0)
  have q1 := finds_1 m c t (hY 1)
  have q2 := finds_2 m c t (hY 2)
  have q3 := finds_3 m c t (hY 3)
  have q4 := finds_4 m c t (hY 4)
  have q5 := finds_5 m c t (hY 5)
  have q6 := finds_6 m c t (hY 6)
  have q7 := finds_7 m c t (hY 7)
  refine BIBase.Entails.trans (Q := wp frame (wpE (defs₀ (F := F)) Variants.none c none) Set.univ (bodyAt0 t) (fun _ => iprop(iprop((rdat m c).Φ t.castSucc ∗ (rdat m c).owesAt () t.castSucc) ∗ owns (c : Thread nD τ) (ms_0 t) fullShare (iblk m c 0 t) ∗ owns (c : Thread nD τ) (ms_1 t) fullShare (iblk m c 1 t) ∗ owns (c : Thread nD τ) (ms_2 t) fullShare (iblk m c 2 t) ∗ owns (c : Thread nD τ) (ms_3 t) fullShare (iblk m c 3 t) ∗ owns (c : Thread nD τ) (ms_4 t) fullShare (iblk m c 4 t) ∗ owns (c : Thread nD τ) (ms_5 t) fullShare (iblk m c 5 t) ∗ owns (c : Thread nD τ) (ms_6 t) fullShare (iblk m c 6 t) ∗ owns (c : Thread nD τ) (ms_7 t) fullShare (iblk m c 7 t) ∗ owns (c : Thread nD τ) (ms_8 t) fullShare (left_8 m c t (Y 8)) ∗ owns (c : Thread nD τ) (ms_9 t) fullShare (left_9 m c t (Y 9)) ∗ owns (c : Thread nD τ) (ms_10 t) fullShare (left_10 m c t (Y 10)) ∗ owns (c : Thread nD τ) (ms_11 t) fullShare (left_11 m c t (Y 11)) ∗ owns (c : Thread nD τ) (ms_12 t) fullShare (left_12 m c t (Y 12)) ∗ owns (c : Thread nD τ) (ms_13 t) fullShare (left_13 m c t (Y 13)) ∗ owns (c : Thread nD τ) (ms_14 t) fullShare (left_14 m c t (Y 14))))) ?_ (wp_mono _ _ _ fun _ => ?_)
  · refine BIBase.Entails.trans ?_ (wp_frame_l _ _ _)
    iintro ⟨Hp, Ho, H0, H1, H2, H3, H4, H5, H6, H7, H8, H9, H10, H11, H12, H13, H14⟩
    isplitl [Hp Ho]
    · isplitl [Hp]; · iexact Hp
      iexact Ho
    iapply (sound m c t (Y 8) (Y 9) (Y 10) (Y 11) (Y 12) (Y 13) (Y 14))
    isplitl [H0]; · rw [← q0]; iexact H0
    isplitl [H1]; · rw [← q1]; iexact H1
    isplitl [H2]; · rw [← q2]; iexact H2
    isplitl [H3]; · rw [← q3]; iexact H3
    isplitl [H4]; · rw [← q4]; iexact H4
    isplitl [H5]; · rw [← q5]; iexact H5
    isplitl [H6]; · rw [← q6]; iexact H6
    isplitl [H7]; · rw [← q7]; iexact H7
    isplitl [H8]; · iexact H8
    isplitl [H9]; · iexact H9
    isplitl [H10]; · iexact H10
    isplitl [H11]; · iexact H11
    isplitl [H12]; · iexact H12
    isplitl [H13]; · iexact H13
    iexact H14
  · rw [bigSep_W0, show (rdat m c).Φ t.succ = (rdat m c).Φ t.castSucc from rfl, show (rdat m c).owesAt () t.succ = (rdat m c).owesAt () t.castSucc from rfl]
    iintro ⟨⟨Hp, Ho⟩, H0, H1, H2, H3, H4, H5, H6, H7, H8, H9, H10, H11, H12, H13, H14⟩
    isplitl [Hp]; · iexact Hp
    isplitl [Ho]; · iexact Ho
    isplitl [H0]
    · iexists _; isplitr
      swap; · iexact H0
      ipureintro; exact after_0 m c t (Y 0)
    isplitl [H1]
    · iexists _; isplitr
      swap; · iexact H1
      ipureintro; exact after_1 m c t (Y 1)
    isplitl [H2]
    · iexists _; isplitr
      swap; · iexact H2
      ipureintro; exact after_2 m c t (Y 2)
    isplitl [H3]
    · iexists _; isplitr
      swap; · iexact H3
      ipureintro; exact after_3 m c t (Y 3)
    isplitl [H4]
    · iexists _; isplitr
      swap; · iexact H4
      ipureintro; exact after_4 m c t (Y 4)
    isplitl [H5]
    · iexists _; isplitr
      swap; · iexact H5
      ipureintro; exact after_5 m c t (Y 5)
    isplitl [H6]
    · iexists _; isplitr
      swap; · iexact H6
      ipureintro; exact after_6 m c t (Y 6)
    isplitl [H7]
    · iexists _; isplitr
      swap; · iexact H7
      ipureintro; exact after_7 m c t (Y 7)
    isplitl [H8]
    · iexists _; isplitr
      swap; · iexact H8
      ipureintro; exact after_8 m c t (Y 8)
    isplitl [H9]
    · iexists _; isplitr
      swap; · iexact H9
      ipureintro; exact after_9 m c t (Y 9)
    isplitl [H10]
    · iexists _; isplitr
      swap; · iexact H10
      ipureintro; exact after_10 m c t (Y 10)
    isplitl [H11]
    · iexists _; isplitr
      swap; · iexact H11
      ipureintro; exact after_11 m c t (Y 11)
    isplitl [H12]
    · iexists _; isplitr
      swap; · iexact H12
      ipureintro; exact after_12 m c t (Y 12)
    isplitl [H13]
    · iexists _; isplitr
      swap; · iexact H13
      ipureintro; exact after_13 m c t (Y 13)
    · iexists _; isplitr
      swap; · iexact H14
      ipureintro; exact after_14 m c t (Y 14)

set_option backward.isDefEq.respectTransparency.types false in
/-- The launch: every array ends as the proof data allows, every semaphore at zero. -/
theorem run_quiescent : θ_run defs (onTc (τ := τ) (main (F := F))) (s₀ m ρ) (fun r => (RDat.FramePost cfg0 (rdat m) (V m)) r ∧ r.2.sem = fun _ => 0) :=
  Pipeline.RDat.θ_run_frame (Q' := _) cfgs (0 : Fin 1) launch0 defs₀ Variants.none (rdat m) m ρ main
    (hbody := obligation m) (hshare := fun c w => by fin_cases w <;> rfl)
    (howed := fun _ _ => rfl) (V := V m) (hmain := hmain m Variants.none) (hA := fun _ _ => rfl) (hΦ := fun _ _ => rfl)

/-- The frame: the launch terminates, every argument unchanged, every semaphore at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      (h.1.arr_in c 7 rfl).trans (V_main_arg4 m c)⟩, h.2⟩) (run_quiescent m ρ)

end Cert.GluIdeal.Hand

end
-- ==== Proof.Glu.Row.lean ====
/- The gated unit on one row and its gradient: `gelu(y) · sigmoid(gelu(y) W + b) · silu(z)`, with the tanh form of the gelu. Every
   function here is of extended reals and holds for any of them. -/
module

public import Idealize.ShloMosaic.Lib.Pointwise

@[expose] public section

noncomputable section

open Idealize.ShloMosaic

namespace Cert.Glu

/-- The weights and the bias every row meets. -/
structure Weights where
  w : Fin 512 → Fin 512 → EReal
  b : Fin 512 → EReal

/-- What one row brings: the unit's operand, the gate's operand and the cotangent. -/
structure Line where
  y : Fin 512 → EReal
  z : Fin 512 → EReal
  d : Fin 512 → EReal

/-- One half. -/
abbrev half : EReal := Ideal.ofBits .f32 0x3F000000#32
/-- Three. -/
abbrev three : EReal := Ideal.ofBits .f32 0x40400000#32
/-- The gelu's two constants. -/
abbrev c0 : EReal := Ideal.ofBits .f32 0x3F4C422A#32
abbrev c1 : EReal := Ideal.ofBits .f32 0x3D372713#32

/-- The gelu's tanh. -/
def th (y : EReal) : EReal := Ideal.tanh (c0 * (y + c1 * (y * (y * y))))
/-- The gelu's factor. -/
def fac (y : EReal) : EReal := half * (1 + th y)
/-- The gelu. -/
def gel (y : EReal) : EReal := y * fac y
/-- The cotangent of the tanh's argument, scaled. -/
def inner (y u : EReal) : EReal := c0 * (half * (y * u) * ((1 + th y) * (1 - th y)))
/-- The cotangent of the gelu's operand at the cotangent `u`. -/
def gelCot (y u : EReal) : EReal := u * fac y + inner y u + c1 * inner y u * (three * (y * y))

namespace Line

variable (l : Line) (p : Weights)

/-- The gelu of the row. -/
def g (q : Fin 512) : EReal := gel (l.y q)
/-- The sigmoid gate. -/
def s (q : Fin 512) : EReal := Ideal.logistic ((∑ k, l.g k * p.w k q) + p.b q)
/-- The second gate. -/
def sz (q : Fin 512) : EReal := l.z q * Ideal.logistic (l.z q)
/-- The cotangent of the sigmoid's argument. -/
def da (q : Fin 512) : EReal := l.g q * (l.d q * l.sz q) * (l.s p q * (1 - l.s p q))
/-- The cotangent of the gelu. -/
def dg (q : Fin 512) : EReal := l.d q * l.sz q * l.s p q + ∑ k, l.da p k * p.w q k
/-- The gradient of the unit's operand. -/
def dy (q : Fin 512) : EReal := gelCot (l.y q) (l.dg p q)
/-- The gradient of the second gate's operand. -/
def dz (q : Fin 512) : EReal :=
  l.g q * l.s p q * l.d q * Ideal.logistic (l.z q)
    + l.z q * (l.g q * l.s p q * l.d q) * (Ideal.logistic (l.z q) * (1 - Ideal.logistic (l.z q)))

end Line

end Cert.Glu

end
-- ==== Proof.Glu.Pay.lean ====
/- The gated unit's gradient on one block of 512 rows: what every value the body computes holds at an index. -/
module

public import proofs.«01_k».proof.Proof.Gen.GluIdeal.Skeleton
public import proofs.«01_k».proof.Proof.Glu.Row

@[expose] public section

set_option maxRecDepth 16384

noncomputable section

open Idealize.ShloMosaic Idealize.ShloMosaic.TcCoe Idealize.SL.Sem

namespace Cert.GluIdeal.Pay

open Cert.GluIdeal Cert.GluIdeal.Gen Cert.Glu

/-- What the body has at a grid point: its rows, gathered and loaded, the weights and the bias. -/
structure Blk where
  (y z d : Vec Ideal S512x512 .f32) (w : Vec Ideal S512x512 .bf16) (b : Vec Ideal S1x512 .f32)

variable (b : Blk)

/-- Row `r` of the block. -/
def Blk.line (r : Fin 512) : Line where
  y q := b.y (ix2 r q)
  z q := b.z (ix2 r q)
  d q := b.d (ix2 r q)

/-- The weights. -/
def Blk.wts : Weights where
  w k q := b.w (ix2 k q)
  b q := b.b (ix2 0 q)

/-- The cotangent of the sigmoid's argument, of the operand, of the second gate's operand, as the body computes them. -/
abbrev Blk.daB := k0_pay22 (k0_pay10 b.y) (k0_pay14 b.y b.w b.b) (k0_pay18 b.z) (k0_pay19 b.d)
abbrev Blk.dyB := k0_pay24 b.y (k0_pay6 b.y) (k0_pay8 b.y) (k0_pay9 b.y) (k0_pay10 b.y) (k0_pay13 b.y b.w b.b) (k0_pay14 b.y b.w b.b)
  (k0_pay18 b.z) (k0_pay19 b.d) b.w
abbrev Blk.dzB := k0_pay21 (k0_pay12 b.z) (k0_pay15 b.y b.w b.b) (k0_pay16 b.z) (k0_pay17 b.z) (k0_pay19 b.d)

theorem th_at (r q : Fin 512) : k0_pay7 (F := Ideal) b.y (ix2 r q) = th ((b.line r).y q) := by
  pointwise [k0_pay7]
  rfl

theorem fac_at (r q : Fin 512) : k0_pay9 (F := Ideal) b.y (ix2 r q) = fac ((b.line r).y q) := by
  pointwise [k0_pay9]
  simp only [th_at b]
  rfl

theorem g_at (r q : Fin 512) : k0_pay10 (F := Ideal) b.y (ix2 r q) = (b.line r).g q := by
  pointwise [k0_pay10]
  simp only [fac_at b]
  rfl

theorem gb_at (r q : Fin 512) : k0_pay11 (F := Ideal) b.y (ix2 r q) = (b.line r).g q := by
  pointwise [k0_pay11]
  simp only [g_at b]

theorem s_at (r q : Fin 512) : k0_pay13 b.y b.w b.b (ix2 r q) = (b.line r).s b.wts q := by
  pointwise [k0_pay13]
  simp only [gb_at b]
  rfl

theorem sz_at (r q : Fin 512) : k0_pay18 (F := Ideal) b.z (ix2 r q) = (b.line r).sz q := by
  pointwise [k0_pay18, k0_pay16, k0_pay12]
  rfl

theorem d_at (r q : Fin 512) : k0_pay19 (F := Ideal) b.d (ix2 r q) = (b.line r).d q := by
  pointwise [k0_pay19]
  rfl

theorem da_at (r q : Fin 512) : b.daB (ix2 r q) = (b.line r).da b.wts q := by
  pointwise [Blk.daB, k0_pay22, k0_pay20, k0_pay18, k0_pay19, k0_pay14, k0_pay16, k0_pay12]
  simp only [g_at b, s_at b]
  rfl

theorem dab_at (r q : Fin 512) : k0_pay23 (k0_pay10 b.y) (k0_pay14 b.y b.w b.b) (k0_pay18 b.z) (k0_pay19 b.d) (ix2 r q) = (b.line r).da b.wts q := by
  have h : ∀ r q, k0_pay22 (k0_pay10 b.y) (k0_pay14 b.y b.w b.b) (k0_pay18 b.z) (k0_pay19 b.d) (ix2 r q) = (b.line r).da b.wts q := da_at b
  pointwise [k0_pay23]
  simp only [h]

theorem dy_at (r q : Fin 512) : b.dyB (ix2 r q) = (b.line r).dy b.wts q := by
  have h : ∀ r q, k0_pay23 (k0_pay10 b.y) (k0_pay14 b.y b.w b.b) (k0_pay18 b.z) (k0_pay19 b.d) (ix2 r q) = (b.line r).da b.wts q := dab_at b
  pointwise [Blk.dyB, k0_pay24, k0_pay20, k0_pay8, k0_pay6]
  simp only [g_at b, s_at b, th_at b, fac_at b, sz_at b, d_at b, h]
  rfl

theorem dz_at (r q : Fin 512) : k0_pay34 b.dzB (ix2 r q) = (b.line r).dz b.wts q := by
  pointwise [Blk.dzB, k0_pay34, k0_pay21, k0_pay19, k0_pay17, k0_pay16, k0_pay15, k0_pay12]
  simp only [g_at b, s_at b]
  rfl

/-- One point's part of the weights' gradient. -/
theorem dw_at (acc : Vec Ideal S512x512 .f32) (k q : Fin 512) :
    k0_pay1 (k0_pay35 (k0_pay11 b.y) (k0_pay23 (k0_pay10 b.y) (k0_pay14 b.y b.w b.b) (k0_pay18 b.z) (k0_pay19 b.d)) acc) (ix2 k q)
      = acc (ix2 k q) + ∑ r, (b.line r).g k * (b.line r).da b.wts q := by
  pointwise [k0_pay1, k0_pay35]
  simp only [gb_at b, dab_at b]

/-- One point's part of the bias's gradient. -/
theorem db_at (acc : Vec Ideal S1x512 .f32) (q : Fin 512) :
    k0_pay2 b.daB acc (ix2 0 q) = acc (ix2 0 q) + ∑ r, (b.line r).da b.wts q := by
  have h : ∀ r q, b.daB (ix2 r q) = (b.line r).da b.wts q := da_at b
  pointwise [k0_pay2]
  simp only [h]

theorem zero_w (j : S512x512.Idx) : k0_pay3 (F := Ideal) j = 0 := by
  idx_vars j
  pointwise [k0_pay3]
theorem zero_b (j : S1x512.Idx) : k0_pay4 (F := Ideal) j = 0 := by
  idx_vars j
  pointwise [k0_pay4]

end Cert.GluIdeal.Pay

end
-- ==== Proof.Glu.Ref.lean ====
/- What the reference of the gated unit's gradient returns, read at an index: every row's derivative as `Cert.Glu` states it. -/
module

public import proofs.«01_k».proof.Proof.Gen.GluRefIdeal.Run
public import proofs.«01_k».proof.Proof.Glu.Row
public import proofs.«01_k».proof.Proof.EReals

@[expose] public section

set_option maxRecDepth 16384

noncomputable section

open Idealize.ShloMosaic Idealize.ShloMosaic.TcCoe Idealize.SL.Sem

namespace Cert.GluRefIdeal.Ref

open Cert.GluRefIdeal Cert.GluRefIdeal.Gen Cert.Glu

/-- The arguments. -/
structure Ins where
  (y z d : FVec Ideal S2x2048x512 .f32) (w : FVec Ideal S1x512x512 .f32) (b : FVec Ideal S1x512 .f32)

variable (a : Ins)

/-- One word everywhere. -/
abbrev bc (v : FVec Ideal S_ .f32) : FVec Ideal S2x2048x512 .f32 := broadcastInDim S2x2048x512 ![] bcast_S_S2x2048x512 v
abbrev one : FVec Ideal S2x2048x512 .f32 := bc (constant (F := Ideal) S_ .f32 0x3F800000#32)
abbrev hlf : FVec Ideal S2x2048x512 .f32 := bc (constant (F := Ideal) S_ .f32 0x3F000000#32)
abbrev k0 : FVec Ideal S2x2048x512 .f32 := bc (constant (F := Ideal) S_ .f32 0x3F4C422A#32)
abbrev k1 : FVec Ideal S2x2048x512 .f32 := bc (constant (F := Ideal) S_ .f32 0x3D372713#32)
abbrev thr : FVec Ideal S2x2048x512 .f32 := bc (constant (F := Ideal) S_ .f32 0x40400000#32)

def wt : FVec Ideal S512x512 .f32 := shapeCast _ a.w shapeCasts_S1x512x512_S512x512
def tnh : FVec Ideal S2x2048x512 .f32 := Host.tanh (mulf k0 (addf a.y (mulf k1 (mulf (mulf a.y a.y) a.y))))
def fct : FVec Ideal S2x2048x512 .f32 := mulf hlf (addf one (tnh a))
def gl : FVec Ideal S2x2048x512 .f32 := mulf a.y (fct a)
def sigz : FVec Ideal S2x2048x512 .f32 := Host.divf one (addf one (Host.exp (Host.negf a.z)))
def sg : FVec Ideal S2x2048x512 .f32 :=
  Host.divf one (addf one (Host.exp (Host.negf (addf (Host.dotGeneral dot_S2x2048x512_S512x512_S2x2048x512_2_0_01_1_n_n none (gl a) (wt a))
    (broadcastInDim S2x2048x512 ![0, 1, 2] bcast_S1x1x512_S2x2048x512_0_1_2
      (broadcastInDim S1x1x512 ![2] bcast_S512_S1x1x512_2 (shapeCast _ a.b shapeCasts_S1x512_S512)))))))
def dsz : FVec Ideal S2x2048x512 .f32 := mulf a.d (mulf a.z (sigz a))
def dA : FVec Ideal S2x2048x512 .f32 := mulf (mulf (gl a) (dsz a)) (mulf (sg a) (subf one (sg a)))
def dG : FVec Ideal S2x2048x512 .f32 :=
  addf (mulf (dsz a) (sg a)) (Host.dotGeneral dot_S2x2048x512_S512x512_S2x2048x512_2_1_01_0_n_n none (dA a) (wt a))
def inn : FVec Ideal S2x2048x512 .f32 :=
  mulf k0 (mulf (mulf hlf (mulf a.y (dG a))) (mulf (addf one (tnh a)) (subf one (tnh a))))
def dY : FVec Ideal S2x2048x512 .f32 :=
  addf (addf (mulf (dG a) (fct a)) (inn a)) (mulf (mulf k1 (inn a)) (mulf thr (mulf a.y a.y)))
def gsd : FVec Ideal S2x2048x512 .f32 := mulf (mulf (gl a) (sg a)) a.d
def dZ : FVec Ideal S2x2048x512 .f32 :=
  addf (mulf (gsd a) (sigz a)) (mulf (mulf a.z (gsd a)) (mulf (sigz a) (subf one (sigz a))))

/-- The operand's gradient in the order the unit's neighbour keeps it: four lane groups, rows `step · 16 + chunk`. -/
def dYp : FVec Ideal S4x4096x128 .f32 :=
  shapeCast _ (transpose S4x256x16x128 [2, 1, 0, 3] (shapeCast _ (dY a) shapeCasts_S2x2048x512_S16x256x4x128)
    transposes_S16x256x4x128_S4x256x16x128_2_1_0_3) shapeCasts_S4x256x16x128_S4x4096x128
def dWt : FVec Ideal S512x512 .f32 :=
  shapeCast _ (broadcastInDim S1x512x512 ![1, 2] bcast_S512x512_S1x512x512_1_2 (transpose S512x512 [1, 0]
    (Host.dotGeneral dot_S2x2048x512_S2x2048x512_S512x512_01_01_2_2_n_n none (dA a) (gl a)) transposes_S512x512_S512x512_1_0))
    shapeCasts_S1x512x512_S512x512

/-- Row `2048·p + r` of the arguments. -/
def Ins.line (p : Fin 2) (r : Fin 2048) : Line where
  y q := a.y (ix3 p r q)
  z q := a.z (ix3 p r q)
  d q := a.d (ix3 p r q)

/-- The weights. -/
def Ins.wts : Weights where
  w k q := a.w (ix3 0 k q)
  b q := a.b (ix2 0 q)

theorem tnh_at (p : Fin 2) (r : Fin 2048) (q : Fin 512) : tnh a (ix3 p r q) = th ((a.line p r).y q) := by
  pointwise [tnh]
  rw [mul_comm (a.y (ix3 p r q) * a.y (ix3 p r q)) (a.y (ix3 p r q))]
  rfl

theorem fct_at (p : Fin 2) (r : Fin 2048) (q : Fin 512) : fct a (ix3 p r q) = fac ((a.line p r).y q) := by
  pointwise [fct]
  simp only [tnh_at a]
  rfl

theorem gl_at (p : Fin 2) (r : Fin 2048) (q : Fin 512) : gl a (ix3 p r q) = (a.line p r).g q := by
  pointwise [gl]
  simp only [fct_at a]
  rfl

theorem sigz_at (p : Fin 2) (r : Fin 2048) (q : Fin 512) : sigz a (ix3 p r q) = Ideal.logistic ((a.line p r).z q) := by
  pointwise [sigz]
  rfl

theorem sg_at (p : Fin 2) (r : Fin 2048) (q : Fin 512) : sg a (ix3 p r q) = (a.line p r).s a.wts q := by
  pointwise [sg, wt]
  simp only [gl_at a]
  rfl

theorem dsz_at (p : Fin 2) (r : Fin 2048) (q : Fin 512) : dsz a (ix3 p r q) = (a.line p r).d q * (a.line p r).sz q := by
  pointwise [dsz]
  simp only [sigz_at a]
  rfl

theorem dA_at (p : Fin 2) (r : Fin 2048) (q : Fin 512) : dA a (ix3 p r q) = (a.line p r).da a.wts q := by
  pointwise [dA]
  simp only [gl_at a, dsz_at a, sg_at a]
  rfl

theorem dG_at (p : Fin 2) (r : Fin 2048) (q : Fin 512) : dG a (ix3 p r q) = (a.line p r).dg a.wts q := by
  pointwise [dG, wt]
  simp only [dA_at a, dsz_at a, sg_at a]
  rfl

theorem inn_at (p : Fin 2) (r : Fin 2048) (q : Fin 512) :
    inn a (ix3 p r q) = inner ((a.line p r).y q) ((a.line p r).dg a.wts q) := by
  pointwise [inn]
  simp only [dG_at a, tnh_at a]
  rfl

theorem dY_at (p : Fin 2) (r : Fin 2048) (q : Fin 512) : dY a (ix3 p r q) = (a.line p r).dy a.wts q := by
  pointwise [dY]
  simp only [dG_at a, inn_at a, fct_at a]
  rfl

theorem gsd_at (p : Fin 2) (r : Fin 2048) (q : Fin 512) :
    gsd a (ix3 p r q) = (a.line p r).g q * (a.line p r).s a.wts q * (a.line p r).d q := by
  pointwise [gsd]
  simp only [gl_at a, sg_at a]
  rfl

theorem dZ_at (p : Fin 2) (r : Fin 2048) (q : Fin 512) : dZ a (ix3 p r q) = (a.line p r).dz a.wts q := by
  pointwise [dZ]
  simp only [gsd_at a, sigz_at a]
  rfl

theorem dWt_at (k q : Fin 512) :
    dWt a (ix2 k q) = ∑ p : Fin 2, ∑ r : Fin 2048, (a.line p r).g k * (a.line p r).da a.wts q := by
  pointwise [dWt]
  simp only [dA_at a, gl_at a, mul_comm]

/-- One lane group of the operand's gradient. -/
def part0 : FVec Ideal S4096x128 .f32 := shapeCast _ (extractStridedSlice S1x4096x128 ![0, 0, 0] (dYp a) slices_S4x4096x128_S1x4096x128_0_0_0) shapeCasts_S1x4096x128_S4096x128
def part1 : FVec Ideal S4096x128 .f32 := shapeCast _ (extractStridedSlice S1x4096x128 ![1, 0, 0] (dYp a) slices_S4x4096x128_S1x4096x128_1_0_0) shapeCasts_S1x4096x128_S4096x128
def part2 : FVec Ideal S4096x128 .f32 := shapeCast _ (extractStridedSlice S1x4096x128 ![2, 0, 0] (dYp a) slices_S4x4096x128_S1x4096x128_2_0_0) shapeCasts_S1x4096x128_S4096x128
def part3 : FVec Ideal S4096x128 .f32 := shapeCast _ (extractStridedSlice S1x4096x128 ![3, 0, 0] (dYp a) slices_S4x4096x128_S1x4096x128_3_0_0) shapeCasts_S1x4096x128_S4096x128
/-- The second gate's operand's gradient, rows of both sequences one below the other. -/
def dZr : FVec Ideal S4096x512 .bf16 := truncf .bf16 (shapeCast _ (dZ a) shapeCasts_S2x2048x512_S4096x512) bitsLt_bf16_f32
/-- The bias's gradient. -/
def dB : FVec Ideal S1x512 .f32 :=
  broadcastInDim S1x512 ![1] bcast_S512_S1x512_1 (Host.reduceAdd (shapeCast _ (Host.reduceAdd (dA a) (constant S_ .f32 0x00000000#32)
    reducesTo_S2x2048x512_S512_d0_1 h_S_) shapeCasts_S512_S1x1x512) (constant S_ .f32 0x00000000#32) reducesTo_S1x1x512_S512_d0_1 h_S_)

theorem part0_at (r : Fin 4096) (k : Fin 128) : part0 a (ix2 r k)
    = (a.line ⟨(r.val % 16 * 256 + r.val / 16) / 2048, by omega⟩ ⟨(r.val % 16 * 256 + r.val / 16) % 2048, by omega⟩).dy a.wts ⟨0 + k.val, by omega⟩ := by
  rw [← dY_at]
  pointwise [part0, dYp]
  refine congrArg₂ (fun p q => dY a (ix3 p q _)) (Fin.ext ?_) (Fin.ext ?_) <;> dsimp only <;> omega
theorem part1_at (r : Fin 4096) (k : Fin 128) : part1 a (ix2 r k)
    = (a.line ⟨(r.val % 16 * 256 + r.val / 16) / 2048, by omega⟩ ⟨(r.val % 16 * 256 + r.val / 16) % 2048, by omega⟩).dy a.wts ⟨128 + k.val, by omega⟩ := by
  rw [← dY_at]
  pointwise [part1, dYp]
  refine congrArg₂ (fun p q => dY a (ix3 p q _)) (Fin.ext ?_) (Fin.ext ?_) <;> dsimp only <;> omega
theorem part2_at (r : Fin 4096) (k : Fin 128) : part2 a (ix2 r k)
    = (a.line ⟨(r.val % 16 * 256 + r.val / 16) / 2048, by omega⟩ ⟨(r.val % 16 * 256 + r.val / 16) % 2048, by omega⟩).dy a.wts ⟨256 + k.val, by omega⟩ := by
  rw [← dY_at]
  pointwise [part2, dYp]
  refine congrArg₂ (fun p q => dY a (ix3 p q _)) (Fin.ext ?_) (Fin.ext ?_) <;> dsimp only <;> omega
theorem part3_at (r : Fin 4096) (k : Fin 128) : part3 a (ix2 r k)
    = (a.line ⟨(r.val % 16 * 256 + r.val / 16) / 2048, by omega⟩ ⟨(r.val % 16 * 256 + r.val / 16) % 2048, by omega⟩).dy a.wts ⟨384 + k.val, by omega⟩ := by
  rw [← dY_at]
  pointwise [part3, dYp]
  refine congrArg₂ (fun p q => dY a (ix3 p q _)) (Fin.ext ?_) (Fin.ext ?_) <;> dsimp only <;> omega

theorem dZr_at (r : Fin 4096) (q : Fin 512) : dZr a (ix2 r q)
    = (a.line ⟨r.val / 2048, by omega⟩ ⟨r.val % 2048, by omega⟩).dz a.wts q := by
  rw [← dZ_at]
  pointwise [dZr]

theorem dB_at (q : Fin 512) : dB a (ix2 0 q) = ∑ p : Fin 2, ∑ r : Fin 2048, (a.line p r).da a.wts q := by
  pointwise [dB]
  rw [Cert.Ext.hostReduceAdd_lead, zero_add, Fin.sum_univ_one, Fin.sum_univ_one]
  pointwise
  rw [Cert.Ext.hostReduceAdd_lead, zero_add]
  simp only [dA_at a]

variable (m : (ℓ : Loc nD τ sig) → Buf (Elt Ideal) ℓ) (ρ : Dev nD → PrngReg)

/-- The arguments as a device's memory holds them. -/
def ins (c : Dev nD) : Ins :=
  ⟨m ((c : Thread nD τ).loc main_arg0), m ((c : Thread nD τ).loc main_arg1), m ((c : Thread nD τ).loc main_arg2), m ((c : Thread nD τ).loc main_arg3), m ((c : Thread nD τ).loc main_arg4)⟩

theorem res_part0 (c : Dev nD) : Value.res_main_v70 m c = part0 (ins m c) := by
  unfold Value.res_main_v70
  simp only [part0, dYp, dY, inn, dG, dA, dsz, sg, sigz, gl, fct, tnh, wt, ins]
  rfl
theorem res_part1 (c : Dev nD) : Value.res_main_v72 m c = part1 (ins m c) := by
  unfold Value.res_main_v72
  simp only [part1, dYp, dY, inn, dG, dA, dsz, sg, sigz, gl, fct, tnh, wt, ins]
  rfl
theorem res_part2 (c : Dev nD) : Value.res_main_v74 m c = part2 (ins m c) := by
  unfold Value.res_main_v74
  simp only [part2, dYp, dY, inn, dG, dA, dsz, sg, sigz, gl, fct, tnh, wt, ins]
  rfl
theorem res_part3 (c : Dev nD) : Value.res_main_v76 m c = part3 (ins m c) := by
  unfold Value.res_main_v76
  simp only [part3, dYp, dY, inn, dG, dA, dsz, sg, sigz, gl, fct, tnh, wt, ins]
  rfl
theorem res_dZr (c : Dev nD) : Value.res_main_v78 m c = dZr (ins m c) := by
  unfold Value.res_main_v78
  simp only [dZr, dZ, gsd, sg, sigz, gl, fct, tnh, wt, ins]
  rfl
theorem res_dWt (c : Dev nD) : Value.res_main_v79 m c = dWt (ins m c) := by
  unfold Value.res_main_v79
  simp only [dWt, dA, dsz, sg, sigz, gl, fct, tnh, wt, ins]
  rfl

/-- The run of the derivative: every result as defined above, the arguments unchanged. -/
theorem run : θ_run defs (onTc (τ := τ) (main (F := Ideal))) ⟨m, fun _ => 0, ρ⟩ fun r => ∀ c : Dev nD,
      r.2.mem ((c.tc : Thread nD τ).loc main_v70) = part0 (ins m c)
      ∧ r.2.mem ((c.tc : Thread nD τ).loc main_v72) = part1 (ins m c)
      ∧ r.2.mem ((c.tc : Thread nD τ).loc main_v74) = part2 (ins m c)
      ∧ r.2.mem ((c.tc : Thread nD τ).loc main_v76) = part3 (ins m c)
      ∧ r.2.mem ((c.tc : Thread nD τ).loc main_v78) = dZr (ins m c)
      ∧ r.2.mem ((c.tc : Thread nD τ).loc main_v79) = dWt (ins m c)
      ∧ r.2.mem ((c.tc : Thread nD τ).loc main_v48) = dB (ins m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  simp only [← res_part0, ← res_part1, ← res_part2, ← res_part3, ← res_dZr, ← res_dWt]
  exact Value.run m ρ

end Cert.GluRefIdeal.Ref

end
-- ==== Proof.Glu.Blocks.lean ====
/- The gated unit's gradient: what its windows hold at a grid point, and what the body has loaded of them. -/
module

public import proofs.«01_k».proof.Proof.Glu.Frame
public import proofs.«01_k».proof.Proof.Glu.Pay
public import proofs.«01_k».proof.Proof.Glu.Ref
public import Idealize.ShloMosaic.Lib.Pipeline.ValueKit
public import Idealize.ShloMosaic.Lib.Pipeline.ReadBack
public import Idealize.ShloMosaic.Lib.Claim
public import Idealize.ShloMosaic.Lib.WholeRead

@[expose] public section

set_option maxRecDepth 16384

noncomputable section

open Idealize.ShloMosaic Idealize.ShloMosaic.TcCoe Idealize.SL.Sem
open Idealize.ShloMosaic.Pipeline (Dat RDat)

namespace Cert.GluIdeal.Value

open Cert.GluIdeal Cert.GluIdeal.Gen Cert.GluIdeal.Hand Cert.Glu
open Cert.GluRefIdeal (Ref.Ins)

variable (m : (ℓ : Loc nD τ sig) → Buf (Elt Ideal) ℓ)

/-- The operands as a device's memory holds them. -/
def ins (c : Dev nD) : Ref.Ins :=
  ⟨m ((c : Thread nD τ).loc main_arg0), m ((c : Thread nD τ).loc main_arg1), m ((c : Thread nD τ).loc main_arg2), m ((c : Thread nD τ).loc main_arg3), m ((c : Thread nD τ).loc main_arg4)⟩

/-- Which block of its array every window holds at a grid point. -/
theorem idx_val : ∀ t : Fin cfg0.N, win0_0.index t = ![0, 0]
    ∧ win0_1.index t = ![0, 0]
    ∧ win0_2.index t = ![0, 0]
    ∧ win0_3.index t = ![0, 0]
    ∧ win0_4.index t = ![t.val, 0]
    ∧ win0_5.index t = ![t.val, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![t.val, 0]
    ∧ win0_13.index t = ![0, 0]
    ∧ win0_14.index t = ![0, 0] :=
  (by decide +kernel : ∀ t : Fin grid0.N, _)

theorem t_lt (t : Fin cfg0.N) : t.val < 8 := by exact lt_of_lt_of_eq t.isLt (show cfg0.N = 8 from N_0)

/-- The sequence a block belongs to, and its rows there. -/
def seq (t : Fin cfg0.N) : Fin 2 := ⟨t.val / 4, by have := t_lt t; omega⟩
def pos (t : Fin cfg0.N) (r : Fin 512) : Fin 2048 := ⟨t.val % 4 * 512 + r.val, by omega⟩

/-- Row `step · 16 + chunk` of a packed array is row `chunk · 256 + step` of both sequences. -/
def pseq (R : Fin 4096) : Fin 2 := ⟨(R.val % 16 * 256 + R.val / 16) / 2048, by omega⟩
def ppos (R : Fin 4096) : Fin 2048 := ⟨(R.val % 16 * 256 + R.val / 16) % 2048, by omega⟩

theorem blk_y0 (c : Dev nD) (t : Fin cfg0.N) (r : Fin 4096) (k : Fin 128) : iblk m c 0 t (ix2 r k)
    = (ins m c).y (ix3 (pseq r) (ppos r) ⟨0 + k.val, by omega⟩) := by
  unfold ins pseq ppos; blk_simp [iblk, idx_val t]; entry_read; pointwise; blk_ext [idx_val t]
theorem blk_y1 (c : Dev nD) (t : Fin cfg0.N) (r : Fin 4096) (k : Fin 128) : iblk m c 1 t (ix2 r k)
    = (ins m c).y (ix3 (pseq r) (ppos r) ⟨128 + k.val, by omega⟩) := by
  unfold ins pseq ppos; blk_simp [iblk, idx_val t]; entry_read; pointwise; blk_ext [idx_val t]
theorem blk_y2 (c : Dev nD) (t : Fin cfg0.N) (r : Fin 4096) (k : Fin 128) : iblk m c 2 t (ix2 r k)
    = (ins m c).y (ix3 (pseq r) (ppos r) ⟨256 + k.val, by omega⟩) := by
  unfold ins pseq ppos; blk_simp [iblk, idx_val t]; entry_read; pointwise; blk_ext [idx_val t]
theorem blk_y3 (c : Dev nD) (t : Fin cfg0.N) (r : Fin 4096) (k : Fin 128) : iblk m c 3 t (ix2 r k)
    = (ins m c).y (ix3 (pseq r) (ppos r) ⟨384 + k.val, by omega⟩) := by
  unfold ins pseq ppos; blk_simp [iblk, idx_val t]; entry_read; pointwise; blk_ext [idx_val t]
theorem blk_z (c : Dev nD) (t : Fin cfg0.N) (r : Fin 512) (k : Fin 512) : iblk m c 4 t (ix2 r k) = (ins m c).z (ix3 (seq t) (pos t r) k) := by
  unfold ins seq pos; blk_simp [iblk, idx_val t]; entry_read; pointwise; blk_ext [idx_val t]
theorem blk_d (c : Dev nD) (t : Fin cfg0.N) (r : Fin 512) (k : Fin 512) : iblk m c 5 t (ix2 r k) = (ins m c).d (ix3 (seq t) (pos t r) k) := by
  unfold ins seq pos; blk_simp [iblk, idx_val t]; entry_read; pointwise; blk_ext [idx_val t]
theorem blk_w (c : Dev nD) (t : Fin cfg0.N) (k q : Fin 512) : iblk m c 6 t (ix2 k q) = (ins m c).w (ix3 0 k q) := by
  unfold ins; blk_simp [iblk, idx_val t]; entry_read; pointwise; blk_ext [idx_val t]
theorem blk_b (c : Dev nD) (t : Fin cfg0.N) (q : Fin 512) : iblk m c 7 t (ix2 0 q) = (ins m c).b (ix2 0 q) := by
  unfold ins; blk_simp [iblk, idx_val t]; entry_read; blk_ext [idx_val t]

/-- The rows of a packed array that belong to the first or the second half of a point's block: every sixteenth row. -/
abbrev rq (t : Fin cfg0.N) (q : Fin 2) : Rect S4096x128 :=
  ⟨⟨k0_off1 (grid0.coords t) (BitVec.ofNat 32 q.val), S256x128.size, ![16, 1], k0_off1_inb (grid0.coords t) q⟩, spos_16_1⟩

theorem rq_off (t : Fin cfg0.N) (q : Fin 2) : (rq t q).off = ![2 * t.val + q.val, 0] := by
  have ht := t_lt t
  have e0 : (grid0.coords t 0).val = t.val / 1 % 8 := Pipeline.Grid.coords_val t 0 (by decide) rfl
  show k0_off1 (grid0.coords t) (BitVec.ofNat 32 q.val) = _
  rw [k0_off1_eq, e0, Nat.div_one, Nat.mod_eq_of_lt ht]

/-- Row `s` of those rows. -/
def prow (t : Fin cfg0.N) (q : Fin 2) (s : Fin 256) : Fin 4096 := ⟨2 * t.val + q.val + 16 * s.val, by have := t_lt t; omega⟩

theorem rq_emb (t : Fin cfg0.N) (q : Fin 2) (s : Fin 256) (k : Fin 128) :
    (rq t q).emb (ix2 s k : S256x128.Idx) = (ix2 (prow t q s) k : S4096x128.Idx) := by
  refine (rq t q).emb_eq_of_coords _ _ fun a => ?_
  rw [rq_off]
  match a with
  | ⟨0, _⟩ => rfl
  | ⟨1, _⟩ => exact (by show k.val = 0 + 1 * k.val; omega)

/-- What the body has loaded of the packed parts. -/
abbrev ld0 (c : Dev nD) (t : Fin cfg0.N) (q : Fin 2) : Vec Ideal S256x128 .f32 := View.readAt (Elt Ideal) (ms_0 t).view (rq t q).toLoadRect ((hs_0 t).unread (iblk m c 0 t))
abbrev ld1 (c : Dev nD) (t : Fin cfg0.N) (q : Fin 2) : Vec Ideal S256x128 .f32 := View.readAt (Elt Ideal) (ms_1 t).view (rq t q).toLoadRect ((hs_1 t).unread (iblk m c 1 t))
abbrev ld2 (c : Dev nD) (t : Fin cfg0.N) (q : Fin 2) : Vec Ideal S256x128 .f32 := View.readAt (Elt Ideal) (ms_2 t).view (rq t q).toLoadRect ((hs_2 t).unread (iblk m c 2 t))
abbrev ld3 (c : Dev nD) (t : Fin cfg0.N) (q : Fin 2) : Vec Ideal S256x128 .f32 := View.readAt (Elt Ideal) (ms_3 t).view (rq t q).toLoadRect ((hs_3 t).unread (iblk m c 3 t))

/-- The row of the block that a packed row is. -/
def half (q : Fin 2) (s : Fin 256) : Fin 512 := ⟨256 * q.val + s.val, by omega⟩

theorem pseq_prow (t : Fin cfg0.N) (q : Fin 2) (s : Fin 256) : pseq (prow t q s) = seq t := by
  have := t_lt t
  refine Fin.ext ?_
  simp only [pseq, prow, seq]; omega
theorem ppos_prow (t : Fin cfg0.N) (q : Fin 2) (s : Fin 256) : ppos (prow t q s) = pos t (half q s) := by
  have := t_lt t
  refine Fin.ext ?_
  have h1 : (2 * t.val + q.val + 16 * s.val) / 16 = s.val := by omega
  have h2 : (2 * t.val + q.val + 16 * s.val) % 16 = 2 * t.val + q.val := by omega
  simp only [ppos, prow, pos, half, h1, h2]; omega

theorem ld0_at (c : Dev nD) (t : Fin cfg0.N) (q : Fin 2) (s : Fin 256) (k : Fin 128) :
    ld0 m c t q (ix2 s k) = (ins m c).y (ix3 (seq t) (pos t (half q s)) ⟨0 + k.val, by omega⟩) := by
  refine ((hs_0 t).readAt_unread _ _ _).trans ?_
  refine (congrArg (iblk m c 0 t) (rq_emb t q s k)).trans ?_
  rw [blk_y0, pseq_prow, ppos_prow]
theorem ld1_at (c : Dev nD) (t : Fin cfg0.N) (q : Fin 2) (s : Fin 256) (k : Fin 128) :
    ld1 m c t q (ix2 s k) = (ins m c).y (ix3 (seq t) (pos t (half q s)) ⟨128 + k.val, by omega⟩) := by
  refine ((hs_1 t).readAt_unread _ _ _).trans ?_
  refine (congrArg (iblk m c 1 t) (rq_emb t q s k)).trans ?_
  rw [blk_y1, pseq_prow, ppos_prow]
theorem ld2_at (c : Dev nD) (t : Fin cfg0.N) (q : Fin 2) (s : Fin 256) (k : Fin 128) :
    ld2 m c t q (ix2 s k) = (ins m c).y (ix3 (seq t) (pos t (half q s)) ⟨256 + k.val, by omega⟩) := by
  refine ((hs_2 t).readAt_unread _ _ _).trans ?_
  refine (congrArg (iblk m c 2 t) (rq_emb t q s k)).trans ?_
  rw [blk_y2, pseq_prow, ppos_prow]
theorem ld3_at (c : Dev nD) (t : Fin cfg0.N) (q : Fin 2) (s : Fin 256) (k : Fin 128) :
    ld3 m c t q (ix2 s k) = (ins m c).y (ix3 (seq t) (pos t (half q s)) ⟨384 + k.val, by omega⟩) := by
  refine ((hs_3 t).readAt_unread _ _ _).trans ?_
  refine (congrArg (iblk m c 3 t) (rq_emb t q s k)).trans ?_
  rw [blk_y3, pseq_prow, ppos_prow]

/-- What the body has loaded at a grid point. -/
def blk (c : Dev nD) (t : Fin cfg0.N) : Pay.Blk where
  y := k0_pay5 (ld0 m c t 0) (ld1 m c t 0) (ld2 m c t 0) (ld3 m c t 0) (ld0 m c t 1) (ld1 m c t 1) (ld2 m c t 1) (ld3 m c t 1)
  z := View.readAt (Elt Ideal) (ms_4 t).view (Rect.unit ![0, 0] S512x512.size inb_S512x512_S512x512_0_0).toLoadRect ((hs_4 t).unread (iblk m c 4 t))
  d := View.readAt (Elt Ideal) (ms_5 t).view (Rect.unit ![0, 0] S512x512.size inb_S512x512_S512x512_0_0).toLoadRect ((hs_5 t).unread (iblk m c 5 t))
  w := View.readAt (Elt Ideal) (ms_6 t).view (Rect.unit ![0, 0] S512x512.size inb_S512x512_S512x512_0_0).toLoadRect ((hs_6 t).unread (iblk m c 6 t))
  b := View.readAt (Elt Ideal) (ms_7 t).view (Rect.unit ![0, 0] S1x512.size inb_S1x512_S1x512_0_0).toLoadRect ((hs_7 t).unread (iblk m c 7 t))

theorem blk_zat (c : Dev nD) (t : Fin cfg0.N) (r q : Fin 512) : (blk m c t).z (ix2 r q) = (ins m c).z (ix3 (seq t) (pos t r) q) := by
  rw [← blk_z]
  exact ((hs_4 t).readAt_unread _ _ _).trans (congrArg (iblk m c 4 t) (Rect.emb_eq_of_coords _ _ _ fun a => match a with
    | ⟨0, _⟩ => (by show r.val = 0 + 1 * r.val; omega) | ⟨1, _⟩ => (by show q.val = 0 + 1 * q.val; omega)))
theorem blk_dat (c : Dev nD) (t : Fin cfg0.N) (r q : Fin 512) : (blk m c t).d (ix2 r q) = (ins m c).d (ix3 (seq t) (pos t r) q) := by
  rw [← blk_d]
  exact ((hs_5 t).readAt_unread _ _ _).trans (congrArg (iblk m c 5 t) (Rect.emb_eq_of_coords _ _ _ fun a => match a with
    | ⟨0, _⟩ => (by show r.val = 0 + 1 * r.val; omega) | ⟨1, _⟩ => (by show q.val = 0 + 1 * q.val; omega)))
theorem blk_wat (c : Dev nD) (t : Fin cfg0.N) (r q : Fin 512) : (blk m c t).w (ix2 r q) = (ins m c).w (ix3 0 r q) := by
  rw [← blk_w m c t]
  exact ((hs_6 t).readAt_unread _ _ _).trans (congrArg (iblk m c 6 t) (Rect.emb_eq_of_coords _ _ _ fun a => match a with
    | ⟨0, _⟩ => (by show r.val = 0 + 1 * r.val; omega) | ⟨1, _⟩ => (by show q.val = 0 + 1 * q.val; omega)))
theorem blk_bat (c : Dev nD) (t : Fin cfg0.N) (q : Fin 512) : (blk m c t).b (ix2 0 q) = (ins m c).b (ix2 0 q) := by
  rw [← blk_b m c t]
  exact ((hs_7 t).readAt_unread _ _ _).trans (congrArg (iblk m c 7 t) (Rect.emb_eq_of_coords _ _ _ fun a => match a with
    | ⟨0, _⟩ => rfl | ⟨1, _⟩ => (by show q.val = 0 + 1 * q.val; omega)))

theorem blk_yat (c : Dev nD) (t : Fin cfg0.N) (r q : Fin 512) : (blk m c t).y (ix2 r q) = (ins m c).y (ix3 (seq t) (pos t r) q) := by
  unfold blk
  dsimp only
  pointwise [k0_pay5]
  simp only [ld0_at, ld1_at, ld2_at, ld3_at]
  split_ifs <;> exact congrArg₂ (fun a b => (ins m c).y (ix3 (seq t) (pos t a) b)) (Fin.ext (by dsimp only [half]; omega)) (Fin.ext (by dsimp only; omega))

/-- The rows of a block are the operands' rows. -/
theorem line_eq (c : Dev nD) (t : Fin cfg0.N) (r : Fin 512) :
    (blk m c t).line r = (ins m c).line (seq t) (pos t r) := by
  simp only [Pay.Blk.line, Cert.GluRefIdeal.Ref.Ins.line, blk_yat, blk_zat, blk_dat]

/-- The weights as the body sees them are the operands. -/
theorem wts_eq (c : Dev nD) (t : Fin cfg0.N) : (blk m c t).wts = (ins m c).wts := by
  simp only [Pay.Blk.wts, Cert.GluRefIdeal.Ref.Ins.wts, blk_wat, blk_bat]

end Cert.GluIdeal.Value

end
-- ==== Proof.Glu.Left.lean ====
/- The gated unit's gradient: what a point leaves in every output's buffer, read at an index. -/
module

public import proofs.«01_k».proof.Proof.Glu.Blocks
public import proofs.«01_k».proof.Proof.Glu.Launch
public import Idealize.ShloMosaic.Lib.VecWindow

@[expose] public section

set_option maxRecDepth 16384

noncomputable section

open Idealize.ShloMosaic Idealize.ShloMosaic.TcCoe Idealize.SL.Sem
open Idealize.ShloMosaic.Pipeline (Dat RDat)

namespace Cert.GluIdeal.Value

open Cert.GluIdeal Cert.GluIdeal.Gen Cert.GluIdeal.Hand Cert.Glu
open Cert.GluRefIdeal (Ref.Ins)

variable (m : (ℓ : Loc nD τ sig) → Buf (Elt Ideal) ℓ)

section
variable {sig : RefSig} {κ : Kind} {sp : Space} (v : View sig κ sp S4096x128 .f32) (f : v.ty.Contents (Elt Ideal)) (t : Fin cfg0.N)

/-- Reading a buffer after a store of every sixteenth row, at a row of the store. -/
theorem read_hit (q : Fin 2) (p : Vec Ideal S256x128 .f32) (L : List (View.Piece (Elt Ideal) S4096x128 .f32)) (r : Fin 4096) (k : Fin 128)
    (h : r.val % 16 = 2 * t.val + q.val) :
    v.read (Elt Ideal) (v.writes (Elt Ideal) f (⟨rq t q, p⟩ :: L)) (ix2 r k) = p (ix2 ⟨r.val / 16, by omega⟩ k) := by
  refine View.read_writes_cons_hit v f (rq t q) p L (ix2 ⟨r.val / 16, by omega⟩ k : S256x128.Idx) _ ?_
  rw [rq_emb]
  refine congrArg (fun a => (ix2 a k : S4096x128.Idx)) (Fin.ext ?_)
  simp only [prow]
  omega

/-- At another row the store is not seen. -/
theorem read_miss (q : Fin 2) (p : Vec Ideal S256x128 .f32) (L : List (View.Piece (Elt Ideal) S4096x128 .f32)) (r : Fin 4096) (k : Fin 128)
    (h : ¬ r.val % 16 = 2 * t.val + q.val) :
    v.read (Elt Ideal) (v.writes (Elt Ideal) f (⟨rq t q, p⟩ :: L)) (ix2 r k) = v.read (Elt Ideal) (v.writes (Elt Ideal) f L) (ix2 r k) := by
  refine View.read_writes_cons_miss v f _ _ _ fun hmem => ?_
  rw [← Rect.map_emb_univ, Finset.mem_map] at hmem
  obtain ⟨x, -, hx⟩ := hmem
  have ht := t_lt t
  have e : ∀ x : S256x128.Idx, x = ix2 (x 0) (x 1) := fun x => by idx_vars x; rfl
  have h0 : (prow t q (x 0)).val = r.val := congrArg (fun i : S4096x128.Idx => (i 0).val)
    (((rq_emb t q (x 0) (x 1)).symm.trans (congrArg (rq t q).emb (e x).symm)).trans hx)
  have h1 : (x 0).val < 256 := (x 0).isLt
  simp only [prow] at h0
  omega

/-- Reading a buffer after two stores of every sixteenth row. -/
theorem read_two (p1 p0 : Vec Ideal S256x128 .f32) (r : Fin 4096) (k : Fin 128) :
    v.read (Elt Ideal) (v.writes (Elt Ideal) f [⟨rq t 1, p1⟩, ⟨rq t 0, p0⟩]) (ix2 r k)
      = if r.val % 16 = 2 * t.val + 1 then p1 (ix2 ⟨r.val / 16, by omega⟩ k)
        else if r.val % 16 = 2 * t.val then p0 (ix2 ⟨r.val / 16, by omega⟩ k) else v.read (Elt Ideal) f (ix2 r k) := by
  generalize ha : (1 : Fin 2) = a
  generalize hb : (0 : Fin 2) = b
  have va : a.val = 1 := ha ▸ rfl
  have vb : b.val = 0 := hb ▸ rfl
  split_ifs with h1 h0
  · exact read_hit v f t a p1 _ r k (by omega)
  · exact (read_miss v f t a p1 _ r k (by omega)).trans (read_hit v f t b p0 _ r k (by omega))
  · exact (read_miss v f t a p1 _ r k (by omega)).trans (read_miss v f t b p0 _ r k (by omega))
end

/-- The upper half of a block's gradient, a group of columns each. -/
abbrev up0 (b : Pay.Blk) := k0_pay25 b.y (k0_pay6 b.y) (k0_pay8 b.y) (k0_pay9 b.y) (k0_pay10 b.y) (k0_pay13 b.y b.w b.b) (k0_pay14 b.y b.w b.b) (k0_pay18 b.z) (k0_pay19 b.d) b.w
abbrev up1 (b : Pay.Blk) := k0_pay26 b.y (k0_pay6 b.y) (k0_pay8 b.y) (k0_pay9 b.y) (k0_pay10 b.y) (k0_pay13 b.y b.w b.b) (k0_pay14 b.y b.w b.b) (k0_pay18 b.z) (k0_pay19 b.d) b.w
abbrev up2 (b : Pay.Blk) := k0_pay27 b.y (k0_pay6 b.y) (k0_pay8 b.y) (k0_pay9 b.y) (k0_pay10 b.y) (k0_pay13 b.y b.w b.b) (k0_pay14 b.y b.w b.b) (k0_pay18 b.z) (k0_pay19 b.d) b.w
abbrev up3 (b : Pay.Blk) := k0_pay29 (k0_pay28 b.y (k0_pay6 b.y) (k0_pay8 b.y) (k0_pay9 b.y) (k0_pay10 b.y) (k0_pay13 b.y b.w b.b) (k0_pay14 b.y b.w b.b) (k0_pay18 b.z) (k0_pay19 b.d) b.w)

set_option maxHeartbeats 1000000 in
/-- What a point leaves in the first packed part's buffer. -/
theorem left_8_eq (c : Dev nD) (t : Fin cfg0.N) (Y : Vec Ideal S4096x128 .f32) :
    left_8 m c t Y = (ms_8 t).view.read (Elt Ideal) ((ms_8 t).view.writes (Elt Ideal) ((hs_8 t).unread Y)
      [⟨rq t 1, k0_pay30 (blk m c t).dyB⟩, ⟨rq t 0, up0 (blk m c t)⟩]) := by
  unfold left_8
  split_ifs with h
  · dsimp only [atA, runA]
    rfl
  · dsimp only [atB, runB]
    rfl

set_option maxHeartbeats 1000000 in
/-- What a point leaves in the second packed part's buffer. -/
theorem left_9_eq (c : Dev nD) (t : Fin cfg0.N) (Y : Vec Ideal S4096x128 .f32) :
    left_9 m c t Y = (ms_9 t).view.read (Elt Ideal) ((ms_9 t).view.writes (Elt Ideal) ((hs_9 t).unread Y)
      [⟨rq t 1, k0_pay31 (blk m c t).dyB⟩, ⟨rq t 0, up1 (blk m c t)⟩]) := by
  unfold left_9
  split_ifs with h
  · dsimp only [atA, runA]
    rfl
  · dsimp only [atB, runB]
    rfl

set_option maxHeartbeats 1000000 in
/-- What a point leaves in the third packed part's buffer. -/
theorem left_10_eq (c : Dev nD) (t : Fin cfg0.N) (Y : Vec Ideal S4096x128 .f32) :
    left_10 m c t Y = (ms_10 t).view.read (Elt Ideal) ((ms_10 t).view.writes (Elt Ideal) ((hs_10 t).unread Y)
      [⟨rq t 1, k0_pay32 (blk m c t).dyB⟩, ⟨rq t 0, up2 (blk m c t)⟩]) := by
  unfold left_10
  split_ifs with h
  · dsimp only [atA, runA]
    rfl
  · dsimp only [atB, runB]
    rfl

set_option maxHeartbeats 1000000 in
/-- What a point leaves in the fourth packed part's buffer. -/
theorem left_11_eq (c : Dev nD) (t : Fin cfg0.N) (Y : Vec Ideal S4096x128 .f32) :
    left_11 m c t Y = (ms_11 t).view.read (Elt Ideal) ((ms_11 t).view.writes (Elt Ideal) ((hs_11 t).unread Y)
      [⟨rq t 1, k0_pay33 (blk m c t).dyB⟩, ⟨rq t 0, up3 (blk m c t)⟩]) := by
  unfold left_11
  split_ifs with h
  · dsimp only [atA, runA]
    rfl
  · dsimp only [atB, runB]
    rfl

set_option maxHeartbeats 1000000 in
/-- What a point leaves in the second cotangent's buffer. -/
theorem left_12_eq (c : Dev nD) (t : Fin cfg0.N) (Y : Vec Ideal S512x512 .bf16) :
    left_12 m c t Y = k0_pay34 (blk m c t).dzB := by
  unfold left_12
  have h : (if h : t.val % 8 = 0 then (atA m c t h).2.2.2.2.1 else (atB m c t h).2.2.2.2.1)
      = [⟨Rect.unit ![0, 0] S512x512.size inb_S512x512_S512x512_0_0, k0_pay34 (blk m c t).dzB⟩] := by
    split_ifs with h
    · dsimp only [atA, runA]
      rfl
    · dsimp only [atB, runB]
      rfl
  rw [h]
  exact View.read_writes_full _ _ _ _ _

/-- What the body adds to the weights' gradient. -/
abbrev prod (b : Pay.Blk) (acc : Vec Ideal S512x512 .f32) := k0_pay35 (k0_pay11 b.y) (k0_pay23 (k0_pay10 b.y) (k0_pay14 b.y b.w b.b) (k0_pay18 b.z) (k0_pay19 b.d)) acc

set_option maxHeartbeats 1000000 in
/-- What a point leaves in the buffer of the weights' gradient: at the first point over zero, later over what was there. -/
theorem left_13_first (c : Dev nD) (t : Fin cfg0.N) (h : t.val % 8 = 0) (Y : Vec Ideal S512x512 .f32) :
    left_13 m c t Y = k0_pay1 (prod (blk m c t) (k0_pay3 (F := Ideal))) := by
  unfold left_13
  rw [dif_pos h]
  dsimp only [atA, runA, runA.sl.H13_1]
  refine (View.read_writes_full _ _ _ _ _).trans ?_
  dsimp only [runA.sl.r_19]
  have e : runA.sl.v159 (F := Ideal) c (ms_13 t) = k0_pay3 (F := Ideal) := by
    dsimp only [runA.sl.v159, runA.sl.H13_1]
    exact View.readAt_writes_full _ _ _ _ _ _
  rw [e]
  rfl

set_option maxHeartbeats 1000000 in
theorem left_13_later (c : Dev nD) (t : Fin cfg0.N) (h : ¬ t.val % 8 = 0) (Y : Vec Ideal S512x512 .f32) :
    left_13 m c t Y = k0_pay1 (prod (blk m c t) Y) := by
  unfold left_13
  rw [dif_neg h]
  dsimp only [atB, runB]
  refine (View.read_writes_full _ _ _ _ _).trans ?_
  dsimp only [runB.sl.r_19]
  have e : View.readAt (Elt Ideal) (ms_13 t).view (Rect.unit ![0, 0] S512x512.size inb_S512x512_S512x512_0_0).toLoadRect ((hs_13 t).unread Y) = Y := by
    rw [View.readAt_full]; exact (hs_13 t).read_unread Y
  refine congrArg k0_pay1 ?_
  exact congrArg (prod (blk m c t)) e

set_option maxHeartbeats 1000000 in
/-- The same of the bias's gradient. -/
theorem left_14_first (c : Dev nD) (t : Fin cfg0.N) (h : t.val % 8 = 0) (Y : Vec Ideal S1x512 .f32) :
    left_14 m c t Y = k0_pay2 (blk m c t).daB (k0_pay4 (F := Ideal)) := by
  unfold left_14
  rw [dif_pos h]
  dsimp only [atA, runA, runA.sl.H14_1]
  refine (View.read_writes_full _ _ _ _ _).trans ?_
  have e : runA.sl.v165 (F := Ideal) c (ms_14 t) = k0_pay4 (F := Ideal) := by
    dsimp only [runA.sl.v165, runA.sl.H14_1]
    exact View.readAt_writes_full _ _ _ _ _ _
  rw [e]
  rfl

set_option maxHeartbeats 1000000 in
theorem left_14_later (c : Dev nD) (t : Fin cfg0.N) (h : ¬ t.val % 8 = 0) (Y : Vec Ideal S1x512 .f32) :
    left_14 m c t Y = k0_pay2 (blk m c t).daB Y := by
  unfold left_14
  rw [dif_neg h]
  dsimp only [atB, runB]
  refine (View.read_writes_full _ _ _ _ _).trans ?_
  have e : View.readAt (Elt Ideal) (ms_14 t).view (Rect.unit ![0, 0] S1x512.size inb_S1x512_S1x512_0_0).toLoadRect ((hs_14 t).unread Y) = Y := by
    rw [View.readAt_full]; exact (hs_14 t).read_unread Y
  exact congrArg (k0_pay2 (blk m c t).daB) e

/-- A row of the packed arrays that a point stores is a row of the point's block. -/
theorem packed_row (t : Fin cfg0.N) (q : Fin 2) (r : Fin 4096) (h : r.val % 16 = 2 * t.val + q.val) :
    (seq t, pos t (half q ⟨r.val / 16, by omega⟩)) = (pseq r, ppos r) := by
  have e : prow t q ⟨r.val / 16, by omega⟩ = r := Fin.ext (by simp only [prow]; omega)
  rw [← pseq_prow t q, ← ppos_prow t q, e]

/-- The block's gradient at such a row. -/
theorem grad_row (c : Dev nD) (t : Fin cfg0.N) (r : Fin 4096) (k : Fin 512) (q : Fin 2) (h : r.val % 16 = 2 * t.val + q.val) :
    (blk m c t).dyB (ix2 (half q ⟨r.val / 16, by omega⟩) k) = ((ins m c).line (pseq r) (ppos r)).dy (ins m c).wts k := by
  have e := Pay.dy_at (blk m c t) (half q ⟨r.val / 16, by omega⟩) k
  have l := congrArg₂ (fun x w => Line.dy x w k) (line_eq m c t (half q ⟨r.val / 16, by omega⟩)) (wts_eq m c t)
  have p := congrArg (fun p : Fin 2 × Fin 2048 => ((ins m c).line p.1 p.2).dy (ins m c).wts k) (packed_row t q r h)
  exact e.trans (l.trans p)

theorem lower_0 (v : FVec Ideal S512x512 .f32) (s : Fin 256) (k : Fin 128) : k0_pay30 v (ix2 s k) = v (ix2 (half 1 s) ⟨0 + k.val, by omega⟩) := by
  unfold half
  pointwise [k0_pay30]
  try rfl
theorem upper_0 (a1 a2 a3 a4 a5 a6 a7 a8 a9 : FVec Ideal S512x512 .f32) (w : Vec Ideal S512x512 .bf16) (s : Fin 256) (k : Fin 128) :
    k0_pay25 a1 a2 a3 a4 a5 a6 a7 a8 a9 w (ix2 s k) = k0_pay24 a1 a2 a3 a4 a5 a6 a7 a8 a9 w (ix2 (half 0 s) ⟨0 + k.val, by omega⟩) := by
  unfold half k0_pay25
  generalize k0_pay24 a1 a2 a3 a4 a5 a6 a7 a8 a9 w = v
  pointwise
  try rfl
theorem lower_1 (v : FVec Ideal S512x512 .f32) (s : Fin 256) (k : Fin 128) : k0_pay31 v (ix2 s k) = v (ix2 (half 1 s) ⟨128 + k.val, by omega⟩) := by
  unfold half
  pointwise [k0_pay31]
  try rfl
theorem upper_1 (a1 a2 a3 a4 a5 a6 a7 a8 a9 : FVec Ideal S512x512 .f32) (w : Vec Ideal S512x512 .bf16) (s : Fin 256) (k : Fin 128) :
    k0_pay26 a1 a2 a3 a4 a5 a6 a7 a8 a9 w (ix2 s k) = k0_pay24 a1 a2 a3 a4 a5 a6 a7 a8 a9 w (ix2 (half 0 s) ⟨128 + k.val, by omega⟩) := by
  unfold half k0_pay26
  generalize k0_pay24 a1 a2 a3 a4 a5 a6 a7 a8 a9 w = v
  pointwise
  try rfl
theorem lower_2 (v : FVec Ideal S512x512 .f32) (s : Fin 256) (k : Fin 128) : k0_pay32 v (ix2 s k) = v (ix2 (half 1 s) ⟨256 + k.val, by omega⟩) := by
  unfold half
  pointwise [k0_pay32]
  try rfl
theorem upper_2 (a1 a2 a3 a4 a5 a6 a7 a8 a9 : FVec Ideal S512x512 .f32) (w : Vec Ideal S512x512 .bf16) (s : Fin 256) (k : Fin 128) :
    k0_pay27 a1 a2 a3 a4 a5 a6 a7 a8 a9 w (ix2 s k) = k0_pay24 a1 a2 a3 a4 a5 a6 a7 a8 a9 w (ix2 (half 0 s) ⟨256 + k.val, by omega⟩) := by
  unfold half k0_pay27
  generalize k0_pay24 a1 a2 a3 a4 a5 a6 a7 a8 a9 w = v
  pointwise
  try rfl
theorem lower_3 (v : FVec Ideal S512x512 .f32) (s : Fin 256) (k : Fin 128) : k0_pay33 v (ix2 s k) = v (ix2 (half 1 s) ⟨384 + k.val, by omega⟩) := by
  unfold half
  pointwise [k0_pay33]
  try rfl
theorem upper_3 (a1 a2 a3 a4 a5 a6 a7 a8 a9 : FVec Ideal S512x512 .f32) (w : Vec Ideal S512x512 .bf16) (s : Fin 256) (k : Fin 128) :
    k0_pay29 (k0_pay28 a1 a2 a3 a4 a5 a6 a7 a8 a9 w) (ix2 s k) = k0_pay24 a1 a2 a3 a4 a5 a6 a7 a8 a9 w (ix2 (half 0 s) ⟨384 + k.val, by omega⟩) := by
  unfold half k0_pay29 k0_pay28
  generalize k0_pay24 a1 a2 a3 a4 a5 a6 a7 a8 a9 w = v
  pointwise
  try rfl

theorem left_8_at (c : Dev nD) (t : Fin cfg0.N) (Y : Vec Ideal S4096x128 .f32) (r : Fin 4096) (k : Fin 128) :
    left_8 m c t Y (ix2 r k) = if r.val % 16 / 2 = t.val then Cert.GluRefIdeal.Ref.part0 (ins m c) (ix2 r k) else Y (ix2 r k) := by
  rw [left_8_eq, read_two, Cert.GluRefIdeal.Ref.part0_at]
  have row := grad_row m c t r ⟨0 + k.val, by omega⟩
  split_ifs with h1 h2 h3
  · exact (lower_0 _ _ _).trans (row 1 h1)
  · exfalso; omega
  · exact (upper_0 _ _ _ _ _ _ _ _ _ _ _ _).trans (row 0 h3)
  · exfalso; omega
  · exfalso; omega
  · exact congrFun ((hs_8 t).read_unread Y) _

theorem left_9_at (c : Dev nD) (t : Fin cfg0.N) (Y : Vec Ideal S4096x128 .f32) (r : Fin 4096) (k : Fin 128) :
    left_9 m c t Y (ix2 r k) = if r.val % 16 / 2 = t.val then Cert.GluRefIdeal.Ref.part1 (ins m c) (ix2 r k) else Y (ix2 r k) := by
  rw [left_9_eq, read_two, Cert.GluRefIdeal.Ref.part1_at]
  have row := grad_row m c t r ⟨128 + k.val, by omega⟩
  split_ifs with h1 h2 h3
  · exact (lower_1 _ _ _).trans (row 1 h1)
  · exfalso; omega
  · exact (upper_1 _ _ _ _ _ _ _ _ _ _ _ _).trans (row 0 h3)
  · exfalso; omega
  · exfalso; omega
  · exact congrFun ((hs_9 t).read_unread Y) _

theorem left_10_at (c : Dev nD) (t : Fin cfg0.N) (Y : Vec Ideal S4096x128 .f32) (r : Fin 4096) (k : Fin 128) :
    left_10 m c t Y (ix2 r k) = if r.val % 16 / 2 = t.val then Cert.GluRefIdeal.Ref.part2 (ins m c) (ix2 r k) else Y (ix2 r k) := by
  rw [left_10_eq, read_two, Cert.GluRefIdeal.Ref.part2_at]
  have row := grad_row m c t r ⟨256 + k.val, by omega⟩
  split_ifs with h1 h2 h3
  · exact (lower_2 _ _ _).trans (row 1 h1)
  · exfalso; omega
  · exact (upper_2 _ _ _ _ _ _ _ _ _ _ _ _).trans (row 0 h3)
  · exfalso; omega
  · exfalso; omega
  · exact congrFun ((hs_10 t).read_unread Y) _

theorem left_11_at (c : Dev nD) (t : Fin cfg0.N) (Y : Vec Ideal S4096x128 .f32) (r : Fin 4096) (k : Fin 128) :
    left_11 m c t Y (ix2 r k) = if r.val % 16 / 2 = t.val then Cert.GluRefIdeal.Ref.part3 (ins m c) (ix2 r k) else Y (ix2 r k) := by
  rw [left_11_eq, read_two, Cert.GluRefIdeal.Ref.part3_at]
  have row := grad_row m c t r ⟨384 + k.val, by omega⟩
  split_ifs with h1 h2 h3
  · exact (lower_3 _ _ _).trans (row 1 h1)
  · exfalso; omega
  · exact (upper_3 _ _ _ _ _ _ _ _ _ _ _ _).trans (row 0 h3)
  · exfalso; omega
  · exfalso; omega
  · exact congrFun ((hs_11 t).read_unread Y) _

end Cert.GluIdeal.Value

end
-- ==== Proof.Glu.Value.lean ====
/- The gated unit's gradient: what its seven result arrays hold after the eight grid points. -/
module

public import proofs.«01_k».proof.Proof.Glu.Left
public import Idealize.ShloMosaic.Lib.Pipeline.ValueKit
public import Idealize.ShloMosaic.Lib.Pipeline.ArrRel
public import Idealize.ShloMosaic.Lib.Claim

@[expose] public section

set_option maxRecDepth 16384

noncomputable section

open Idealize.ShloMosaic Idealize.ShloMosaic.TcCoe Idealize.SL.Sem
open Idealize.ShloMosaic.Pipeline (Dat RDat)

namespace Cert.GluIdeal.Value

open Cert.GluIdeal Cert.GluIdeal.Gen Cert.GluIdeal.Hand Cert.Glu
open Cert.GluRefIdeal (Ref.part0 Ref.part1 Ref.part2 Ref.part3 Ref.dZr Ref.dWt Ref.dB Ref.dZr_at Ref.dWt_at Ref.dB_at)

variable (m : (ℓ : Loc nD τ sig) → Buf (Elt Ideal) ℓ)

/-- What holds of a window's buffer after the first point, and goes from each point to the next, holds after every point. -/
theorem leaves_ind (c : Dev nD) (w : Fin cfg0.W) (P : ℕ → ((cfg0.win w).block.Idx → Elt Ideal (cfg0.win w).elt) → Prop)
    (hf : ∀ t, (cfg0.win w).fetch t = false) (hl : ∀ t : Fin cfg0.N, t.val < 7 → (cfg0.win w).flush t = false)
    (h0 : ∀ t Y X, t.val = 0 → (rdat m c).after w t Y X → P 0 X)
    (hs : ∀ (t : Fin cfg0.N) n Y X, t.val = n + 1 → P n Y → (rdat m c).after w t Y X → P (n + 1) X) :
    ∀ n (t : Fin cfg0.N) X, t.val = n → (rdat m c).Leaves w t X → P n X := by
  intro n
  induction n with
  | zero => exact fun t X ht ⟨Y, _, h⟩ => h0 t Y X ht h
  | succ n ih =>
    intro t X ht ⟨Y, hY, h⟩
    have hlt := t_lt t
    refine hs t n Y X ht ?_ h
    rcases ((rdat m c).finds_of_pos (hf t) (by omega) Y).mp hY with hfl | hlv
    · rw [hl _ (by show t.val - 1 < 7; omega)] at hfl; exact absurd hfl Bool.false_ne_true
    · exact ih _ Y (by show t.val - 1 = n; omega) hlv

/-- No output is fetched, and the outputs held over the grid are written back at the last point only. -/
theorem fetch_8 : ∀ t, (cfg0.win 8).fetch t = false := by decide +kernel
theorem fetch_9 : ∀ t, (cfg0.win 9).fetch t = false := by decide +kernel
theorem fetch_10 : ∀ t, (cfg0.win 10).fetch t = false := by decide +kernel
theorem fetch_11 : ∀ t, (cfg0.win 11).fetch t = false := by decide +kernel
theorem fetch_13 : ∀ t, (cfg0.win 13).fetch t = false := by decide +kernel
theorem fetch_14 : ∀ t, (cfg0.win 14).fetch t = false := by decide +kernel
theorem flush_8 : ∀ t : Fin cfg0.N, t.val < 7 → (cfg0.win 8).flush t = false := by decide +kernel
theorem flush_9 : ∀ t : Fin cfg0.N, t.val < 7 → (cfg0.win 9).flush t = false := by decide +kernel
theorem flush_10 : ∀ t : Fin cfg0.N, t.val < 7 → (cfg0.win 10).flush t = false := by decide +kernel
theorem flush_11 : ∀ t : Fin cfg0.N, t.val < 7 → (cfg0.win 11).flush t = false := by decide +kernel
theorem flush_13 : ∀ t : Fin cfg0.N, t.val < 7 → (cfg0.win 13).flush t = false := by decide +kernel
theorem flush_14 : ∀ t : Fin cfg0.N, t.val < 7 → (cfg0.win 14).flush t = false := by decide +kernel

/-- A buffer whose points each fill their rows holds, after a point, the rows of the points so far. -/
def Filled (G : Vec Ideal S4096x128 .f32) (n : ℕ) (X : Vec Ideal S4096x128 .f32) : Prop :=
  ∀ (r : Fin 4096) (k : Fin 128), r.val % 16 / 2 ≤ n → X (ix2 r k) = G (ix2 r k)

theorem filled_zero (G Y : Vec Ideal S4096x128 .f32) (left : Vec Ideal S4096x128 .f32) (t : ℕ) (ht : t = 0)
    (h : ∀ r k, left (ix2 r k) = if r.val % 16 / 2 = t then G (ix2 r k) else Y (ix2 r k)) : Filled G 0 left := by
  intro r k hr
  rw [h, if_pos (by omega)]

theorem filled_succ (G Y : Vec Ideal S4096x128 .f32) (left : Vec Ideal S4096x128 .f32) (t n : ℕ) (ht : t = n + 1) (hY : Filled G n Y)
    (h : ∀ r k, left (ix2 r k) = if r.val % 16 / 2 = t then G (ix2 r k) else Y (ix2 r k)) : Filled G (n + 1) left := by
  intro r k hr
  rw [h]
  split_ifs with e
  · rfl
  · exact hY r k (by omega)

theorem filled_all (G X : Vec Ideal S4096x128 .f32) (h : Filled G 7 X) : X = G := by
  funext j
  idx_vars j
  exact h j0 j1 (by omega)

/-- The sum of the points so far. -/
theorem sum_zero {α : Type} (F : Fin cfg0.N → α → EReal) (t : Fin cfg0.N) (ht : t.val = 0) (j : α) :
    ∑ u ∈ Finset.univ.filter (fun u : Fin cfg0.N => u.val ≤ 0), F u j = F t j := by
  have e : Finset.univ.filter (fun u : Fin cfg0.N => u.val ≤ 0) = {t} := by
    ext u; simp only [Finset.mem_filter, Finset.mem_univ, true_and, Finset.mem_singleton, Fin.ext_iff]; omega
  rw [e, Finset.sum_singleton]

theorem sum_succ {α : Type} (F : Fin cfg0.N → α → EReal) (t : Fin cfg0.N) (n : ℕ) (ht : t.val = n + 1) (j : α) :
    ∑ u ∈ Finset.univ.filter (fun u : Fin cfg0.N => u.val ≤ n + 1), F u j = ∑ u ∈ Finset.univ.filter (fun u : Fin cfg0.N => u.val ≤ n), F u j + F t j := by
  have e : Finset.univ.filter (fun u : Fin cfg0.N => u.val ≤ n + 1) = insert t (Finset.univ.filter (fun u : Fin cfg0.N => u.val ≤ n)) := by
    ext u; simp only [Finset.mem_filter, Finset.mem_univ, true_and, Finset.mem_insert, Fin.ext_iff]; omega
  rw [e, Finset.sum_insert (by simp only [Finset.mem_filter, Finset.mem_univ, true_and]; omega), add_comm]

theorem sum_all {α : Type} (F : Fin cfg0.N → α → EReal) (j : α) :
    ∑ u ∈ Finset.univ.filter (fun u : Fin cfg0.N => u.val ≤ 7), F u j = ∑ u : Fin cfg0.N, F u j := by
  rw [Finset.filter_true_of_mem fun u _ => by have := t_lt u; omega]

/-- What a point adds to the weights' and to the bias's gradient. -/
def termW (c : Dev nD) (t : Fin cfg0.N) (j : S512x512.Idx) : EReal := ∑ r : Fin 512, ((ins m c).line (seq t) (pos t r)).g (j 0) * ((ins m c).line (seq t) (pos t r)).da (ins m c).wts (j 1)
def termB (c : Dev nD) (t : Fin cfg0.N) (j : S1x512.Idx) : EReal := ∑ r : Fin 512, ((ins m c).line (seq t) (pos t r)).da (ins m c).wts (j 1)

theorem left_13_at (c : Dev nD) (t : Fin cfg0.N) (Y : Vec Ideal S512x512 .f32) (j : S512x512.Idx) :
    left_13 m c t Y j = (if t.val = 0 then 0 else Y j) + termW m c t j := by
  have ht := t_lt t
  idx_vars j
  have h := fun acc => Pay.dw_at (blk m c t) acc j0 j1
  simp only [line_eq, wts_eq] at h
  split_ifs with h0
  · refine (congrFun (left_13_first m c t (by omega) Y) _).trans ((h _).trans ?_)
    rw [Pay.zero_w]; rfl
  · exact (congrFun (left_13_later m c t (by omega) Y) _).trans ((h _).trans rfl)

theorem left_14_at (c : Dev nD) (t : Fin cfg0.N) (Y : Vec Ideal S1x512 .f32) (j : S1x512.Idx) :
    left_14 m c t Y j = (if t.val = 0 then 0 else Y j) + termB m c t j := by
  have ht := t_lt t
  idx_vars j
  obtain rfl : j0 = 0 := Subsingleton.elim _ _
  have h := fun acc => Pay.db_at (blk m c t) acc j1
  simp only [line_eq, wts_eq] at h
  split_ifs with h0
  · refine (congrFun (left_14_first m c t (by omega) Y) _).trans ((h _).trans ?_)
    rw [Pay.zero_b]; rfl
  · exact (congrFun (left_14_later m c t (by omega) Y) _).trans ((h _).trans rfl)

/-- What the outputs' buffers hold after the last point. -/
theorem leaves_8 (c : Dev nD) (t : Fin cfg0.N) (ht : t.val = 7) (X) (h : (rdat m c).Leaves 8 t X) : X = Ref.part0 (ins m c) :=
  filled_all _ _ (leaves_ind m c 8 (Filled (Ref.part0 (ins m c))) fetch_8 flush_8
    (fun t Y X ht hX => hX ▸ filled_zero _ Y _ t.val ht (left_8_at m c t Y))
    (fun t n Y X ht hY hX => hX ▸ filled_succ _ Y _ t.val n ht hY (left_8_at m c t Y)) 7 t X ht h)
theorem leaves_9 (c : Dev nD) (t : Fin cfg0.N) (ht : t.val = 7) (X) (h : (rdat m c).Leaves 9 t X) : X = Ref.part1 (ins m c) :=
  filled_all _ _ (leaves_ind m c 9 (Filled (Ref.part1 (ins m c))) fetch_9 flush_9
    (fun t Y X ht hX => hX ▸ filled_zero _ Y _ t.val ht (left_9_at m c t Y))
    (fun t n Y X ht hY hX => hX ▸ filled_succ _ Y _ t.val n ht hY (left_9_at m c t Y)) 7 t X ht h)
theorem leaves_10 (c : Dev nD) (t : Fin cfg0.N) (ht : t.val = 7) (X) (h : (rdat m c).Leaves 10 t X) : X = Ref.part2 (ins m c) :=
  filled_all _ _ (leaves_ind m c 10 (Filled (Ref.part2 (ins m c))) fetch_10 flush_10
    (fun t Y X ht hX => hX ▸ filled_zero _ Y _ t.val ht (left_10_at m c t Y))
    (fun t n Y X ht hY hX => hX ▸ filled_succ _ Y _ t.val n ht hY (left_10_at m c t Y)) 7 t X ht h)
theorem leaves_11 (c : Dev nD) (t : Fin cfg0.N) (ht : t.val = 7) (X) (h : (rdat m c).Leaves 11 t X) : X = Ref.part3 (ins m c) :=
  filled_all _ _ (leaves_ind m c 11 (Filled (Ref.part3 (ins m c))) fetch_11 flush_11
    (fun t Y X ht hX => hX ▸ filled_zero _ Y _ t.val ht (left_11_at m c t Y))
    (fun t n Y X ht hY hX => hX ▸ filled_succ _ Y _ t.val n ht hY (left_11_at m c t Y)) 7 t X ht h)

theorem leaves_13 (c : Dev nD) (t : Fin cfg0.N) (ht : t.val = 7) (X) (h : (rdat m c).Leaves 13 t X) (j : S512x512.Idx) :
    X j = ∑ u : Fin cfg0.N, termW m c u j := by
  rw [← sum_all (termW m c) j]
  refine leaves_ind m c 13 (fun n X => ∀ j : S512x512.Idx, X j = ∑ u ∈ Finset.univ.filter (fun u : Fin cfg0.N => u.val ≤ n), termW m c u j) fetch_13 flush_13
    (fun t Y X ht hX j => ?_) (fun t n Y X ht hY hX j => ?_) 7 t X ht h j
  · rw [sum_zero (termW m c) t ht]
    refine (congrFun (show X = left_13 m c t Y from hX) j).trans ?_
    rw [left_13_at, if_pos ht, zero_add]
  · rw [sum_succ (termW m c) t n ht, ← hY j]
    refine (congrFun (show X = left_13 m c t Y from hX) j).trans ?_
    rw [left_13_at, if_neg (by omega)]
theorem leaves_14 (c : Dev nD) (t : Fin cfg0.N) (ht : t.val = 7) (X) (h : (rdat m c).Leaves 14 t X) (j : S1x512.Idx) :
    X j = ∑ u : Fin cfg0.N, termB m c u j := by
  rw [← sum_all (termB m c) j]
  refine leaves_ind m c 14 (fun n X => ∀ j : S1x512.Idx, X j = ∑ u ∈ Finset.univ.filter (fun u : Fin cfg0.N => u.val ≤ n), termB m c u j) fetch_14 flush_14
    (fun t Y X ht hX j => ?_) (fun t n Y X ht hY hX j => ?_) 7 t X ht h j
  · rw [sum_zero (termB m c) t ht]
    refine (congrFun (show X = left_14 m c t Y from hX) j).trans ?_
    rw [left_14_at, if_pos ht, zero_add]
  · rw [sum_succ (termB m c) t n ht, ← hY j]
    refine (congrFun (show X = left_14 m c t Y from hX) j).trans ?_
    rw [left_14_at, if_neg (by omega)]

theorem leaves_12 (c : Dev nD) (t : Fin cfg0.N) (X) (h : (rdat m c).Leaves 12 t X) (r q : Fin 512) :
    X (ix2 r q) = ((ins m c).line (seq t) (pos t r)).dz (ins m c).wts q := by
  obtain ⟨Y, -, hX⟩ := h
  refine (congrFun (show X = left_12 m c t Y from hX) _).trans ?_
  rw [left_12_eq]
  refine (Pay.dz_at (blk m c t) r q).trans ?_
  rw [line_eq, wts_eq]

section
variable {c : Dev nD} {after : (w' : Fin cfg0.W) → Fin cfg0.N → (cfg0.win w').block.Idx → Elt Ideal (cfg0.win w').elt}
  (hL : ∀ (w : Fin cfg0.W) (u : Fin cfg0.N), (cfg0.win w).flush u = true → (rdat m c).Leaves w u (after w u))
include hL

set_option maxHeartbeats 1000000 in
theorem final_8 : ((rdat m c).withAfter after).arrAt 8 cfg0.N = Ref.part0 (ins m c) := by
  refine Dat.arrAt_eq_of_after_last _ 8 t0_7 (by decide +kernel) _ fun j => ?_
  have e := leaves_8 m c t0_7 rfl _ (hL 8 t0_7 (by decide +kernel))
  blk_simp
  rw [RDat.withAfter_after]
  exact congrFun e j

set_option maxHeartbeats 1000000 in
theorem final_9 : ((rdat m c).withAfter after).arrAt 9 cfg0.N = Ref.part1 (ins m c) := by
  refine Dat.arrAt_eq_of_after_last _ 9 t0_7 (by decide +kernel) _ fun j => ?_
  have e := leaves_9 m c t0_7 rfl _ (hL 9 t0_7 (by decide +kernel))
  blk_simp
  rw [RDat.withAfter_after]
  exact congrFun e j

set_option maxHeartbeats 1000000 in
theorem final_10 : ((rdat m c).withAfter after).arrAt 10 cfg0.N = Ref.part2 (ins m c) := by
  refine Dat.arrAt_eq_of_after_last _ 10 t0_7 (by decide +kernel) _ fun j => ?_
  have e := leaves_10 m c t0_7 rfl _ (hL 10 t0_7 (by decide +kernel))
  blk_simp
  rw [RDat.withAfter_after]
  exact congrFun e j

set_option maxHeartbeats 1000000 in
theorem final_11 : ((rdat m c).withAfter after).arrAt 11 cfg0.N = Ref.part3 (ins m c) := by
  refine Dat.arrAt_eq_of_after_last _ 11 t0_7 (by decide +kernel) _ fun j => ?_
  have e := leaves_11 m c t0_7 rfl _ (hL 11 t0_7 (by decide +kernel))
  blk_simp
  rw [RDat.withAfter_after]
  exact congrFun e j

set_option maxHeartbeats 1000000 in
theorem final_12 : ((rdat m c).withAfter after).arrAt 12 cfg0.N = Ref.dZr (ins m c) := by
  refine Dat.arrAt_eq_of_covers _ 12 _ (by decide +kernel) fun t hf y => ?_
  have e := leaves_12 m c t _ (hL 12 t hf)
  blk_simp
  rw [RDat.withAfter_after]
  idx_vars y
  have hz : (((cfg0.win 12).blk t).view.emb (ix2 y0 y1) : S4096x512.Idx) = ix2 ⟨t.val * 512 + y0.val, by have := t_lt t; omega⟩ y1 := by
    blk_ext [idx_val t]
  rw [hz, Ref.dZr_at]
  refine (e y0 y1).trans ?_
  have ht := t_lt t
  have p : (seq t, pos t y0) = ((⟨(t.val * 512 + y0.val) / 2048, by omega⟩, ⟨(t.val * 512 + y0.val) % 2048, by omega⟩) : Fin 2 × Fin 2048) :=
    Prod.ext (Fin.ext (by simp only [seq]; omega)) (Fin.ext (by simp only [pos]; omega))
  exact congrArg (fun q : Fin 2 × Fin 2048 => ((ins m c).line q.1 q.2).dz (ins m c).wts y1) p

set_option maxHeartbeats 1000000 in
theorem final_13 : ((rdat m c).withAfter after).arrAt 13 cfg0.N = Ref.dWt (ins m c) := by
  refine Dat.arrAt_eq_of_after_last _ 13 t0_7 (by decide +kernel) _ fun j => ?_
  have e := leaves_13 m c t0_7 rfl _ (hL 13 t0_7 (by decide +kernel))
  blk_simp
  rw [RDat.withAfter_after]
  refine (e j).trans ?_
  idx_vars j
  rw [Ref.dWt_at]
  unfold termW
  refine Fin.sum_points_lanes_congr 4 fun t k ha hl => ?_
  rfl

set_option maxHeartbeats 1000000 in
theorem final_14 : ((rdat m c).withAfter after).arrAt 14 cfg0.N = Ref.dB (ins m c) := by
  refine Dat.arrAt_eq_of_after_last _ 14 t0_7 (by decide +kernel) _ fun j => ?_
  have e := leaves_14 m c t0_7 rfl _ (hL 14 t0_7 (by decide +kernel))
  blk_simp
  rw [RDat.withAfter_after]
  refine (e j).trans ?_
  idx_vars j
  obtain rfl : j0 = 0 := Subsingleton.elim _ _
  rw [Ref.dB_at]
  unfold termB
  refine Fin.sum_points_lanes_congr 4 fun t k ha hl => ?_
  rfl
end

/-- What the kernel leaves in its results and in its arguments. -/
theorem run (ρ : Dev nD → PrngReg) : θ_run defs (onTc (τ := τ) (main (F := Ideal))) ⟨m, fun _ => 0, ρ⟩ (fun r => ∀ c : Dev nD,
      r.2.mem ((c.tc : Thread nD τ).loc main_v15_0) = Ref.part0 (ins m c)
      ∧ r.2.mem ((c.tc : Thread nD τ).loc main_v15_1) = Ref.part1 (ins m c)
      ∧ r.2.mem ((c.tc : Thread nD τ).loc main_v15_2) = Ref.part2 (ins m c)
      ∧ r.2.mem ((c.tc : Thread nD τ).loc main_v15_3) = Ref.part3 (ins m c)
      ∧ r.2.mem ((c.tc : Thread nD τ).loc main_v15_4) = Ref.dZr (ins m c)
      ∧ r.2.mem ((c.tc : Thread nD τ).loc main_v15_5) = Ref.dWt (ins m c)
      ∧ r.2.mem ((c.tc : Thread nD τ).loc main_v15_6) = Ref.dB (ins m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (run_quiescent (F := Ideal) m ρ)
  obtain ⟨after, hL, hA⟩ := RDat.FramePost.exists_exact h.1 c
  exact ⟨(hA 8).trans (final_8 m hL), (hA 9).trans (final_9 m hL), (hA 10).trans (final_10 m hL), (hA 11).trans (final_11 m hL),
    (hA 12).trans (final_12 m hL), (hA 13).trans (final_13 m hL), (hA 14).trans (final_14 m hL),
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    (h.1.arr_in c 7 rfl).trans (V_main_arg4 m c)⟩

end Cert.GluIdeal.Value

end
-- ==== Proof.lean ====
/- The proof of the claim: the gradient of the normalised in-projection; the gradient of the tail (output product, norm, gate,
   embedding, loss); the gradient of the attention with its gate, and of its projection's weights; the gradient of the gated unit. The
   mathematics is in the modules under Proof/: `EReals` (extended reals) and, for each call, `Row` (one row's gradient),
   `Ref` (what the derivative's results hold at an index), `Pay` and `Blocks` (what one block of the kernel computes) and
   `Value` (what the kernel's arrays hold after its grid). -/
module

public import proofs.«01_k».proof.Defs
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.InProjRefIdeal.Run
public import proofs.«01_k».proof.Proof.Gen.InProjIdeal.Value
public import proofs.«01_k».proof.Proof.InProj.Value
public import proofs.«01_k».proof.Proof.Gen.Tail
public import proofs.«01_k».proof.Proof.Gen.Tail.Skeleton
public import proofs.«01_k».proof.Proof.Gen.Tail.Launch
public import proofs.«01_k».proof.Proof.Gen.Tail.Points
public import proofs.«01_k».proof.Proof.Gen.Tail.Frame
public import proofs.«01_k».proof.Proof.Gen.TailIdeal
public import proofs.«01_k».proof.Proof.Gen.TailIdeal.Skeleton
public import proofs.«01_k».proof.Proof.Gen.TailIdeal.Launch
public import proofs.«01_k».proof.Proof.Gen.TailIdeal.Points
public import proofs.«01_k».proof.Proof.Gen.TailIdeal.Frame
public import proofs.«01_k».proof.Proof.Gen.TailRefIdeal
public import proofs.«01_k».proof.Proof.Gen.TailRefIdeal.Run
public import proofs.«01_k».proof.Proof.Gen.TailIdeal.Value
public import proofs.«01_k».proof.Proof.Tail.Value
public import proofs.«01_k».proof.Proof.Gen.Attn
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame.RunC
public import proofs.«01_k».proof.Proof.Gen.AttnRefIdeal
public import proofs.«01_k».proof.Proof.Gen.AttnRefIdeal.Run
public import proofs.«01_k».proof.Proof.Gen.Pre_finite
public import proofs.«01_k».proof.Proof.Attn.Frame
public import proofs.«01_k».proof.Proof.Attn.Pair
public import proofs.«01_k».proof.Proof.Gen.Glu
public import proofs.«01_k».proof.Proof.Gen.GluIdeal
public import proofs.«01_k».proof.Proof.Gen.GluIdeal.Skeleton
public import proofs.«01_k».proof.Proof.Gen.GluIdeal.Launch
public import proofs.«01_k».proof.Proof.Gen.GluIdeal.Points
public import proofs.«01_k».proof.Proof.Gen.GluIdeal.Frame
public import proofs.«01_k».proof.Proof.Gen.GluRefIdeal
public import proofs.«01_k».proof.Proof.Gen.GluRefIdeal.Run
public import proofs.«01_k».proof.Proof.Glu.Launch
public import proofs.«01_k».proof.Proof.Glu.Value
public import Idealize.ShloMosaic.Adequacy
public import Idealize.ShloMosaic.Init

@[expose] public section

noncomputable section

namespace Cert.Proof

open Idealize.ShloMosaic Idealize.SL.Sem

theorem frame_in_proj_ref : Cert.quiescent_InProjRefIdeal := by
  intro m ρ _
  refine (θ_run _ _ _).mono (fun r h => ⟨fun c => ?_, sem_eq_zero_of_no_sems rfl r.2⟩) (Cert.InProjRefIdeal.Read.run m ρ)
  exact (h c).2.2.2

/-- The kernel and the derivative leave the same arrays: the gradient of the normalised in-projection. -/
theorem in_proj : Cert.algebraic_InProjIdeal_InProjRefIdeal := by
  pair_intro
  · run_from Cert.InProjIdeal.Gen.run_main m g
  · run_from Cert.InProjRefIdeal.Read.run m' g'
    · exact (Cert.InProjIdeal.Value.final_5 m c).symm
    · exact (Cert.InProjIdeal.Value.final_6 m c).symm
    · exact (Cert.InProjIdeal.Value.final_7 m c).symm

set_option maxHeartbeats 1000000 in
theorem frame_tail_ref : Cert.quiescent_TailRefIdeal := by
  intro m ρ _
  refine (θ_run _ _ _).mono (fun r h => ⟨fun c => ?_, sem_eq_zero_of_no_sems rfl r.2⟩) (Cert.TailRefIdeal.Read.run m ρ)
  exact (h c).2.2.2.2.2.2.2.2.2

set_option maxHeartbeats 1000000 in
/-- The kernel and the derivative leave the same arrays: the gradient of the tail (output product, norm, gate, embedding, loss). -/
theorem tail : Cert.algebraic_TailIdeal_TailRefIdeal := by
  intro m g m' g' hpre hagree
  have e : ∀ c, Cert.TailRefIdeal.Read.ins m' c = Cert.TailIdeal.Value.ins m c := fun c => by
    unfold Cert.TailRefIdeal.Read.ins Cert.TailIdeal.Value.ins
    simp only [hagree c]
  refine ⟨fun c => Cert.TailRefIdeal.Read.gradH (Cert.TailIdeal.Value.ins m c), fun c => Cert.TailRefIdeal.Read.gradSo (Cert.TailIdeal.Value.ins m c), fun c => Cert.TailRefIdeal.Read.gradAo (Cert.TailIdeal.Value.ins m c), fun c => Cert.TailRefIdeal.Read.gradWo (Cert.TailIdeal.Value.ins m c), fun c => Cert.TailRefIdeal.Read.gradWg (Cert.TailIdeal.Value.ins m c), fun c => Cert.TailRefIdeal.Read.gradWp (Cert.TailIdeal.Value.ins m c), fun c => Cert.TailRefIdeal.Read.gradBg (Cert.TailIdeal.Value.ins m c), fun c => Cert.TailRefIdeal.Read.gradG (Cert.TailIdeal.Value.ins m c), fun c => Cert.TailRefIdeal.Read.loss (Cert.TailIdeal.Value.ins m c), ?_, ?_⟩
  · refine (θ_run _ _ _).mono (fun r h c => ?_) (Cert.TailIdeal.Value.run_blocks m g)
    exact ⟨(h c).1.trans (Cert.TailIdeal.Value.final_10 m c), (h c).2.1.trans (Cert.TailIdeal.Value.final_11 m c), (h c).2.2.1.trans (Cert.TailIdeal.Value.final_12 m c), (h c).2.2.2.1.trans (Cert.TailIdeal.Value.final_13 m c), (h c).2.2.2.2.1.trans (Cert.TailIdeal.Value.final_14 m c), (h c).2.2.2.2.2.1.trans (Cert.TailIdeal.Value.final_15 m c), (h c).2.2.2.2.2.2.1.trans (Cert.TailIdeal.Value.final_16 m c), (h c).2.2.2.2.2.2.2.1.trans (Cert.TailIdeal.Value.final_17 m c), (h c).2.2.2.2.2.2.2.2.1.trans (Cert.TailIdeal.Value.final_18 m c), (h c).2.2.2.2.2.2.2.2.2⟩
  · refine (θ_run _ _ _).mono (fun r h c => ?_) (Cert.TailRefIdeal.Read.run m' g')
    exact ⟨(h c).1.trans (congrArg Cert.TailRefIdeal.Read.gradH (e c)), (h c).2.1.trans (congrArg Cert.TailRefIdeal.Read.gradSo (e c)), (h c).2.2.1.trans (congrArg Cert.TailRefIdeal.Read.gradAo (e c)), (h c).2.2.2.1.trans (congrArg Cert.TailRefIdeal.Read.gradWo (e c)), (h c).2.2.2.2.1.trans (congrArg Cert.TailRefIdeal.Read.gradWg (e c)), (h c).2.2.2.2.2.1.trans (congrArg Cert.TailRefIdeal.Read.gradWp (e c)), (h c).2.2.2.2.2.2.1.trans (congrArg Cert.TailRefIdeal.Read.gradBg (e c)), (h c).2.2.2.2.2.2.2.1.trans (congrArg Cert.TailRefIdeal.Read.gradG (e c)), (h c).2.2.2.2.2.2.2.2.1.trans (congrArg Cert.TailRefIdeal.Read.loss (e c)), (h c).2.2.2.2.2.2.2.2.2⟩

theorem frame_attn_ideal : Cert.quiescent_AttnIdeal := fun m ρ _ => Cert.AttnIdeal.Hand.frame_main m ρ

/-- The two programs' texts are the same, so the run of the one is the run of the other. -/
theorem frame_attn : Cert.quiescent_Attn := fun m g _ => Eq.mp (by sl_kernel_rfl) (Cert.AttnIdeal.Hand.frame_main (F := Bits) m g)

theorem frame_attn_ref : Cert.quiescent_AttnRefIdeal := by
  intro m ρ _
  refine (θ_run _ _ _).mono (fun r h => ⟨fun c => ?_, sem_eq_zero_of_no_sems rfl r.2⟩) (Cert.AttnRefIdeal.Value.run m ρ)
  exact (h c).2.2.2.2

/-- What the reference's launch finds in its arguments is what the kernel's finds. -/
theorem same_attn (m : (ℓ : Loc Cert.AttnIdeal.nD Cert.AttnIdeal.τ Cert.AttnIdeal.sig) → Buf (Elt Ideal) ℓ)
    (m' : (ℓ : Loc Cert.AttnRefIdeal.nD Cert.AttnRefIdeal.τ Cert.AttnRefIdeal.sig) → Buf (Elt Ideal) ℓ) (c : Dev Cert.AttnIdeal.nD)
    (h0 : m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0))
    (h1 : m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1))
    (h2 : m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2))
    (h3 : m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3))
    (h4 : m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4))
    (h5 : m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) :
    Cert.AttnIdeal.Hand.Same m (StableHlo.launchContents m' c) c := ⟨h0, h1, h2, h3, h4, h5⟩

/-- At finite operands the kernel and the derivative leave the same arrays: the gradient of the attention with its gate, and of its
    projection's weights. -/
theorem attn : Cert.algebraic_AttnIdeal_AttnRefIdeal_pre_finite := by
  intro m g m' g' hpre hagree
  have S : ∀ c, Cert.AttnIdeal.Hand.Same m (StableHlo.launchContents m' c) c := fun c =>
    same_attn m m' c (hagree c).1 (hagree c).2.1 (hagree c).2.2.1 (hagree c).2.2.2.1 (hagree c).2.2.2.2.1 (hagree c).2.2.2.2.2.1
  have H : ∀ c, Cert.AttnIdeal.Spec.Fine (Cert.AttnRefIdeal.Value.P0 (StableHlo.launchContents m' c)) (Cert.AttnRefIdeal.Value.S0 (StableHlo.launchContents m' c)) (Cert.AttnRefIdeal.Value.C0 (StableHlo.launchContents m' c)) := fun c => by
    have h := Cert.AttnIdeal.Hand.fine_of_pre _ _ _ _ _ _ _ (hpre c)
    have e0 : Cert.AttnRefIdeal.Value.P0 (StableHlo.launchContents m' c) = _ := (S c).p
    have e2 : Cert.AttnRefIdeal.Value.S0 (StableHlo.launchContents m' c) = _ := (S c).s
    have e5 : Cert.AttnRefIdeal.Value.C0 (StableHlo.launchContents m' c) = _ := (S c).ct
    rw [e0, e2, e5]
    exact h
  refine ⟨fun c => Cert.AttnIdeal.Hand.resProj (StableHlo.launchContents m' c),
    fun c => Cert.AttnIdeal.Hand.resW (Cert.AttnRefIdeal.Value.res_main_v176 (StableHlo.launchContents m' c)) (StableHlo.launchContents m' c (Proc.devRef .tc Cert.AttnRefIdeal.main_arg1)),
    fun c => truncf .bf16 (Cert.AttnIdeal.Hand.resW (Cert.AttnRefIdeal.Value.res_main_v176 (StableHlo.launchContents m' c)) (StableHlo.launchContents m' c (Proc.devRef .tc Cert.AttnRefIdeal.main_arg1))) Cert.AttnRefIdeal.Gen.bitsLt_bf16_f32,
    fun c => Cert.AttnIdeal.Hand.resS (StableHlo.launchContents m' c), ?_, ?_⟩
  · refine (θ_run _ _ _).mono (fun r h c => ?_) (Cert.AttnIdeal.Hand.run_blocks m g)
    exact ⟨(h c).1.trans (Cert.AttnIdeal.Hand.final_16 (S c) (H c)), (h c).2.1.trans (Cert.AttnIdeal.Hand.final_17 (S c) (H c)),
      (h c).2.2.1.trans (Cert.AttnIdeal.Hand.final_18 (S c) (H c)), (h c).2.2.2.1.trans (Cert.AttnIdeal.Hand.final_19 (S c) (H c)), (h c).2.2.2.2⟩
  · exact Cert.AttnRefIdeal.Value.run m' g'

theorem frame_glu_ideal : Cert.quiescent_GluIdeal := fun m ρ _ => Cert.GluIdeal.Hand.frame_main m ρ

/-- The two programs' texts are the same, so the run of the one is the run of the other. -/
theorem frame_glu : Cert.quiescent_Glu := fun m g _ => Eq.mp (by sl_kernel_rfl) (Cert.GluIdeal.Hand.frame_main (F := Bits) m g)

theorem frame_glu_ref : Cert.quiescent_GluRefIdeal := by
  intro m ρ _
  refine (θ_run _ _ _).mono (fun r h => ⟨fun c => ?_, sem_eq_zero_of_no_sems rfl r.2⟩) (Cert.GluRefIdeal.Value.run m ρ)
  exact (h c).2.2.2.2.2.2.2

/-- The kernel and the derivative leave the same arrays: the gradient of the gated unit. -/
theorem glu : Cert.algebraic_GluIdeal_GluRefIdeal := by
  intro m g m' g' hpre hagree
  have e : ∀ c, Cert.GluRefIdeal.Ref.ins m' c = Cert.GluIdeal.Value.ins m c := fun c => by
    unfold Cert.GluRefIdeal.Ref.ins Cert.GluIdeal.Value.ins
    simp only [hagree c]
  refine ⟨fun c => Cert.GluRefIdeal.Ref.part0 (Cert.GluIdeal.Value.ins m c), fun c => Cert.GluRefIdeal.Ref.part1 (Cert.GluIdeal.Value.ins m c),
    fun c => Cert.GluRefIdeal.Ref.part2 (Cert.GluIdeal.Value.ins m c), fun c => Cert.GluRefIdeal.Ref.part3 (Cert.GluIdeal.Value.ins m c),
    fun c => Cert.GluRefIdeal.Ref.dZr (Cert.GluIdeal.Value.ins m c), fun c => Cert.GluRefIdeal.Ref.dWt (Cert.GluIdeal.Value.ins m c),
    fun c => Cert.GluRefIdeal.Ref.dB (Cert.GluIdeal.Value.ins m c), Cert.GluIdeal.Value.run m g, ?_⟩
  refine (θ_run _ _ _).mono (fun r h c => ?_) (Cert.GluRefIdeal.Ref.run m' g')
  obtain ⟨h0, h1, h2, h3, h4, h5, h6, h7⟩ := h c
  exact ⟨h0.trans (congrArg Cert.GluRefIdeal.Ref.part0 (e c)), h1.trans (congrArg Cert.GluRefIdeal.Ref.part1 (e c)),
    h2.trans (congrArg Cert.GluRefIdeal.Ref.part2 (e c)), h3.trans (congrArg Cert.GluRefIdeal.Ref.part3 (e c)),
    h4.trans (congrArg Cert.GluRefIdeal.Ref.dZr (e c)), h5.trans (congrArg Cert.GluRefIdeal.Ref.dWt (e c)),
    h6.trans (congrArg Cert.GluRefIdeal.Ref.dB (e c)), h7⟩

theorem claim : Cert.Claim :=
  ⟨Cert.InProj.Gen.facts, Cert.InProjIdeal.Gen.facts, Cert.InProjRefIdeal.Gen.facts, Cert.Tail.Gen.facts, Cert.TailIdeal.Gen.facts, Cert.TailRefIdeal.Gen.facts, Cert.Attn.Gen.facts, Cert.AttnIdeal.Gen.facts, Cert.AttnRefIdeal.Gen.facts, Cert.Glu.Gen.facts, Cert.GluIdeal.Gen.facts, Cert.GluRefIdeal.Gen.facts, Cert.Pre_finite.Gen.facts,
    fun m ρ _ => Cert.InProj.Gen.frame m ρ, fun m ρ _ => Cert.InProjIdeal.Gen.frame m ρ, frame_in_proj_ref,
    fun m ρ _ => Cert.Tail.Gen.frame m ρ, fun m ρ _ => Cert.TailIdeal.Gen.frame m ρ, frame_tail_ref,
    frame_attn, frame_attn_ideal, fun m ρ _ => Cert.AttnIdeal.Hand.frame_main m ρ, frame_attn_ref, fun m ρ _ => frame_attn_ref m ρ trivial,
    frame_glu, frame_glu_ideal, frame_glu_ref,
    trivial, in_proj, trivial, tail, trivial, attn, trivial, glu⟩

end Cert.Proof

end
